-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4)
      ∧ r.2.mem ((c.tc : Thread Cert.Reference2.nD Cert.Reference2.τ).loc Cert.Reference2.main_arg5) = m ((c.tc : Thread Cert.Reference2.nD Cert.Reference2.τ).loc Cert.Reference2.main_arg5)
      ∧ r.2.mem ((c.tc : Thread Cert.Reference2.nD Cert.Reference2.τ).loc Cert.Reference2.main_arg6) = m ((c.tc : Thread Cert.Reference2.nD Cert.Reference2.τ).loc Cert.Reference2.main_arg6)
      ∧ r.2.mem ((c.tc : Thread Cert.Reference2.nD Cert.Reference2.τ).loc Cert.Reference2.main_arg7) = m ((c.tc : Thread Cert.Reference2.nD Cert.Reference2.τ).loc Cert.Reference2.main_arg7)
      ∧ r.2.mem ((c.tc : Thread Cert.Reference2.nD Cert.Reference2.τ).loc Cert.Reference2.main_arg8) = m ((c.tc : Thread Cert.Reference2.nD Cert.Reference2.τ).loc Cert.Reference2.main_arg8)
      ∧ r.2.mem ((c.tc : Thread Cert.Reference2.nD Cert.Reference2.τ).loc Cert.Reference2.main_arg9) = m ((c.tc : Thread Cert.Reference2.nD Cert.Reference2.τ).loc Cert.Reference2.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3)
      ∧ r.2.mem ((c.tc : Thread Cert.Reference3.nD Cert.Reference3.τ).loc Cert.Reference3.main_arg4) = m ((c.tc : Thread Cert.Reference3.nD Cert.Reference3.τ).loc Cert.Reference3.main_arg4)
      ∧ r.2.mem ((c.tc : Thread Cert.Reference3.nD Cert.Reference3.τ).loc Cert.Reference3.main_arg5) = m ((c.tc : Thread Cert.Reference3.nD Cert.Reference3.τ).loc Cert.Reference3.main_arg5)
      ∧ r.2.mem ((c.tc : Thread Cert.Reference3.nD Cert.Reference3.τ).loc Cert.Reference3.main_arg6) = m ((c.tc : Thread Cert.Reference3.nD Cert.Reference3.τ).loc Cert.Reference3.main_arg6)
      ∧ r.2.mem ((c.tc : Thread Cert.Reference3.nD Cert.Reference3.τ).loc Cert.Reference3.main_arg7) = m ((c.tc : Thread Cert.Reference3.nD Cert.Reference3.τ).loc Cert.Reference3.main_arg7)
      ∧ r.2.mem ((c.tc : Thread Cert.Reference3.nD Cert.Reference3.τ).loc Cert.Reference3.main_arg8) = m ((c.tc : Thread Cert.Reference3.nD Cert.Reference3.τ).loc Cert.Reference3.main_arg8)
      ∧ r.2.mem ((c.tc : Thread Cert.Reference3.nD Cert.Reference3.τ).loc Cert.Reference3.main_arg9) = m ((c.tc : Thread Cert.Reference3.nD Cert.Reference3.τ).loc Cert.Reference3.main_arg9)
      ∧ r.2.mem ((c.tc : Thread Cert.Reference3.nD Cert.Reference3.τ).loc Cert.Reference3.main_arg10) = m ((c.tc : Thread Cert.Reference3.nD Cert.Reference3.τ).loc Cert.Reference3.main_arg10)
      ∧ r.2.mem ((c.tc : Thread Cert.Reference3.nD Cert.Reference3.τ).loc Cert.Reference3.main_arg11) = m ((c.tc : Thread Cert.Reference3.nD Cert.Reference3.τ).loc Cert.Reference3.main_arg11)
      ∧ r.2.mem ((c.tc : Thread Cert.Reference3.nD Cert.Reference3.τ).loc Cert.Reference3.main_arg12) = m ((c.tc : Thread Cert.Reference3.nD Cert.Reference3.τ).loc Cert.Reference3.main_arg12))
      ∧ r.2.sem = fun _ => 0)

def preserves_Kernel_KernelIdeal : Prop :=
  True

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)) (v3 : (c : Dev Cert.Kernel3Ideal.nD) → Buf (Elt Ideal) ((c.tc : Thread Cert.Kernel3Ideal.nD Cert.Kernel3Ideal.τ).loc Cert.Kernel3Ideal.main_v29_3)) (v4 : (c : Dev Cert.Kernel3Ideal.nD) → Buf (Elt Ideal) ((c.tc : Thread Cert.Kernel3Ideal.nD Cert.Kernel3Ideal.τ).loc Cert.Kernel3Ideal.main_v29_4)) (v5 : (c : Dev Cert.Kernel3Ideal.nD) → Buf (Elt Ideal) ((c.tc : Thread Cert.Kernel3Ideal.nD Cert.Kernel3Ideal.τ).loc Cert.Kernel3Ideal.main_v29_5)) (v6 : (c : Dev Cert.Kernel3Ideal.nD) → Buf (Elt Ideal) ((c.tc : Thread Cert.Kernel3Ideal.nD Cert.Kernel3Ideal.τ).loc Cert.Kernel3Ideal.main_v29_6)) (v7 : (c : Dev Cert.Kernel3Ideal.nD) → Buf (Elt Ideal) ((c.tc : Thread Cert.Kernel3Ideal.nD Cert.Kernel3Ideal.τ).loc Cert.Kernel3Ideal.main_v29_7)) (v8 : (c : Dev Cert.Kernel3Ideal.nD) → Buf (Elt Ideal) ((c.tc : Thread Cert.Kernel3Ideal.nD Cert.Kernel3Ideal.τ).loc Cert.Kernel3Ideal.main_v29_8)) (v9 : (c : Dev Cert.Kernel3Ideal.nD) → Buf (Elt Ideal) ((c.tc : Thread Cert.Kernel3Ideal.nD Cert.Kernel3Ideal.τ).loc Cert.Kernel3Ideal.main_v29_9)) (v10 : (c : Dev Cert.Kernel3Ideal.nD) → Buf (Elt Ideal) ((c.tc : Thread Cert.Kernel3Ideal.nD Cert.Kernel3Ideal.τ).loc Cert.Kernel3Ideal.main_v29_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_v29_3) = v3 c
          ∧ r.2.mem ((c.tc : Thread Cert.Kernel3Ideal.nD Cert.Kernel3Ideal.τ).loc Cert.Kernel3Ideal.main_v29_4) = v4 c
          ∧ r.2.mem ((c.tc : Thread Cert.Kernel3Ideal.nD Cert.Kernel3Ideal.τ).loc Cert.Kernel3Ideal.main_v29_5) = v5 c
          ∧ r.2.mem ((c.tc : Thread Cert.Kernel3Ideal.nD Cert.Kernel3Ideal.τ).loc Cert.Kernel3Ideal.main_v29_6) = v6 c
          ∧ r.2.mem ((c.tc : Thread Cert.Kernel3Ideal.nD Cert.Kernel3Ideal.τ).loc Cert.Kernel3Ideal.main_v29_7) = v7 c
          ∧ r.2.mem ((c.tc : Thread Cert.Kernel3Ideal.nD Cert.Kernel3Ideal.τ).loc Cert.Kernel3Ideal.main_v29_8) = v8 c
          ∧ r.2.mem ((c.tc : Thread Cert.Kernel3Ideal.nD Cert.Kernel3Ideal.τ).loc Cert.Kernel3Ideal.main_v29_9) = v9 c
          ∧ r.2.mem ((c.tc : Thread Cert.Kernel3Ideal.nD Cert.Kernel3Ideal.τ).loc Cert.Kernel3Ideal.main_v29_10) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v151) = v0 c
          ∧ r.2.mem ((c.tc : Thread Cert.Reference3Ideal.nD Cert.Reference3Ideal.τ).loc Cert.Reference3Ideal.main_v152) = v1 c
          ∧ r.2.mem ((c.tc : Thread Cert.Reference3Ideal.nD Cert.Reference3Ideal.τ).loc Cert.Reference3Ideal.main_v153) = v2 c
          ∧ r.2.mem ((c.tc : Thread Cert.Reference3Ideal.nD Cert.Reference3Ideal.τ).loc Cert.Reference3Ideal.main_v154) = v3 c
          ∧ r.2.mem ((c.tc : Thread Cert.Reference3Ideal.nD Cert.Reference3Ideal.τ).loc Cert.Reference3Ideal.main_v155) = v4 c
          ∧ r.2.mem ((c.tc : Thread Cert.Reference3Ideal.nD Cert.Reference3Ideal.τ).loc Cert.Reference3Ideal.main_v156) = v5 c
          ∧ r.2.mem ((c.tc : Thread Cert.Reference3Ideal.nD Cert.Reference3Ideal.τ).loc Cert.Reference3Ideal.main_v157) = v6 c
          ∧ r.2.mem ((c.tc : Thread Cert.Reference3Ideal.nD Cert.Reference3Ideal.τ).loc Cert.Reference3Ideal.main_v158) = v7 c
          ∧ r.2.mem ((c.tc : Thread Cert.Reference3Ideal.nD Cert.Reference3Ideal.τ).loc Cert.Reference3Ideal.main_v159) = v8 c
          ∧ r.2.mem ((c.tc : Thread Cert.Reference3Ideal.nD Cert.Reference3Ideal.τ).loc Cert.Reference3Ideal.main_v160) = v9 c
          ∧ r.2.mem ((c.tc : Thread Cert.Reference3Ideal.nD Cert.Reference3Ideal.τ).loc Cert.Reference3Ideal.main_v150) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
-- ==== Pre_finite.lean ====
abbrev S16x4096x1024 : Shape := ⟨3, ![16, 4096, 1024]⟩
abbrev S16x16x512x256 : Shape := ⟨4, ![16, 16, 512, 256]⟩
abbrev S16x4096x512 : Shape := ⟨3, ![16, 4096, 512]⟩
abbrev S_ : Shape := ⟨0, ![]⟩

class Facts : Prop where
  bitsLt_bf16_f32 : FTy.bits .bf16 < FTy.bits .f32
  bcast_S_S16x4096x1024 : S_.BroadcastsInDim S16x4096x1024 (![] : Fin 0 → Fin S16x4096x1024.rank)

variable [Facts]

def fn {F : FTy → Type} [FloatOps F] (main_arg0 : FVec F S16x4096x1024 .bf16) (main_arg1 : FVec F S16x4096x1024 .bf16) (main_arg2 : FVec F S16x16x512x256 .bf16) (main_arg3 : FVec F S16x4096x512 .bf16) : IVec S16x4096x1024 1 :=
  let main_v0 : FVec F S16x4096x1024 .f32 := (extf .f32 · bitsLt_bf16_f32) main_arg0
  let main_v1 : FVec F S16x4096x1024 .f32 := Host.absf main_v0
  let main_cst : FVec F S_ .f32 := constant S_ .f32 0x7F800000#32
  let main_v2 : FVec F S16x4096x1024 .f32 := broadcastInDim S16x4096x1024 ![] bcast_S_S16x4096x1024 main_cst
  let main_v3 : IVec S16x4096x1024 1 := cmpf .olt main_v1 main_v2
  let main_v4 : FVec F S16x4096x1024 .f32 := (extf .f32 · bitsLt_bf16_f32) main_arg1
  let main_v5 : FVec F S16x4096x1024 .f32 := Host.absf main_v4
  let main_cst_0 : FVec F S_ .f32 := constant S_ .f32 0x7F800000#32
  let main_v6 : FVec F S16x4096x1024 .f32 := broadcastInDim S16x4096x1024 ![] bcast_S_S16x4096x1024 main_cst_0
  let main_v7 : IVec S16x4096x1024 1 := cmpf .olt main_v5 main_v6
  let main_v8 : IVec S16x4096x1024 1 := andi main_v3 main_v7
  main_v8
-- ==== Kernel.lean ====
abbrev S16x4096x1024 : Shape := ⟨3, ![16, 4096, 1024]⟩
abbrev S16x16x512x256 : Shape := ⟨4, ![16, 16, 512, 256]⟩
abbrev S16x4096x512 : Shape := ⟨3, ![16, 4096, 512]⟩
abbrev S1x512x512 : Shape := ⟨3, ![1, 512, 512]⟩
abbrev S1x4096x512 : Shape := ⟨3, ![1, 4096, 512]⟩
abbrev S1x16x256x256 : Shape := ⟨4, ![1, 16, 256, 256]⟩
abbrev S1x512x256 : Shape := ⟨3, ![1, 512, 256]⟩
abbrev S4x256x512 : Shape := ⟨3, ![4, 256, 512]⟩
abbrev S4x1x512 : Shape := ⟨3, ![4, 1, 512]⟩
abbrev S4x80x512 : Shape := ⟨3, ![4, 80, 512]⟩
abbrev S256x512 : Shape := ⟨2, ![256, 512]⟩
abbrev S16x256 : Shape := ⟨2, ![16, 256]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S1x256x512 : Shape := ⟨3, ![1, 256, 512]⟩
abbrev S512 : Shape := ⟨1, ![512]⟩
abbrev S1x512 : Shape := ⟨2, ![1, 512]⟩
abbrev S1x1x512 : Shape := ⟨3, ![1, 1, 512]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S1x1x256 : Shape := ⟨3, ![1, 1, 256]⟩
abbrev S1x1x64x256 : Shape := ⟨4, ![1, 1, 64, 256]⟩
abbrev S64x256 : Shape := ⟨2, ![64, 256]⟩
abbrev S80x256 : Shape := ⟨2, ![80, 256]⟩
abbrev S1x80x512 : Shape := ⟨3, ![1, 80, 512]⟩
abbrev S80x512 : Shape := ⟨2, ![80, 512]⟩
abbrev S64x512 : Shape := ⟨2, ![64, 512]⟩
abbrev S512x256 : Shape := ⟨2, ![512, 256]⟩

abbrev nBuf : Space → Nat
  | .hbm => 5
  | .vmem => 22
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .bf16⟩
  | .hbm, ⟨2, _⟩ => ⟨S16x16x512x256, .bf16⟩
  | .hbm, ⟨3, _⟩ => ⟨S16x4096x512, .bf16⟩
  | .hbm, ⟨4, _⟩ => ⟨S16x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x16x256x256, .bf16⟩
  | .local _ .vmem, ⟨5, _⟩ => ⟨S1x16x256x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S4x256x512, .f32⟩
  | .local _ .vmem, ⟨11, _⟩ => ⟨S4x256x512, .f32⟩
  | .local _ .vmem, ⟨12, _⟩ => ⟨S4x256x512, .f32⟩
  | .local _ .vmem, ⟨13, _⟩ => ⟨S4x256x512, .bf16⟩
  | .local _ .vmem, ⟨14, _⟩ => ⟨S4x256x512, .bf16⟩
  | .local _ .vmem, ⟨15, _⟩ => ⟨S4x1x512, .f32⟩
  | .local _ .vmem, ⟨16, _⟩ => ⟨S4x1x512, .f32⟩
  | .local _ .vmem, ⟨17, _⟩ => ⟨S4x1x512, .f32⟩
  | .local _ .vmem, ⟨18, _⟩ => ⟨S4x1x512, .f32⟩
  | .local _ .vmem, ⟨19, _⟩ => ⟨S4x1x512, .f32⟩
  | .local _ .vmem, ⟨20, _⟩ => ⟨S4x1x512, .f32⟩
  | .local _ .vmem, ⟨21, _⟩ => ⟨S4x80x512, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 8], ![false, false, false]⟩

def k0_mult1 : BitVec 32 :=
  let c0_i32 : BitVec 32 := 0#32
  c0_i32
def k0_mult2 : BitVec 32 :=
  let c0_i32_20 : BitVec 32 := 0#32
  c0_i32_20
def k0_mult3 : BitVec 32 :=
  let c0_i32_32 : BitVec 32 := 0#32
  c0_i32_32
def k0_mult4 : BitVec 32 :=
  let c0_i32_44 : BitVec 32 := 0#32
  c0_i32_44
def k0_mult5 (i : grid0.Coords) : BitVec 32 :=
  let c2_i32 : BitVec 32 := 2#32
  let arg2 : BitVec 32 := BitVec.ofNat 32 (i 2).val
  let v0 : BitVec 32 := Scalar.muli c2_i32 arg2
  let c256_i32 : BitVec 32 := 256#32
  let v77 : BitVec 32 := Scalar.muli v0 c256_i32
  v77
def k0_off1 (i : grid0.Coords) : Fin 3 → Nat :=
  let c0_58 : Index := 0#32
  let c2_i32 : BitVec 32 := 2#32
  let arg2 : BitVec 32 := BitVec.ofNat 32 (i 2).val
  let v0 : BitVec 32 := Scalar.muli c2_i32 arg2
  let c256_i32 : BitVec 32 := 256#32
  let v77 : BitVec 32 := Scalar.muli v0 c256_i32
  let v78 : BitVec 32 := v77
  let v79 : Index := Scalar.indexCast v78
  let c0_59 : Index := 0#32
  ![0, v79.toNat, 0]
def k0_mult6 (i : grid0.Coords) : BitVec 32 :=
  let c2_i32 : BitVec 32 := 2#32
  let arg2 : BitVec 32 := BitVec.ofNat 32 (i 2).val
  let v0 : BitVec 32 := Scalar.muli c2_i32 arg2
  let c256_i32_71 : BitVec 32 := 256#32
  let v97 : BitVec 32 := Scalar.muli v0 c256_i32_71
  v97
def k0_off2 (i : grid0.Coords) : Fin 3 → Nat :=
  let c0_72 : Index := 0#32
  let c2_i32 : BitVec 32 := 2#32
  let arg2 : BitVec 32 := BitVec.ofNat 32 (i 2).val
  let v0 : BitVec 32 := Scalar.muli c2_i32 arg2
  let c256_i32_71 : BitVec 32 := 256#32
  let v97 : BitVec 32 := Scalar.muli v0 c256_i32_71
  let v98 : BitVec 32 := v97
  let v99 : Index := Scalar.indexCast v98
  let c128_73 : Index := 128#32
  ![0, v99.toNat, 128]
def k0_mult7 (i : grid0.Coords) : BitVec 32 :=
  let c2_i32 : BitVec 32 := 2#32
  let arg2 : BitVec 32 := BitVec.ofNat 32 (i 2).val
  let v0 : BitVec 32 := Scalar.muli c2_i32 arg2
  let c256_i32_85 : BitVec 32 := 256#32
  let v117 : BitVec 32 := Scalar.muli v0 c256_i32_85
  v117
def k0_off3 (i : grid0.Coords) : Fin 3 → Nat :=
  let c0_86 : Index := 0#32
  let c2_i32 : BitVec 32 := 2#32
  let arg2 : BitVec 32 := BitVec.ofNat 32 (i 2).val
  let v0 : BitVec 32 := Scalar.muli c2_i32 arg2
  let c256_i32_85 : BitVec 32 := 256#32
  let v117 : BitVec 32 := Scalar.muli v0 c256_i32_85
  let v118 : BitVec 32 := v117
  let v119 : Index := Scalar.indexCast v118
  let c256_87 : Index := 256#32
  ![0, v119.toNat, 256]
def k0_mult8 (i : grid0.Coords) : BitVec 32 :=
  let c2_i32 : BitVec 32 := 2#32
  let arg2 : BitVec 32 := BitVec.ofNat 32 (i 2).val
  let v0 : BitVec 32 := Scalar.muli c2_i32 arg2
  let c256_i32_99 : BitVec 32 := 256#32
  let v137 : BitVec 32 := Scalar.muli v0 c256_i32_99
  v137
def k0_off4 (i : grid0.Coords) : Fin 3 → Nat :=
  let c0_100 : Index := 0#32
  let c2_i32 : BitVec 32 := 2#32
  let arg2 : BitVec 32 := BitVec.ofNat 32 (i 2).val
  let v0 : BitVec 32 := Scalar.muli c2_i32 arg2
  let c256_i32_99 : BitVec 32 := 256#32
  let v137 : BitVec 32 := Scalar.muli v0 c256_i32_99
  let v138 : BitVec 32 := v137
  let v139 : Index := Scalar.indexCast v138
  let c384_101 : Index := 384#32
  ![0, v139.toNat, 384]
def k0_mult9 (i : grid0.Coords) : BitVec 32 :=
  let c2_i32 : BitVec 32 := 2#32
  let arg2 : BitVec 32 := BitVec.ofNat 32 (i 2).val
  let v0 : BitVec 32 := Scalar.muli c2_i32 arg2
  let c1_i32 : BitVec 32 := 1#32
  let v157 : BitVec 32 := Scalar.addi v0 c1_i32
  let c256_i32_113 : BitVec 32 := 256#32
  let v158 : BitVec 32 := Scalar.muli v157 c256_i32_113
  v158
def k0_off5 (i : grid0.Coords) : Fin 3 → Nat :=
  let c0_114 : Index := 0#32
  let c2_i32 : BitVec 32 := 2#32
  let arg2 : BitVec 32 := BitVec.ofNat 32 (i 2).val
  let v0 : BitVec 32 := Scalar.muli c2_i32 arg2
  let c1_i32 : BitVec 32 := 1#32
  let v157 : BitVec 32 := Scalar.addi v0 c1_i32
  let c256_i32_113 : BitVec 32 := 256#32
  let v158 : BitVec 32 := Scalar.muli v157 c256_i32_113
  let v159 : BitVec 32 := v158
  let v160 : Index := Scalar.indexCast v159
  let c0_115 : Index := 0#32
  ![0, v160.toNat, 0]
def k0_mult10 (i : grid0.Coords) : BitVec 32 :=
  let c2_i32 : BitVec 32 := 2#32
  let arg2 : BitVec 32 := BitVec.ofNat 32 (i 2).val
  let v0 : BitVec 32 := Scalar.muli c2_i32 arg2
  let c1_i32_127 : BitVec 32 := 1#32
  let v175 : BitVec 32 := Scalar.addi v0 c1_i32_127
  let c256_i32_128 : BitVec 32 := 256#32
  let v176 : BitVec 32 := Scalar.muli v175 c256_i32_128
  v176
def k0_off6 (i : grid0.Coords) : Fin 3 → Nat :=
  let c0_129 : Index := 0#32
  let c2_i32 : BitVec 32 := 2#32
  let arg2 : BitVec 32 := BitVec.ofNat 32 (i 2).val
  let v0 : BitVec 32 := Scalar.muli c2_i32 arg2
  let c1_i32_127 : BitVec 32 := 1#32
  let v175 : BitVec 32 := Scalar.addi v0 c1_i32_127
  let c256_i32_128 : BitVec 32 := 256#32
  let v176 : BitVec 32 := Scalar.muli v175 c256_i32_128
  let v177 : BitVec 32 := v176
  let v178 : Index := Scalar.indexCast v177
  let c128_130 : Index := 128#32
  ![0, v178.toNat, 128]
def k0_mult11 (i : grid0.Coords) : BitVec 32 :=
  let c2_i32 : BitVec 32 := 2#32
  let arg2 : BitVec 32 := BitVec.ofNat 32 (i 2).val
  let v0 : BitVec 32 := Scalar.muli c2_i32 arg2
  let c1_i32_142 : BitVec 32 := 1#32
  let v193 : BitVec 32 := Scalar.addi v0 c1_i32_142
  let c256_i32_143 : BitVec 32 := 256#32
  let v194 : BitVec 32 := Scalar.muli v193 c256_i32_143
  v194
def k0_off7 (i : grid0.Coords) : Fin 3 → Nat :=
  let c0_144 : Index := 0#32
  let c2_i32 : BitVec 32 := 2#32
  let arg2 : BitVec 32 := BitVec.ofNat 32 (i 2).val
  let v0 : BitVec 32 := Scalar.muli c2_i32 arg2
  let c1_i32_142 : BitVec 32 := 1#32
  let v193 : BitVec 32 := Scalar.addi v0 c1_i32_142
  let c256_i32_143 : BitVec 32 := 256#32
  let v194 : BitVec 32 := Scalar.muli v193 c256_i32_143
  let v195 : BitVec 32 := v194
  let v196 : Index := Scalar.indexCast v195
  let c256_145 : Index := 256#32
  ![0, v196.toNat, 256]
def k0_mult12 (i : grid0.Coords) : BitVec 32 :=
  let c2_i32 : BitVec 32 := 2#32
  let arg2 : BitVec 32 := BitVec.ofNat 32 (i 2).val
  let v0 : BitVec 32 := Scalar.muli c2_i32 arg2
  let c1_i32_157 : BitVec 32 := 1#32
  let v211 : BitVec 32 := Scalar.addi v0 c1_i32_157
  let c256_i32_158 : BitVec 32 := 256#32
  let v212 : BitVec 32 := Scalar.muli v211 c256_i32_158
  v212
def k0_off8 (i : grid0.Coords) : Fin 3 → Nat :=
  let c0_159 : Index := 0#32
  let c2_i32 : BitVec 32 := 2#32
  let arg2 : BitVec 32 := BitVec.ofNat 32 (i 2).val
  let v0 : BitVec 32 := Scalar.muli c2_i32 arg2
  let c1_i32_157 : BitVec 32 := 1#32
  let v211 : BitVec 32 := Scalar.addi v0 c1_i32_157
  let c256_i32_158 : BitVec 32 := 256#32
  let v212 : BitVec 32 := Scalar.muli v211 c256_i32_158
  let v213 : BitVec 32 := v212
  let v214 : Index := Scalar.indexCast v213
  let c384_160 : Index := 384#32
  ![0, v214.toNat, 384]
def k0_off9 (i : grid0.Coords) : Fin 4 → Nat :=
  let c0_336 : Index := 0#32
  let c2_i32 : BitVec 32 := 2#32
  let arg2 : BitVec 32 := BitVec.ofNat 32 (i 2).val
  let v0 : BitVec 32 := Scalar.muli c2_i32 arg2
  let v429 : Index := Scalar.indexCast v0
  let c0_337 : Index := 0#32
  let c0_338 : Index := 0#32
  ![0, v429.toNat, 0, 0]
def k0_off10 (i : grid0.Coords) : Fin 4 → Nat :=
  let c0_352 : Index := 0#32
  let c2_i32 : BitVec 32 := 2#32
  let arg2 : BitVec 32 := BitVec.ofNat 32 (i 2).val
  let v0 : BitVec 32 := Scalar.muli c2_i32 arg2
  let v446 : Index := Scalar.indexCast v0
  let c64 : Index := 64#32
  let c0_353 : Index := 0#32
  ![0, v446.toNat, 64, 0]
def k0_off11 (i : grid0.Coords) : Fin 4 → Nat :=
  let c0_367 : Index := 0#32
  let c2_i32 : BitVec 32 := 2#32
  let arg2 : BitVec 32 := BitVec.ofNat 32 (i 2).val
  let v0 : BitVec 32 := Scalar.muli c2_i32 arg2
  let v463 : Index := Scalar.indexCast v0
  let c128_368 : Index := 128#32
  let c0_369 : Index := 0#32
  ![0, v463.toNat, 128, 0]
def k0_off12 (i : grid0.Coords) : Fin 4 → Nat :=
  let c0_383 : Index := 0#32
  let c2_i32 : BitVec 32 := 2#32
  let arg2 : BitVec 32 := BitVec.ofNat 32 (i 2).val
  let v0 : BitVec 32 := Scalar.muli c2_i32 arg2
  let v480 : Index := Scalar.indexCast v0
  let c192 : Index := 192#32
  let c0_384 : Index := 0#32
  ![0, v480.toNat, 192, 0]
@[reducible] def k0_t1_loop (i : grid0.Coords) : Scf.Loop 32 :=
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_402 : BitVec 32 := 1#32
  ⟨c0_i32_400, v502, c1_i32_402⟩
def k0_mult13 (i : grid0.Coords) (k0_t1 : Fin (k0_t1_loop i).trips) : BitVec 32 :=
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let c1_i32_496 : BitVec 32 := 1#32
  let v621 : BitVec 32 := Scalar.addi v620 c1_i32_496
  let c256_i32_497 : BitVec 32 := 256#32
  let v622 : BitVec 32 := Scalar.muli v621 c256_i32_497
  v622
def k0_off13 (i : grid0.Coords) (k0_t1 : Fin (k0_t1_loop i).trips) (c1_i32_496 : BitVec 32) : Fin 3 → Nat :=
  let c0_498 : Index := 0#32
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let v621 : BitVec 32 := Scalar.addi v620 c1_i32_496
  let c256_i32_497 : BitVec 32 := 256#32
  let v622 : BitVec 32 := Scalar.muli v621 c256_i32_497
  let v623 : BitVec 32 := v622
  let v624 : Index := Scalar.indexCast v623
  let c0_499 : Index := 0#32
  ![0, v624.toNat, 0]
def k0_mult14 (i : grid0.Coords) (k0_t1 : Fin (k0_t1_loop i).trips) : BitVec 32 :=
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let c1_i32_496 : BitVec 32 := 1#32
  let v621 : BitVec 32 := Scalar.addi v620 c1_i32_496
  let c256_i32_511 : BitVec 32 := 256#32
  let v638 : BitVec 32 := Scalar.muli v621 c256_i32_511
  v638
def k0_off14 (i : grid0.Coords) (k0_t1 : Fin (k0_t1_loop i).trips) (c1_i32_496 : BitVec 32) : Fin 3 → Nat :=
  let c0_512 : Index := 0#32
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let v621 : BitVec 32 := Scalar.addi v620 c1_i32_496
  let c256_i32_511 : BitVec 32 := 256#32
  let v638 : BitVec 32 := Scalar.muli v621 c256_i32_511
  let v639 : BitVec 32 := v638
  let v640 : Index := Scalar.indexCast v639
  let c128_513 : Index := 128#32
  ![0, v640.toNat, 128]
def k0_mult15 (i : grid0.Coords) (k0_t1 : Fin (k0_t1_loop i).trips) : BitVec 32 :=
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let c1_i32_496 : BitVec 32 := 1#32
  let v621 : BitVec 32 := Scalar.addi v620 c1_i32_496
  let c256_i32_525 : BitVec 32 := 256#32
  let v654 : BitVec 32 := Scalar.muli v621 c256_i32_525
  v654
def k0_off15 (i : grid0.Coords) (k0_t1 : Fin (k0_t1_loop i).trips) (c1_i32_496 : BitVec 32) : Fin 3 → Nat :=
  let c0_526 : Index := 0#32
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let v621 : BitVec 32 := Scalar.addi v620 c1_i32_496
  let c256_i32_525 : BitVec 32 := 256#32
  let v654 : BitVec 32 := Scalar.muli v621 c256_i32_525
  let v655 : BitVec 32 := v654
  let v656 : Index := Scalar.indexCast v655
  let c256_527 : Index := 256#32
  ![0, v656.toNat, 256]
def k0_mult16 (i : grid0.Coords) (k0_t1 : Fin (k0_t1_loop i).trips) : BitVec 32 :=
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let c1_i32_496 : BitVec 32 := 1#32
  let v621 : BitVec 32 := Scalar.addi v620 c1_i32_496
  let c256_i32_539 : BitVec 32 := 256#32
  let v670 : BitVec 32 := Scalar.muli v621 c256_i32_539
  v670
def k0_off16 (i : grid0.Coords) (k0_t1 : Fin (k0_t1_loop i).trips) (c1_i32_496 : BitVec 32) : Fin 3 → Nat :=
  let c0_540 : Index := 0#32
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let v621 : BitVec 32 := Scalar.addi v620 c1_i32_496
  let c256_i32_539 : BitVec 32 := 256#32
  let v670 : BitVec 32 := Scalar.muli v621 c256_i32_539
  let v671 : BitVec 32 := v670
  let v672 : Index := Scalar.indexCast v671
  let c384_541 : Index := 384#32
  ![0, v672.toNat, 384]
def k0_off17 (i : grid0.Coords) (k0_t1 : Fin (k0_t1_loop i).trips) : Fin 4 → Nat :=
  let c0_628 : Index := 0#32
  let c0_i32_400 : BitVec 32 := 0#32
  let c1_i32_402 : BitVec 32 := 1#32
  let arg20 : BitVec 32 := Scf.iv c0_i32_400 c1_i32_402 k0_t1
  let c0_i32_625 : BitVec 32 := 0#32
  let v774 : BitVec 1 := Scalar.cmpi .eq arg20 c0_i32_625
  let c2_i32 : BitVec 32 := 2#32
  let arg2 : BitVec 32 := BitVec.ofNat 32 (i 2).val
  let v0 : BitVec 32 := Scalar.muli c2_i32 arg2
  let c1_i32_626 : BitVec 32 := 1#32
  let v775 : BitVec 32 := Scalar.addi v0 c1_i32_626
  let c2_i32_495 : BitVec 32 := 2#32
  let v620 : BitVec 32 := Scalar.muli c2_i32_495 arg20
  let c1_i32_627 : BitVec 32 := 1#32
  let v776 : BitVec 32 := Scalar.subi v620 c1_i32_627
  let v777 : BitVec 32 := Scalar.select v774 v775 v776
  let v778 : Index := Scalar.indexCast v777
  let c0_629 : Index := 0#32
  let c0_630 : Index := 0#32
  ![0, v778.toNat, 0, 0]
def k0_off18 (i : grid0.Coords) (k0_t1 : Fin (k0_t1_loop i).trips) : Fin 4 → Nat :=
  let c0_644 : Index := 0#32
  let c0_i32_400 : BitVec 32 := 0#32
  let c1_i32_402 : BitVec 32 := 1#32
  let arg20 : BitVec 32 := Scf.iv c0_i32_400 c1_i32_402 k0_t1
  let c0_i32_625 : BitVec 32 := 0#32
  let v774 : BitVec 1 := Scalar.cmpi .eq arg20 c0_i32_625
  let c2_i32 : BitVec 32 := 2#32
  let arg2 : BitVec 32 := BitVec.ofNat 32 (i 2).val
  let v0 : BitVec 32 := Scalar.muli c2_i32 arg2
  let c1_i32_626 : BitVec 32 := 1#32
  let v775 : BitVec 32 := Scalar.addi v0 c1_i32_626
  let c2_i32_495 : BitVec 32 := 2#32
  let v620 : BitVec 32 := Scalar.muli c2_i32_495 arg20
  let c1_i32_627 : BitVec 32 := 1#32
  let v776 : BitVec 32 := Scalar.subi v620 c1_i32_627
  let v777 : BitVec 32 := Scalar.select v774 v775 v776
  let v795 : Index := Scalar.indexCast v777
  let c64_645 : Index := 64#32
  let c0_646 : Index := 0#32
  ![0, v795.toNat, 64, 0]
def k0_off19 (i : grid0.Coords) (k0_t1 : Fin (k0_t1_loop i).trips) : Fin 4 → Nat :=
  let c0_660 : Index := 0#32
  let c0_i32_400 : BitVec 32 := 0#32
  let c1_i32_402 : BitVec 32 := 1#32
  let arg20 : BitVec 32 := Scf.iv c0_i32_400 c1_i32_402 k0_t1
  let c0_i32_625 : BitVec 32 := 0#32
  let v774 : BitVec 1 := Scalar.cmpi .eq arg20 c0_i32_625
  let c2_i32 : BitVec 32 := 2#32
  let arg2 : BitVec 32 := BitVec.ofNat 32 (i 2).val
  let v0 : BitVec 32 := Scalar.muli c2_i32 arg2
  let c1_i32_626 : BitVec 32 := 1#32
  let v775 : BitVec 32 := Scalar.addi v0 c1_i32_626
  let c2_i32_495 : BitVec 32 := 2#32
  let v620 : BitVec 32 := Scalar.muli c2_i32_495 arg20
  let c1_i32_627 : BitVec 32 := 1#32
  let v776 : BitVec 32 := Scalar.subi v620 c1_i32_627
  let v777 : BitVec 32 := Scalar.select v774 v775 v776
  let v812 : Index := Scalar.indexCast v777
  let c128_661 : Index := 128#32
  let c0_662 : Index := 0#32
  ![0, v812.toNat, 128, 0]
def k0_off20 (i : grid0.Coords) (k0_t1 : Fin (k0_t1_loop i).trips) : Fin 4 → Nat :=
  let c0_676 : Index := 0#32
  let c0_i32_400 : BitVec 32 := 0#32
  let c1_i32_402 : BitVec 32 := 1#32
  let arg20 : BitVec 32 := Scf.iv c0_i32_400 c1_i32_402 k0_t1
  let c0_i32_625 : BitVec 32 := 0#32
  let v774 : BitVec 1 := Scalar.cmpi .eq arg20 c0_i32_625
  let c2_i32 : BitVec 32 := 2#32
  let arg2 : BitVec 32 := BitVec.ofNat 32 (i 2).val
  let v0 : BitVec 32 := Scalar.muli c2_i32 arg2
  let c1_i32_626 : BitVec 32 := 1#32
  let v775 : BitVec 32 := Scalar.addi v0 c1_i32_626
  let c2_i32_495 : BitVec 32 := 2#32
  let v620 : BitVec 32 := Scalar.muli c2_i32_495 arg20
  let c1_i32_627 : BitVec 32 := 1#32
  let v776 : BitVec 32 := Scalar.subi v620 c1_i32_627
  let v777 : BitVec 32 := Scalar.select v774 v775 v776
  let v829 : Index := Scalar.indexCast v777
  let c192_677 : Index := 192#32
  let c0_678 : Index := 0#32
  ![0, v829.toNat, 192, 0]
def k0_mult17 (i : grid0.Coords) (k0_t1 : Fin (k0_t1_loop i).trips) : BitVec 32 :=
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let c2_i32_692 : BitVec 32 := 2#32
  let v846 : BitVec 32 := Scalar.addi v620 c2_i32_692
  let c256_i32_693 : BitVec 32 := 256#32
  let v847 : BitVec 32 := Scalar.muli v846 c256_i32_693
  v847
def k0_mult18 (i : grid0.Coords) (k0_t1 : Fin (k0_t1_loop i).trips) : BitVec 32 :=
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let c2_i32_692 : BitVec 32 := 2#32
  let v846 : BitVec 32 := Scalar.addi v620 c2_i32_692
  let c256_i32_707 : BitVec 32 := 256#32
  let v863 : BitVec 32 := Scalar.muli v846 c256_i32_707
  v863
def k0_mult19 (i : grid0.Coords) (k0_t1 : Fin (k0_t1_loop i).trips) : BitVec 32 :=
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let c2_i32_692 : BitVec 32 := 2#32
  let v846 : BitVec 32 := Scalar.addi v620 c2_i32_692
  let c256_i32_721 : BitVec 32 := 256#32
  let v879 : BitVec 32 := Scalar.muli v846 c256_i32_721
  v879
def k0_mult20 (i : grid0.Coords) (k0_t1 : Fin (k0_t1_loop i).trips) : BitVec 32 :=
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let c2_i32_692 : BitVec 32 := 2#32
  let v846 : BitVec 32 := Scalar.addi v620 c2_i32_692
  let c256_i32_735 : BitVec 32 := 256#32
  let v895 : BitVec 32 := Scalar.muli v846 c256_i32_735
  v895
def k0_off21 (i : grid0.Coords) (k0_t1 : Fin (k0_t1_loop i).trips) : Fin 4 → Nat :=
  let c0_822 : Index := 0#32
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let v1000 : Index := Scalar.indexCast v620
  let c0_823 : Index := 0#32
  let c0_824 : Index := 0#32
  ![0, v1000.toNat, 0, 0]
def k0_off22 (i : grid0.Coords) (k0_t1 : Fin (k0_t1_loop i).trips) : Fin 4 → Nat :=
  let c0_838 : Index := 0#32
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let v1017 : Index := Scalar.indexCast v620
  let c64_839 : Index := 64#32
  let c0_840 : Index := 0#32
  ![0, v1017.toNat, 64, 0]
def k0_off23 (i : grid0.Coords) (k0_t1 : Fin (k0_t1_loop i).trips) : Fin 4 → Nat :=
  let c0_854 : Index := 0#32
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let v1034 : Index := Scalar.indexCast v620
  let c128_855 : Index := 128#32
  let c0_856 : Index := 0#32
  ![0, v1034.toNat, 128, 0]
def k0_off24 (i : grid0.Coords) (k0_t1 : Fin (k0_t1_loop i).trips) : Fin 4 → Nat :=
  let c0_870 : Index := 0#32
  let c2_i32_495 : BitVec 32 := 2#32
  let c0_i32_400 : BitVec 32 := 0#32
  let c1_i32_402 : BitVec 32 := 1#32
  let arg20 : BitVec 32 := Scf.iv c0_i32_400 c1_i32_402 k0_t1
  let v620 : BitVec 32 := Scalar.muli c2_i32_495 arg20
  let v1051 : Index := Scalar.indexCast v620
  let c192_871 : Index := 192#32
  let c0_872 : Index := 0#32
  ![0, v1051.toNat, 192, 0]
@[reducible] def k0_t2_loop (i : grid0.Coords) : Scf.Loop 32 :=
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let v499 : BitVec 32 := Scalar.addi c0_i32_400 v498
  let c1_i32_403 : BitVec 32 := 1#32
  ⟨v502, v499, c1_i32_403⟩
def k0_mult21 (i : grid0.Coords) (k0_t2 : Fin (k0_t2_loop i).trips) : BitVec 32 :=
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let c1_i32_496 : BitVec 32 := 1#32
  let v621 : BitVec 32 := Scalar.addi v620 c1_i32_496
  let c256_i32_497 : BitVec 32 := 256#32
  let v622 : BitVec 32 := Scalar.muli v621 c256_i32_497
  v622
def k0_off25 (i : grid0.Coords) (k0_t2 : Fin (k0_t2_loop i).trips) (c1_i32_496 : BitVec 32) : Fin 3 → Nat :=
  let c0_498 : Index := 0#32
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let v621 : BitVec 32 := Scalar.addi v620 c1_i32_496
  let c256_i32_497 : BitVec 32 := 256#32
  let v622 : BitVec 32 := Scalar.muli v621 c256_i32_497
  let v623 : BitVec 32 := v622
  let v624 : Index := Scalar.indexCast v623
  let c0_499 : Index := 0#32
  ![0, v624.toNat, 0]
def k0_mult22 (i : grid0.Coords) (k0_t2 : Fin (k0_t2_loop i).trips) : BitVec 32 :=
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let c1_i32_496 : BitVec 32 := 1#32
  let v621 : BitVec 32 := Scalar.addi v620 c1_i32_496
  let c256_i32_511 : BitVec 32 := 256#32
  let v638 : BitVec 32 := Scalar.muli v621 c256_i32_511
  v638
def k0_off26 (i : grid0.Coords) (k0_t2 : Fin (k0_t2_loop i).trips) (c1_i32_496 : BitVec 32) : Fin 3 → Nat :=
  let c0_512 : Index := 0#32
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let v621 : BitVec 32 := Scalar.addi v620 c1_i32_496
  let c256_i32_511 : BitVec 32 := 256#32
  let v638 : BitVec 32 := Scalar.muli v621 c256_i32_511
  let v639 : BitVec 32 := v638
  let v640 : Index := Scalar.indexCast v639
  let c128_513 : Index := 128#32
  ![0, v640.toNat, 128]
def k0_mult23 (i : grid0.Coords) (k0_t2 : Fin (k0_t2_loop i).trips) : BitVec 32 :=
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let c1_i32_496 : BitVec 32 := 1#32
  let v621 : BitVec 32 := Scalar.addi v620 c1_i32_496
  let c256_i32_525 : BitVec 32 := 256#32
  let v654 : BitVec 32 := Scalar.muli v621 c256_i32_525
  v654
def k0_off27 (i : grid0.Coords) (k0_t2 : Fin (k0_t2_loop i).trips) (c1_i32_496 : BitVec 32) : Fin 3 → Nat :=
  let c0_526 : Index := 0#32
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let v621 : BitVec 32 := Scalar.addi v620 c1_i32_496
  let c256_i32_525 : BitVec 32 := 256#32
  let v654 : BitVec 32 := Scalar.muli v621 c256_i32_525
  let v655 : BitVec 32 := v654
  let v656 : Index := Scalar.indexCast v655
  let c256_527 : Index := 256#32
  ![0, v656.toNat, 256]
def k0_mult24 (i : grid0.Coords) (k0_t2 : Fin (k0_t2_loop i).trips) : BitVec 32 :=
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let c1_i32_496 : BitVec 32 := 1#32
  let v621 : BitVec 32 := Scalar.addi v620 c1_i32_496
  let c256_i32_539 : BitVec 32 := 256#32
  let v670 : BitVec 32 := Scalar.muli v621 c256_i32_539
  v670
def k0_off28 (i : grid0.Coords) (k0_t2 : Fin (k0_t2_loop i).trips) (c1_i32_496 : BitVec 32) : Fin 3 → Nat :=
  let c0_540 : Index := 0#32
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let v621 : BitVec 32 := Scalar.addi v620 c1_i32_496
  let c256_i32_539 : BitVec 32 := 256#32
  let v670 : BitVec 32 := Scalar.muli v621 c256_i32_539
  let v671 : BitVec 32 := v670
  let v672 : Index := Scalar.indexCast v671
  let c384_541 : Index := 384#32
  ![0, v672.toNat, 384]
def k0_off29 (i : grid0.Coords) (k0_t2 : Fin (k0_t2_loop i).trips) : Fin 4 → Nat :=
  let c0_628 : Index := 0#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let c0_i32_625 : BitVec 32 := 0#32
  let v774 : BitVec 1 := Scalar.cmpi .eq arg20 c0_i32_625
  let c2_i32 : BitVec 32 := 2#32
  let v0 : BitVec 32 := Scalar.muli c2_i32 arg2
  let c1_i32_626 : BitVec 32 := 1#32
  let v775 : BitVec 32 := Scalar.addi v0 c1_i32_626
  let c2_i32_495 : BitVec 32 := 2#32
  let v620 : BitVec 32 := Scalar.muli c2_i32_495 arg20
  let c1_i32_627 : BitVec 32 := 1#32
  let v776 : BitVec 32 := Scalar.subi v620 c1_i32_627
  let v777 : BitVec 32 := Scalar.select v774 v775 v776
  let v778 : Index := Scalar.indexCast v777
  let c0_629 : Index := 0#32
  let c0_630 : Index := 0#32
  ![0, v778.toNat, 0, 0]
def k0_off30 (i : grid0.Coords) (k0_t2 : Fin (k0_t2_loop i).trips) : Fin 4 → Nat :=
  let c0_644 : Index := 0#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let c0_i32_625 : BitVec 32 := 0#32
  let v774 : BitVec 1 := Scalar.cmpi .eq arg20 c0_i32_625
  let c2_i32 : BitVec 32 := 2#32
  let v0 : BitVec 32 := Scalar.muli c2_i32 arg2
  let c1_i32_626 : BitVec 32 := 1#32
  let v775 : BitVec 32 := Scalar.addi v0 c1_i32_626
  let c2_i32_495 : BitVec 32 := 2#32
  let v620 : BitVec 32 := Scalar.muli c2_i32_495 arg20
  let c1_i32_627 : BitVec 32 := 1#32
  let v776 : BitVec 32 := Scalar.subi v620 c1_i32_627
  let v777 : BitVec 32 := Scalar.select v774 v775 v776
  let v795 : Index := Scalar.indexCast v777
  let c64_645 : Index := 64#32
  let c0_646 : Index := 0#32
  ![0, v795.toNat, 64, 0]
def k0_off31 (i : grid0.Coords) (k0_t2 : Fin (k0_t2_loop i).trips) : Fin 4 → Nat :=
  let c0_660 : Index := 0#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let c0_i32_625 : BitVec 32 := 0#32
  let v774 : BitVec 1 := Scalar.cmpi .eq arg20 c0_i32_625
  let c2_i32 : BitVec 32 := 2#32
  let v0 : BitVec 32 := Scalar.muli c2_i32 arg2
  let c1_i32_626 : BitVec 32 := 1#32
  let v775 : BitVec 32 := Scalar.addi v0 c1_i32_626
  let c2_i32_495 : BitVec 32 := 2#32
  let v620 : BitVec 32 := Scalar.muli c2_i32_495 arg20
  let c1_i32_627 : BitVec 32 := 1#32
  let v776 : BitVec 32 := Scalar.subi v620 c1_i32_627
  let v777 : BitVec 32 := Scalar.select v774 v775 v776
  let v812 : Index := Scalar.indexCast v777
  let c128_661 : Index := 128#32
  let c0_662 : Index := 0#32
  ![0, v812.toNat, 128, 0]
def k0_off32 (i : grid0.Coords) (k0_t2 : Fin (k0_t2_loop i).trips) : Fin 4 → Nat :=
  let c0_676 : Index := 0#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let c0_i32_625 : BitVec 32 := 0#32
  let v774 : BitVec 1 := Scalar.cmpi .eq arg20 c0_i32_625
  let c2_i32 : BitVec 32 := 2#32
  let v0 : BitVec 32 := Scalar.muli c2_i32 arg2
  let c1_i32_626 : BitVec 32 := 1#32
  let v775 : BitVec 32 := Scalar.addi v0 c1_i32_626
  let c2_i32_495 : BitVec 32 := 2#32
  let v620 : BitVec 32 := Scalar.muli c2_i32_495 arg20
  let c1_i32_627 : BitVec 32 := 1#32
  let v776 : BitVec 32 := Scalar.subi v620 c1_i32_627
  let v777 : BitVec 32 := Scalar.select v774 v775 v776
  let v829 : Index := Scalar.indexCast v777
  let c192_677 : Index := 192#32
  let c0_678 : Index := 0#32
  ![0, v829.toNat, 192, 0]
def k0_mult25 (i : grid0.Coords) (k0_t2 : Fin (k0_t2_loop i).trips) : BitVec 32 :=
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let c2_i32_692 : BitVec 32 := 2#32
  let v846 : BitVec 32 := Scalar.addi v620 c2_i32_692
  let c256_i32_693 : BitVec 32 := 256#32
  let v847 : BitVec 32 := Scalar.muli v846 c256_i32_693
  v847
def k0_mult26 (i : grid0.Coords) (k0_t2 : Fin (k0_t2_loop i).trips) : BitVec 32 :=
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let c2_i32_692 : BitVec 32 := 2#32
  let v846 : BitVec 32 := Scalar.addi v620 c2_i32_692
  let c256_i32_707 : BitVec 32 := 256#32
  let v863 : BitVec 32 := Scalar.muli v846 c256_i32_707
  v863
def k0_mult27 (i : grid0.Coords) (k0_t2 : Fin (k0_t2_loop i).trips) : BitVec 32 :=
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let c2_i32_692 : BitVec 32 := 2#32
  let v846 : BitVec 32 := Scalar.addi v620 c2_i32_692
  let c256_i32_721 : BitVec 32 := 256#32
  let v879 : BitVec 32 := Scalar.muli v846 c256_i32_721
  v879
def k0_mult28 (i : grid0.Coords) (k0_t2 : Fin (k0_t2_loop i).trips) : BitVec 32 :=
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let c2_i32_692 : BitVec 32 := 2#32
  let v846 : BitVec 32 := Scalar.addi v620 c2_i32_692
  let c256_i32_735 : BitVec 32 := 256#32
  let v895 : BitVec 32 := Scalar.muli v846 c256_i32_735
  v895
def k0_off33 (i : grid0.Coords) (k0_t2 : Fin (k0_t2_loop i).trips) : Fin 4 → Nat :=
  let c0_822 : Index := 0#32
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let v1000 : Index := Scalar.indexCast v620
  let c0_823 : Index := 0#32
  let c0_824 : Index := 0#32
  ![0, v1000.toNat, 0, 0]
def k0_off34 (i : grid0.Coords) (k0_t2 : Fin (k0_t2_loop i).trips) : Fin 4 → Nat :=
  let c0_838 : Index := 0#32
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let v1017 : Index := Scalar.indexCast v620
  let c64_839 : Index := 64#32
  let c0_840 : Index := 0#32
  ![0, v1017.toNat, 64, 0]
def k0_off35 (i : grid0.Coords) (k0_t2 : Fin (k0_t2_loop i).trips) : Fin 4 → Nat :=
  let c0_854 : Index := 0#32
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let v1034 : Index := Scalar.indexCast v620
  let c128_855 : Index := 128#32
  let c0_856 : Index := 0#32
  ![0, v1034.toNat, 128, 0]
def k0_off36 (i : grid0.Coords) (k0_t2 : Fin (k0_t2_loop i).trips) : Fin 4 → Nat :=
  let c0_870 : Index := 0#32
  let c2_i32_495 : BitVec 32 := 2#32
  let c0_i32_400 : BitVec 32 := 0#32
  let arg2 : BitVec 32 := BitVec.ofNat 32 (i 2).val
  let c1_i32_398 : BitVec 32 := 1#32
  let v497 : BitVec 32 := Scalar.subi arg2 c1_i32_398
  let v498 : BitVec 32 := Scalar.subi v497 c0_i32_400
  let c1_i32_401 : BitVec 32 := 1#32
  let v500 : BitVec 32 := Scalar.divsi v498 c1_i32_401
  let v501 : BitVec 32 := Scalar.muli v500 c1_i32_401
  let v502 : BitVec 32 := Scalar.addi c0_i32_400 v501
  let c1_i32_403 : BitVec 32 := 1#32
  let arg20 : BitVec 32 := Scf.iv v502 c1_i32_403 k0_t2
  let v620 : BitVec 32 := Scalar.muli c2_i32_495 arg20
  let v1051 : Index := Scalar.indexCast v620
  let c192_871 : Index := 192#32
  let c0_872 : Index := 0#32
  ![0, v1051.toNat, 192, 0]
def k0_cond1 (i : grid0.Coords) : BitVec 1 :=
  let arg2 : BitVec 32 := BitVec.ofNat 32 (i 2).val
  let c0_i32_404 : BitVec 32 := 0#32
  let v503 : BitVec 1 := Scalar.cmpi .sgt arg2 c0_i32_404
  let v504 : BitVec 32 := Scalar.extui v503
  let c0_i32_405 : BitVec 32 := 0#32
  let v505 : BitVec 1 := Scalar.cmpi .ne v504 c0_i32_405
  v505

def k0_mult29 (i : grid0.Coords) : BitVec 32 :=
  let c2_i32_496 : BitVec 32 := 2#32
  let arg2 : BitVec 32 := BitVec.ofNat 32 (i 2).val
  let c1_i32_495 : BitVec 32 := 1#32
  let v620 : BitVec 32 := Scalar.subi arg2 c1_i32_495
  let v621 : BitVec 32 := Scalar.muli c2_i32_496 v620
  let c1_i32_497 : BitVec 32 := 1#32
  let v622 : BitVec 32 := Scalar.addi v621 c1_i32_497
  let c256_i32_498 : BitVec 32 := 256#32
  let v623 : BitVec 32 := Scalar.muli v622 c256_i32_498
  v623
def k0_off37 (i : grid0.Coords) : Fin 3 → Nat :=
  let c0_499 : Index := 0#32
  let c2_i32_496 : BitVec 32 := 2#32
  let arg2 : BitVec 32 := BitVec.ofNat 32 (i 2).val
  let c1_i32_495 : BitVec 32 := 1#32
  let v620 : BitVec 32 := Scalar.subi arg2 c1_i32_495
  let v621 : BitVec 32 := Scalar.muli c2_i32_496 v620
  let c1_i32_497 : BitVec 32 := 1#32
  let v622 : BitVec 32 := Scalar.addi v621 c1_i32_497
  let c256_i32_498 : BitVec 32 := 256#32
  let v623 : BitVec 32 := Scalar.muli v622 c256_i32_498
  let v624 : BitVec 32 := v623
  let v625 : Index := Scalar.indexCast v624
  let c0_500 : Index := 0#32
  ![0, v625.toNat, 0]
def k0_mult30 (i : grid0.Coords) : BitVec 32 :=
  let c2_i32_496 : BitVec 32 := 2#32
  let arg2 : BitVec 32 := BitVec.ofNat 32 (i 2).val
  let c1_i32_495 : BitVec 32 := 1#32
  let v620 : BitVec 32 := Scalar.subi arg2 c1_i32_495
  let v621 : BitVec 32 := Scalar.muli c2_i32_496 v620
  let c1_i32_497 : BitVec 32 := 1#32
  let v622 : BitVec 32 := Scalar.addi v621 c1_i32_497
  let c256_i32_512 : BitVec 32 := 256#32
  let v639 : BitVec 32 := Scalar.muli v622 c256_i32_512
  v639
def k0_off38 (i : grid0.Coords) : Fin 3 → Nat :=
  let c0_513 : Index := 0#32
  let c2_i32_496 : BitVec 32 := 2#32
  let arg2 : BitVec 32 := BitVec.ofNat 32 (i 2).val
  let c1_i32_495 : BitVec 32 := 1#32
  let v620 : BitVec 32 := Scalar.subi arg2 c1_i32_495
  let v621 : BitVec 32 := Scalar.muli c2_i32_496 v620
  let c1_i32_497 : BitVec 32 := 1#32
  let v622 : BitVec 32 := Scalar.addi v621 c1_i32_497
  let c256_i32_512 : BitVec 32 := 256#32
  let v639 : BitVec 32 := Scalar.muli v622 c256_i32_512
  let v640 : BitVec 32 := v639
  let v641 : Index := Scalar.indexCast v640
  let c128_514 : Index := 128#32
  ![0, v641.toNat, 128]
def k0_mult31 (i : grid0.Coords) : BitVec 32 :=
  let c2_i32_496 : BitVec 32 := 2#32
  let arg2 : BitVec 32 := BitVec.ofNat 32 (i 2).val
  let c1_i32_495 : BitVec 32 := 1#32
  let v620 : BitVec 32 := Scalar.subi arg2 c1_i32_495
  let v621 : BitVec 32 := Scalar.muli c2_i32_496 v620
  let c1_i32_497 : BitVec 32 := 1#32
  let v622 : BitVec 32 := Scalar.addi v621 c1_i32_497
  let c256_i32_526 : BitVec 32 := 256#32
  let v655 : BitVec 32 := Scalar.muli v622 c256_i32_526
  v655
def k0_off39 (i : grid0.Coords) : Fin 3 → Nat :=
  let c0_527 : Index := 0#32
  let c2_i32_496 : BitVec 32 := 2#32
  let arg2 : BitVec 32 := BitVec.ofNat 32 (i 2).val
  let c1_i32_495 : BitVec 32 := 1#32
  let v620 : BitVec 32 := Scalar.subi arg2 c1_i32_495
  let v621 : BitVec 32 := Scalar.muli c2_i32_496 v620
  let c1_i32_497 : BitVec 32 := 1#32
  let v622 : BitVec 32 := Scalar.addi v621 c1_i32_497
  let c256_i32_526 : BitVec 32 := 256#32
  let v655 : BitVec 32 := Scalar.muli v622 c256_i32_526
  let v656 : BitVec 32 := v655
  let v657 : Index := Scalar.indexCast v656
  let c256_528 : Index := 256#32
  ![0, v657.toNat, 256]
def k0_mult32 (i : grid0.Coords) : BitVec 32 :=
  let c2_i32_496 : BitVec 32 := 2#32
  let arg2 : BitVec 32 := BitVec.ofNat 32 (i 2).val
  let c1_i32_495 : BitVec 32 := 1#32
  let v620 : BitVec 32 := Scalar.subi arg2 c1_i32_495
  let v621 : BitVec 32 := Scalar.muli c2_i32_496 v620
  let c1_i32_497 : BitVec 32 := 1#32
  let v622 : BitVec 32 := Scalar.addi v621 c1_i32_497
  let c256_i32_540 : BitVec 32 := 256#32
  let v671 : BitVec 32 := Scalar.muli v622 c256_i32_540
  v671
def k0_off40 (i : grid0.Coords) : Fin 3 → Nat :=
  let c0_541 : Index := 0#32
  let c2_i32_496 : BitVec 32 := 2#32
  let arg2 : BitVec 32 := BitVec.ofNat 32 (i 2).val
  let c1_i32_495 : BitVec 32 := 1#32
  let v620 : BitVec 32 := Scalar.subi arg2 c1_i32_495
  let v621 : BitVec 32 := Scalar.muli c2_i32_496 v620
  let c1_i32_497 : BitVec 32 := 1#32
  let v622 : BitVec 32 := Scalar.addi v621 c1_i32_497
  let c256_i32_540 : BitVec 32 := 256#32
  let v671 : BitVec 32 := Scalar.muli v622 c256_i32_540
  let v672 : BitVec 32 := v671
  let v673 : Index := Scalar.indexCast v672
  let c384_542 : Index := 384#32
  ![0, v673.toNat, 384]
def k0_off41 (i : grid0.Coords) : Fin 4 → Nat :=
  let c0_629 : Index := 0#32
  let arg2 : BitVec 32 := BitVec.ofNat 32 (i 2).val
  let c1_i32_495 : BitVec 32 := 1#32
  let v620 : BitVec 32 := Scalar.subi arg2 c1_i32_495
  let c0_i32_626 : BitVec 32 := 0#32
  let v775 : BitVec 1 := Scalar.cmpi .eq v620 c0_i32_626
  let c2_i32 : BitVec 32 := 2#32
  let v0 : BitVec 32 := Scalar.muli c2_i32 arg2
  let c1_i32_627 : BitVec 32 := 1#32
  let v776 : BitVec 32 := Scalar.addi v0 c1_i32_627
  let c2_i32_496 : BitVec 32 := 2#32
  let v621 : BitVec 32 := Scalar.muli c2_i32_496 v620
  let c1_i32_628 : BitVec 32 := 1#32
  let v777 : BitVec 32 := Scalar.subi v621 c1_i32_628
  let v778 : BitVec 32 := Scalar.select v775 v776 v777
  let v779 : Index := Scalar.indexCast v778
  let c0_630 : Index := 0#32
  let c0_631 : Index := 0#32
  ![0, v779.toNat, 0, 0]
def k0_off42 (i : grid0.Coords) : Fin 4 → Nat :=
  let c0_645 : Index := 0#32
  let arg2 : BitVec 32 := BitVec.ofNat 32 (i 2).val
  let c1_i32_495 : BitVec 32 := 1#32
  let v620 : BitVec 32 := Scalar.subi arg2 c1_i32_495
  let c0_i32_626 : BitVec 32 := 0#32
  let v775 : BitVec 1 := Scalar.cmpi .eq v620 c0_i32_626
  let c2_i32 : BitVec 32 := 2#32
  let v0 : BitVec 32 := Scalar.muli c2_i32 arg2
  let c1_i32_627 : BitVec 32 := 1#32
  let v776 : BitVec 32 := Scalar.addi v0 c1_i32_627
  let c2_i32_496 : BitVec 32 := 2#32
  let v621 : BitVec 32 := Scalar.muli c2_i32_496 v620
  let c1_i32_628 : BitVec 32 := 1#32
  let v777 : BitVec 32 := Scalar.subi v621 c1_i32_628
  let v778 : BitVec 32 := Scalar.select v775 v776 v777
  let v796 : Index := Scalar.indexCast v778
  let c64_646 : Index := 64#32
  let c0_647 : Index := 0#32
  ![0, v796.toNat, 64, 0]
def k0_off43 (i : grid0.Coords) : Fin 4 → Nat :=
  let c0_661 : Index := 0#32
  let arg2 : BitVec 32 := BitVec.ofNat 32 (i 2).val
  let c1_i32_495 : BitVec 32 := 1#32
  let v620 : BitVec 32 := Scalar.subi arg2 c1_i32_495
  let c0_i32_626 : BitVec 32 := 0#32
  let v775 : BitVec 1 := Scalar.cmpi .eq v620 c0_i32_626
  let c2_i32 : BitVec 32 := 2#32
  let v0 : BitVec 32 := Scalar.muli c2_i32 arg2
  let c1_i32_627 : BitVec 32 := 1#32
  let v776 : BitVec 32 := Scalar.addi v0 c1_i32_627
  let c2_i32_496 : BitVec 32 := 2#32
  let v621 : BitVec 32 := Scalar.muli c2_i32_496 v620
  let c1_i32_628 : BitVec 32 := 1#32
  let v777 : BitVec 32 := Scalar.subi v621 c1_i32_628
  let v778 : BitVec 32 := Scalar.select v775 v776 v777
  let v813 : Index := Scalar.indexCast v778
  let c128_662 : Index := 128#32
  let c0_663 : Index := 0#32
  ![0, v813.toNat, 128, 0]
def k0_off44 (i : grid0.Coords) : Fin 4 → Nat :=
  let c0_677 : Index := 0#32
  let arg2 : BitVec 32 := BitVec.ofNat 32 (i 2).val
  let c1_i32_495 : BitVec 32 := 1#32
  let v620 : BitVec 32 := Scalar.subi arg2 c1_i32_495
  let c0_i32_626 : BitVec 32 := 0#32
  let v775 : BitVec 1 := Scalar.cmpi .eq v620 c0_i32_626
  let c2_i32 : BitVec 32 := 2#32
  let v0 : BitVec 32 := Scalar.muli c2_i32 arg2
  let c1_i32_627 : BitVec 32 := 1#32
  let v776 : BitVec 32 := Scalar.addi v0 c1_i32_627
  let c2_i32_496 : BitVec 32 := 2#32
  let v621 : BitVec 32 := Scalar.muli c2_i32_496 v620
  let c1_i32_628 : BitVec 32 := 1#32
  let v777 : BitVec 32 := Scalar.subi v621 c1_i32_628
  let v778 : BitVec 32 := Scalar.select v775 v776 v777
  let v830 : Index := Scalar.indexCast v778
  let c192_678 : Index := 192#32
  let c0_679 : Index := 0#32
  ![0, v830.toNat, 192, 0]
def k0_off45 (i : grid0.Coords) : Fin 4 → Nat :=
  let c0_765 : Index := 0#32
  let c2_i32_496 : BitVec 32 := 2#32
  let arg2 : BitVec 32 := BitVec.ofNat 32 (i 2).val
  let c1_i32_495 : BitVec 32 := 1#32
  let v620 : BitVec 32 := Scalar.subi arg2 c1_i32_495
  let v621 : BitVec 32 := Scalar.muli c2_i32_496 v620
  let v935 : Index := Scalar.indexCast v621
  let c0_766 : Index := 0#32
  let c0_767 : Index := 0#32
  ![0, v935.toNat, 0, 0]
def k0_off46 (i : grid0.Coords) : Fin 4 → Nat :=
  let c0_781 : Index := 0#32
  let c2_i32_496 : BitVec 32 := 2#32
  let arg2 : BitVec 32 := BitVec.ofNat 32 (i 2).val
  let c1_i32_495 : BitVec 32 := 1#32
  let v620 : BitVec 32 := Scalar.subi arg2 c1_i32_495
  let v621 : BitVec 32 := Scalar.muli c2_i32_496 v620
  let v952 : Index := Scalar.indexCast v621
  let c64_782 : Index := 64#32
  let c0_783 : Index := 0#32
  ![0, v952.toNat, 64, 0]
def k0_off47 (i : grid0.Coords) : Fin 4 → Nat :=
  let c0_797 : Index := 0#32
  let c2_i32_496 : BitVec 32 := 2#32
  let arg2 : BitVec 32 := BitVec.ofNat 32 (i 2).val
  let c1_i32_495 : BitVec 32 := 1#32
  let v620 : BitVec 32 := Scalar.subi arg2 c1_i32_495
  let v621 : BitVec 32 := Scalar.muli c2_i32_496 v620
  let v969 : Index := Scalar.indexCast v621
  let c128_798 : Index := 128#32
  let c0_799 : Index := 0#32
  ![0, v969.toNat, 128, 0]
def k0_off48 (i : grid0.Coords) : Fin 4 → Nat :=
  let c0_813 : Index := 0#32
  let c2_i32_496 : BitVec 32 := 2#32
  let arg2 : BitVec 32 := BitVec.ofNat 32 (i 2).val
  let c1_i32_495 : BitVec 32 := 1#32
  let v620 : BitVec 32 := Scalar.subi arg2 c1_i32_495
  let v621 : BitVec 32 := Scalar.muli c2_i32_496 v620
  let v986 : Index := Scalar.indexCast v621
  let c192_814 : Index := 192#32
  let c0_815 : Index := 0#32
  ![0, v986.toNat, 192, 0]
def k0_off49 (i : grid0.Coords) : Fin 4 → Nat :=
  let c0_409 : Index := 0#32
  let arg2 : BitVec 32 := BitVec.ofNat 32 (i 2).val
  let c0_i32_406 : BitVec 32 := 0#32
  let v506 : BitVec 1 := Scalar.cmpi .eq arg2 c0_i32_406
  let c2_i32 : BitVec 32 := 2#32
  let v0 : BitVec 32 := Scalar.muli c2_i32 arg2
  let c1_i32_407 : BitVec 32 := 1#32
  let v507 : BitVec 32 := Scalar.addi v0 c1_i32_407
  let c1_i32_408 : BitVec 32 := 1#32
  let v508 : BitVec 32 := Scalar.subi v0 c1_i32_408
  let v509 : BitVec 32 := Scalar.select v506 v507 v508
  let v510 : Index := Scalar.indexCast v509
  let c0_410 : Index := 0#32
  let c0_411 : Index := 0#32
  ![0, v510.toNat, 0, 0]
def k0_off50 (i : grid0.Coords) : Fin 4 → Nat :=
  let c0_425 : Index := 0#32
  let arg2 : BitVec 32 := BitVec.ofNat 32 (i 2).val
  let c0_i32_406 : BitVec 32 := 0#32
  let v506 : BitVec 1 := Scalar.cmpi .eq arg2 c0_i32_406
  let c2_i32 : BitVec 32 := 2#32
  let v0 : BitVec 32 := Scalar.muli c2_i32 arg2
  let c1_i32_407 : BitVec 32 := 1#32
  let v507 : BitVec 32 := Scalar.addi v0 c1_i32_407
  let c1_i32_408 : BitVec 32 := 1#32
  let v508 : BitVec 32 := Scalar.subi v0 c1_i32_408
  let v509 : BitVec 32 := Scalar.select v506 v507 v508
  let v527 : Index := Scalar.indexCast v509
  let c64_426 : Index := 64#32
  let c0_427 : Index := 0#32
  ![0, v527.toNat, 64, 0]
def k0_off51 (i : grid0.Coords) : Fin 4 → Nat :=
  let c0_441 : Index := 0#32
  let arg2 : BitVec 32 := BitVec.ofNat 32 (i 2).val
  let c0_i32_406 : BitVec 32 := 0#32
  let v506 : BitVec 1 := Scalar.cmpi .eq arg2 c0_i32_406
  let c2_i32 : BitVec 32 := 2#32
  let v0 : BitVec 32 := Scalar.muli c2_i32 arg2
  let c1_i32_407 : BitVec 32 := 1#32
  let v507 : BitVec 32 := Scalar.addi v0 c1_i32_407
  let c1_i32_408 : BitVec 32 := 1#32
  let v508 : BitVec 32 := Scalar.subi v0 c1_i32_408
  let v509 : BitVec 32 := Scalar.select v506 v507 v508
  let v544 : Index := Scalar.indexCast v509
  let c128_442 : Index := 128#32
  let c0_443 : Index := 0#32
  ![0, v544.toNat, 128, 0]
def k0_off52 (i : grid0.Coords) : Fin 4 → Nat :=
  let c0_457 : Index := 0#32
  let arg2 : BitVec 32 := BitVec.ofNat 32 (i 2).val
  let c0_i32_406 : BitVec 32 := 0#32
  let v506 : BitVec 1 := Scalar.cmpi .eq arg2 c0_i32_406
  let c2_i32 : BitVec 32 := 2#32
  let v0 : BitVec 32 := Scalar.muli c2_i32 arg2
  let c1_i32_407 : BitVec 32 := 1#32
  let v507 : BitVec 32 := Scalar.addi v0 c1_i32_407
  let c1_i32_408 : BitVec 32 := 1#32
  let v508 : BitVec 32 := Scalar.subi v0 c1_i32_408
  let v509 : BitVec 32 := Scalar.select v506 v507 v508
  let v561 : Index := Scalar.indexCast v509
  let c192_458 : Index := 192#32
  let c0_459 : Index := 0#32
  ![0, v561.toNat, 192, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference.lean ====
abbrev S16x4096x1024 : Shape := ⟨3, ![16, 4096, 1024]⟩
abbrev S16x16x512x256 : Shape := ⟨4, ![16, 16, 512, 256]⟩
abbrev S16x4096x512 : Shape := ⟨3, ![16, 4096, 512]⟩
abbrev S16x4096x8x128 : Shape := ⟨4, ![16, 4096, 8, 128]⟩
abbrev S16x16x256x512 : Shape := ⟨4, ![16, 16, 256, 512]⟩
abbrev S16x4096x8x64 : Shape := ⟨4, ![16, 4096, 8, 64]⟩
abbrev S16x8x4096x4096 : Shape := ⟨4, ![16, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x8x4096 : Shape := ⟨3, ![16, 8, 4096]⟩
abbrev S16x8x4096x1 : Shape := ⟨4, ![16, 8, 4096, 1]⟩
abbrev S16x8x64x4096 : Shape := ⟨4, ![16, 8, 64, 4096]⟩

abbrev nBuf : Space → Nat
  | .hbm => 48
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .bf16⟩
  | .hbm, ⟨2, _⟩ => ⟨S16x16x512x256, .bf16⟩
  | .hbm, ⟨3, _⟩ => ⟨S16x4096x512, .bf16⟩
  | .hbm, ⟨4, _⟩ => ⟨S16x4096x1024, .f32⟩
  | .hbm, ⟨5, _⟩ => ⟨S16x4096x8x128, .f32⟩
  | .hbm, ⟨6, _⟩ => ⟨S16x4096x1024, .f32⟩
  | .hbm, ⟨7, _⟩ => ⟨S16x4096x8x128, .f32⟩
  | .hbm, ⟨8, _⟩ => ⟨S16x16x512x256, .f32⟩
  | .hbm, ⟨9, _⟩ => ⟨S16x16x256x512, .f32⟩
  | .hbm, ⟨10, _⟩ => ⟨S16x4096x8x64, .f32⟩
  | .hbm, ⟨11, _⟩ => ⟨S16x8x4096x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16x8x4096x4096, .f32⟩
  | .hbm, ⟨16, _⟩ => ⟨S16x8x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S16x8x4096x4096, .i1⟩
  | .hbm, ⟨26, _⟩ => ⟨S16x8x4096x4096, .f32⟩
  | .hbm, ⟨27, _⟩ => ⟨S16x8x4096x4096, .f32⟩
  | .hbm, ⟨28, _⟩ => ⟨S_, .f32⟩
  | .hbm, ⟨29, _⟩ => ⟨S16x8x4096, .f32⟩
  | .hbm, ⟨30, _⟩ => ⟨S_, .f32⟩
  | .hbm, ⟨31, _⟩ => ⟨S16x8x4096, .f32⟩
  | .hbm, ⟨32, _⟩ => ⟨S16x8x4096, .f32⟩
  | .hbm, ⟨33, _⟩ => ⟨S16x8x4096x1, .f32⟩
  | .hbm, ⟨34, _⟩ => ⟨S16x8x4096x4096, .f32⟩
  | .hbm, ⟨35, _⟩ => ⟨S16x8x4096x4096, .f32⟩
  | .hbm, ⟨36, _⟩ => ⟨S16x8x4096x4096, .f32⟩
  | .hbm, ⟨37, _⟩ => ⟨S_, .f32⟩
  | .hbm, ⟨38, _⟩ => ⟨S16x8x4096, .f32⟩
  | .hbm, ⟨39, _⟩ => ⟨S16x8x4096x1, .f32⟩
  | .hbm, ⟨40, _⟩ => ⟨S16x8x4096x4096, .f32⟩
  | .hbm, ⟨41, _⟩ => ⟨S16x8x4096x4096, .f32⟩
  | .hbm, ⟨42, _⟩ => ⟨S16x8x64x4096, .f32⟩
  | .hbm, ⟨43, _⟩ => ⟨S16x4096x8x64, .f32⟩
  | .hbm, ⟨44, _⟩ => ⟨S16x4096x512, .f32⟩
  | .hbm, ⟨45, _⟩ => ⟨S16x4096x512, .f32⟩
  | .hbm, ⟨46, _⟩ => ⟨S16x4096x512, .f32⟩
  | .hbm, ⟨47, _⟩ => ⟨S16x4096x512, .bf16⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x3x1024 : Shape := ⟨3, ![16, 3, 1024]⟩
abbrev S16x4096x512 : Shape := ⟨3, ![16, 4096, 512]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1x3x1024 : Shape := ⟨3, ![1, 3, 1024]⟩
abbrev S1x1024x512 : Shape := ⟨3, ![1, 1024, 512]⟩
abbrev S1024x512 : Shape := ⟨2, ![1024, 512]⟩
abbrev S1x1x1024 : Shape := ⟨3, ![1, 1, 1024]⟩
abbrev S1024x1 : Shape := ⟨2, ![1024, 1]⟩

abbrev nBuf : Space → Nat
  | .hbm => 15
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S16x3x1024, .f32⟩
  | .hbm, ⟨2, _⟩ => ⟨S16x4096x512, .bf16⟩
  | .hbm, ⟨3, _⟩ => ⟨S16x4096x512, .bf16⟩
  | .hbm, ⟨4, _⟩ => ⟨S16x4096x1024, .bf16⟩
  | .hbm, ⟨5, _⟩ => ⟨S16x4096x1024, .bf16⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2.lean ====
abbrev S16x4096x1024 : Shape := ⟨3, ![16, 4096, 1024]⟩
abbrev S16x3x1024 : Shape := ⟨3, ![16, 3, 1024]⟩
abbrev S16x4096x512 : Shape := ⟨3, ![16, 4096, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x1024 : Shape := ⟨2, ![16, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x3x1024, .f32⟩
  | .hbm, ⟨2, _⟩ => ⟨S16x4096x512, .bf16⟩
  | .hbm, ⟨3, _⟩ => ⟨S16x4096x512, .bf16⟩
  | .hbm, ⟨4, _⟩ => ⟨S16x4096x1024, .bf16⟩
  | .hbm, ⟨5, _⟩ => ⟨S16x4096x1024, .bf16⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S16x4096x512, .f32⟩
  | .hbm, ⟨11, _⟩ => ⟨S16x4096x1024, .f32⟩
  | .hbm, ⟨12, _⟩ => ⟨S16x4096x512, .f32⟩
  | .hbm, ⟨13, _⟩ => ⟨S16x4096x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S_, .f32⟩
  | .hbm, ⟨22, _⟩ => ⟨S16x4096, .f32⟩
  | .hbm, ⟨23, _⟩ => ⟨S16x4096x1, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S_, .f32⟩
  | .hbm, ⟨28, _⟩ => ⟨S16x4096x1, .f32⟩
  | .hbm, ⟨29, _⟩ => ⟨S16x4096x1, .f32⟩
  | .hbm, ⟨30, _⟩ => ⟨S16x4096x1, .f32⟩
  | .hbm, ⟨31, _⟩ => ⟨S16x4096x1024, .f32⟩
  | .hbm, ⟨32, _⟩ => ⟨S16x4096x1024, .f32⟩
  | .hbm, ⟨33, _⟩ => ⟨S1x1x1024, .f32⟩
  | .hbm, ⟨34, _⟩ => ⟨S16x4096x1024, .f32⟩
  | .hbm, ⟨35, _⟩ => ⟨S16x4096x1024, .f32⟩
  | .hbm, ⟨36, _⟩ => ⟨S16x1x1024, .f32⟩
  | .hbm, ⟨37, _⟩ => ⟨S16x1024, .f32⟩
  | .hbm, ⟨38, _⟩ => ⟨S16x1x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x3x1024 : Shape := ⟨3, ![16, 3, 1024]⟩
abbrev S1024 : Shape := ⟨1, ![1024]⟩
abbrev S1024x5024 : Shape := ⟨2, ![1024, 5024]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S2048 : Shape := ⟨1, ![2048]⟩
abbrev S16x4096x128 : Shape := ⟨3, ![16, 4096, 128]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x2048 : Shape := ⟨2, ![1024, 2048]⟩
abbrev S_ : Shape := ⟨0, ![]⟩
abbrev S1024x64 : Shape := ⟨2, ![1024, 64]⟩
abbrev S1024x5120 : Shape := ⟨2, ![1024, 5120]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S1x1024 : Shape := ⟨2, ![1, 1024]⟩
abbrev S1x256 : Shape := ⟨2, ![1, 256]⟩
abbrev S1x128 : Shape := ⟨2, ![1, 128]⟩
abbrev S1x2048 : Shape := ⟨2, ![1, 2048]⟩
abbrev S16x16x512x256 : Shape := ⟨4, ![16, 16, 512, 256]⟩
abbrev S16x4096x512 : Shape := ⟨3, ![16, 4096, 512]⟩
abbrev S16x16x1x512 : Shape := ⟨4, ![16, 16, 1, 512]⟩
abbrev S1x512x1024 : Shape := ⟨3, ![1, 512, 1024]⟩
abbrev S1x3x1024 : Shape := ⟨3, ![1, 3, 1024]⟩
abbrev S1x512x128 : Shape := ⟨3, ![1, 512, 128]⟩
abbrev S1x2x512x256 : Shape := ⟨4, ![1, 2, 512, 256]⟩
abbrev S1x512x512 : Shape := ⟨3, ![1, 512, 512]⟩
abbrev S1x2x1x512 : Shape := ⟨4, ![1, 2, 1, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩
abbrev S512x512 : Shape := ⟨2, ![512, 512]⟩
abbrev S512x256 : Shape := ⟨2, ![512, 256]⟩
abbrev S256x512 : Shape := ⟨2, ![256, 512]⟩
abbrev S1x1x512x256 : Shape := ⟨4, ![1, 1, 512, 256]⟩
abbrev S256x128 : Shape := ⟨2, ![256, 128]⟩
abbrev S1x1x1x128 : Shape := ⟨4, ![1, 1, 1, 128]⟩
abbrev S1024x1024 : Shape := ⟨2, ![1024, 1024]⟩

abbrev nBuf : Space → Nat
  | .hbm => 59
  | .vmem => 42
  | .smem => 0
  | _ => 0

abbrev bufTy : (tb : Table) → Fin (tcTables nBuf tb) → BufTy
  | .hbm, ⟨0, _⟩ => ⟨S16x4096x1024, .f32⟩
  | .hbm, ⟨1, _⟩ => ⟨S16x3x1024, .f32⟩
  | .hbm, ⟨2, _⟩ => ⟨S1024, .f32⟩
  | .hbm, ⟨3, _⟩ => ⟨S1024x5024, .f32⟩
  | .hbm, ⟨4, _⟩ => ⟨S256, .f32⟩
  | .hbm, ⟨5, _⟩ => ⟨S256x768, .f32⟩
  | .hbm, ⟨6, _⟩ => ⟨S128, .f32⟩
  | .hbm, ⟨7, _⟩ => ⟨S128x1024, .f32⟩
  | .hbm, ⟨8, _⟩ => ⟨S2048, .f32⟩
  | .hbm, ⟨9, _⟩ => ⟨S16x4096x128, .f32⟩
  | .hbm, ⟨10, _⟩ => ⟨S16x4096x128, .f32⟩
  | .hbm, ⟨11, _⟩ => ⟨S16x4096x128, .f32⟩
  | .hbm, ⟨12, _⟩ => ⟨S16x4096x128, .f32⟩
  | .hbm, ⟨13, _⟩ => ⟨S1024x5024, .bf16⟩
  | .hbm, ⟨14, _⟩ => ⟨S1024x256, .bf16⟩
  | .hbm, ⟨15, _⟩ => ⟨S1024x128, .bf16⟩
  | .hbm, ⟨16, _⟩ => ⟨S1024x32, .bf16⟩
  | .hbm, ⟨17, _⟩ => ⟨S1024x512, .bf16⟩
  | .hbm, ⟨18, _⟩ => ⟨S1024x512, .bf16⟩
  | .hbm, ⟨19, _⟩ => ⟨S1024x512, .bf16⟩
  | .hbm, ⟨20, _⟩ => ⟨S1024x512, .bf16⟩
  | .hbm, ⟨21, _⟩ => ⟨S1024x512, .bf16⟩
  | .hbm, ⟨22, _⟩ => ⟨S1024x2048, .bf16⟩
  | .hbm, ⟨23, _⟩ => ⟨S_, .bf16⟩
  | .hbm, ⟨24, _⟩ => ⟨S1024x64, .bf16⟩
  | .hbm, ⟨25, _⟩ => ⟨S_, .bf16⟩
  | .hbm, ⟨26, _⟩ => ⟨S1024x32, .bf16⟩
  | .hbm, ⟨27, _⟩ => ⟨S1024x5120, .bf16⟩
  | .hbm, ⟨28, _⟩ => ⟨S256x8x96, .f32⟩
  | .hbm, ⟨29, _⟩ => ⟨S_, .i32⟩
  | .hbm, ⟨30, _⟩ => ⟨S_, .f32⟩
  | .hbm, ⟨31, _⟩ => ⟨S256x8x128, .f32⟩
  | .hbm, ⟨32, _⟩ => ⟨S256x1024, .f32⟩
  | .hbm, ⟨33, _⟩ => ⟨S128x8x128, .f32⟩
  | .hbm, ⟨34, _⟩ => ⟨S128x8x64, .f32⟩
  | .hbm, ⟨35, _⟩ => ⟨S_, .i32⟩
  | .hbm, ⟨36, _⟩ => ⟨S_, .f32⟩
  | .hbm, ⟨37, _⟩ => ⟨S128x8x128, .f32⟩
  | .hbm, ⟨38, _⟩ => ⟨S128x1024, .f32⟩
  | .hbm, ⟨39, _⟩ => ⟨S128x8x64, .f32⟩
  | .hbm, ⟨40, _⟩ => ⟨S128x512, .f32⟩
  | .hbm, ⟨41, _⟩ => ⟨S256x1024, .bf16⟩
  | .hbm, ⟨42, _⟩ => ⟨S128x1024, .bf16⟩
  | .hbm, ⟨43, _⟩ => ⟨S128x512, .bf16⟩
  | .hbm, ⟨44, _⟩ => ⟨S1x1024, .f32⟩
  | .hbm, ⟨45, _⟩ => ⟨S1x256, .f32⟩
  | .hbm, ⟨46, _⟩ => ⟨S1x128, .f32⟩
  | .hbm, ⟨47, _⟩ => ⟨S1x2048, .f32⟩
  | .hbm, ⟨48, _⟩ => ⟨S16x4096x1024, .bf16⟩
  | .hbm, ⟨49, _⟩ => ⟨S16x4096x1024, .bf16⟩
  | .hbm, ⟨50, _⟩ => ⟨S16x16x512x256, .bf16⟩
  | .hbm, ⟨51, _⟩ => ⟨S16x4096x512, .bf16⟩
  | .hbm, ⟨52, _⟩ => ⟨S16x4096x512, .bf16⟩
  | .hbm, ⟨53, _⟩ => ⟨S16x4096x512, .bf16⟩
  | .hbm, ⟨54, _⟩ => ⟨S16x16x512x256, .bf16⟩
  | .hbm, ⟨55, _⟩ => ⟨S16x4096x512, .bf16⟩
  | .hbm, ⟨56, _⟩ => ⟨S16x4096x1024, .bf16⟩
  | .hbm, ⟨57, _⟩ => ⟨S16x4096x1024, .bf16⟩
  | .hbm, ⟨58, _⟩ => ⟨S16x16x1x512, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x5120, .bf16⟩
  | .local _ .vmem, ⟨6, _⟩ => ⟨S1x256, .f32⟩
  | .local _ .vmem, ⟨7, _⟩ => ⟨S256x1024, .bf16⟩
  | .local _ .vmem, ⟨8, _⟩ => ⟨S1x128, .f32⟩
  | .local _ .vmem, ⟨9, _⟩ => ⟨S128x1024, .bf16⟩
  | .local _ .vmem, ⟨10, _⟩ => ⟨S128x512, .bf16⟩
  | .local _ .vmem, ⟨11, _⟩ => ⟨S1x2048, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x2x512x256, .bf16⟩
  | .local _ .vmem, ⟨25, _⟩ => ⟨S1x2x512x256, .bf16⟩
  | .local _ .vmem, ⟨26, _⟩ => ⟨S1x512x512, .bf16⟩
  | .local _ .vmem, ⟨27, _⟩ => ⟨S1x512x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x2x512x256, .bf16⟩
  | .local _ .vmem, ⟨33, _⟩ => ⟨S1x2x512x256, .bf16⟩
  | .local _ .vmem, ⟨34, _⟩ => ⟨S1x512x512, .bf16⟩
  | .local _ .vmem, ⟨35, _⟩ => ⟨S1x512x512, .bf16⟩
  | .local _ .vmem, ⟨36, _⟩ => ⟨S1x512x1024, .bf16⟩
  | .local _ .vmem, ⟨37, _⟩ => ⟨S1x512x1024, .bf16⟩
  | .local _ .vmem, ⟨38, _⟩ => ⟨S1x512x1024, .bf16⟩
  | .local _ .vmem, ⟨39, _⟩ => ⟨S1x512x1024, .bf16⟩
  | .local _ .vmem, ⟨40, _⟩ => ⟨S1x2x1x512, .f32⟩
  | .local _ .vmem, ⟨41, _⟩ => ⟨S1x2x1x512, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_call0_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_call1_v0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29_0 : Ref sig .tc := ⟨.hbm, 48, rfl⟩
abbrev main_v29_1 : Ref sig .tc := ⟨.hbm, 49, rfl⟩
abbrev main_v29_2 : Ref sig .tc := ⟨.hbm, 50, rfl⟩
abbrev main_v29_3 : Ref sig .tc := ⟨.hbm, 51, rfl⟩
abbrev main_v29_4 : Ref sig .tc := ⟨.hbm, 52, rfl⟩
abbrev main_v29_5 : Ref sig .tc := ⟨.hbm, 53, rfl⟩
abbrev main_v29_6 : Ref sig .tc := ⟨.hbm, 54, rfl⟩
abbrev main_v29_7 : Ref sig .tc := ⟨.hbm, 55, rfl⟩
abbrev main_v29_8 : Ref sig .tc := ⟨.hbm, 56, rfl⟩
abbrev main_v29_9 : Ref sig .tc := ⟨.hbm, 57, rfl⟩
abbrev main_v29_10 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x2x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x2x1x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Reference3.lean ====
abbrev S16x4096x1024 : Shape := ⟨3, ![16, 4096, 1024]⟩
abbrev S16x3x1024 : Shape := ⟨3, ![16, 3, 1024]⟩
abbrev S1024 : Shape := ⟨1, ![1024]⟩
abbrev S1024x5024 : Shape := ⟨2, ![1024, 5024]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S2048 : Shape := ⟨1, ![2048]⟩
abbrev S16x4096x128 : Shape := ⟨3, ![16, 4096, 128]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x1024 : Shape := ⟨2, ![16, 1024]⟩
abbrev S16x4096x5024 : Shape := ⟨3, ![16, 4096, 5024]⟩
abbrev S16x4096x256 : Shape := ⟨3, ![16, 4096, 256]⟩
abbrev S16x4096x32 : Shape := ⟨3, ![16, 4096, 32]⟩
abbrev S16x4096x512 : Shape := ⟨3, ![16, 4096, 512]⟩
abbrev S16x4096x2048 : Shape := ⟨3, ![16, 4096, 2048]⟩
abbrev S1x1x256 : Shape := ⟨3, ![1, 1, 256]⟩
abbrev S16x4096x768 : Shape := ⟨3, ![16, 4096, 768]⟩
abbrev S16x4096x8x96 : Shape := ⟨4, ![16, 4096, 8, 96]⟩
abbrev S16x4096x8x128 : Shape := ⟨4, ![16, 4096, 8, 128]⟩
abbrev S16x4096x8x4x2x16 : Shape := ⟨6, ![16, 4096, 8, 4, 2, 16]⟩
abbrev S16x4096x8x4x1x16 : Shape := ⟨6, ![16, 4096, 8, 4, 1, 16]⟩
abbrev S16x4096x1x128 : Shape := ⟨4, ![16, 4096, 1, 128]⟩
abbrev S1x1x128 : Shape := ⟨3, ![1, 1, 128]⟩
abbrev S16x4096x1x4x2x16 : Shape := ⟨6, ![16, 4096, 1, 4, 2, 16]⟩
abbrev S16x4096x1x4x1x16 : Shape := ⟨6, ![16, 4096, 1, 4, 1, 16]⟩
abbrev S16x4096x8x64 : Shape := ⟨4, ![16, 4096, 8, 64]⟩
abbrev S16x16x256x512 : Shape := ⟨4, ![16, 16, 256, 512]⟩
abbrev S16x16x512x256 : Shape := ⟨4, ![16, 16, 512, 256]⟩
abbrev S16x4096x4x128 : Shape := ⟨4, ![16, 4096, 4, 128]⟩
abbrev S16x4096x4x2x2x32 : Shape := ⟨6, ![16, 4096, 4, 2, 2, 32]⟩
abbrev S16x4096x4x2x1x32 : Shape := ⟨6, ![16, 4096, 4, 2, 1, 32]⟩
abbrev S1x1x2048 : Shape := ⟨3, ![1, 1, 2048]⟩
abbrev S16x16x512 : Shape := ⟨3, ![16, 16, 512]⟩
abbrev S16x16x1x512 : Shape := ⟨4, ![16, 16, 1, 512]⟩

abbrev nBuf : Space → Nat
  | .hbm => 212
  | .vmem => 0
  | .smem => 0
  | _ => 0

abbrev hbmTy0_0 (i : Nat) : BufTy := match i % 128 with
  | 0 => ⟨S16x4096x1024, .f32⟩
  | 1 => ⟨S16x3x1024, .f32⟩
  | 2 => ⟨S1024, .f32⟩
  | 3 => ⟨S1024x5024, .f32⟩
  | 4 => ⟨S256, .f32⟩
  | 5 => ⟨S256x768, .f32⟩
  | 6 => ⟨S128, .f32⟩
  | 7 => ⟨S128x1024, .f32⟩
  | 8 => ⟨S2048, .f32⟩
  | 9 => ⟨S16x4096x128, .f32⟩
  | 10 => ⟨S16x4096x128, .f32⟩
  | 11 => ⟨S16x4096x128, .f32⟩
  | 12 => ⟨S16x4096x128, .f32⟩
  | 13 => ⟨S16x4096x1024, .f32⟩
  | 14 => ⟨S_, .f32⟩
  | 15 => ⟨S16x4096, .f32⟩
  | 16 => ⟨S16x4096x1, .f32⟩
  | 17 => ⟨S_, .f32⟩
  | 18 => ⟨S16x4096x1, .f32⟩
  | 19 => ⟨S16x4096x1, .f32⟩
  | 20 => ⟨S_, .f32⟩
  | 21 => ⟨S16x4096x1, .f32⟩
  | 22 => ⟨S16x4096x1, .f32⟩
  | 23 => ⟨S16x4096x1, .f32⟩
  | 24 => ⟨S16x4096x1024, .f32⟩
  | 25 => ⟨S16x4096x1024, .f32⟩
  | 26 => ⟨S1x1x1024, .f32⟩
  | 27 => ⟨S16x4096x1024, .f32⟩
  | 28 => ⟨S16x4096x1024, .f32⟩
  | 29 => ⟨S16x1x1024, .f32⟩
  | 30 => ⟨S16x1024, .f32⟩
  | 31 => ⟨S16x1x1024, .f32⟩
  | 32 => ⟨S_, .f32⟩
  | 33 => ⟨S16x1x1024, .f32⟩
  | 34 => ⟨S16x1x1024, .f32⟩
  | 35 => ⟨S16x4096x1024, .f32⟩
  | 36 => ⟨S16x4096x1024, .f32⟩
  | 37 => ⟨S16x1x1024, .f32⟩
  | 38 => ⟨S16x1024, .f32⟩
  | 39 => ⟨S16x1x1024, .f32⟩
  | 40 => ⟨S16x4096x1024, .f32⟩
  | 41 => ⟨S16x4096x1024, .f32⟩
  | 42 => ⟨S16x4096x5024, .f32⟩
  | 43 => ⟨S16x4096x256, .f32⟩
  | 44 => ⟨S16x4096x128, .f32⟩
  | 45 => ⟨S16x4096x32, .f32⟩
  | 46 => ⟨S16x4096x512, .f32⟩
  | 47 => ⟨S16x4096x512, .f32⟩
  | 48 => ⟨S16x4096x512, .f32⟩
  | 49 => ⟨S16x4096x512, .f32⟩
  | 50 => ⟨S16x4096x512, .f32⟩
  | 51 => ⟨S16x4096x2048, .f32⟩
  | 52 => ⟨S16x4096x256, .f32⟩
  | 53 => ⟨S_, .f32⟩
  | 54 => ⟨S16x4096, .f32⟩
  | 55 => ⟨S16x4096x1, .f32⟩
  | 56 => ⟨S_, .f32⟩
  | 57 => ⟨S16x4096x1, .f32⟩
  | 58 => ⟨S16x4096x1, .f32⟩
  | 59 => ⟨S_, .f32⟩
  | 60 => ⟨S16x4096x1, .f32⟩
  | 61 => ⟨S16x4096x1, .f32⟩
  | 62 => ⟨S16x4096x1, .f32⟩
  | 63 => ⟨S16x4096x256, .f32⟩
  | 64 => ⟨S16x4096x256, .f32⟩
  | 65 => ⟨S1x1x256, .f32⟩
  | 66 => ⟨S16x4096x256, .f32⟩
  | 67 => ⟨S16x4096x256, .f32⟩
  | 68 => ⟨S_, .f32⟩
  | 69 => ⟨S16x4096x256, .f32⟩
  | 70 => ⟨S16x4096x256, .f32⟩
  | 71 => ⟨S16x4096x768, .f32⟩
  | 72 => ⟨S16x4096x8x96, .f32⟩
  | 73 => ⟨S_, .i32⟩
  | 74 => ⟨S_, .f32⟩
  | 75 => ⟨S16x4096x8x128, .f32⟩
  | 76 => ⟨S16x4096x8x4x2x16, .f32⟩
  | 77 => ⟨S16x4096x8x4x1x16, .f32⟩
  | 78 => ⟨S16x4096x8x4x1x16, .f32⟩
  | 79 => ⟨S16x4096x8x4x2x16, .f32⟩
  | 80 => ⟨S16x4096x8x128, .f32⟩
  | 81 => ⟨S16x4096x1x128, .f32⟩
  | 82 => ⟨S16x4096x8x128, .f32⟩
  | 83 => ⟨S16x4096x8x128, .f32⟩
  | 84 => ⟨S16x4096x1x128, .f32⟩
  | 85 => ⟨S16x4096x8x128, .f32⟩
  | 86 => ⟨S16x4096x8x128, .f32⟩
  | 87 => ⟨S16x4096x8x128, .f32⟩
  | 88 => ⟨S16x4096x128, .f32⟩
  | 89 => ⟨S_, .f32⟩
  | 90 => ⟨S16x4096, .f32⟩
  | 91 => ⟨S16x4096x1, .f32⟩
  | 92 => ⟨S_, .f32⟩
  | 93 => ⟨S16x4096x1, .f32⟩
  | 94 => ⟨S16x4096x1, .f32⟩
  | 95 => ⟨S_, .f32⟩
  | 96 => ⟨S16x4096x1, .f32⟩
  | 97 => ⟨S16x4096x1, .f32⟩
  | 98 => ⟨S16x4096x1, .f32⟩
  | 99 => ⟨S16x4096x128, .f32⟩
  | 100 => ⟨S16x4096x128, .f32⟩
  | 101 => ⟨S1x1x128, .f32⟩
  | 102 => ⟨S16x4096x128, .f32⟩
  | 103 => ⟨S16x4096x128, .f32⟩
  | 104 => ⟨S16x4096x1024, .f32⟩
  | 105 => ⟨S16x4096x8x128, .f32⟩
  | 106 => ⟨S_, .i32⟩
  | 107 => ⟨S_, .f32⟩
  | 108 => ⟨S16x4096x128, .f32⟩
  | 109 => ⟨S16x4096x1x128, .f32⟩
  | 110 => ⟨S16x4096x1x4x2x16, .f32⟩
  | 111 => ⟨S16x4096x1x4x1x16, .f32⟩
  | 112 => ⟨S16x4096x1x4x1x16, .f32⟩
  | 113 => ⟨S16x4096x1x4x2x16, .f32⟩
  | 114 => ⟨S16x4096x1x128, .f32⟩
  | 115 => ⟨S16x4096x1x128, .f32⟩
  | 116 => ⟨S16x4096x1x128, .f32⟩
  | 117 => ⟨S16x4096x1x128, .f32⟩
  | 118 => ⟨S16x4096x1x128, .f32⟩
  | 119 => ⟨S16x4096x1x128, .f32⟩
  | 120 => ⟨S16x4096x8x64, .f32⟩
  | 121 => ⟨S_, .i32⟩
  | 122 => ⟨S_, .f32⟩
  | 123 => ⟨S16x4096x8x128, .f32⟩
  | 124 => ⟨S16x4096x8x128, .f32⟩
  | 125 => ⟨S16x4096x8x128, .f32⟩
  | 126 => ⟨S16x4096x8x64, .f32⟩
  | 127 => ⟨S16x16x256x512, .f32⟩
  | _ => ⟨S16x4096x1024, .f32⟩

abbrev hbmTy0_1 (i : Nat) : BufTy := match i % 128 with
  | 0 => ⟨S16x16x512x256, .f32⟩
  | 1 => ⟨S16x4096x4x128, .f32⟩
  | 2 => ⟨S16x4096x4x2x2x32, .f32⟩
  | 3 => ⟨S16x4096x4x2x1x32, .f32⟩
  | 4 => ⟨S16x4096x4x2x1x32, .f32⟩
  | 5 => ⟨S16x4096x4x2x2x32, .f32⟩
  | 6 => ⟨S16x4096x4x128, .f32⟩
  | 7 => ⟨S16x4096x1x128, .f32⟩
  | 8 => ⟨S16x4096x4x128, .f32⟩
  | 9 => ⟨S16x4096x4x128, .f32⟩
  | 10 => ⟨S16x4096x1x128, .f32⟩
  | 11 => ⟨S16x4096x4x128, .f32⟩
  | 12 => ⟨S16x4096x4x128, .f32⟩
  | 13 => ⟨S16x4096x4x128, .f32⟩
  | 14 => ⟨S_, .f32⟩
  | 15 => ⟨S16x4096x4x128, .f32⟩
  | 16 => ⟨S16x4096x4x128, .f32⟩
  | 17 => ⟨S16x4096x4x128, .f32⟩
  | 18 => ⟨S16x4096x4x2x2x32, .f32⟩
  | 19 => ⟨S16x4096x4x2x1x32, .f32⟩
  | 20 => ⟨S16x4096x4x2x1x32, .f32⟩
  | 21 => ⟨S16x4096x4x2x2x32, .f32⟩
  | 22 => ⟨S16x4096x4x128, .f32⟩
  | 23 => ⟨S16x4096x1x128, .f32⟩
  | 24 => ⟨S16x4096x4x128, .f32⟩
  | 25 => ⟨S16x4096x4x128, .f32⟩
  | 26 => ⟨S16x4096x1x128, .f32⟩
  | 27 => ⟨S16x4096x4x128, .f32⟩
  | 28 => ⟨S16x4096x4x128, .f32⟩
  | 29 => ⟨S16x4096x4x128, .f32⟩
  | 30 => ⟨S16x4096x512, .f32⟩
  | 31 => ⟨S16x16x256x512, .f32⟩
  | 32 => ⟨S16x16x512x256, .f32⟩
  | 33 => ⟨S1x1x2048, .f32⟩
  | 34 => ⟨S16x4096x2048, .f32⟩
  | 35 => ⟨S16x4096x2048, .f32⟩
  | 36 => ⟨S16x4096x2048, .f32⟩
  | 37 => ⟨S16x4096x2048, .f32⟩
  | 38 => ⟨S_, .f32⟩
  | 39 => ⟨S16x4096x2048, .f32⟩
  | 40 => ⟨S16x4096x2048, .f32⟩
  | 41 => ⟨S_, .f32⟩
  | 42 => ⟨S16x4096x2048, .f32⟩
  | 43 => ⟨S16x4096x2048, .f32⟩
  | 44 => ⟨S16x4096x1024, .f32⟩
  | 45 => ⟨S16x4096x1024, .f32⟩
  | 46 => ⟨S16x4096x512, .f32⟩
  | 47 => ⟨S16x4096x512, .f32⟩
  | 48 => ⟨S_, .f32⟩
  | 49 => ⟨S16x4096x512, .f32⟩
  | 50 => ⟨S16x4096x512, .f32⟩
  | 51 => ⟨S_, .f32⟩
  | 52 => ⟨S16x4096x512, .f32⟩
  | 53 => ⟨S16x4096x512, .f32⟩
  | 54 => ⟨S16x4096x512, .f32⟩
  | 55 => ⟨S16x4096x512, .f32⟩
  | 56 => ⟨S16x4096x512, .f32⟩
  | 57 => ⟨S16x4096x512, .f32⟩
  | 58 => ⟨S_, .f32⟩
  | 59 => ⟨S16x4096x512, .f32⟩
  | 60 => ⟨S16x4096x512, .f32⟩
  | 61 => ⟨S_, .f32⟩
  | 62 => ⟨S16x4096x512, .f32⟩
  | 63 => ⟨S16x4096x512, .f32⟩
  | 64 => ⟨S16x4096x512, .f32⟩
  | 65 => ⟨S16x4096x1024, .f32⟩
  | 66 => ⟨S16x4096x1024, .f32⟩
  | 67 => ⟨S16x16x256x512, .f32⟩
  | 68 => ⟨S_, .f32⟩
  | 69 => ⟨S16x16x512, .f32⟩
  | 70 => ⟨S16x16x1x512, .f32⟩
  | 71 => ⟨S_, .f32⟩
  | 72 => ⟨S16x16x1x512, .f32⟩
  | 73 => ⟨S16x16x1x512, .f32⟩
  | 74 => ⟨S16x4096x1024, .bf16⟩
  | 75 => ⟨S16x4096x1024, .bf16⟩
  | 76 => ⟨S16x16x512x256, .bf16⟩
  | 77 => ⟨S16x4096x512, .bf16⟩
  | 78 => ⟨S16x4096x512, .bf16⟩
  | 79 => ⟨S16x4096x512, .bf16⟩
  | 80 => ⟨S16x16x512x256, .bf16⟩
  | 81 => ⟨S16x4096x512, .bf16⟩
  | 82 => ⟨S16x4096x1024, .bf16⟩
  | 83 => ⟨S16x4096x1024, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c : Ref sig .tc := ⟨.hbm, 73, rfl⟩
abbrev main_call0_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_7 : Ref sig .tc := ⟨.hbm, 89, rfl⟩
abbrev main_v66 : Ref sig .tc := ⟨.hbm, 90, rfl⟩
abbrev main_v67 : Ref sig .tc := ⟨.hbm, 91, rfl⟩
abbrev main_cst_8 : Ref sig .tc := ⟨.hbm, 92, rfl⟩
abbrev main_v68 : Ref sig .tc := ⟨.hbm, 93, rfl⟩
abbrev main_v69 : Ref sig .tc := ⟨.hbm, 94, rfl⟩
abbrev main_cst_9 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_10 : Ref sig .tc := ⟨.hbm, 106, rfl⟩
abbrev main_call1_v0 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_c_11 : Ref sig .tc := ⟨.hbm, 121, rfl⟩
abbrev main_call2_v0 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_12 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_cst_13 : Ref sig .tc := ⟨.hbm, 166, rfl⟩
abbrev main_v135 : Ref sig .tc := ⟨.hbm, 167, rfl⟩
abbrev main_v136 : Ref sig .tc := ⟨.hbm, 168, rfl⟩
abbrev main_cst_14 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_call3_v0 : Ref sig .tc := ⟨.hbm, 174, rfl⟩
abbrev main_call3_v1 : Ref sig .tc := ⟨.hbm, 175, rfl⟩
abbrev main_call3_cst : Ref sig .tc := ⟨.hbm, 176, rfl⟩
abbrev main_call3_v2 : Ref sig .tc := ⟨.hbm, 177, rfl⟩
abbrev main_call3_v3 : Ref sig .tc := ⟨.hbm, 178, rfl⟩
abbrev main_call3_cst_0 : Ref sig .tc := ⟨.hbm, 179, rfl⟩
abbrev main_call3_v4 : Ref sig .tc := ⟨.hbm, 180, rfl⟩
abbrev main_call3_v5 : Ref sig .tc := ⟨.hbm, 181, rfl⟩
abbrev main_v141 : Ref sig .tc := ⟨.hbm, 182, rfl⟩
abbrev main_v142 : Ref sig .tc := ⟨.hbm, 183, rfl⟩
abbrev main_call4_v0 : Ref sig .tc := ⟨.hbm, 184, rfl⟩
abbrev main_call4_v1 : Ref sig .tc := ⟨.hbm, 185, rfl⟩
abbrev main_call4_cst : Ref sig .tc := ⟨.hbm, 186, rfl⟩
abbrev main_call4_v2 : Ref sig .tc := ⟨.hbm, 187, rfl⟩
abbrev main_call4_v3 : Ref sig .tc := ⟨.hbm, 188, rfl⟩
abbrev main_call4_cst_0 : Ref sig .tc := ⟨.hbm, 189, rfl⟩
abbrev main_call4_v4 : Ref sig .tc := ⟨.hbm, 190, rfl⟩
abbrev main_call4_v5 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_15 : Ref sig .tc := ⟨.hbm, 196, rfl⟩
abbrev main_v147 : Ref sig .tc := ⟨.hbm, 197, rfl⟩
abbrev main_v148 : Ref sig .tc := ⟨.hbm, 198, rfl⟩
abbrev main_cst_16 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩

abbrev nD : Nat := 1
abbrev τ : Topo := Topo.v7x

variable {F : FTy → Type} [FloatOps F]
-- ==== Proof.Reads.lean ====
/-
  Loads and stores through unit-stride rectangles: what a load reads right after a store of the same rectangle, what it
  reads when the newest store missed it, and a load of any contents as the contents' elements.
-/
module

public import Idealize.ShloMosaic.Lib.VecWindow
public import Idealize.ShloMosaic.Lib.WritesUnit
public import Idealize.ShloMosaic.Lib.Exec

@[expose] public section

noncomputable section

namespace Cert.Reads

open Idealize.ShloMosaic

variable {sig : RefSig} {κ : Kind} {sp : Space} {s : Shape} {e : EltTy} {Val : EltTy → Type}

/-- A load at a unit-stride rectangle reads the contents' elements at the placed positions. -/
theorem load_eq (v : View sig κ sp s e) (f : v.ty.Contents Val) {off size : Fin s.rank → ℕ}
    (inb : ∀ a, off a + size a ≤ s.size a) (g : (Rect.unit off size inb).shape.Idx → s.Idx)
    (hg : ∀ y a, (g y a).val = off a + (y a).val) :
    v.readAt Val (Rect.unit off size inb).toLoadRect f = fun y => v.read Val f (g y) := by
  funext y
  refine congrArg (v.read Val f) (funext fun a => Fin.ext ?_)
  show off a + 1 * (y a).val = (g y a).val
  rw [hg y a, Nat.one_mul]

/-- A load of the rectangle stored last reads what was stored. -/
theorem load_hit (v : View sig κ sp s e) (f : v.ty.Contents Val) {off size : Fin s.rank → ℕ}
    (inb inb' : ∀ a, off a + size a ≤ s.size a) (w : (Rect.unit off size inb').shape.Idx → Val e)
    (L : List (View.Piece Val s e)) :
    v.readAt Val (Rect.unit off size inb).toLoadRect
      (v.writes Val f ((⟨Rect.unit off size inb', w⟩ : View.Piece Val s e) :: L)) = w := by
  funext y
  exact v.read_writes_cons_unit_of_mem f inb' w L _ y rfl fun a => by
    show off a + 1 * (y a).val = _
    rw [Nat.one_mul]

/-- A load that the newest store misses along axis `a` reads what the earlier stores left. -/
theorem load_miss (v : View sig κ sp s e) (f : v.ty.Contents Val) {off size off' size' : Fin s.rank → ℕ}
    (inb : ∀ a, off a + size a ≤ s.size a) (inb' : ∀ a, off' a + size' a ≤ s.size a)
    (w : (Rect.unit off' size' inb').shape.Idx → Val e) (L : List (View.Piece Val s e)) (a : Fin s.rank)
    (ha : off a + size a ≤ off' a ∨ off' a + size' a ≤ off a) :
    v.readAt Val (Rect.unit off size inb).toLoadRect
      (v.writes Val f ((⟨Rect.unit off' size' inb', w⟩ : View.Piece Val s e) :: L))
      = v.readAt Val (Rect.unit off size inb).toLoadRect (v.writes Val f L) := by
  funext y
  refine v.read_writes_cons_unit_of_not_mem f inb' w L _ rfl a ?_
  have hy : (y a).val < size a := (y a).isLt
  show off a + 1 * (y a).val < off' a ∨ off' a + size' a ≤ off a + 1 * (y a).val
  omega

/-- The same along the first axis. -/
theorem load_skip (v : View sig κ sp s e) (f : v.ty.Contents Val) {off size off' size' : Fin s.rank → ℕ}
    (inb : ∀ a, off a + size a ≤ s.size a) (inb' : ∀ a, off' a + size' a ≤ s.size a)
    (w : (Rect.unit off' size' inb').shape.Idx → Val e) (L : List (View.Piece Val s e)) (hr : 0 < s.rank)
    (ha : off ⟨0, hr⟩ + size ⟨0, hr⟩ ≤ off' ⟨0, hr⟩ ∨ off' ⟨0, hr⟩ + size' ⟨0, hr⟩ ≤ off ⟨0, hr⟩) :
    v.readAt Val (Rect.unit off size inb).toLoadRect
      (v.writes Val f ((⟨Rect.unit off' size' inb', w⟩ : View.Piece Val s e) :: L))
      = v.readAt Val (Rect.unit off size inb).toLoadRect (v.writes Val f L) :=
  load_miss v f inb inb' w L ⟨0, hr⟩ ha

/-- The same along the third axis. -/
theorem load_skip3 (v : View sig κ sp s e) (f : v.ty.Contents Val) {off size off' size' : Fin s.rank → ℕ}
    (inb : ∀ a, off a + size a ≤ s.size a) (inb' : ∀ a, off' a + size' a ≤ s.size a)
    (w : (Rect.unit off' size' inb').shape.Idx → Val e) (L : List (View.Piece Val s e)) (hr : 2 < s.rank)
    (ha : off ⟨2, hr⟩ + size ⟨2, hr⟩ ≤ off' ⟨2, hr⟩ ∨ off' ⟨2, hr⟩ + size' ⟨2, hr⟩ ≤ off ⟨2, hr⟩) :
    v.readAt Val (Rect.unit off size inb).toLoadRect
      (v.writes Val f ((⟨Rect.unit off' size' inb', w⟩ : View.Piece Val s e) :: L))
      = v.readAt Val (Rect.unit off size inb).toLoadRect (v.writes Val f L) :=
  load_miss v f inb inb' w L ⟨2, hr⟩ ha

/-- A load after stores that cover it: of the rectangle stored last. -/
theorem cov_hit [∀ e, Nonempty (Val e)] (v : View sig κ sp s e) {off size : Fin s.rank → ℕ}
    (inb inb' : ∀ a, off a + size a ≤ s.size a) (w : (Rect.unit off size inb').shape.Idx → Val e)
    (L : List (View.Piece Val s e)) :
    v.readCov ((⟨Rect.unit off size inb', w⟩ : View.Piece Val s e) :: L) (Rect.unit off size inb).toLoadRect = w :=
  load_hit v v.junk inb inb' w L

/-- A load after stores that cover it: the newest store missed it along the first axis. -/
theorem cov_skip [∀ e, Nonempty (Val e)] (v : View sig κ sp s e) {off size off' size' : Fin s.rank → ℕ}
    (inb : ∀ a, off a + size a ≤ s.size a) (inb' : ∀ a, off' a + size' a ≤ s.size a)
    (w : (Rect.unit off' size' inb').shape.Idx → Val e) (L : List (View.Piece Val s e)) (hr : 0 < s.rank)
    (ha : off ⟨0, hr⟩ + size ⟨0, hr⟩ ≤ off' ⟨0, hr⟩ ∨ off' ⟨0, hr⟩ + size' ⟨0, hr⟩ ≤ off ⟨0, hr⟩) :
    v.readCov ((⟨Rect.unit off' size' inb', w⟩ : View.Piece Val s e) :: L) (Rect.unit off size inb).toLoadRect
      = v.readCov L (Rect.unit off size inb).toLoadRect :=
  load_skip v v.junk inb inb' w L hr ha

/-- A load of a rectangle lying inside the one stored last reads the stored vector's part. -/
theorem load_part (v : View sig κ sp s e) (f : v.ty.Contents Val) {off size off' size' : Fin s.rank → ℕ}
    (inb : ∀ a, off a + size a ≤ s.size a) (inb' : ∀ a, off' a + size' a ≤ s.size a)
    (w : (Rect.unit off' size' inb').shape.Idx → Val e) (L : List (View.Piece Val s e))
    (g : (Rect.unit off size inb).shape.Idx → (Rect.unit off' size' inb').shape.Idx)
    (hg : ∀ y a, off a + (y a).val = off' a + (g y a).val) :
    v.readAt Val (Rect.unit off size inb).toLoadRect
      (v.writes Val f ((⟨Rect.unit off' size' inb', w⟩ : View.Piece Val s e) :: L)) = fun y => w (g y) := by
  funext y
  exact v.read_writes_cons_unit_of_mem f inb' w L _ (g y) rfl fun a => by
    show off a + 1 * (y a).val = _
    rw [Nat.one_mul, hg y a]

end Cert.Reads
-- ==== Proof.State.lean ====
/-
  One grid point of the attention kernel as pure functions of its input blocks: the blocks of keys, queries and values it
  reads, the stages of the online softmax, and the state one head carries from trip to trip.
-/
module

public import proofs.«01_k».proof.Proof.Gen.KernelIdeal.Skeleton
public import Idealize.ShloMosaic.Lib.ValueIdxCore

@[expose] public section

set_option maxRecDepth 16384

noncomputable section

namespace Cert.KernelIdeal.Attn

open Idealize.ShloMosaic Idealize.ShloMosaic.TcCoe Idealize.ShloMosaic.ValueIdx
open Cert.KernelIdeal Cert.KernelIdeal.Gen

variable {F : FTy → Type} [FloatOps F]

/-! ## The blocks one head reads -/

/-- Key block `j` of head `h`: 256 rows and the head's 128 lanes. -/
def kblk (x1 : Vec F S1x4096x512 .bf16) (j : ℕ) (h : Fin 4) : Vec F S1x256x128 .bf16 := fun y =>
  x1 (ix3 (0 : Fin 1) (⟨(256 * j + (y 1).val) % 4096, Nat.mod_lt _ (by decide)⟩ : Fin 4096)
    (⟨(128 * h.val + (y 2).val) % 512, Nat.mod_lt _ (by decide)⟩ : Fin 512))

/-- The 512 queries of head `h`. -/
def qblk (x0 : Vec F S1x512x512 .bf16) (h : Fin 4) : Vec F S1x512x128 .bf16 := fun y =>
  x0 (ix3 (0 : Fin 1) (⟨(y 1).val % 512, Nat.mod_lt _ (by decide)⟩ : Fin 512)
    (⟨(128 * h.val + (y 2).val) % 512, Nat.mod_lt _ (by decide)⟩ : Fin 512))

/-- The second half of the queries of head `h`. -/
def qhalf (x0 : Vec F S1x512x512 .bf16) (h : Fin 4) : Vec F S1x256x128 .bf16 := fun y =>
  x0 (ix3 (0 : Fin 1) (⟨(256 + (y 1).val) % 512, Nat.mod_lt _ (by decide)⟩ : Fin 512)
    (⟨(128 * h.val + (y 2).val) % 512, Nat.mod_lt _ (by decide)⟩ : Fin 512))

/-- The transposed values of block `j`, head `h`: 64 rows, 256 keys. -/
def vblk (x2 : Vec F S1x16x256x256 .bf16) (j : ℕ) (h : Fin 4) : Vec F S1x1x64x256 .bf16 := fun y =>
  x2 (ix4 (0 : Fin 1) (⟨j % 16, Nat.mod_lt _ (by decide)⟩ : Fin 16)
    (⟨(64 * h.val + (y 2).val) % 256, Nat.mod_lt _ (by decide)⟩ : Fin 256)
    (⟨(y 3).val % 256, Nat.mod_lt _ (by decide)⟩ : Fin 256))

/-! ## The stages -/

/-- The scores of a key block against the queries, keys along the rows. -/
def dots (kb : Vec F S1x256x128 .bf16) (qb : Vec F S1x512x128 .bf16) : FVec F S256x512 .f32 :=
  matmul dot_S256x128_S512x128_S256x512_1_1_0_0_n_n none (shapeCast S256x128 kb shapeCasts_S1x256x128_S256x128)
    (shapeCast S512x128 qb shapeCasts_S1x512x128_S512x128) (constant S256x512 .f32 0x00000000#32)

/-- A block of scores as it is stored. -/
def keep (s : FVec F S256x512 .f32) : FVec F S1x256x512 .f32 := shapeCast S1x256x512 s shapeCasts_S256x512_S1x256x512

/-- The largest score of every query. -/
def colMax (s : FVec F S256x512 .f32) : FVec F S1x1x512 .f32 :=
  shapeCast S1x1x512 (shapeCast S1x512 (multiReduction .maximumf [0] S512 s 0xFF800000#32 reduces_S256x512_S512 (.inl rfl) rfl)
    shapeCasts_S512_S1x512) shapeCasts_S1x512_S1x1x512

/-- The running maximum, as a row. -/
def rowMax (m cm : Vec F S1x1x512 .f32) : FVec F S1x512 .f32 :=
  maximumf (shapeCast S1x512 m shapeCasts_S1x1x512_S1x512) (shapeCast S1x512 cm shapeCasts_S1x1x512_S1x512)

/-- The running maximum after a block whose largest scores are `cm`. -/
def newMax (m cm : Vec F S1x1x512 .f32) : FVec F S1x1x512 .f32 :=
  shapeCast S1x1x512 (rowMax m cm) shapeCasts_S1x512_S1x1x512

/-- What the sums so far are multiplied by when the maximum moves. -/
def decay (m cm : Vec F S1x1x512 .f32) : FVec F S1x1x512 .f32 :=
  shapeCast S1x1x512 (exp2 (subf (shapeCast S1x512 m shapeCasts_S1x1x512_S1x512) (rowMax m cm)))
    shapeCasts_S1x512_S1x1x512

/-- The weights of a block of scores under the new maximum. -/
def weights (m cm : Vec F S1x1x512 .f32) (s : Vec F S1x256x512 .f32) : FVec F S1x256x512 .bf16 :=
  shapeCast S1x256x512 (truncf .bf16 (exp2 (subf (shapeCast S256x512 s shapeCasts_S1x256x512_S256x512)
    (broadcastTo S256x512 (rowMax m cm) broadcasts_S1x512_S256x512))) bitsLt_bf16_f32) shapeCasts_S256x512_S1x256x512

/-- The values of a block over `SUM_ROWS` rows of ones (whose products are the sums of the weights). -/
def augment (v3 : FVec F S16x256 .bf16) (vb : Vec F S1x1x64x256 .bf16) : FVec F S80x256 .bf16 :=
  concatenate S80x256 0 [⟨S64x256, shapeCast S64x256 vb shapeCasts_S1x1x64x256_S64x256⟩, ⟨S16x256, v3⟩]
    concatenates_S64x256_S16x256_S80x256_d0

/-- The sums after a block: the sums so far times their decay, plus the block's values times its weights. -/
def accum (v3 : FVec F S16x256 .bf16) (vb : Vec F S1x1x64x256 .bf16) (al : Vec F S1x1x512 .f32)
    (acc : Vec F S1x80x512 .f32) (p : Vec F S1x256x512 .bf16) : FVec F S1x80x512 .f32 :=
  shapeCast S1x80x512 (addf
    (mulf (broadcastTo S80x512 (shapeCast S1x512 al shapeCasts_S1x1x512_S1x512) broadcasts_S1x512_S80x512)
      (shapeCast S80x512 acc shapeCasts_S1x80x512_S80x512))
    (matmul dot_S80x256_S256x512_S80x512_1_0_0_1_n_n none (augment v3 vb)
      (shapeCast S256x512 p shapeCasts_S1x256x512_S256x512) (constant S80x512 .f32 0x00000000#32)))
    shapeCasts_S80x512_S1x80x512

/-! ## What a head carries -/

/-- The buffers of one head that live from trip to trip: the scores of the next even block and their maxima, the
    weights and the decay of the block whose values are still to be added, the running maximum and the sums. -/
structure HS (F : FTy → Type) where
  s0 : Vec F S1x256x512 .f32
  cm0 : Vec F S1x1x512 .f32
  p1 : Vec F S1x256x512 .bf16
  al1 : Vec F S1x1x512 .f32
  m : Vec F S1x1x512 .f32
  acc : Vec F S1x80x512 .f32

/-- The block whose values are added first in trip `k`: the one before block `2k`, or the second own block. -/
def lag (a k : ℕ) : ℕ := if k = 0 then 2 * a + 1 else 2 * k - 1

/-- One trip for one head: blocks `2k` and `2k + 1`, and the scores of block `2k + 2` ahead. -/
def next (x0 : Vec F S1x512x512 .bf16) (x1 : Vec F S1x4096x512 .bf16) (x2 : Vec F S1x16x256x256 .bf16)
    (v3 : FVec F S16x256 .bf16) (a k : ℕ) (h : Fin 4) (st : HS F) : HS F :=
  let s1 := dots (kblk x1 (2 * k + 1) h) (qblk x0 h)
  let m0 := newMax st.m st.cm0
  { s0 := keep (dots (kblk x1 (2 * k + 2) h) (qblk x0 h))
    cm0 := colMax (dots (kblk x1 (2 * k + 2) h) (qblk x0 h))
    p1 := weights m0 (colMax s1) (keep s1)
    al1 := decay m0 (colMax s1)
    m := newMax m0 (colMax s1)
    acc := accum v3 (vblk x2 (2 * k) h) (decay st.m st.cm0)
      (accum v3 (vblk x2 (lag a k) h) st.al1 st.acc st.p1) (weights st.m st.cm0 st.s0) }

/-! ## Before the loop: the two own blocks -/

/-- `0` where the key is not after the query, `-∞` above. -/
def tri : FVec F S256x256 .f32 :=
  extractStridedSlice S256x256 ![0, 0] (select
    (cmpi .sle (iota .tc S256x512 32 [0] iota_S256x512_d0_w32) (iota .tc S256x512 32 [1] iota_S256x512_d1_w32))
    (broadcast S256x512 (Scalar.ofBits .f32 0x00000000#32 : F .f32))
    (broadcast S256x512 (Scalar.ofBits .f32 0xFF800000#32 : F .f32))) slices_S256x512_o0_0_S256x256

/-- The scores of the first own block: masked on the first half of the queries. -/
def ownDots (kb : Vec F S1x256x128 .bf16) (qb : Vec F S1x512x128 .bf16) : FVec F S256x512 .f32 :=
  concatenate S256x512 1 [
    ⟨S256x256, addf (extractStridedSlice S256x256 ![0, 0] (dots kb qb) slices_S256x512_o0_0_S256x256) tri⟩,
    ⟨S256x256, extractStridedSlice S256x256 ![0, 256] (dots kb qb) slices_S256x512_o0_256_S256x256⟩]
    concatenates_S256x256_S256x256_S256x512_d1

/-- The scores of the second own block against the second half of the queries, masked. -/
def halfDots (kb qb : Vec F S1x256x128 .bf16) : FVec F S256x256 .f32 :=
  addf (matmul dot_S256x128_S256x128_S256x256_1_1_0_0_n_n none (shapeCast S256x128 kb shapeCasts_S1x256x128_S256x128)
    (shapeCast S256x128 qb shapeCasts_S1x256x128_S256x128) (constant S256x256 .f32 0x00000000#32)) tri

/-- Their largest of every query. -/
def halfMax (s : FVec F S256x256 .f32) : FVec F S1x1x256 .f32 :=
  shapeCast S1x1x256 (shapeCast S1x256 (multiReduction .maximumf [0] S256 s 0xFF800000#32 reduces_S256x256_S256 (.inl rfl) rfl)
    shapeCasts_S256_S1x256) shapeCasts_S1x256_S1x1x256

/-- The second half of a row. -/
def upper (m : Vec F S1x1x512 .f32) : Vec F S1x1x256 .f32 := fun y =>
  m (ix3 (0 : Fin 1) (0 : Fin 1) (⟨(256 + (y 2).val) % 512, Nat.mod_lt _ (by decide)⟩ : Fin 512))

/-- The running maximum of the second half, as a row. -/
def halfRow (m cm : Vec F S1x1x256 .f32) : FVec F S1x256 .f32 :=
  maximumf (shapeCast S1x256 m shapeCasts_S1x1x256_S1x256) (shapeCast S1x256 cm shapeCasts_S1x1x256_S1x256)

/-- The decay after the second own block: `1` on the first half of the queries. -/
def ownDecay (m cm : Vec F S1x1x256 .f32) : FVec F S1x1x512 .f32 :=
  shapeCast S1x1x512 (concatenate S1x512 1 [⟨S1x256, broadcast S1x256 (Scalar.ofBits .f32 0x3F800000#32 : F .f32)⟩,
    ⟨S1x256, exp2 (subf (shapeCast S1x256 m shapeCasts_S1x1x256_S1x256) (halfRow m cm))⟩]
    concatenates_S1x256_S1x256_S1x512_d1) shapeCasts_S1x512_S1x1x512

/-- No weight: what the first half of the queries gives the second own block. -/
def noWeights : FVec F S1x256x256 .bf16 :=
  shapeCast S1x256x256 (broadcast S256x256 (Scalar.ofBits .bf16 0x0000#16 : F .bf16)) shapeCasts_S256x256_S1x256x256

/-- The weights of the second own block on the second half of the queries. -/
def halfWeights (m cm : Vec F S1x1x256 .f32) (s : FVec F S256x256 .f32) : FVec F S1x256x256 .bf16 :=
  shapeCast S1x256x256 (truncf .bf16 (exp2 (subf (shapeCast S256x256 (shapeCast S1x256x256 s shapeCasts_S256x256_S1x256x256 : FVec F S1x256x256 .f32)
    shapeCasts_S1x256x256_S256x256) (broadcastTo S256x256 (halfRow m cm) broadcasts_S1x256_S256x256))) bitsLt_bf16_f32)
    shapeCasts_S256x256_S1x256x256

/-- The running maximum at the start. -/
def floorRow : Vec F S1x1x512 .f32 := fun _ => (Scalar.ofBits .f32 0xF149F2CA#32 : F .f32)

/-- The sums at the start. -/
def noSums : Vec F S1x80x512 .f32 := fun _ => (Scalar.ofBits .f32 0x00000000#32 : F .f32)

/-- Two halves of 256 columns side by side. -/
def halves {n : ℕ} {e : EltTy} (l r : Vec F ⟨3, ![1, n, 256]⟩ e) : Vec F ⟨3, ![1, n, 512]⟩ e := fun y =>
  if hy : (y 2).val < 256 then l (ix3 (0 : Fin 1) (y 1) (⟨(y 2).val, hy⟩ : Fin 256))
  else r (ix3 (0 : Fin 1) (y 1) (⟨(y 2).val - 256, by have h : (y 2).val < 512 := (y 2).isLt; omega⟩ : Fin 256))

/-- The first 256 columns. -/
def lower (m : Vec F S1x1x512 .f32) : Vec F S1x1x256 .f32 := fun y =>
  m (ix3 (0 : Fin 1) (0 : Fin 1) (⟨(y 2).val % 512, Nat.mod_lt _ (by decide)⟩ : Fin 512))

/-- What a head carries into the loop at query tile `a`. -/
def start (x0 : Vec F S1x512x512 .bf16) (x1 : Vec F S1x4096x512 .bf16) (x2 : Vec F S1x16x256x256 .bf16)
    (v3 : FVec F S16x256 .bf16) (a : ℕ) (h : Fin 4) : HS F :=
  let s2 := ownDots (kblk x1 (2 * a) h) (qblk x0 h)
  let sh := halfDots (kblk x1 (2 * a + 1) h) (qhalf x0 h)
  let m0 : Vec F S1x1x512 .f32 := newMax floorRow (colMax s2)
  { s0 := keep (dots (kblk x1 0 h) (qblk x0 h))
    cm0 := colMax (dots (kblk x1 0 h) (qblk x0 h))
    p1 := halves noWeights (halfWeights (upper m0) (halfMax sh) sh)
    al1 := ownDecay (upper m0) (halfMax sh)
    m := halves (lower m0) (shapeCast S1x1x256 (halfRow (upper m0) (halfMax sh)) shapeCasts_S1x256_S1x1x256)
    acc := accum v3 (vblk x2 (2 * a) h) (decay floorRow (colMax s2)) noSums (weights floorRow (colMax s2) (keep s2)) }

/-- What the heads carry before trip `k`, from what they carry into the loop. -/
def steps (x0 : Vec F S1x512x512 .bf16) (x1 : Vec F S1x4096x512 .bf16) (x2 : Vec F S1x16x256x256 .bf16)
    (v3 : FVec F S16x256 .bf16) (a : ℕ) (S : Fin 4 → HS F) : ℕ → Fin 4 → HS F
  | 0 => S
  | k + 1 => fun h => next x0 x1 x2 v3 a k h (steps x0 x1 x2 v3 a S k h)

/-- What a head carries before trip `k`. -/
def st (x0 : Vec F S1x512x512 .bf16) (x1 : Vec F S1x4096x512 .bf16) (x2 : Vec F S1x16x256x256 .bf16)
    (v3 : FVec F S16x256 .bf16) (a : ℕ) : ℕ → Fin 4 → HS F :=
  steps x0 x1 x2 v3 a (start x0 x1 x2 v3 a)

/-! ## After the loop -/

/-- A head's sums at the end: the pending block's values added. -/
def total (x0 : Vec F S1x512x512 .bf16) (x1 : Vec F S1x4096x512 .bf16) (x2 : Vec F S1x16x256x256 .bf16)
    (v3 : FVec F S16x256 .bf16) (a : ℕ) (h : Fin 4) : FVec F S1x80x512 .f32 :=
  accum v3 (vblk x2 (lag a a) h) (st x0 x1 x2 v3 a a h).al1 (st x0 x1 x2 v3 a a h).acc (st x0 x1 x2 v3 a a h).p1

/-- The same in terms of the state before the last trip. -/
theorem total_succ (x0 : Vec F S1x512x512 .bf16) (x1 : Vec F S1x4096x512 .bf16) (x2 : Vec F S1x16x256x256 .bf16)
    (v3 : FVec F S16x256 .bf16) {a : ℕ} (ha : 0 < a) (h : Fin 4) : total x0 x1 x2 v3 a h =
      accum v3 (vblk x2 (lag a a) h) (next x0 x1 x2 v3 a (a - 1) h (st x0 x1 x2 v3 a (a - 1) h)).al1
        (next x0 x1 x2 v3 a (a - 1) h (st x0 x1 x2 v3 a (a - 1) h)).acc
        (next x0 x1 x2 v3 a (a - 1) h (st x0 x1 x2 v3 a (a - 1) h)).p1 := by
  obtain ⟨b, rfl⟩ : ∃ b, a = b + 1 := ⟨a - 1, by omega⟩
  rfl

/-- Without a trip. -/
theorem total_zero (x0 : Vec F S1x512x512 .bf16) (x1 : Vec F S1x4096x512 .bf16) (x2 : Vec F S1x16x256x256 .bf16)
    (v3 : FVec F S16x256 .bf16) {a : ℕ} (ha : a - 1 = a) (h : Fin 4) : total x0 x1 x2 v3 a h =
      accum v3 (vblk x2 (lag a a) h) (st x0 x1 x2 v3 a (a - 1) h).al1 (st x0 x1 x2 v3 a (a - 1) h).acc
        (st x0 x1 x2 v3 a (a - 1) h).p1 := by
  rw [ha]; rfl

/-- The weighted means: the first 64 rows of the sums over the sum of the weights. -/
def means (acc : Vec F S1x80x512 .f32) : FVec F S64x512 .f32 :=
  mulf (extractStridedSlice S64x512 ![0, 0] (shapeCast S80x512 acc shapeCasts_S1x80x512_S80x512 : FVec F S80x512 .f32) slices_S80x512_o0_0_S64x512)
    (broadcastTo S64x512 (divf (broadcast S1x512 (Scalar.ofBits .f32 0x3F800000#32 : F .f32))
      (extractStridedSlice S1x512 ![64, 0] (shapeCast S80x512 acc shapeCasts_S1x80x512_S80x512 : FVec F S80x512 .f32) slices_S80x512_o64_0_S1x512))
      broadcasts_S1x512_S64x512)

/-- The output block: the heads' means, queries along the rows, times the gate. -/
def result (t : Fin 4 → FVec F S1x80x512 .f32) (x3 : Vec F S1x512x256 .bf16) : FVec F S1x512x256 .bf16 :=
  shapeCast S1x512x256 (truncf .bf16 (mulf (transpose S512x256 [1, 0]
    (concatenate S256x512 0 [⟨S64x512, means (t 0)⟩, ⟨S64x512, means (t 1)⟩, ⟨S64x512, means (t 2)⟩, ⟨S64x512, means (t 3)⟩]
      concatenates_S64x512_S64x512_S64x512_S64x512_S256x512_d0) transposes_S256x512_p1_0_S512x256)
    (extf .f32 (shapeCast S512x256 x3 shapeCasts_S1x512x256_S512x256 : FVec F S512x256 .bf16) bitsLt_bf16_f32)) bitsLt_bf16_f32)
    shapeCasts_S512x256_S1x512x256

/-- What one grid point writes. -/
def block (x0 : Vec F S1x512x512 .bf16) (x1 : Vec F S1x4096x512 .bf16) (x2 : Vec F S1x16x256x256 .bf16)
    (x3 : Vec F S1x512x256 .bf16) (a : ℕ) : FVec F S1x512x256 .bf16 :=
  result (total x0 x1 x2 k0_pay234 a) x3

end Cert.KernelIdeal.Attn
-- ==== Proof.Offsets.lean ====
/-
  The offsets the kernel computes, in closed form: at query tile `a` (the third grid coordinate) and trip `k` it reads key
  and value blocks `2a`, `2a + 1`, `2k`, `2k + 1`, `2k + 2` and the block before `2k`; the main loop has `a - 1` trips.
-/
module

public import proofs.«01_k».proof.Proof.Gen.KernelIdeal.Skeleton

@[expose] public section

set_option maxRecDepth 16384

namespace Cert.KernelIdeal.Attn

open Idealize.ShloMosaic Idealize.ShloMosaic.TcCoe
open Cert.KernelIdeal Cert.KernelIdeal.Gen

/-- Two offset vectors that agree in the middle. -/
theorem mid3 {x y : ℕ} (c : ℕ) (h : x = y) : (![0, x, c] : Fin 3 → ℕ) = ![0, y, c] := by rw [h]
theorem mid4 {x y : ℕ} (c : ℕ) (h : x = y) : (![0, x, c, 0] : Fin 4 → ℕ) = ![0, y, c, 0] := by rw [h]

/-- The main loop's trips. -/
theorem trips_eq (i : grid0.Coords) : (k0_t1_loop i).trips = (i 2).val - 1 := by
  have h : ∀ a : Fin 8, Scf.trips 0#32 (Scalar.addi 0#32 (Scalar.muli (Scalar.divsi (Scalar.subi (Scalar.subi (BitVec.ofNat 32 a.val) 1#32) 0#32) 1#32) 1#32)) 1#32 = a.val - 1 := by decide +kernel
  exact h (i 2)

theorem tile_lt (i : grid0.Coords) : (i 2).val < 8 := (i 2).isLt

theorem trip_lt (i : grid0.Coords) (k : Fin (k0_t1_loop i).trips) : k.val < 8 := by
  have h1 := Nat.lt_of_lt_of_eq k.isLt (trips_eq i); have h2 := tile_lt i; omega

/-- There is a last pair of blocks exactly when `a > 0`. -/
theorem cond_iff (i : grid0.Coords) : k0_cond1 i = 1#1 ↔ 0 < (i 2).val := by
  have h : ∀ a : Fin 8, Scalar.cmpi .ne (Scalar.extui (Scalar.cmpi .sgt (BitVec.ofNat 32 a.val) 0#32) : BitVec 32) 0#32 = 1#1 ↔ 0 < a.val := by decide +kernel
  exact h (i 2)

theorem off1 (i : grid0.Coords) : k0_off1 i = ![0, 256 * (2 * (i 2).val), 0] := by
  have h : ∀ a : Fin 8, (Scalar.indexCast (Scalar.muli (Scalar.muli 2#32 (BitVec.ofNat 32 a.val)) 256#32)).toNat = 256 * (2 * a.val) := by decide +kernel
  exact mid3 0 (h (i 2))
theorem off2 (i : grid0.Coords) : k0_off2 i = ![0, 256 * (2 * (i 2).val), 128] := by
  have h : ∀ a : Fin 8, (Scalar.indexCast (Scalar.muli (Scalar.muli 2#32 (BitVec.ofNat 32 a.val)) 256#32)).toNat = 256 * (2 * a.val) := by decide +kernel
  exact mid3 128 (h (i 2))
theorem off3 (i : grid0.Coords) : k0_off3 i = ![0, 256 * (2 * (i 2).val), 256] := by
  have h : ∀ a : Fin 8, (Scalar.indexCast (Scalar.muli (Scalar.muli 2#32 (BitVec.ofNat 32 a.val)) 256#32)).toNat = 256 * (2 * a.val) := by decide +kernel
  exact mid3 256 (h (i 2))
theorem off4 (i : grid0.Coords) : k0_off4 i = ![0, 256 * (2 * (i 2).val), 384] := by
  have h : ∀ a : Fin 8, (Scalar.indexCast (Scalar.muli (Scalar.muli 2#32 (BitVec.ofNat 32 a.val)) 256#32)).toNat = 256 * (2 * a.val) := by decide +kernel
  exact mid3 384 (h (i 2))
theorem off5 (i : grid0.Coords) : k0_off5 i = ![0, 256 * (2 * (i 2).val + 1), 0] := by
  have h : ∀ a : Fin 8, (Scalar.indexCast (Scalar.muli (Scalar.addi (Scalar.muli 2#32 (BitVec.ofNat 32 a.val)) 1#32) 256#32)).toNat = 256 * (2 * a.val + 1) := by decide +kernel
  exact mid3 0 (h (i 2))
theorem off6 (i : grid0.Coords) : k0_off6 i = ![0, 256 * (2 * (i 2).val + 1), 128] := by
  have h : ∀ a : Fin 8, (Scalar.indexCast (Scalar.muli (Scalar.addi (Scalar.muli 2#32 (BitVec.ofNat 32 a.val)) 1#32) 256#32)).toNat = 256 * (2 * a.val + 1) := by decide +kernel
  exact mid3 128 (h (i 2))
theorem off7 (i : grid0.Coords) : k0_off7 i = ![0, 256 * (2 * (i 2).val + 1), 256] := by
  have h : ∀ a : Fin 8, (Scalar.indexCast (Scalar.muli (Scalar.addi (Scalar.muli 2#32 (BitVec.ofNat 32 a.val)) 1#32) 256#32)).toNat = 256 * (2 * a.val + 1) := by decide +kernel
  exact mid3 256 (h (i 2))
theorem off8 (i : grid0.Coords) : k0_off8 i = ![0, 256 * (2 * (i 2).val + 1), 384] := by
  have h : ∀ a : Fin 8, (Scalar.indexCast (Scalar.muli (Scalar.addi (Scalar.muli 2#32 (BitVec.ofNat 32 a.val)) 1#32) 256#32)).toNat = 256 * (2 * a.val + 1) := by decide +kernel
  exact mid3 384 (h (i 2))
theorem off9 (i : grid0.Coords) : k0_off9 i = ![0, 2 * (i 2).val, 0, 0] := by
  have h : ∀ a : Fin 8, (Scalar.indexCast (Scalar.muli 2#32 (BitVec.ofNat 32 a.val))).toNat = 2 * a.val := by decide +kernel
  exact mid4 0 (h (i 2))
theorem off10 (i : grid0.Coords) : k0_off10 i = ![0, 2 * (i 2).val, 64, 0] := by
  have h : ∀ a : Fin 8, (Scalar.indexCast (Scalar.muli 2#32 (BitVec.ofNat 32 a.val))).toNat = 2 * a.val := by decide +kernel
  exact mid4 64 (h (i 2))
theorem off11 (i : grid0.Coords) : k0_off11 i = ![0, 2 * (i 2).val, 128, 0] := by
  have h : ∀ a : Fin 8, (Scalar.indexCast (Scalar.muli 2#32 (BitVec.ofNat 32 a.val))).toNat = 2 * a.val := by decide +kernel
  exact mid4 128 (h (i 2))
theorem off12 (i : grid0.Coords) : k0_off12 i = ![0, 2 * (i 2).val, 192, 0] := by
  have h : ∀ a : Fin 8, (Scalar.indexCast (Scalar.muli 2#32 (BitVec.ofNat 32 a.val))).toNat = 2 * a.val := by decide +kernel
  exact mid4 192 (h (i 2))
theorem off13_1 (i : grid0.Coords) (k : Fin (k0_t1_loop i).trips) : k0_off13 i k 1#32 = ![0, 256 * (2 * k.val + 1), 0] := by
  have h : ∀ k : Fin 8, (Scalar.indexCast (Scalar.muli (Scalar.addi (Scalar.muli 2#32 (Scf.iv 0#32 1#32 k.val)) 1#32) 256#32)).toNat = 256 * (2 * k.val + 1) := by decide +kernel
  exact mid3 0 (h ⟨k.val, trip_lt i k⟩)
theorem off13_2 (i : grid0.Coords) (k : Fin (k0_t1_loop i).trips) : k0_off13 i k 2#32 = ![0, 256 * (2 * k.val + 2), 0] := by
  have h : ∀ k : Fin 8, (Scalar.indexCast (Scalar.muli (Scalar.addi (Scalar.muli 2#32 (Scf.iv 0#32 1#32 k.val)) 2#32) 256#32)).toNat = 256 * (2 * k.val + 2) := by decide +kernel
  exact mid3 0 (h ⟨k.val, trip_lt i k⟩)
theorem off14_1 (i : grid0.Coords) (k : Fin (k0_t1_loop i).trips) : k0_off14 i k 1#32 = ![0, 256 * (2 * k.val + 1), 128] := by
  have h : ∀ k : Fin 8, (Scalar.indexCast (Scalar.muli (Scalar.addi (Scalar.muli 2#32 (Scf.iv 0#32 1#32 k.val)) 1#32) 256#32)).toNat = 256 * (2 * k.val + 1) := by decide +kernel
  exact mid3 128 (h ⟨k.val, trip_lt i k⟩)
theorem off14_2 (i : grid0.Coords) (k : Fin (k0_t1_loop i).trips) : k0_off14 i k 2#32 = ![0, 256 * (2 * k.val + 2), 128] := by
  have h : ∀ k : Fin 8, (Scalar.indexCast (Scalar.muli (Scalar.addi (Scalar.muli 2#32 (Scf.iv 0#32 1#32 k.val)) 2#32) 256#32)).toNat = 256 * (2 * k.val + 2) := by decide +kernel
  exact mid3 128 (h ⟨k.val, trip_lt i k⟩)
theorem off15_1 (i : grid0.Coords) (k : Fin (k0_t1_loop i).trips) : k0_off15 i k 1#32 = ![0, 256 * (2 * k.val + 1), 256] := by
  have h : ∀ k : Fin 8, (Scalar.indexCast (Scalar.muli (Scalar.addi (Scalar.muli 2#32 (Scf.iv 0#32 1#32 k.val)) 1#32) 256#32)).toNat = 256 * (2 * k.val + 1) := by decide +kernel
  exact mid3 256 (h ⟨k.val, trip_lt i k⟩)
theorem off15_2 (i : grid0.Coords) (k : Fin (k0_t1_loop i).trips) : k0_off15 i k 2#32 = ![0, 256 * (2 * k.val + 2), 256] := by
  have h : ∀ k : Fin 8, (Scalar.indexCast (Scalar.muli (Scalar.addi (Scalar.muli 2#32 (Scf.iv 0#32 1#32 k.val)) 2#32) 256#32)).toNat = 256 * (2 * k.val + 2) := by decide +kernel
  exact mid3 256 (h ⟨k.val, trip_lt i k⟩)
theorem off16_1 (i : grid0.Coords) (k : Fin (k0_t1_loop i).trips) : k0_off16 i k 1#32 = ![0, 256 * (2 * k.val + 1), 384] := by
  have h : ∀ k : Fin 8, (Scalar.indexCast (Scalar.muli (Scalar.addi (Scalar.muli 2#32 (Scf.iv 0#32 1#32 k.val)) 1#32) 256#32)).toNat = 256 * (2 * k.val + 1) := by decide +kernel
  exact mid3 384 (h ⟨k.val, trip_lt i k⟩)
theorem off16_2 (i : grid0.Coords) (k : Fin (k0_t1_loop i).trips) : k0_off16 i k 2#32 = ![0, 256 * (2 * k.val + 2), 384] := by
  have h : ∀ k : Fin 8, (Scalar.indexCast (Scalar.muli (Scalar.addi (Scalar.muli 2#32 (Scf.iv 0#32 1#32 k.val)) 2#32) 256#32)).toNat = 256 * (2 * k.val + 2) := by decide +kernel
  exact mid3 384 (h ⟨k.val, trip_lt i k⟩)
theorem off17 (i : grid0.Coords) (k : Fin (k0_t1_loop i).trips) : k0_off17 i k = ![0, (if k.val = 0 then 2 * (i 2).val + 1 else 2 * k.val - 1), 0, 0] := by
  have h : ∀ a k : Fin 8, (Scalar.indexCast (Scalar.select (Scalar.cmpi .eq (Scf.iv 0#32 1#32 k.val) 0#32) (Scalar.addi (Scalar.muli 2#32 (BitVec.ofNat 32 a.val)) 1#32) (Scalar.subi (Scalar.muli 2#32 (Scf.iv 0#32 1#32 k.val)) 1#32))).toNat = (if k.val = 0 then 2 * a.val + 1 else 2 * k.val - 1) := by decide +kernel
  exact mid4 0 (h (i 2) ⟨k.val, trip_lt i k⟩)
theorem off18 (i : grid0.Coords) (k : Fin (k0_t1_loop i).trips) : k0_off18 i k = ![0, (if k.val = 0 then 2 * (i 2).val + 1 else 2 * k.val - 1), 64, 0] := by
  have h : ∀ a k : Fin 8, (Scalar.indexCast (Scalar.select (Scalar.cmpi .eq (Scf.iv 0#32 1#32 k.val) 0#32) (Scalar.addi (Scalar.muli 2#32 (BitVec.ofNat 32 a.val)) 1#32) (Scalar.subi (Scalar.muli 2#32 (Scf.iv 0#32 1#32 k.val)) 1#32))).toNat = (if k.val = 0 then 2 * a.val + 1 else 2 * k.val - 1) := by decide +kernel
  exact mid4 64 (h (i 2) ⟨k.val, trip_lt i k⟩)
theorem off19 (i : grid0.Coords) (k : Fin (k0_t1_loop i).trips) : k0_off19 i k = ![0, (if k.val = 0 then 2 * (i 2).val + 1 else 2 * k.val - 1), 128, 0] := by
  have h : ∀ a k : Fin 8, (Scalar.indexCast (Scalar.select (Scalar.cmpi .eq (Scf.iv 0#32 1#32 k.val) 0#32) (Scalar.addi (Scalar.muli 2#32 (BitVec.ofNat 32 a.val)) 1#32) (Scalar.subi (Scalar.muli 2#32 (Scf.iv 0#32 1#32 k.val)) 1#32))).toNat = (if k.val = 0 then 2 * a.val + 1 else 2 * k.val - 1) := by decide +kernel
  exact mid4 128 (h (i 2) ⟨k.val, trip_lt i k⟩)
theorem off20 (i : grid0.Coords) (k : Fin (k0_t1_loop i).trips) : k0_off20 i k = ![0, (if k.val = 0 then 2 * (i 2).val + 1 else 2 * k.val - 1), 192, 0] := by
  have h : ∀ a k : Fin 8, (Scalar.indexCast (Scalar.select (Scalar.cmpi .eq (Scf.iv 0#32 1#32 k.val) 0#32) (Scalar.addi (Scalar.muli 2#32 (BitVec.ofNat 32 a.val)) 1#32) (Scalar.subi (Scalar.muli 2#32 (Scf.iv 0#32 1#32 k.val)) 1#32))).toNat = (if k.val = 0 then 2 * a.val + 1 else 2 * k.val - 1) := by decide +kernel
  exact mid4 192 (h (i 2) ⟨k.val, trip_lt i k⟩)
theorem off21 (i : grid0.Coords) (k : Fin (k0_t1_loop i).trips) : k0_off21 i k = ![0, 2 * k.val, 0, 0] := by
  have h : ∀ k : Fin 8, (Scalar.indexCast (Scalar.muli 2#32 (Scf.iv 0#32 1#32 k.val))).toNat = 2 * k.val := by decide +kernel
  exact mid4 0 (h ⟨k.val, trip_lt i k⟩)
theorem off22 (i : grid0.Coords) (k : Fin (k0_t1_loop i).trips) : k0_off22 i k = ![0, 2 * k.val, 64, 0] := by
  have h : ∀ k : Fin 8, (Scalar.indexCast (Scalar.muli 2#32 (Scf.iv 0#32 1#32 k.val))).toNat = 2 * k.val := by decide +kernel
  exact mid4 64 (h ⟨k.val, trip_lt i k⟩)
theorem off23 (i : grid0.Coords) (k : Fin (k0_t1_loop i).trips) : k0_off23 i k = ![0, 2 * k.val, 128, 0] := by
  have h : ∀ k : Fin 8, (Scalar.indexCast (Scalar.muli 2#32 (Scf.iv 0#32 1#32 k.val))).toNat = 2 * k.val := by decide +kernel
  exact mid4 128 (h ⟨k.val, trip_lt i k⟩)
theorem off24 (i : grid0.Coords) (k : Fin (k0_t1_loop i).trips) : k0_off24 i k = ![0, 2 * k.val, 192, 0] := by
  have h : ∀ k : Fin 8, (Scalar.indexCast (Scalar.muli 2#32 (Scf.iv 0#32 1#32 k.val))).toNat = 2 * k.val := by decide +kernel
  exact mid4 192 (h ⟨k.val, trip_lt i k⟩)
theorem off37 (i : grid0.Coords) (ha : 0 < (i 2).val) : k0_off37 i = ![0, 256 * (2 * ((i 2).val - 1) + 1), 0] := by
  have h : ∀ a : Fin 8, 0 < a.val → (Scalar.indexCast (Scalar.muli (Scalar.addi (Scalar.muli 2#32 (Scalar.subi (BitVec.ofNat 32 a.val) 1#32)) 1#32) 256#32)).toNat = 256 * (2 * (a.val - 1) + 1) := by decide +kernel
  exact mid3 0 (h (i 2) ha)
theorem off38 (i : grid0.Coords) (ha : 0 < (i 2).val) : k0_off38 i = ![0, 256 * (2 * ((i 2).val - 1) + 1), 128] := by
  have h : ∀ a : Fin 8, 0 < a.val → (Scalar.indexCast (Scalar.muli (Scalar.addi (Scalar.muli 2#32 (Scalar.subi (BitVec.ofNat 32 a.val) 1#32)) 1#32) 256#32)).toNat = 256 * (2 * (a.val - 1) + 1) := by decide +kernel
  exact mid3 128 (h (i 2) ha)
theorem off39 (i : grid0.Coords) (ha : 0 < (i 2).val) : k0_off39 i = ![0, 256 * (2 * ((i 2).val - 1) + 1), 256] := by
  have h : ∀ a : Fin 8, 0 < a.val → (Scalar.indexCast (Scalar.muli (Scalar.addi (Scalar.muli 2#32 (Scalar.subi (BitVec.ofNat 32 a.val) 1#32)) 1#32) 256#32)).toNat = 256 * (2 * (a.val - 1) + 1) := by decide +kernel
  exact mid3 256 (h (i 2) ha)
theorem off40 (i : grid0.Coords) (ha : 0 < (i 2).val) : k0_off40 i = ![0, 256 * (2 * ((i 2).val - 1) + 1), 384] := by
  have h : ∀ a : Fin 8, 0 < a.val → (Scalar.indexCast (Scalar.muli (Scalar.addi (Scalar.muli 2#32 (Scalar.subi (BitVec.ofNat 32 a.val) 1#32)) 1#32) 256#32)).toNat = 256 * (2 * (a.val - 1) + 1) := by decide +kernel
  exact mid3 384 (h (i 2) ha)
theorem off41 (i : grid0.Coords) (ha : 0 < (i 2).val) : k0_off41 i = ![0, (if (i 2).val - 1 = 0 then 2 * (i 2).val + 1 else 2 * ((i 2).val - 1) - 1), 0, 0] := by
  have h : ∀ a : Fin 8, 0 < a.val → (Scalar.indexCast (Scalar.select (Scalar.cmpi .eq (Scalar.subi (BitVec.ofNat 32 a.val) 1#32) 0#32) (Scalar.addi (Scalar.muli 2#32 (BitVec.ofNat 32 a.val)) 1#32) (Scalar.subi (Scalar.muli 2#32 (Scalar.subi (BitVec.ofNat 32 a.val) 1#32)) 1#32))).toNat = (if a.val - 1 = 0 then 2 * a.val + 1 else 2 * (a.val - 1) - 1) := by decide +kernel
  exact mid4 0 (h (i 2) ha)
theorem off42 (i : grid0.Coords) (ha : 0 < (i 2).val) : k0_off42 i = ![0, (if (i 2).val - 1 = 0 then 2 * (i 2).val + 1 else 2 * ((i 2).val - 1) - 1), 64, 0] := by
  have h : ∀ a : Fin 8, 0 < a.val → (Scalar.indexCast (Scalar.select (Scalar.cmpi .eq (Scalar.subi (BitVec.ofNat 32 a.val) 1#32) 0#32) (Scalar.addi (Scalar.muli 2#32 (BitVec.ofNat 32 a.val)) 1#32) (Scalar.subi (Scalar.muli 2#32 (Scalar.subi (BitVec.ofNat 32 a.val) 1#32)) 1#32))).toNat = (if a.val - 1 = 0 then 2 * a.val + 1 else 2 * (a.val - 1) - 1) := by decide +kernel
  exact mid4 64 (h (i 2) ha)
theorem off43 (i : grid0.Coords) (ha : 0 < (i 2).val) : k0_off43 i = ![0, (if (i 2).val - 1 = 0 then 2 * (i 2).val + 1 else 2 * ((i 2).val - 1) - 1), 128, 0] := by
  have h : ∀ a : Fin 8, 0 < a.val → (Scalar.indexCast (Scalar.select (Scalar.cmpi .eq (Scalar.subi (BitVec.ofNat 32 a.val) 1#32) 0#32) (Scalar.addi (Scalar.muli 2#32 (BitVec.ofNat 32 a.val)) 1#32) (Scalar.subi (Scalar.muli 2#32 (Scalar.subi (BitVec.ofNat 32 a.val) 1#32)) 1#32))).toNat = (if a.val - 1 = 0 then 2 * a.val + 1 else 2 * (a.val - 1) - 1) := by decide +kernel
  exact mid4 128 (h (i 2) ha)
theorem off44 (i : grid0.Coords) (ha : 0 < (i 2).val) : k0_off44 i = ![0, (if (i 2).val - 1 = 0 then 2 * (i 2).val + 1 else 2 * ((i 2).val - 1) - 1), 192, 0] := by
  have h : ∀ a : Fin 8, 0 < a.val → (Scalar.indexCast (Scalar.select (Scalar.cmpi .eq (Scalar.subi (BitVec.ofNat 32 a.val) 1#32) 0#32) (Scalar.addi (Scalar.muli 2#32 (BitVec.ofNat 32 a.val)) 1#32) (Scalar.subi (Scalar.muli 2#32 (Scalar.subi (BitVec.ofNat 32 a.val) 1#32)) 1#32))).toNat = (if a.val - 1 = 0 then 2 * a.val + 1 else 2 * (a.val - 1) - 1) := by decide +kernel
  exact mid4 192 (h (i 2) ha)
theorem off45 (i : grid0.Coords) (ha : 0 < (i 2).val) : k0_off45 i = ![0, 2 * ((i 2).val - 1), 0, 0] := by
  have h : ∀ a : Fin 8, 0 < a.val → (Scalar.indexCast (Scalar.muli 2#32 (Scalar.subi (BitVec.ofNat 32 a.val) 1#32))).toNat = 2 * (a.val - 1) := by decide +kernel
  exact mid4 0 (h (i 2) ha)
theorem off46 (i : grid0.Coords) (ha : 0 < (i 2).val) : k0_off46 i = ![0, 2 * ((i 2).val - 1), 64, 0] := by
  have h : ∀ a : Fin 8, 0 < a.val → (Scalar.indexCast (Scalar.muli 2#32 (Scalar.subi (BitVec.ofNat 32 a.val) 1#32))).toNat = 2 * (a.val - 1) := by decide +kernel
  exact mid4 64 (h (i 2) ha)
theorem off47 (i : grid0.Coords) (ha : 0 < (i 2).val) : k0_off47 i = ![0, 2 * ((i 2).val - 1), 128, 0] := by
  have h : ∀ a : Fin 8, 0 < a.val → (Scalar.indexCast (Scalar.muli 2#32 (Scalar.subi (BitVec.ofNat 32 a.val) 1#32))).toNat = 2 * (a.val - 1) := by decide +kernel
  exact mid4 128 (h (i 2) ha)
theorem off48 (i : grid0.Coords) (ha : 0 < (i 2).val) : k0_off48 i = ![0, 2 * ((i 2).val - 1), 192, 0] := by
  have h : ∀ a : Fin 8, 0 < a.val → (Scalar.indexCast (Scalar.muli 2#32 (Scalar.subi (BitVec.ofNat 32 a.val) 1#32))).toNat = 2 * (a.val - 1) := by decide +kernel
  exact mid4 192 (h (i 2) ha)
theorem off49 (i : grid0.Coords) : k0_off49 i = ![0, (if (i 2).val = 0 then 2 * (i 2).val + 1 else 2 * (i 2).val - 1), 0, 0] := by
  have h : ∀ a : Fin 8, (Scalar.indexCast (Scalar.select (Scalar.cmpi .eq (BitVec.ofNat 32 a.val) 0#32) (Scalar.addi (Scalar.muli 2#32 (BitVec.ofNat 32 a.val)) 1#32) (Scalar.subi (Scalar.muli 2#32 (BitVec.ofNat 32 a.val)) 1#32))).toNat = (if a.val = 0 then 2 * a.val + 1 else 2 * a.val - 1) := by decide +kernel
  exact mid4 0 (h (i 2))
theorem off50 (i : grid0.Coords) : k0_off50 i = ![0, (if (i 2).val = 0 then 2 * (i 2).val + 1 else 2 * (i 2).val - 1), 64, 0] := by
  have h : ∀ a : Fin 8, (Scalar.indexCast (Scalar.select (Scalar.cmpi .eq (BitVec.ofNat 32 a.val) 0#32) (Scalar.addi (Scalar.muli 2#32 (BitVec.ofNat 32 a.val)) 1#32) (Scalar.subi (Scalar.muli 2#32 (BitVec.ofNat 32 a.val)) 1#32))).toNat = (if a.val = 0 then 2 * a.val + 1 else 2 * a.val - 1) := by decide +kernel
  exact mid4 64 (h (i 2))
theorem off51 (i : grid0.Coords) : k0_off51 i = ![0, (if (i 2).val = 0 then 2 * (i 2).val + 1 else 2 * (i 2).val - 1), 128, 0] := by
  have h : ∀ a : Fin 8, (Scalar.indexCast (Scalar.select (Scalar.cmpi .eq (BitVec.ofNat 32 a.val) 0#32) (Scalar.addi (Scalar.muli 2#32 (BitVec.ofNat 32 a.val)) 1#32) (Scalar.subi (Scalar.muli 2#32 (BitVec.ofNat 32 a.val)) 1#32))).toNat = (if a.val = 0 then 2 * a.val + 1 else 2 * a.val - 1) := by decide +kernel
  exact mid4 128 (h (i 2))
theorem off52 (i : grid0.Coords) : k0_off52 i = ![0, (if (i 2).val = 0 then 2 * (i 2).val + 1 else 2 * (i 2).val - 1), 192, 0] := by
  have h : ∀ a : Fin 8, (Scalar.indexCast (Scalar.select (Scalar.cmpi .eq (BitVec.ofNat 32 a.val) 0#32) (Scalar.addi (Scalar.muli 2#32 (BitVec.ofNat 32 a.val)) 1#32) (Scalar.subi (Scalar.muli 2#32 (BitVec.ofNat 32 a.val)) 1#32))).toNat = (if a.val = 0 then 2 * a.val + 1 else 2 * a.val - 1) := by decide +kernel
  exact mid4 192 (h (i 2))

end Cert.KernelIdeal.Attn
-- ==== Proof.Heads.lean ====
/-
  What a buffer of four heads holds, head by head, and what loads of the key, query and value blocks read.
-/
module

public import proofs.«01_k».proof.Proof.Reads
public import proofs.«01_k».proof.Proof.State
public import proofs.«01_k».proof.Proof.Offsets

@[expose] public section

set_option maxRecDepth 16384

noncomputable section

namespace Cert.KernelIdeal.Attn

open Idealize.ShloMosaic Idealize.ShloMosaic.TcCoe Idealize.ShloMosaic.ValueIdx
open Cert.KernelIdeal Cert.KernelIdeal.Gen Cert.Reads

variable {F : FTy → Type} [FloatOps F]

theorem head_inb256 (h : Fin 4) : ∀ a, (![h.val, 0, 0] : Fin 3 → ℕ) a + S1x256x512.size a ≤ S4x256x512.size a := by
  fin_cases h <;> decide

/-- What head `h` of the buffer reads. -/
def head256 {e : EltTy} (b : Memref sig .tc .vmem S4x256x512 e) (f : b.view.ty.Contents (Elt F)) (h : Fin 4) : Vec F S1x256x512 e :=
  b.view.readAt (Elt F) (Rect.unit (s := S4x256x512) ![h.val, 0, 0] S1x256x512.size (head_inb256 h)).toLoadRect f

theorem head_inb1 (h : Fin 4) : ∀ a, (![h.val, 0, 0] : Fin 3 → ℕ) a + S1x1x512.size a ≤ S4x1x512.size a := by
  fin_cases h <;> decide

/-- What head `h` of the buffer reads. -/
def head1 {e : EltTy} (b : Memref sig .tc .vmem S4x1x512 e) (f : b.view.ty.Contents (Elt F)) (h : Fin 4) : Vec F S1x1x512 e :=
  b.view.readAt (Elt F) (Rect.unit (s := S4x1x512) ![h.val, 0, 0] S1x1x512.size (head_inb1 h)).toLoadRect f

theorem head_inb80 (h : Fin 4) : ∀ a, (![h.val, 0, 0] : Fin 3 → ℕ) a + S1x80x512.size a ≤ S4x80x512.size a := by
  fin_cases h <;> decide

/-- What head `h` of the buffer reads. -/
def head80 {e : EltTy} (b : Memref sig .tc .vmem S4x80x512 e) (f : b.view.ty.Contents (Elt F)) (h : Fin 4) : Vec F S1x80x512 e :=
  b.view.readAt (Elt F) (Rect.unit (s := S4x80x512) ![h.val, 0, 0] S1x80x512.size (head_inb80 h)).toLoadRect f

theorem head256_all {e : EltTy} {b : Memref sig .tc .vmem S4x256x512 e} {f : b.view.ty.Contents (Elt F)} {g : Fin 4 → Vec F S1x256x512 e}
    (h0 : b.view.readAt (Elt F) (Rect.unit (s := S4x256x512) ![0, 0, 0] S1x256x512.size inb_S4x256x512_S1x256x512_0_0_0).toLoadRect f = g 0)
    (h1 : b.view.readAt (Elt F) (Rect.unit (s := S4x256x512) ![1, 0, 0] S1x256x512.size inb_S4x256x512_S1x256x512_1_0_0).toLoadRect f = g 1)
    (h2 : b.view.readAt (Elt F) (Rect.unit (s := S4x256x512) ![2, 0, 0] S1x256x512.size inb_S4x256x512_S1x256x512_2_0_0).toLoadRect f = g 2)
    (h3 : b.view.readAt (Elt F) (Rect.unit (s := S4x256x512) ![3, 0, 0] S1x256x512.size inb_S4x256x512_S1x256x512_3_0_0).toLoadRect f = g 3)
    (h : Fin 4) : head256 b f h = g h := by
  fin_cases h
  · exact h0
  · exact h1
  · exact h2
  · exact h3

theorem head1_all {e : EltTy} {b : Memref sig .tc .vmem S4x1x512 e} {f : b.view.ty.Contents (Elt F)} {g : Fin 4 → Vec F S1x1x512 e}
    (h0 : b.view.readAt (Elt F) (Rect.unit (s := S4x1x512) ![0, 0, 0] S1x1x512.size inb_S4x1x512_S1x1x512_0_0_0).toLoadRect f = g 0)
    (h1 : b.view.readAt (Elt F) (Rect.unit (s := S4x1x512) ![1, 0, 0] S1x1x512.size inb_S4x1x512_S1x1x512_1_0_0).toLoadRect f = g 1)
    (h2 : b.view.readAt (Elt F) (Rect.unit (s := S4x1x512) ![2, 0, 0] S1x1x512.size inb_S4x1x512_S1x1x512_2_0_0).toLoadRect f = g 2)
    (h3 : b.view.readAt (Elt F) (Rect.unit (s := S4x1x512) ![3, 0, 0] S1x1x512.size inb_S4x1x512_S1x1x512_3_0_0).toLoadRect f = g 3)
    (h : Fin 4) : head1 b f h = g h := by
  fin_cases h
  · exact h0
  · exact h1
  · exact h2
  · exact h3

theorem head80_all {e : EltTy} {b : Memref sig .tc .vmem S4x80x512 e} {f : b.view.ty.Contents (Elt F)} {g : Fin 4 → Vec F S1x80x512 e}
    (h0 : b.view.readAt (Elt F) (Rect.unit (s := S4x80x512) ![0, 0, 0] S1x80x512.size inb_S4x80x512_S1x80x512_0_0_0).toLoadRect f = g 0)
    (h1 : b.view.readAt (Elt F) (Rect.unit (s := S4x80x512) ![1, 0, 0] S1x80x512.size inb_S4x80x512_S1x80x512_1_0_0).toLoadRect f = g 1)
    (h2 : b.view.readAt (Elt F) (Rect.unit (s := S4x80x512) ![2, 0, 0] S1x80x512.size inb_S4x80x512_S1x80x512_2_0_0).toLoadRect f = g 2)
    (h3 : b.view.readAt (Elt F) (Rect.unit (s := S4x80x512) ![3, 0, 0] S1x80x512.size inb_S4x80x512_S1x80x512_3_0_0).toLoadRect f = g 3)
    (h : Fin 4) : head80 b f h = g h := by
  fin_cases h
  · exact h0
  · exact h1
  · exact h2
  · exact h3

theorem ext_HS {A B : HS F} (h1 : A.s0 = B.s0) (h2 : A.cm0 = B.cm0) (h3 : A.p1 = B.p1) (h4 : A.al1 = B.al1)
    (h5 : A.m = B.m) (h6 : A.acc = B.acc) : A = B := by
  cases A; cases B; simp_all

/-- What the live buffers hold, head by head. -/
def headsOf (arg8 : Memref sig .tc .vmem S4x256x512 .f32) (arg13 : Memref sig .tc .vmem S4x1x512 .f32) (arg12 : Memref sig .tc .vmem S4x256x512 .bf16) (arg17 : Memref sig .tc .vmem S4x1x512 .f32) (arg18 : Memref sig .tc .vmem S4x1x512 .f32) (arg19 : Memref sig .tc .vmem S4x80x512 .f32)
    (f8 : arg8.view.ty.Contents (Elt F)) (f13 : arg13.view.ty.Contents (Elt F)) (f12 : arg12.view.ty.Contents (Elt F)) (f17 : arg17.view.ty.Contents (Elt F)) (f18 : arg18.view.ty.Contents (Elt F)) (f19 : arg19.view.ty.Contents (Elt F)) : Fin 4 → HS F := fun h =>
  { s0 := head256 arg8 f8 h
    cm0 := head1 arg13 f13 h
    p1 := head256 arg12 f12 h
    al1 := head1 arg17 f17 h
    m := head1 arg18 f18 h
    acc := head80 arg19 f19 h }

/-- The buffers hold `S` when every head of every one does. -/
theorem headsOf_eq {arg8 : Memref sig .tc .vmem S4x256x512 .f32} {arg13 : Memref sig .tc .vmem S4x1x512 .f32} {arg12 : Memref sig .tc .vmem S4x256x512 .bf16} {arg17 : Memref sig .tc .vmem S4x1x512 .f32} {arg18 : Memref sig .tc .vmem S4x1x512 .f32} {arg19 : Memref sig .tc .vmem S4x80x512 .f32}
    {f8 : arg8.view.ty.Contents (Elt F)} {f13 : arg13.view.ty.Contents (Elt F)} {f12 : arg12.view.ty.Contents (Elt F)} {f17 : arg17.view.ty.Contents (Elt F)} {f18 : arg18.view.ty.Contents (Elt F)} {f19 : arg19.view.ty.Contents (Elt F)} {S : Fin 4 → HS F}
    (a8_0 : arg8.view.readAt (Elt F) (Rect.unit (s := S4x256x512) ![0, 0, 0] S1x256x512.size inb_S4x256x512_S1x256x512_0_0_0).toLoadRect f8 = (S 0).s0)
    (a8_1 : arg8.view.readAt (Elt F) (Rect.unit (s := S4x256x512) ![1, 0, 0] S1x256x512.size inb_S4x256x512_S1x256x512_1_0_0).toLoadRect f8 = (S 1).s0)
    (a8_2 : arg8.view.readAt (Elt F) (Rect.unit (s := S4x256x512) ![2, 0, 0] S1x256x512.size inb_S4x256x512_S1x256x512_2_0_0).toLoadRect f8 = (S 2).s0)
    (a8_3 : arg8.view.readAt (Elt F) (Rect.unit (s := S4x256x512) ![3, 0, 0] S1x256x512.size inb_S4x256x512_S1x256x512_3_0_0).toLoadRect f8 = (S 3).s0)
    (a13_0 : arg13.view.readAt (Elt F) (Rect.unit (s := S4x1x512) ![0, 0, 0] S1x1x512.size inb_S4x1x512_S1x1x512_0_0_0).toLoadRect f13 = (S 0).cm0)
    (a13_1 : arg13.view.readAt (Elt F) (Rect.unit (s := S4x1x512) ![1, 0, 0] S1x1x512.size inb_S4x1x512_S1x1x512_1_0_0).toLoadRect f13 = (S 1).cm0)
    (a13_2 : arg13.view.readAt (Elt F) (Rect.unit (s := S4x1x512) ![2, 0, 0] S1x1x512.size inb_S4x1x512_S1x1x512_2_0_0).toLoadRect f13 = (S 2).cm0)
    (a13_3 : arg13.view.readAt (Elt F) (Rect.unit (s := S4x1x512) ![3, 0, 0] S1x1x512.size inb_S4x1x512_S1x1x512_3_0_0).toLoadRect f13 = (S 3).cm0)
    (a12_0 : arg12.view.readAt (Elt F) (Rect.unit (s := S4x256x512) ![0, 0, 0] S1x256x512.size inb_S4x256x512_S1x256x512_0_0_0).toLoadRect f12 = (S 0).p1)
    (a12_1 : arg12.view.readAt (Elt F) (Rect.unit (s := S4x256x512) ![1, 0, 0] S1x256x512.size inb_S4x256x512_S1x256x512_1_0_0).toLoadRect f12 = (S 1).p1)
    (a12_2 : arg12.view.readAt (Elt F) (Rect.unit (s := S4x256x512) ![2, 0, 0] S1x256x512.size inb_S4x256x512_S1x256x512_2_0_0).toLoadRect f12 = (S 2).p1)
    (a12_3 : arg12.view.readAt (Elt F) (Rect.unit (s := S4x256x512) ![3, 0, 0] S1x256x512.size inb_S4x256x512_S1x256x512_3_0_0).toLoadRect f12 = (S 3).p1)
    (a17_0 : arg17.view.readAt (Elt F) (Rect.unit (s := S4x1x512) ![0, 0, 0] S1x1x512.size inb_S4x1x512_S1x1x512_0_0_0).toLoadRect f17 = (S 0).al1)
    (a17_1 : arg17.view.readAt (Elt F) (Rect.unit (s := S4x1x512) ![1, 0, 0] S1x1x512.size inb_S4x1x512_S1x1x512_1_0_0).toLoadRect f17 = (S 1).al1)
    (a17_2 : arg17.view.readAt (Elt F) (Rect.unit (s := S4x1x512) ![2, 0, 0] S1x1x512.size inb_S4x1x512_S1x1x512_2_0_0).toLoadRect f17 = (S 2).al1)
    (a17_3 : arg17.view.readAt (Elt F) (Rect.unit (s := S4x1x512) ![3, 0, 0] S1x1x512.size inb_S4x1x512_S1x1x512_3_0_0).toLoadRect f17 = (S 3).al1)
    (a18_0 : arg18.view.readAt (Elt F) (Rect.unit (s := S4x1x512) ![0, 0, 0] S1x1x512.size inb_S4x1x512_S1x1x512_0_0_0).toLoadRect f18 = (S 0).m)
    (a18_1 : arg18.view.readAt (Elt F) (Rect.unit (s := S4x1x512) ![1, 0, 0] S1x1x512.size inb_S4x1x512_S1x1x512_1_0_0).toLoadRect f18 = (S 1).m)
    (a18_2 : arg18.view.readAt (Elt F) (Rect.unit (s := S4x1x512) ![2, 0, 0] S1x1x512.size inb_S4x1x512_S1x1x512_2_0_0).toLoadRect f18 = (S 2).m)
    (a18_3 : arg18.view.readAt (Elt F) (Rect.unit (s := S4x1x512) ![3, 0, 0] S1x1x512.size inb_S4x1x512_S1x1x512_3_0_0).toLoadRect f18 = (S 3).m)
    (a19_0 : arg19.view.readAt (Elt F) (Rect.unit (s := S4x80x512) ![0, 0, 0] S1x80x512.size inb_S4x80x512_S1x80x512_0_0_0).toLoadRect f19 = (S 0).acc)
    (a19_1 : arg19.view.readAt (Elt F) (Rect.unit (s := S4x80x512) ![1, 0, 0] S1x80x512.size inb_S4x80x512_S1x80x512_1_0_0).toLoadRect f19 = (S 1).acc)
    (a19_2 : arg19.view.readAt (Elt F) (Rect.unit (s := S4x80x512) ![2, 0, 0] S1x80x512.size inb_S4x80x512_S1x80x512_2_0_0).toLoadRect f19 = (S 2).acc)
    (a19_3 : arg19.view.readAt (Elt F) (Rect.unit (s := S4x80x512) ![3, 0, 0] S1x80x512.size inb_S4x80x512_S1x80x512_3_0_0).toLoadRect f19 = (S 3).acc) :
    headsOf arg8 arg13 arg12 arg17 arg18 arg19 f8 f13 f12 f17 f18 f19 = S := by
  funext h
  refine ext_HS ?_ ?_ ?_ ?_ ?_ ?_
  · show head256 arg8 f8 h = (S h).s0
    exact head256_all (g := fun h => (S h).s0) a8_0 a8_1 a8_2 a8_3 h
  · show head1 arg13 f13 h = (S h).cm0
    exact head1_all (g := fun h => (S h).cm0) a13_0 a13_1 a13_2 a13_3 h
  · show head256 arg12 f12 h = (S h).p1
    exact head256_all (g := fun h => (S h).p1) a12_0 a12_1 a12_2 a12_3 h
  · show head1 arg17 f17 h = (S h).al1
    exact head1_all (g := fun h => (S h).al1) a17_0 a17_1 a17_2 a17_3 h
  · show head1 arg18 f18 h = (S h).m
    exact head1_all (g := fun h => (S h).m) a18_0 a18_1 a18_2 a18_3 h
  · show head80 arg19 f19 h = (S h).acc
    exact head80_all (g := fun h => (S h).acc) a19_0 a19_1 a19_2 a19_3 h

/-- A load of key block `j` of head `h`. -/
theorem read_kblk (b : Memref sig .tc .vmem S1x4096x512 .bf16) (f : b.view.ty.Contents (Elt F)) (j : ℕ) (h : Fin 4) {off : Fin S1x4096x512.rank → ℕ}
    (ho : off = ![0, 256 * j, 128 * h.val]) (hj : j < 16) (inb : ∀ a, off a + S1x256x128.size a ≤ S1x4096x512.size a) :
    b.view.readAt (Elt F) (Rect.unit (s := S1x4096x512) off S1x256x128.size inb).toLoadRect f = kblk (b.view.read (Elt F) f) j h := by
  subst ho
  refine load_eq b.view f inb (fun y => ix3 (0 : Fin 1) (⟨(256 * j + (y 1).val) % 4096, Nat.mod_lt _ (by decide)⟩ : Fin 4096)
    (⟨(128 * h.val + (y 2).val) % 512, Nat.mod_lt _ (by decide)⟩ : Fin 512)) fun y a => ?_
  have h0 : (y 0).val < 1 := (y 0).isLt
  have h1 : (y 1).val < 256 := (y 1).isLt
  have h2 : (y 2).val < 128 := (y 2).isLt
  have h3 := h.isLt
  match a with
  | ⟨0, _⟩ => show 0 = 0 + (y 0).val; omega
  | ⟨1, _⟩ => show (256 * j + (y 1).val) % 4096 = 256 * j + (y 1).val; omega
  | ⟨2, _⟩ => show (128 * h.val + (y 2).val) % 512 = 128 * h.val + (y 2).val; omega

/-- A load of the queries of head `h`. -/
theorem read_qblk (b : Memref sig .tc .vmem S1x512x512 .bf16) (f : b.view.ty.Contents (Elt F)) (h : Fin 4) {off : Fin S1x512x512.rank → ℕ}
    (ho : off = ![0, 0, 128 * h.val])  (inb : ∀ a, off a + S1x512x128.size a ≤ S1x512x512.size a) :
    b.view.readAt (Elt F) (Rect.unit (s := S1x512x512) off S1x512x128.size inb).toLoadRect f = qblk (b.view.read (Elt F) f) h := by
  subst ho
  refine load_eq b.view f inb (fun y => ix3 (0 : Fin 1) (⟨(y 1).val % 512, Nat.mod_lt _ (by decide)⟩ : Fin 512)
    (⟨(128 * h.val + (y 2).val) % 512, Nat.mod_lt _ (by decide)⟩ : Fin 512)) fun y a => ?_
  have h0 : (y 0).val < 1 := (y 0).isLt
  have h1 : (y 1).val < 512 := (y 1).isLt
  have h2 : (y 2).val < 128 := (y 2).isLt
  have h3 := h.isLt
  match a with
  | ⟨0, _⟩ => show 0 = 0 + (y 0).val; omega
  | ⟨1, _⟩ => show (y 1).val % 512 = 0 + (y 1).val; omega
  | ⟨2, _⟩ => show (128 * h.val + (y 2).val) % 512 = 128 * h.val + (y 2).val; omega

/-- A load of the second half of the queries of head `h`. -/
theorem read_qhalf (b : Memref sig .tc .vmem S1x512x512 .bf16) (f : b.view.ty.Contents (Elt F)) (h : Fin 4) {off : Fin S1x512x512.rank → ℕ}
    (ho : off = ![0, 256, 128 * h.val])  (inb : ∀ a, off a + S1x256x128.size a ≤ S1x512x512.size a) :
    b.view.readAt (Elt F) (Rect.unit (s := S1x512x512) off S1x256x128.size inb).toLoadRect f = qhalf (b.view.read (Elt F) f) h := by
  subst ho
  refine load_eq b.view f inb (fun y => ix3 (0 : Fin 1) (⟨(256 + (y 1).val) % 512, Nat.mod_lt _ (by decide)⟩ : Fin 512)
    (⟨(128 * h.val + (y 2).val) % 512, Nat.mod_lt _ (by decide)⟩ : Fin 512)) fun y a => ?_
  have h0 : (y 0).val < 1 := (y 0).isLt
  have h1 : (y 1).val < 256 := (y 1).isLt
  have h2 : (y 2).val < 128 := (y 2).isLt
  have h3 := h.isLt
  match a with
  | ⟨0, _⟩ => show 0 = 0 + (y 0).val; omega
  | ⟨1, _⟩ => show (256 + (y 1).val) % 512 = 256 + (y 1).val; omega
  | ⟨2, _⟩ => show (128 * h.val + (y 2).val) % 512 = 128 * h.val + (y 2).val; omega

/-- A load of the values of block `j`, head `h`. -/
theorem read_vblk (b : Memref sig .tc .vmem S1x16x256x256 .bf16) (f : b.view.ty.Contents (Elt F)) (j : ℕ) (h : Fin 4) {off : Fin S1x16x256x256.rank → ℕ}
    (ho : off = ![0, j, 64 * h.val, 0]) (hj : j < 16) (inb : ∀ a, off a + S1x1x64x256.size a ≤ S1x16x256x256.size a) :
    b.view.readAt (Elt F) (Rect.unit (s := S1x16x256x256) off S1x1x64x256.size inb).toLoadRect f = vblk (b.view.read (Elt F) f) j h := by
  subst ho
  refine load_eq b.view f inb (fun y => ix4 (0 : Fin 1) (⟨j % 16, Nat.mod_lt _ (by decide)⟩ : Fin 16)
    (⟨(64 * h.val + (y 2).val) % 256, Nat.mod_lt _ (by decide)⟩ : Fin 256)
    (⟨(y 3).val % 256, Nat.mod_lt _ (by decide)⟩ : Fin 256)) fun y a => ?_
  have h0 : (y 0).val < 1 := (y 0).isLt
  have h1 : (y 1).val < 1 := (y 1).isLt
  have h2 : (y 2).val < 64 := (y 2).isLt
  have h3 : (y 3).val < 256 := (y 3).isLt
  have h4 := h.isLt
  match a with
  | ⟨0, _⟩ => show 0 = 0 + (y 0).val; omega
  | ⟨1, _⟩ => show j % 16 = j + (y 1).val; omega
  | ⟨2, _⟩ => show (64 * h.val + (y 2).val) % 256 = 64 * h.val + (y 2).val; omega
  | ⟨3, _⟩ => show (y 3).val % 256 = 0 + (y 3).val; omega

/-- A head's 512 columns are its two halves. -/
theorem join256 {e : EltTy} (b : Memref sig .tc .vmem S4x256x512 e) (f : b.view.ty.Contents (Elt F)) {h : ℕ}
    (inb : ∀ a, (![h, 0, 0] : Fin 3 → ℕ) a + S1x256x512.size a ≤ S4x256x512.size a)
    (inl : ∀ a, (![h, 0, 0] : Fin 3 → ℕ) a + S1x256x256.size a ≤ S4x256x512.size a)
    (inr : ∀ a, (![h, 0, 256] : Fin 3 → ℕ) a + S1x256x256.size a ≤ S4x256x512.size a) :
    b.view.readAt (Elt F) (Rect.unit (s := S4x256x512) ![h, 0, 0] S1x256x512.size inb).toLoadRect f
      = halves (n := 256) (b.view.readAt (Elt F) (Rect.unit (s := S4x256x512) ![h, 0, 0] S1x256x256.size inl).toLoadRect f)
          (b.view.readAt (Elt F) (Rect.unit (s := S4x256x512) ![h, 0, 256] S1x256x256.size inr).toLoadRect f) := by
  funext y
  have h0 : (y 0).val < 1 := (y 0).isLt
  have h2 : (y 2).val < 512 := (y 2).isLt
  unfold halves
  split
  · refine congrArg (b.view.read (Elt F) f) (funext fun a => Fin.ext ?_)
    match a with
    | ⟨0, _⟩ => show h + 1 * (y 0).val = h + 1 * 0; omega
    | ⟨1, _⟩ => rfl
    | ⟨2, _⟩ => rfl
  · refine congrArg (b.view.read (Elt F) f) (funext fun a => Fin.ext ?_)
    match a with
    | ⟨0, _⟩ => show h + 1 * (y 0).val = h + 1 * 0; omega
    | ⟨1, _⟩ => rfl
    | ⟨2, _⟩ => show 0 + 1 * (y 2).val = 256 + 1 * ((y 2).val - 256); omega

/-- A head's 512 columns are its two halves. -/
theorem join1 {e : EltTy} (b : Memref sig .tc .vmem S4x1x512 e) (f : b.view.ty.Contents (Elt F)) {h : ℕ}
    (inb : ∀ a, (![h, 0, 0] : Fin 3 → ℕ) a + S1x1x512.size a ≤ S4x1x512.size a)
    (inl : ∀ a, (![h, 0, 0] : Fin 3 → ℕ) a + S1x1x256.size a ≤ S4x1x512.size a)
    (inr : ∀ a, (![h, 0, 256] : Fin 3 → ℕ) a + S1x1x256.size a ≤ S4x1x512.size a) :
    b.view.readAt (Elt F) (Rect.unit (s := S4x1x512) ![h, 0, 0] S1x1x512.size inb).toLoadRect f
      = halves (n := 1) (b.view.readAt (Elt F) (Rect.unit (s := S4x1x512) ![h, 0, 0] S1x1x256.size inl).toLoadRect f)
          (b.view.readAt (Elt F) (Rect.unit (s := S4x1x512) ![h, 0, 256] S1x1x256.size inr).toLoadRect f) := by
  funext y
  have h0 : (y 0).val < 1 := (y 0).isLt
  have h2 : (y 2).val < 512 := (y 2).isLt
  unfold halves
  split
  · refine congrArg (b.view.read (Elt F) f) (funext fun a => Fin.ext ?_)
    match a with
    | ⟨0, _⟩ => show h + 1 * (y 0).val = h + 1 * 0; omega
    | ⟨1, _⟩ => rfl
    | ⟨2, _⟩ => rfl
  · refine congrArg (b.view.read (Elt F) f) (funext fun a => Fin.ext ?_)
    match a with
    | ⟨0, _⟩ => show h + 1 * (y 0).val = h + 1 * 0; omega
    | ⟨1, _⟩ => rfl
    | ⟨2, _⟩ => show 0 + 1 * (y 2).val = 256 + 1 * ((y 2).val - 256); omega

/-- A load of half of a row stored whole. -/
theorem lower_hit (b : Memref sig .tc .vmem S4x1x512 .f32) (f : b.view.ty.Contents (Elt F)) {h : ℕ}
    (inb : ∀ a, (![h, 0, 0] : Fin 3 → ℕ) a + S1x1x256.size a ≤ S4x1x512.size a)
    (inb' : ∀ a, (![h, 0, 0] : Fin 3 → ℕ) a + S1x1x512.size a ≤ S4x1x512.size a)
    (w : Vec F S1x1x512 .f32) (L : List (View.Piece (Elt F) S4x1x512 .f32)) :
    b.view.readAt (Elt F) (Rect.unit (s := S4x1x512) ![h, 0, 0] (![1, 1, 256] : Fin 3 → ℕ) inb).toLoadRect
      (b.view.writes (Elt F) f ((⟨Rect.unit (s := S4x1x512) ![h, 0, 0] (![1, 1, 512] : Fin 3 → ℕ) inb', w⟩ : View.Piece (Elt F) S4x1x512 .f32) :: L))
      = lower w := by
  refine load_part b.view f inb inb' w L (fun y => ix3 (0 : Fin 1) (0 : Fin 1) (⟨((y 2).val) % 512, Nat.mod_lt _ (by decide)⟩ : Fin 512)) fun y a => ?_
  have h0 : (y 0).val < 1 := (y 0).isLt
  have h1 : (y 1).val < 1 := (y 1).isLt
  have h2 : (y 2).val < 256 := (y 2).isLt
  match a with
  | ⟨0, _⟩ => show h + (y 0).val = h + 0; omega
  | ⟨1, _⟩ => show 0 + (y 1).val = 0 + 0; omega
  | ⟨2, _⟩ => show 0 + (y 2).val = 0 + ((y 2).val) % 512; omega

theorem lower_cov (b : Memref sig .tc .vmem S4x1x512 .f32) {h : ℕ}
    (inb : ∀ a, (![h, 0, 0] : Fin 3 → ℕ) a + S1x1x256.size a ≤ S4x1x512.size a)
    (inb' : ∀ a, (![h, 0, 0] : Fin 3 → ℕ) a + S1x1x512.size a ≤ S4x1x512.size a)
    (w : Vec F S1x1x512 .f32) (L : List (View.Piece (Elt F) S4x1x512 .f32)) :
    b.view.readCov ((⟨Rect.unit (s := S4x1x512) ![h, 0, 0] (![1, 1, 512] : Fin 3 → ℕ) inb', w⟩ : View.Piece (Elt F) S4x1x512 .f32) :: L)
      (Rect.unit (s := S4x1x512) ![h, 0, 0] (![1, 1, 256] : Fin 3 → ℕ) inb).toLoadRect = lower w :=
  lower_hit b b.view.junk inb inb' w L

/-- A load of half of a row stored whole. -/
theorem upper_hit (b : Memref sig .tc .vmem S4x1x512 .f32) (f : b.view.ty.Contents (Elt F)) {h : ℕ}
    (inb : ∀ a, (![h, 0, 256] : Fin 3 → ℕ) a + S1x1x256.size a ≤ S4x1x512.size a)
    (inb' : ∀ a, (![h, 0, 0] : Fin 3 → ℕ) a + S1x1x512.size a ≤ S4x1x512.size a)
    (w : Vec F S1x1x512 .f32) (L : List (View.Piece (Elt F) S4x1x512 .f32)) :
    b.view.readAt (Elt F) (Rect.unit (s := S4x1x512) ![h, 0, 256] (![1, 1, 256] : Fin 3 → ℕ) inb).toLoadRect
      (b.view.writes (Elt F) f ((⟨Rect.unit (s := S4x1x512) ![h, 0, 0] (![1, 1, 512] : Fin 3 → ℕ) inb', w⟩ : View.Piece (Elt F) S4x1x512 .f32) :: L))
      = upper w := by
  refine load_part b.view f inb inb' w L (fun y => ix3 (0 : Fin 1) (0 : Fin 1) (⟨(256 + (y 2).val) % 512, Nat.mod_lt _ (by decide)⟩ : Fin 512)) fun y a => ?_
  have h0 : (y 0).val < 1 := (y 0).isLt
  have h1 : (y 1).val < 1 := (y 1).isLt
  have h2 : (y 2).val < 256 := (y 2).isLt
  match a with
  | ⟨0, _⟩ => show h + (y 0).val = h + 0; omega
  | ⟨1, _⟩ => show 0 + (y 1).val = 0 + 0; omega
  | ⟨2, _⟩ => show 256 + (y 2).val = 0 + (256 + (y 2).val) % 512; omega

theorem upper_cov (b : Memref sig .tc .vmem S4x1x512 .f32) {h : ℕ}
    (inb : ∀ a, (![h, 0, 256] : Fin 3 → ℕ) a + S1x1x256.size a ≤ S4x1x512.size a)
    (inb' : ∀ a, (![h, 0, 0] : Fin 3 → ℕ) a + S1x1x512.size a ≤ S4x1x512.size a)
    (w : Vec F S1x1x512 .f32) (L : List (View.Piece (Elt F) S4x1x512 .f32)) :
    b.view.readCov ((⟨Rect.unit (s := S4x1x512) ![h, 0, 0] (![1, 1, 512] : Fin 3 → ℕ) inb', w⟩ : View.Piece (Elt F) S4x1x512 .f32) :: L)
      (Rect.unit (s := S4x1x512) ![h, 0, 256] (![1, 1, 256] : Fin 3 → ℕ) inb).toLoadRect = upper w :=
  upper_hit b b.view.junk inb inb' w L

/-- A head's load of a buffer filled with one value. -/
theorem floorRow_cov (b : Memref sig .tc .vmem S4x1x512 .f32) {h : ℕ}
    (inb : ∀ a, (![h, 0, 0] : Fin 3 → ℕ) a + S1x1x512.size a ≤ S4x1x512.size a)
    (inb' : ∀ a, (![0, 0, 0] : Fin 3 → ℕ) a + S4x1x512.size a ≤ S4x1x512.size a)
    (L : List (View.Piece (Elt F) S4x1x512 .f32)) :
    b.view.readCov ((⟨Rect.unit (s := S4x1x512) ![0, 0, 0] (![4, 1, 512] : Fin 3 → ℕ) inb', k0_pay235 (F := F)⟩ : View.Piece (Elt F) S4x1x512 .f32) :: L)
      (Rect.unit (s := S4x1x512) ![h, 0, 0] (![1, 1, 512] : Fin 3 → ℕ) inb).toLoadRect = floorRow := by
  have hh : h + 1 ≤ 4 := inb 0
  refine load_part b.view b.view.junk inb inb' _ L (fun y => ix3 (⟨(h + (y 0).val) % 4, Nat.mod_lt _ (by decide)⟩ : Fin 4) (⟨(y 1).val % 1, Nat.mod_lt _ (by decide)⟩ : Fin 1) (⟨(y 2).val % 512, Nat.mod_lt _ (by decide)⟩ : Fin 512)) fun y a => ?_
  have h0 : (y 0).val < 1 := (y 0).isLt
  have h1 : (y 1).val < 1 := (y 1).isLt
  have h2 : (y 2).val < 512 := (y 2).isLt
  match a with
  | ⟨0, _⟩ => show h + (y 0).val = 0 + (h + (y 0).val) % 4; omega
  | ⟨1, _⟩ => show 0 + (y 1).val = 0 + (y 1).val % 1; omega
  | ⟨2, _⟩ => show 0 + (y 2).val = 0 + (y 2).val % 512; omega

/-- A head's load of a buffer filled with one value. -/
theorem noSums_cov (b : Memref sig .tc .vmem S4x80x512 .f32) {h : ℕ}
    (inb : ∀ a, (![h, 0, 0] : Fin 3 → ℕ) a + S1x80x512.size a ≤ S4x80x512.size a)
    (inb' : ∀ a, (![0, 0, 0] : Fin 3 → ℕ) a + S4x80x512.size a ≤ S4x80x512.size a)
    (L : List (View.Piece (Elt F) S4x80x512 .f32)) :
    b.view.readCov ((⟨Rect.unit (s := S4x80x512) ![0, 0, 0] (![4, 80, 512] : Fin 3 → ℕ) inb', k0_pay236 (F := F)⟩ : View.Piece (Elt F) S4x80x512 .f32) :: L)
      (Rect.unit (s := S4x80x512) ![h, 0, 0] (![1, 80, 512] : Fin 3 → ℕ) inb).toLoadRect = noSums := by
  have hh : h + 1 ≤ 4 := inb 0
  refine load_part b.view b.view.junk inb inb' _ L (fun y => ix3 (⟨(h + (y 0).val) % 4, Nat.mod_lt _ (by decide)⟩ : Fin 4) (⟨(y 1).val % 80, Nat.mod_lt _ (by decide)⟩ : Fin 80) (⟨(y 2).val % 512, Nat.mod_lt _ (by decide)⟩ : Fin 512)) fun y a => ?_
  have h0 : (y 0).val < 1 := (y 0).isLt
  have h1 : (y 1).val < 80 := (y 1).isLt
  have h2 : (y 2).val < 512 := (y 2).isLt
  match a with
  | ⟨0, _⟩ => show h + (y 0).val = 0 + (h + (y 0).val) % 4; omega
  | ⟨1, _⟩ => show 0 + (y 1).val = 0 + (y 1).val % 80; omega
  | ⟨2, _⟩ => show 0 + (y 2).val = 0 + (y 2).val % 512; omega

/-- A load of a whole buffer reads its contents. -/
theorem whole_load {s : Shape} {e : EltTy} (b : Memref sig .tc .vmem s e) (f : b.view.ty.Contents (Elt F)) {off : Fin s.rank → ℕ} (ho : ∀ a, off a = 0)
    (inb : ∀ a, off a + s.size a ≤ s.size a) :
    b.view.readAt (Elt F) (Rect.unit (s := s) off s.size inb).toLoadRect f = b.view.read (Elt F) f :=
  load_eq b.view f inb (fun y => y) fun y a => by rw [ho a, Nat.zero_add]

/-- The lagging block is one of the sixteen. -/
theorem lag_lt {a k : ℕ} (ha : a < 8) (hk : k < 8) : lag a k < 16 := by unfold lag; split <;> omega

end Cert.KernelIdeal.Attn
-- ==== Proof.Trip.lean ====
/-
  One trip of the main loop: from the state of four heads before trip `k` to the state before trip `k + 1`.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Heads
public import Idealize.ShloMosaic.Lib.LoopRemainder
public import Idealize.ShloMosaic.Lib.Tactic
public import Idealize.ShloMosaic.Lib.Tactic.Stretches

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Reads

variable {F : FTy → Type} [FloatOps F]

local notation "𝕄" => MT nD τ sig Unit (Elt F) ℕ (UR sig nD τ) ℕ

/-- What the scratch buffers of the four heads hold: the live ones the state `S`, the others anything. -/
def Carry (c : Dev nD) (arg8 : Memref sig .tc .vmem S4x256x512 .f32) (arg9 : Memref sig .tc .vmem S4x256x512 .f32) (arg10 : Memref sig .tc .vmem S4x256x512 .f32) (arg11 : Memref sig .tc .vmem S4x256x512 .bf16) (arg12 : Memref sig .tc .vmem S4x256x512 .bf16) (arg13 : Memref sig .tc .vmem S4x1x512 .f32) (arg14 : Memref sig .tc .vmem S4x1x512 .f32) (arg15 : Memref sig .tc .vmem S4x1x512 .f32) (arg16 : Memref sig .tc .vmem S4x1x512 .f32) (arg17 : Memref sig .tc .vmem S4x1x512 .f32) (arg18 : Memref sig .tc .vmem S4x1x512 .f32) (arg19 : Memref sig .tc .vmem S4x80x512 .f32) (S : Fin 4 → HS F) : sProp 𝕄 :=
  iprop(∃ f8 : Buf (Elt F) (arg8.view.loc (c : Thread nD τ)), ∃ f9 : Buf (Elt F) (arg9.view.loc (c : Thread nD τ)), ∃ f10 : Buf (Elt F) (arg10.view.loc (c : Thread nD τ)), ∃ f11 : Buf (Elt F) (arg11.view.loc (c : Thread nD τ)), ∃ f12 : Buf (Elt F) (arg12.view.loc (c : Thread nD τ)), ∃ f13 : Buf (Elt F) (arg13.view.loc (c : Thread nD τ)), ∃ f14 : Buf (Elt F) (arg14.view.loc (c : Thread nD τ)), ∃ f15 : Buf (Elt F) (arg15.view.loc (c : Thread nD τ)), ∃ f16 : Buf (Elt F) (arg16.view.loc (c : Thread nD τ)), ∃ f17 : Buf (Elt F) (arg17.view.loc (c : Thread nD τ)), ∃ f18 : Buf (Elt F) (arg18.view.loc (c : Thread nD τ)), ∃ f19 : Buf (Elt F) (arg19.view.loc (c : Thread nD τ)),
    (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗
    ⌜headsOf arg8 arg13 arg12 arg17 arg18 arg19 f8 f13 f12 f17 f18 f19 = S⌝)

/-- A buffer holds something. -/
theorem hold {s : Shape} {e : EltTy} (c : Dev nD) (b : Memref sig .tc .vmem s e) (f : Buf (Elt F) (b.view.loc (c : Thread nD τ))) :
    (iprop(b.view.loc (c : Thread nD τ) ↦[b.view.set]{fullShare} f) : sProp 𝕄) ⊢
      iprop(∃ d f, ⌜b.view.read (Elt F) f = d⌝ ∗ (b.view.loc (c : Thread nD τ) ↦[b.view.set]{fullShare} f)) := by
  iintro H
  iexists (b.view.read (Elt F) f), f
  isplitr
  · ipureintro; rfl
  · iexact H

set_option maxHeartbeats 4000000 in
theorem trip_step (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x16x256x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x256x512 .f32) (harg10 : arg10.IsWhole) (arg11 : Memref sig .tc .vmem S4x256x512 .bf16) (harg11 : arg11.IsWhole) (arg12 : Memref sig .tc .vmem S4x256x512 .bf16) (harg12 : arg12.IsWhole) (arg13 : Memref sig .tc .vmem S4x1x512 .f32) (harg13 : arg13.IsWhole) (arg14 : Memref sig .tc .vmem S4x1x512 .f32) (harg14 : arg14.IsWhole) (arg15 : Memref sig .tc .vmem S4x1x512 .f32) (harg15 : arg15.IsWhole) (arg16 : Memref sig .tc .vmem S4x1x512 .f32) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x80x512 .f32) (harg19 : arg19.IsWhole)
    (arg2 v0 : BitVec 32) (v3 : FVec F S16x256 .bf16) (v483 : FVec F S80x256 .bf16) (v489 : FVec F S80x512 .f32) (v491 : FVec F S256x512 .bf16)
    (k : Fin (k0_t1_loop i).trips) (f3 : Buf (Elt F) (arg3.view.loc (c : Thread nD τ))) (f4 : Buf (Elt F) (arg4.view.loc (c : Thread nD τ))) (f5 : Buf (Elt F) (arg5.view.loc (c : Thread nD τ))) (S : Fin 4 → HS F) :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ Carry c arg8 arg9 arg10 arg11 arg12 arg13 arg14 arg15 arg16 arg17 arg18 arg19 (steps (arg3.view.read (Elt F) f3) (arg4.view.read (Elt F) f4) (arg5.view.read (Elt F) f5) v3 (i 2).val S k.val)) : sProp 𝕄) ⊢
      wp frame (wpE defs₀ Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v0 v3 v483 v489 v491 k ())
        (fun _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ Carry c arg8 arg9 arg10 arg11 arg12 arg13 arg14 arg15 arg16 arg17 arg18 arg19 (steps (arg3.view.read (Elt F) f3) (arg4.view.read (Elt F) f4) (arg5.view.read (Elt F) f5) v3 (i 2).val S (k.val + 1)))) := by
  unfold Gen.k0_t1_body Carry
  iintro ⟨H3, H4, H5, %f8, %f9, %f10, %f11, %f12, %f13, %f14, %f15, %f16, %f17, %f18, %f19, H8, H9, H10, H11, H12, H13, H14, H15, H16, H17, H18, H19, %hS⟩
  have a8_0 : arg8.view.readAt (Elt F) (Rect.unit (s := S4x256x512) ![0, 0, 0] S1x256x512.size inb_S4x256x512_S1x256x512_0_0_0).toLoadRect f8 = (steps (arg3.view.read (Elt F) f3) (arg4.view.read (Elt F) f4) (arg5.view.read (Elt F) f5) v3 (i 2).val S k.val 0).s0 := congrArg HS.s0 (congrFun hS 0)
  have a8_1 : arg8.view.readAt (Elt F) (Rect.unit (s := S4x256x512) ![1, 0, 0] S1x256x512.size inb_S4x256x512_S1x256x512_1_0_0).toLoadRect f8 = (steps (arg3.view.read (Elt F) f3) (arg4.view.read (Elt F) f4) (arg5.view.read (Elt F) f5) v3 (i 2).val S k.val 1).s0 := congrArg HS.s0 (congrFun hS 1)
  have a8_2 : arg8.view.readAt (Elt F) (Rect.unit (s := S4x256x512) ![2, 0, 0] S1x256x512.size inb_S4x256x512_S1x256x512_2_0_0).toLoadRect f8 = (steps (arg3.view.read (Elt F) f3) (arg4.view.read (Elt F) f4) (arg5.view.read (Elt F) f5) v3 (i 2).val S k.val 2).s0 := congrArg HS.s0 (congrFun hS 2)
  have a8_3 : arg8.view.readAt (Elt F) (Rect.unit (s := S4x256x512) ![3, 0, 0] S1x256x512.size inb_S4x256x512_S1x256x512_3_0_0).toLoadRect f8 = (steps (arg3.view.read (Elt F) f3) (arg4.view.read (Elt F) f4) (arg5.view.read (Elt F) f5) v3 (i 2).val S k.val 3).s0 := congrArg HS.s0 (congrFun hS 3)
  have a13_0 : arg13.view.readAt (Elt F) (Rect.unit (s := S4x1x512) ![0, 0, 0] S1x1x512.size inb_S4x1x512_S1x1x512_0_0_0).toLoadRect f13 = (steps (arg3.view.read (Elt F) f3) (arg4.view.read (Elt F) f4) (arg5.view.read (Elt F) f5) v3 (i 2).val S k.val 0).cm0 := congrArg HS.cm0 (congrFun hS 0)
  have a13_1 : arg13.view.readAt (Elt F) (Rect.unit (s := S4x1x512) ![1, 0, 0] S1x1x512.size inb_S4x1x512_S1x1x512_1_0_0).toLoadRect f13 = (steps (arg3.view.read (Elt F) f3) (arg4.view.read (Elt F) f4) (arg5.view.read (Elt F) f5) v3 (i 2).val S k.val 1).cm0 := congrArg HS.cm0 (congrFun hS 1)
  have a13_2 : arg13.view.readAt (Elt F) (Rect.unit (s := S4x1x512) ![2, 0, 0] S1x1x512.size inb_S4x1x512_S1x1x512_2_0_0).toLoadRect f13 = (steps (arg3.view.read (Elt F) f3) (arg4.view.read (Elt F) f4) (arg5.view.read (Elt F) f5) v3 (i 2).val S k.val 2).cm0 := congrArg HS.cm0 (congrFun hS 2)
  have a13_3 : arg13.view.readAt (Elt F) (Rect.unit (s := S4x1x512) ![3, 0, 0] S1x1x512.size inb_S4x1x512_S1x1x512_3_0_0).toLoadRect f13 = (steps (arg3.view.read (Elt F) f3) (arg4.view.read (Elt F) f4) (arg5.view.read (Elt F) f5) v3 (i 2).val S k.val 3).cm0 := congrArg HS.cm0 (congrFun hS 3)
  have a12_0 : arg12.view.readAt (Elt F) (Rect.unit (s := S4x256x512) ![0, 0, 0] S1x256x512.size inb_S4x256x512_S1x256x512_0_0_0).toLoadRect f12 = (steps (arg3.view.read (Elt F) f3) (arg4.view.read (Elt F) f4) (arg5.view.read (Elt F) f5) v3 (i 2).val S k.val 0).p1 := congrArg HS.p1 (congrFun hS 0)
  have a12_1 : arg12.view.readAt (Elt F) (Rect.unit (s := S4x256x512) ![1, 0, 0] S1x256x512.size inb_S4x256x512_S1x256x512_1_0_0).toLoadRect f12 = (steps (arg3.view.read (Elt F) f3) (arg4.view.read (Elt F) f4) (arg5.view.read (Elt F) f5) v3 (i 2).val S k.val 1).p1 := congrArg HS.p1 (congrFun hS 1)
  have a12_2 : arg12.view.readAt (Elt F) (Rect.unit (s := S4x256x512) ![2, 0, 0] S1x256x512.size inb_S4x256x512_S1x256x512_2_0_0).toLoadRect f12 = (steps (arg3.view.read (Elt F) f3) (arg4.view.read (Elt F) f4) (arg5.view.read (Elt F) f5) v3 (i 2).val S k.val 2).p1 := congrArg HS.p1 (congrFun hS 2)
  have a12_3 : arg12.view.readAt (Elt F) (Rect.unit (s := S4x256x512) ![3, 0, 0] S1x256x512.size inb_S4x256x512_S1x256x512_3_0_0).toLoadRect f12 = (steps (arg3.view.read (Elt F) f3) (arg4.view.read (Elt F) f4) (arg5.view.read (Elt F) f5) v3 (i 2).val S k.val 3).p1 := congrArg HS.p1 (congrFun hS 3)
  have a17_0 : arg17.view.readAt (Elt F) (Rect.unit (s := S4x1x512) ![0, 0, 0] S1x1x512.size inb_S4x1x512_S1x1x512_0_0_0).toLoadRect f17 = (steps (arg3.view.read (Elt F) f3) (arg4.view.read (Elt F) f4) (arg5.view.read (Elt F) f5) v3 (i 2).val S k.val 0).al1 := congrArg HS.al1 (congrFun hS 0)
  have a17_1 : arg17.view.readAt (Elt F) (Rect.unit (s := S4x1x512) ![1, 0, 0] S1x1x512.size inb_S4x1x512_S1x1x512_1_0_0).toLoadRect f17 = (steps (arg3.view.read (Elt F) f3) (arg4.view.read (Elt F) f4) (arg5.view.read (Elt F) f5) v3 (i 2).val S k.val 1).al1 := congrArg HS.al1 (congrFun hS 1)
  have a17_2 : arg17.view.readAt (Elt F) (Rect.unit (s := S4x1x512) ![2, 0, 0] S1x1x512.size inb_S4x1x512_S1x1x512_2_0_0).toLoadRect f17 = (steps (arg3.view.read (Elt F) f3) (arg4.view.read (Elt F) f4) (arg5.view.read (Elt F) f5) v3 (i 2).val S k.val 2).al1 := congrArg HS.al1 (congrFun hS 2)
  have a17_3 : arg17.view.readAt (Elt F) (Rect.unit (s := S4x1x512) ![3, 0, 0] S1x1x512.size inb_S4x1x512_S1x1x512_3_0_0).toLoadRect f17 = (steps (arg3.view.read (Elt F) f3) (arg4.view.read (Elt F) f4) (arg5.view.read (Elt F) f5) v3 (i 2).val S k.val 3).al1 := congrArg HS.al1 (congrFun hS 3)
  have a18_0 : arg18.view.readAt (Elt F) (Rect.unit (s := S4x1x512) ![0, 0, 0] S1x1x512.size inb_S4x1x512_S1x1x512_0_0_0).toLoadRect f18 = (steps (arg3.view.read (Elt F) f3) (arg4.view.read (Elt F) f4) (arg5.view.read (Elt F) f5) v3 (i 2).val S k.val 0).m := congrArg HS.m (congrFun hS 0)
  have a18_1 : arg18.view.readAt (Elt F) (Rect.unit (s := S4x1x512) ![1, 0, 0] S1x1x512.size inb_S4x1x512_S1x1x512_1_0_0).toLoadRect f18 = (steps (arg3.view.read (Elt F) f3) (arg4.view.read (Elt F) f4) (arg5.view.read (Elt F) f5) v3 (i 2).val S k.val 1).m := congrArg HS.m (congrFun hS 1)
  have a18_2 : arg18.view.readAt (Elt F) (Rect.unit (s := S4x1x512) ![2, 0, 0] S1x1x512.size inb_S4x1x512_S1x1x512_2_0_0).toLoadRect f18 = (steps (arg3.view.read (Elt F) f3) (arg4.view.read (Elt F) f4) (arg5.view.read (Elt F) f5) v3 (i 2).val S k.val 2).m := congrArg HS.m (congrFun hS 2)
  have a18_3 : arg18.view.readAt (Elt F) (Rect.unit (s := S4x1x512) ![3, 0, 0] S1x1x512.size inb_S4x1x512_S1x1x512_3_0_0).toLoadRect f18 = (steps (arg3.view.read (Elt F) f3) (arg4.view.read (Elt F) f4) (arg5.view.read (Elt F) f5) v3 (i 2).val S k.val 3).m := congrArg HS.m (congrFun hS 3)
  have a19_0 : arg19.view.readAt (Elt F) (Rect.unit (s := S4x80x512) ![0, 0, 0] S1x80x512.size inb_S4x80x512_S1x80x512_0_0_0).toLoadRect f19 = (steps (arg3.view.read (Elt F) f3) (arg4.view.read (Elt F) f4) (arg5.view.read (Elt F) f5) v3 (i 2).val S k.val 0).acc := congrArg HS.acc (congrFun hS 0)
  have a19_1 : arg19.view.readAt (Elt F) (Rect.unit (s := S4x80x512) ![1, 0, 0] S1x80x512.size inb_S4x80x512_S1x80x512_1_0_0).toLoadRect f19 = (steps (arg3.view.read (Elt F) f3) (arg4.view.read (Elt F) f4) (arg5.view.read (Elt F) f5) v3 (i 2).val S k.val 1).acc := congrArg HS.acc (congrFun hS 1)
  have a19_2 : arg19.view.readAt (Elt F) (Rect.unit (s := S4x80x512) ![2, 0, 0] S1x80x512.size inb_S4x80x512_S1x80x512_2_0_0).toLoadRect f19 = (steps (arg3.view.read (Elt F) f3) (arg4.view.read (Elt F) f4) (arg5.view.read (Elt F) f5) v3 (i 2).val S k.val 2).acc := congrArg HS.acc (congrFun hS 2)
  have a19_3 : arg19.view.readAt (Elt F) (Rect.unit (s := S4x80x512) ![3, 0, 0] S1x80x512.size inb_S4x80x512_S1x80x512_3_0_0).toLoadRect f19 = (steps (arg3.view.read (Elt F) f3) (arg4.view.read (Elt F) f4) (arg5.view.read (Elt F) f5) v3 (i 2).val S k.val 3).acc := congrArg HS.acc (congrFun hS 3)
  have hk : k.val < 7 := by
    have h1 := Nat.lt_of_lt_of_eq k.isLt (trips_eq i); have h2 := tile_lt i; omega
  have ha := tile_lt i
  have r13_1 := read_kblk arg4 f4 (2 * k.val + 1) 0 (off13_1 i k) (by omega)
  have r13_2 := read_kblk arg4 f4 (2 * k.val + 2) 0 (off13_2 i k) (by omega)
  have r17 := read_vblk arg5 f5 (lag (i 2).val k.val) 0 (off17 i k) (lag_lt ha (by omega))
  have r21 := read_vblk arg5 f5 (2 * k.val) 0 (off21 i k) (by omega)
  have q0 := read_qblk arg3 f3 (off := ![0, 0, 0]) 0 rfl
  have r14_1 := read_kblk arg4 f4 (2 * k.val + 1) 1 (off14_1 i k) (by omega)
  have r14_2 := read_kblk arg4 f4 (2 * k.val + 2) 1 (off14_2 i k) (by omega)
  have r18 := read_vblk arg5 f5 (lag (i 2).val k.val) 1 (off18 i k) (lag_lt ha (by omega))
  have r22 := read_vblk arg5 f5 (2 * k.val) 1 (off22 i k) (by omega)
  have q1 := read_qblk arg3 f3 (off := ![0, 0, 128]) 1 rfl
  have r15_1 := read_kblk arg4 f4 (2 * k.val + 1) 2 (off15_1 i k) (by omega)
  have r15_2 := read_kblk arg4 f4 (2 * k.val + 2) 2 (off15_2 i k) (by omega)
  have r19 := read_vblk arg5 f5 (lag (i 2).val k.val) 2 (off19 i k) (lag_lt ha (by omega))
  have r23 := read_vblk arg5 f5 (2 * k.val) 2 (off23 i k) (by omega)
  have q2 := read_qblk arg3 f3 (off := ![0, 0, 256]) 2 rfl
  have r16_1 := read_kblk arg4 f4 (2 * k.val + 1) 3 (off16_1 i k) (by omega)
  have r16_2 := read_kblk arg4 f4 (2 * k.val + 2) 3 (off16_2 i k) (by omega)
  have r20 := read_vblk arg5 f5 (lag (i 2).val k.val) 3 (off20 i k) (lag_lt ha (by omega))
  have r24 := read_vblk arg5 f5 (2 * k.val) 3 (off24 i k) (by omega)
  have q3 := read_qblk arg3 f3 (off := ![0, 0, 384]) 3 rfl
  sl_exec_parts
  sl_step
  isplitl [H3]
  · iexact H3
  isplitl [H4]
  · iexact H4
  isplitl [H5]
  · iexact H5
  iexists _; iexists _; iexists _; iexists _; iexists _; iexists _; iexists _; iexists _; iexists _; iexists _; iexists _; iexists _
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  ipureintro
  refine headsOf_eq ?_ ?_ ?_ ?_ ?_ ?_ ?_ ?_ ?_ ?_ ?_ ?_ ?_ ?_ ?_ ?_ ?_ ?_ ?_ ?_ ?_ ?_ ?_ ?_
  all_goals
    sl_open_run
    simp (config := {decide := true}) only [load_hit, load_skip, cov_hit, cov_skip, r13_1, r13_2, r17, r21, q0, r14_1, r14_2, r18, r22, q1, r15_1, r15_2, r19, r23, q2, r16_1, r16_2, r20, r24, q3]
    sl_open_pay
    simp only [steps, next]
    rfl

/-- The main loop's invariant: the four heads hold the state before trip `k`. -/
@[sl_loop, instance_reducible] def loopInv_k0_t1 (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x16x256x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x256x512 .f32) (harg10 : arg10.IsWhole) (arg11 : Memref sig .tc .vmem S4x256x512 .bf16) (harg11 : arg11.IsWhole) (arg12 : Memref sig .tc .vmem S4x256x512 .bf16) (harg12 : arg12.IsWhole) (arg13 : Memref sig .tc .vmem S4x1x512 .f32) (harg13 : arg13.IsWhole) (arg14 : Memref sig .tc .vmem S4x1x512 .f32) (harg14 : arg14.IsWhole) (arg15 : Memref sig .tc .vmem S4x1x512 .f32) (harg15 : arg15.IsWhole) (arg16 : Memref sig .tc .vmem S4x1x512 .f32) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x80x512 .f32) (harg19 : arg19.IsWhole)
    (arg2 v0 : BitVec 32) (v3 : FVec F S16x256 .bf16) (v483 : FVec F S80x256 .bf16) (v489 : FVec F S80x512 .f32) (v491 : FVec F S256x512 .bf16)
    (f3 : Buf (Elt F) (arg3.view.loc (c : Thread nD τ))) (f4 : Buf (Elt F) (arg4.view.loc (c : Thread nD τ))) (f5 : Buf (Elt F) (arg5.view.loc (c : Thread nD τ))) (f8 : Buf (Elt F) (arg8.view.loc (c : Thread nD τ))) (f13 : Buf (Elt F) (arg13.view.loc (c : Thread nD τ))) (f12 : Buf (Elt F) (arg12.view.loc (c : Thread nD τ))) (f17 : Buf (Elt F) (arg17.view.loc (c : Thread nD τ))) (f18 : Buf (Elt F) (arg18.view.loc (c : Thread nD τ))) (f19 : Buf (Elt F) (arg19.view.loc (c : Thread nD τ))) :
    Gen.LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v0 v3 v483 v489 v491 where
  inv := fun k _ => iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ Carry c arg8 arg9 arg10 arg11 arg12 arg13 arg14 arg15 arg16 arg17 arg18 arg19 (steps (arg3.view.read (Elt F) f3) (arg4.view.read (Elt F) f4) (arg5.view.read (Elt F) f5) v3 (i 2).val (headsOf arg8 arg13 arg12 arg17 arg18 arg19 f8 f13 f12 f17 f18 f19) k))
  step := fun k _ => trip_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v0 v3 v483 v489 v491 k f3 f4 f5 _

end Cert.KernelIdeal.Attn
-- ==== Proof.First.lean ====
/-
  One grid point of the attention kernel without earlier blocks: the two own blocks and the output block.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Trip
public import Idealize.ShloMosaic.Lib.LoopRemainder
public import Idealize.ShloMosaic.Lib.Tactic
public import Idealize.ShloMosaic.Lib.Tactic.Stretches

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Reads

variable {F : FTy → Type} [FloatOps F]

local notation "𝕄" => MT nD τ sig Unit (Elt F) ℕ (UR sig nD τ) ℕ

set_option maxRecDepth 200000 in
set_option maxHeartbeats 4000000 in
/-- One grid point, without earlier blocks. -/
theorem point_first (c : Dev nD) (i : grid0.Coords) (hc : ¬ k0_cond1 i = 1#1) (arg3 : Memref sig .tc .vmem S1x512x512 .bf16) (harg3 : arg3.IsWhole) (arg4 : Memref sig .tc .vmem S1x4096x512 .bf16) (harg4 : arg4.IsWhole) (arg5 : Memref sig .tc .vmem S1x16x256x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x256x512 .f32) (harg10 : arg10.IsWhole) (arg11 : Memref sig .tc .vmem S4x256x512 .bf16) (harg11 : arg11.IsWhole) (arg12 : Memref sig .tc .vmem S4x256x512 .bf16) (harg12 : arg12.IsWhole) (arg13 : Memref sig .tc .vmem S4x1x512 .f32) (harg13 : arg13.IsWhole) (arg14 : Memref sig .tc .vmem S4x1x512 .f32) (harg14 : arg14.IsWhole) (arg15 : Memref sig .tc .vmem S4x1x512 .f32) (harg15 : arg15.IsWhole) (arg16 : Memref sig .tc .vmem S4x1x512 .f32) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x80x512 .f32) (harg19 : arg19.IsWhole) (x0 : Vec F S1x512x512 .bf16) (x1 : Vec F S1x4096x512 .bf16) (x2 : Vec F S1x16x256x256 .bf16) (x3 : Vec F S1x512x256 .bf16) (K : PUnit → sProp 𝕄) :
    (iprop(owns c arg3 fullShare x0 ∗ owns c arg4 fullShare x1 ∗ owns c arg5 fullShare x2 ∗ owns c arg6 fullShare x3 ∗ (∃ d, owns c arg7 fullShare d) ∗ (∃ d, owns c arg8 fullShare d) ∗ (∃ d, owns c arg9 fullShare d) ∗ (∃ d, owns c arg10 fullShare d) ∗ (∃ d, owns c arg11 fullShare d) ∗ (∃ d, owns c arg12 fullShare d) ∗ (∃ d, owns c arg13 fullShare d) ∗ (∃ d, owns c arg14 fullShare d) ∗ (∃ d, owns c arg15 fullShare d) ∗ (∃ d, owns c arg16 fullShare d) ∗ (∃ d, owns c arg17 fullShare d) ∗ (∃ d, owns c arg18 fullShare d) ∗ (∃ d, owns c arg19 fullShare d) ∗
      (iprop(owns c arg3 fullShare x0 ∗ owns c arg4 fullShare x1 ∗ owns c arg5 fullShare x2 ∗ owns c arg6 fullShare x3 ∗ owns c arg7 fullShare (block x0 x1 x2 x3 (i 2).val) ∗ (∃ d, owns c arg8 fullShare d) ∗ (∃ d, owns c arg9 fullShare d) ∗ (∃ d, owns c arg10 fullShare d) ∗ (∃ d, owns c arg11 fullShare d) ∗ (∃ d, owns c arg12 fullShare d) ∗ (∃ d, owns c arg13 fullShare d) ∗ (∃ d, owns c arg14 fullShare d) ∗ (∃ d, owns c arg15 fullShare d) ∗ (∃ d, owns c arg16 fullShare d) ∗ (∃ d, owns c arg17 fullShare d) ∗ (∃ d, owns c arg18 fullShare d) ∗ (∃ d, owns c arg19 fullShare d)) -∗ K ⟨⟩)) : sProp 𝕄) ⊢
      wp frame (wpE defs₀ Variants.none (c : Thread nD τ) none) Set.univ (cc0_mla_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        K := by
  simp only [cc0_mla_attn_eq_skeleton]
  unfold cc0_mla_attn_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf3 hf4 hf5 hf6
  have ha := tile_lt i
  have hz : ¬ 0 < (i 2).val := fun h => hc ((cond_iff i).mpr h)
  have e0 := read_kblk arg4 f4 0 0 (off := ![0, 0, 0]) rfl (by omega)
  have q0 := read_qblk arg3 f3 (off := ![0, 0, 0]) 0 rfl
  have u0 := read_qhalf arg3 f3 (off := ![0, 256, 0]) 0 rfl
  have r1 := read_kblk arg4 f4 (2 * (i 2).val) 0 (off1 i) (by omega)
  have r5 := read_kblk arg4 f4 (2 * (i 2).val + 1) 0 (off5 i) (by omega)
  have r9 := read_vblk arg5 f5 (2 * (i 2).val) 0 (off9 i) (by omega)
  have r49 := read_vblk arg5 f5 (lag (i 2).val (i 2).val) 0 (off49 i) (lag_lt ha ha)
  have e1 := read_kblk arg4 f4 0 1 (off := ![0, 0, 128]) rfl (by omega)
  have q1 := read_qblk arg3 f3 (off := ![0, 0, 128]) 1 rfl
  have u1 := read_qhalf arg3 f3 (off := ![0, 256, 128]) 1 rfl
  have r2 := read_kblk arg4 f4 (2 * (i 2).val) 1 (off2 i) (by omega)
  have r6 := read_kblk arg4 f4 (2 * (i 2).val + 1) 1 (off6 i) (by omega)
  have r10 := read_vblk arg5 f5 (2 * (i 2).val) 1 (off10 i) (by omega)
  have r50 := read_vblk arg5 f5 (lag (i 2).val (i 2).val) 1 (off50 i) (lag_lt ha ha)
  have e2 := read_kblk arg4 f4 0 2 (off := ![0, 0, 256]) rfl (by omega)
  have q2 := read_qblk arg3 f3 (off := ![0, 0, 256]) 2 rfl
  have u2 := read_qhalf arg3 f3 (off := ![0, 256, 256]) 2 rfl
  have r3 := read_kblk arg4 f4 (2 * (i 2).val) 2 (off3 i) (by omega)
  have r7 := read_kblk arg4 f4 (2 * (i 2).val + 1) 2 (off7 i) (by omega)
  have r11 := read_vblk arg5 f5 (2 * (i 2).val) 2 (off11 i) (by omega)
  have r51 := read_vblk arg5 f5 (lag (i 2).val (i 2).val) 2 (off51 i) (lag_lt ha ha)
  have e3 := read_kblk arg4 f4 0 3 (off := ![0, 0, 384]) rfl (by omega)
  have q3 := read_qblk arg3 f3 (off := ![0, 0, 384]) 3 rfl
  have u3 := read_qhalf arg3 f3 (off := ![0, 256, 384]) 3 rfl
  have r4 := read_kblk arg4 f4 (2 * (i 2).val) 3 (off4 i) (by omega)
  have r8 := read_kblk arg4 f4 (2 * (i 2).val + 1) 3 (off8 i) (by omega)
  have r12 := read_vblk arg5 f5 (2 * (i 2).val) 3 (off12 i) (by omega)
  have r52 := read_vblk arg5 f5 (lag (i 2).val (i 2).val) 3 (off52 i) (lag_lt ha ha)
  sl_exec_parts
  have hS : headsOf arg8 arg13 arg12 arg17 arg18 arg19 f8L0 f13L5 f12L4 f17L9 f18L10 f19L11 = st (arg3.view.read (Elt F) f3) (arg4.view.read (Elt F) f4) (arg5.view.read (Elt F) f5) k0_pay234 (i 2).val ((i 2).val - 1) := by
    rw [← trips_eq i]
    refine hL15.trans (congrArg (fun S => steps (arg3.view.read (Elt F) f3) (arg4.view.read (Elt F) f4) (arg5.view.read (Elt F) f5) k0_pay234 (i 2).val S (k0_t1_loop i).trips) ?_)
    refine headsOf_eq ?_ ?_ ?_ ?_ ?_ ?_ ?_ ?_ ((join256 arg12 _ _ (by decide) (by decide)).trans ?_) ((join256 arg12 _ _ (by decide) (by decide)).trans ?_) ((join256 arg12 _ _ (by decide) (by decide)).trans ?_) ((join256 arg12 _ _ (by decide) (by decide)).trans ?_) ?_ ?_ ?_ ?_ ((join1 arg18 _ _ (by decide) (by decide)).trans ?_) ((join1 arg18 _ _ (by decide) (by decide)).trans ?_) ((join1 arg18 _ _ (by decide) (by decide)).trans ?_) ((join1 arg18 _ _ (by decide) (by decide)).trans ?_) ?_ ?_ ?_ ?_
    all_goals
      sl_open_run
      simp (config := {decide := true}) only [load_hit, load_skip, load_skip3, cov_hit, cov_skip, lower_hit, upper_hit, lower_cov, upper_cov, floorRow_cov, noSums_cov, e0, q0, u0, r1, r5, r9, e1, q1, u1, r2, r6, r10, e2, q2, u2, r3, r7, r11, e3, q3, u3, r4, r8, r12]
      sl_open_pay
      simp only [start]
      first | (with_reducible rfl) | rfl
  have a8_0 : arg8.view.readAt (Elt F) (Rect.unit (s := S4x256x512) ![0, 0, 0] S1x256x512.size inb_S4x256x512_S1x256x512_0_0_0).toLoadRect f8L0 = (st (arg3.view.read (Elt F) f3) (arg4.view.read (Elt F) f4) (arg5.view.read (Elt F) f5) k0_pay234 (i 2).val ((i 2).val - 1) 0).s0 := congrArg HS.s0 (congrFun hS 0)
  have a8_1 : arg8.view.readAt (Elt F) (Rect.unit (s := S4x256x512) ![1, 0, 0] S1x256x512.size inb_S4x256x512_S1x256x512_1_0_0).toLoadRect f8L0 = (st (arg3.view.read (Elt F) f3) (arg4.view.read (Elt F) f4) (arg5.view.read (Elt F) f5) k0_pay234 (i 2).val ((i 2).val - 1) 1).s0 := congrArg HS.s0 (congrFun hS 1)
  have a8_2 : arg8.view.readAt (Elt F) (Rect.unit (s := S4x256x512) ![2, 0, 0] S1x256x512.size inb_S4x256x512_S1x256x512_2_0_0).toLoadRect f8L0 = (st (arg3.view.read (Elt F) f3) (arg4.view.read (Elt F) f4) (arg5.view.read (Elt F) f5) k0_pay234 (i 2).val ((i 2).val - 1) 2).s0 := congrArg HS.s0 (congrFun hS 2)
  have a8_3 : arg8.view.readAt (Elt F) (Rect.unit (s := S4x256x512) ![3, 0, 0] S1x256x512.size inb_S4x256x512_S1x256x512_3_0_0).toLoadRect f8L0 = (st (arg3.view.read (Elt F) f3) (arg4.view.read (Elt F) f4) (arg5.view.read (Elt F) f5) k0_pay234 (i 2).val ((i 2).val - 1) 3).s0 := congrArg HS.s0 (congrFun hS 3)
  have a13_0 : arg13.view.readAt (Elt F) (Rect.unit (s := S4x1x512) ![0, 0, 0] S1x1x512.size inb_S4x1x512_S1x1x512_0_0_0).toLoadRect f13L5 = (st (arg3.view.read (Elt F) f3) (arg4.view.read (Elt F) f4) (arg5.view.read (Elt F) f5) k0_pay234 (i 2).val ((i 2).val - 1) 0).cm0 := congrArg HS.cm0 (congrFun hS 0)
  have a13_1 : arg13.view.readAt (Elt F) (Rect.unit (s := S4x1x512) ![1, 0, 0] S1x1x512.size inb_S4x1x512_S1x1x512_1_0_0).toLoadRect f13L5 = (st (arg3.view.read (Elt F) f3) (arg4.view.read (Elt F) f4) (arg5.view.read (Elt F) f5) k0_pay234 (i 2).val ((i 2).val - 1) 1).cm0 := congrArg HS.cm0 (congrFun hS 1)
  have a13_2 : arg13.view.readAt (Elt F) (Rect.unit (s := S4x1x512) ![2, 0, 0] S1x1x512.size inb_S4x1x512_S1x1x512_2_0_0).toLoadRect f13L5 = (st (arg3.view.read (Elt F) f3) (arg4.view.read (Elt F) f4) (arg5.view.read (Elt F) f5) k0_pay234 (i 2).val ((i 2).val - 1) 2).cm0 := congrArg HS.cm0 (congrFun hS 2)
  have a13_3 : arg13.view.readAt (Elt F) (Rect.unit (s := S4x1x512) ![3, 0, 0] S1x1x512.size inb_S4x1x512_S1x1x512_3_0_0).toLoadRect f13L5 = (st (arg3.view.read (Elt F) f3) (arg4.view.read (Elt F) f4) (arg5.view.read (Elt F) f5) k0_pay234 (i 2).val ((i 2).val - 1) 3).cm0 := congrArg HS.cm0 (congrFun hS 3)
  have a12_0 : arg12.view.readAt (Elt F) (Rect.unit (s := S4x256x512) ![0, 0, 0] S1x256x512.size inb_S4x256x512_S1x256x512_0_0_0).toLoadRect f12L4 = (st (arg3.view.read (Elt F) f3) (arg4.view.read (Elt F) f4) (arg5.view.read (Elt F) f5) k0_pay234 (i 2).val ((i 2).val - 1) 0).p1 := congrArg HS.p1 (congrFun hS 0)
  have a12_1 : arg12.view.readAt (Elt F) (Rect.unit (s := S4x256x512) ![1, 0, 0] S1x256x512.size inb_S4x256x512_S1x256x512_1_0_0).toLoadRect f12L4 = (st (arg3.view.read (Elt F) f3) (arg4.view.read (Elt F) f4) (arg5.view.read (Elt F) f5) k0_pay234 (i 2).val ((i 2).val - 1) 1).p1 := congrArg HS.p1 (congrFun hS 1)
  have a12_2 : arg12.view.readAt (Elt F) (Rect.unit (s := S4x256x512) ![2, 0, 0] S1x256x512.size inb_S4x256x512_S1x256x512_2_0_0).toLoadRect f12L4 = (st (arg3.view.read (Elt F) f3) (arg4.view.read (Elt F) f4) (arg5.view.read (Elt F) f5) k0_pay234 (i 2).val ((i 2).val - 1) 2).p1 := congrArg HS.p1 (congrFun hS 2)
  have a12_3 : arg12.view.readAt (Elt F) (Rect.unit (s := S4x256x512) ![3, 0, 0] S1x256x512.size inb_S4x256x512_S1x256x512_3_0_0).toLoadRect f12L4 = (st (arg3.view.read (Elt F) f3) (arg4.view.read (Elt F) f4) (arg5.view.read (Elt F) f5) k0_pay234 (i 2).val ((i 2).val - 1) 3).p1 := congrArg HS.p1 (congrFun hS 3)
  have a17_0 : arg17.view.readAt (Elt F) (Rect.unit (s := S4x1x512) ![0, 0, 0] S1x1x512.size inb_S4x1x512_S1x1x512_0_0_0).toLoadRect f17L9 = (st (arg3.view.read (Elt F) f3) (arg4.view.read (Elt F) f4) (arg5.view.read (Elt F) f5) k0_pay234 (i 2).val ((i 2).val - 1) 0).al1 := congrArg HS.al1 (congrFun hS 0)
  have a17_1 : arg17.view.readAt (Elt F) (Rect.unit (s := S4x1x512) ![1, 0, 0] S1x1x512.size inb_S4x1x512_S1x1x512_1_0_0).toLoadRect f17L9 = (st (arg3.view.read (Elt F) f3) (arg4.view.read (Elt F) f4) (arg5.view.read (Elt F) f5) k0_pay234 (i 2).val ((i 2).val - 1) 1).al1 := congrArg HS.al1 (congrFun hS 1)
  have a17_2 : arg17.view.readAt (Elt F) (Rect.unit (s := S4x1x512) ![2, 0, 0] S1x1x512.size inb_S4x1x512_S1x1x512_2_0_0).toLoadRect f17L9 = (st (arg3.view.read (Elt F) f3) (arg4.view.read (Elt F) f4) (arg5.view.read (Elt F) f5) k0_pay234 (i 2).val ((i 2).val - 1) 2).al1 := congrArg HS.al1 (congrFun hS 2)
  have a17_3 : arg17.view.readAt (Elt F) (Rect.unit (s := S4x1x512) ![3, 0, 0] S1x1x512.size inb_S4x1x512_S1x1x512_3_0_0).toLoadRect f17L9 = (st (arg3.view.read (Elt F) f3) (arg4.view.read (Elt F) f4) (arg5.view.read (Elt F) f5) k0_pay234 (i 2).val ((i 2).val - 1) 3).al1 := congrArg HS.al1 (congrFun hS 3)
  have a18_0 : arg18.view.readAt (Elt F) (Rect.unit (s := S4x1x512) ![0, 0, 0] S1x1x512.size inb_S4x1x512_S1x1x512_0_0_0).toLoadRect f18L10 = (st (arg3.view.read (Elt F) f3) (arg4.view.read (Elt F) f4) (arg5.view.read (Elt F) f5) k0_pay234 (i 2).val ((i 2).val - 1) 0).m := congrArg HS.m (congrFun hS 0)
  have a18_1 : arg18.view.readAt (Elt F) (Rect.unit (s := S4x1x512) ![1, 0, 0] S1x1x512.size inb_S4x1x512_S1x1x512_1_0_0).toLoadRect f18L10 = (st (arg3.view.read (Elt F) f3) (arg4.view.read (Elt F) f4) (arg5.view.read (Elt F) f5) k0_pay234 (i 2).val ((i 2).val - 1) 1).m := congrArg HS.m (congrFun hS 1)
  have a18_2 : arg18.view.readAt (Elt F) (Rect.unit (s := S4x1x512) ![2, 0, 0] S1x1x512.size inb_S4x1x512_S1x1x512_2_0_0).toLoadRect f18L10 = (st (arg3.view.read (Elt F) f3) (arg4.view.read (Elt F) f4) (arg5.view.read (Elt F) f5) k0_pay234 (i 2).val ((i 2).val - 1) 2).m := congrArg HS.m (congrFun hS 2)
  have a18_3 : arg18.view.readAt (Elt F) (Rect.unit (s := S4x1x512) ![3, 0, 0] S1x1x512.size inb_S4x1x512_S1x1x512_3_0_0).toLoadRect f18L10 = (st (arg3.view.read (Elt F) f3) (arg4.view.read (Elt F) f4) (arg5.view.read (Elt F) f5) k0_pay234 (i 2).val ((i 2).val - 1) 3).m := congrArg HS.m (congrFun hS 3)
  have a19_0 : arg19.view.readAt (Elt F) (Rect.unit (s := S4x80x512) ![0, 0, 0] S1x80x512.size inb_S4x80x512_S1x80x512_0_0_0).toLoadRect f19L11 = (st (arg3.view.read (Elt F) f3) (arg4.view.read (Elt F) f4) (arg5.view.read (Elt F) f5) k0_pay234 (i 2).val ((i 2).val - 1) 0).acc := congrArg HS.acc (congrFun hS 0)
  have a19_1 : arg19.view.readAt (Elt F) (Rect.unit (s := S4x80x512) ![1, 0, 0] S1x80x512.size inb_S4x80x512_S1x80x512_1_0_0).toLoadRect f19L11 = (st (arg3.view.read (Elt F) f3) (arg4.view.read (Elt F) f4) (arg5.view.read (Elt F) f5) k0_pay234 (i 2).val ((i 2).val - 1) 1).acc := congrArg HS.acc (congrFun hS 1)
  have a19_2 : arg19.view.readAt (Elt F) (Rect.unit (s := S4x80x512) ![2, 0, 0] S1x80x512.size inb_S4x80x512_S1x80x512_2_0_0).toLoadRect f19L11 = (st (arg3.view.read (Elt F) f3) (arg4.view.read (Elt F) f4) (arg5.view.read (Elt F) f5) k0_pay234 (i 2).val ((i 2).val - 1) 2).acc := congrArg HS.acc (congrFun hS 2)
  have a19_3 : arg19.view.readAt (Elt F) (Rect.unit (s := S4x80x512) ![3, 0, 0] S1x80x512.size inb_S4x80x512_S1x80x512_3_0_0).toLoadRect f19L11 = (st (arg3.view.read (Elt F) f3) (arg4.view.read (Elt F) f4) (arg5.view.read (Elt F) f5) k0_pay234 (i 2).val ((i 2).val - 1) 3).acc := congrArg HS.acc (congrFun hS 3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _
    isplitr
    rotate_left 1
    · iexact H7
    · ipureintro
      refine (whole_load arg7 _ (off := ![0, 0, 0]) (by decide) (by decide)).symm.trans ((load_hit arg7.view _ _ _ _ _).trans ?_)
      rw [whole_load arg6 f6 (off := ![0, 0, 0]) (by decide)]
      sl_open_run
      simp (config := {decide := true}) only [load_hit, load_skip, cov_hit, cov_skip, e0, q0, u0, r1, r5, r9, e1, q1, u1, r2, r6, r10, e2, q2, u2, r3, r7, r11, e3, q3, u3, r4, r8, r12, a8_0, a8_1, a8_2, a8_3, a13_0, a13_1, a13_2, a13_3, a12_0, a12_1, a12_2, a12_3, a17_0, a17_1, a17_2, a17_3, a18_0, a18_1, a18_2, a18_3, a19_0, a19_1, a19_2, a19_3, r49, r50, r51, r52]
      sl_open_pay
      unfold block result
      rw [total_zero _ _ _ _ (by omega), total_zero _ _ _ _ (by omega), total_zero _ _ _ _ (by omega), total_zero _ _ _ _ (by omega)]
      rfl
  isplitl [H8]
  · iapply (hold c arg8) $$ H8
  isplitl [H9]
  · iapply (hold c arg9) $$ H9
  isplitl [H10]
  · iapply (hold c arg10) $$ H10
  isplitl [H11]
  · iapply (hold c arg11) $$ H11
  isplitl [H12]
  · iapply (hold c arg12) $$ H12
  isplitl [H13]
  · iapply (hold c arg13) $$ H13
  isplitl [H14]
  · iapply (hold c arg14) $$ H14
  isplitl [H15]
  · iapply (hold c arg15) $$ H15
  isplitl [H16]
  · iapply (hold c arg16) $$ H16
  isplitl [H17]
  · iapply (hold c arg17) $$ H17
  isplitl [H18]
  · iapply (hold c arg18) $$ H18
  iapply (hold c arg19) $$ H19

end Cert.KernelIdeal.Attn
-- ==== Proof.Later.lean ====
/-
  One grid point of the attention kernel with earlier blocks: the two own blocks, the loop over the pairs of earlier blocks, the last
  pair and the output block.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Trip
public import Idealize.ShloMosaic.Lib.LoopRemainder
public import Idealize.ShloMosaic.Lib.Tactic
public import Idealize.ShloMosaic.Lib.Tactic.Stretches

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Reads

variable {F : FTy → Type} [FloatOps F]

local notation "𝕄" => MT nD τ sig Unit (Elt F) ℕ (UR sig nD τ) ℕ

set_option maxRecDepth 200000 in
set_option maxHeartbeats 4000000 in
/-- One grid point, with earlier blocks. -/
theorem point_later (c : Dev nD) (i : grid0.Coords) (hc : k0_cond1 i = 1#1) (arg3 : Memref sig .tc .vmem S1x512x512 .bf16) (harg3 : arg3.IsWhole) (arg4 : Memref sig .tc .vmem S1x4096x512 .bf16) (harg4 : arg4.IsWhole) (arg5 : Memref sig .tc .vmem S1x16x256x256 .bf16) (harg5 : arg5.IsWhole) (arg6 : Memref sig .tc .vmem S1x512x256 .bf16) (harg6 : arg6.IsWhole) (arg7 : Memref sig .tc .vmem S1x512x256 .bf16) (harg7 : arg7.IsWhole) (arg8 : Memref sig .tc .vmem S4x256x512 .f32) (harg8 : arg8.IsWhole) (arg9 : Memref sig .tc .vmem S4x256x512 .f32) (harg9 : arg9.IsWhole) (arg10 : Memref sig .tc .vmem S4x256x512 .f32) (harg10 : arg10.IsWhole) (arg11 : Memref sig .tc .vmem S4x256x512 .bf16) (harg11 : arg11.IsWhole) (arg12 : Memref sig .tc .vmem S4x256x512 .bf16) (harg12 : arg12.IsWhole) (arg13 : Memref sig .tc .vmem S4x1x512 .f32) (harg13 : arg13.IsWhole) (arg14 : Memref sig .tc .vmem S4x1x512 .f32) (harg14 : arg14.IsWhole) (arg15 : Memref sig .tc .vmem S4x1x512 .f32) (harg15 : arg15.IsWhole) (arg16 : Memref sig .tc .vmem S4x1x512 .f32) (harg16 : arg16.IsWhole) (arg17 : Memref sig .tc .vmem S4x1x512 .f32) (harg17 : arg17.IsWhole) (arg18 : Memref sig .tc .vmem S4x1x512 .f32) (harg18 : arg18.IsWhole) (arg19 : Memref sig .tc .vmem S4x80x512 .f32) (harg19 : arg19.IsWhole) (x0 : Vec F S1x512x512 .bf16) (x1 : Vec F S1x4096x512 .bf16) (x2 : Vec F S1x16x256x256 .bf16) (x3 : Vec F S1x512x256 .bf16) (K : PUnit → sProp 𝕄) :
    (iprop(owns c arg3 fullShare x0 ∗ owns c arg4 fullShare x1 ∗ owns c arg5 fullShare x2 ∗ owns c arg6 fullShare x3 ∗ (∃ d, owns c arg7 fullShare d) ∗ (∃ d, owns c arg8 fullShare d) ∗ (∃ d, owns c arg9 fullShare d) ∗ (∃ d, owns c arg10 fullShare d) ∗ (∃ d, owns c arg11 fullShare d) ∗ (∃ d, owns c arg12 fullShare d) ∗ (∃ d, owns c arg13 fullShare d) ∗ (∃ d, owns c arg14 fullShare d) ∗ (∃ d, owns c arg15 fullShare d) ∗ (∃ d, owns c arg16 fullShare d) ∗ (∃ d, owns c arg17 fullShare d) ∗ (∃ d, owns c arg18 fullShare d) ∗ (∃ d, owns c arg19 fullShare d) ∗
      (iprop(owns c arg3 fullShare x0 ∗ owns c arg4 fullShare x1 ∗ owns c arg5 fullShare x2 ∗ owns c arg6 fullShare x3 ∗ owns c arg7 fullShare (block x0 x1 x2 x3 (i 2).val) ∗ (∃ d, owns c arg8 fullShare d) ∗ (∃ d, owns c arg9 fullShare d) ∗ (∃ d, owns c arg10 fullShare d) ∗ (∃ d, owns c arg11 fullShare d) ∗ (∃ d, owns c arg12 fullShare d) ∗ (∃ d, owns c arg13 fullShare d) ∗ (∃ d, owns c arg14 fullShare d) ∗ (∃ d, owns c arg15 fullShare d) ∗ (∃ d, owns c arg16 fullShare d) ∗ (∃ d, owns c arg17 fullShare d) ∗ (∃ d, owns c arg18 fullShare d) ∗ (∃ d, owns c arg19 fullShare d)) -∗ K ⟨⟩)) : sProp 𝕄) ⊢
      wp frame (wpE defs₀ Variants.none (c : Thread nD τ) none) Set.univ (cc0_mla_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        K := by
  simp only [cc0_mla_attn_eq_skeleton]
  unfold cc0_mla_attn_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf3 hf4 hf5 hf6
  have ha := tile_lt i
  have hp : 0 < (i 2).val := (cond_iff i).mp hc
  have e0 := read_kblk arg4 f4 0 0 (off := ![0, 0, 0]) rfl (by omega)
  have q0 := read_qblk arg3 f3 (off := ![0, 0, 0]) 0 rfl
  have u0 := read_qhalf arg3 f3 (off := ![0, 256, 0]) 0 rfl
  have r1 := read_kblk arg4 f4 (2 * (i 2).val) 0 (off1 i) (by omega)
  have r5 := read_kblk arg4 f4 (2 * (i 2).val + 1) 0 (off5 i) (by omega)
  have r9 := read_vblk arg5 f5 (2 * (i 2).val) 0 (off9 i) (by omega)
  have r49 := read_vblk arg5 f5 (lag (i 2).val (i 2).val) 0 (off49 i) (lag_lt ha ha)
  have r37 := read_kblk arg4 f4 (2 * ((i 2).val - 1) + 1) 0 (off37 i hp) (by omega)
  have r41 := read_vblk arg5 f5 (lag (i 2).val ((i 2).val - 1)) 0 (off41 i hp) (lag_lt ha (by omega))
  have r45 := read_vblk arg5 f5 (2 * ((i 2).val - 1)) 0 (off45 i hp) (by omega)
  have e1 := read_kblk arg4 f4 0 1 (off := ![0, 0, 128]) rfl (by omega)
  have q1 := read_qblk arg3 f3 (off := ![0, 0, 128]) 1 rfl
  have u1 := read_qhalf arg3 f3 (off := ![0, 256, 128]) 1 rfl
  have r2 := read_kblk arg4 f4 (2 * (i 2).val) 1 (off2 i) (by omega)
  have r6 := read_kblk arg4 f4 (2 * (i 2).val + 1) 1 (off6 i) (by omega)
  have r10 := read_vblk arg5 f5 (2 * (i 2).val) 1 (off10 i) (by omega)
  have r50 := read_vblk arg5 f5 (lag (i 2).val (i 2).val) 1 (off50 i) (lag_lt ha ha)
  have r38 := read_kblk arg4 f4 (2 * ((i 2).val - 1) + 1) 1 (off38 i hp) (by omega)
  have r42 := read_vblk arg5 f5 (lag (i 2).val ((i 2).val - 1)) 1 (off42 i hp) (lag_lt ha (by omega))
  have r46 := read_vblk arg5 f5 (2 * ((i 2).val - 1)) 1 (off46 i hp) (by omega)
  have e2 := read_kblk arg4 f4 0 2 (off := ![0, 0, 256]) rfl (by omega)
  have q2 := read_qblk arg3 f3 (off := ![0, 0, 256]) 2 rfl
  have u2 := read_qhalf arg3 f3 (off := ![0, 256, 256]) 2 rfl
  have r3 := read_kblk arg4 f4 (2 * (i 2).val) 2 (off3 i) (by omega)
  have r7 := read_kblk arg4 f4 (2 * (i 2).val + 1) 2 (off7 i) (by omega)
  have r11 := read_vblk arg5 f5 (2 * (i 2).val) 2 (off11 i) (by omega)
  have r51 := read_vblk arg5 f5 (lag (i 2).val (i 2).val) 2 (off51 i) (lag_lt ha ha)
  have r39 := read_kblk arg4 f4 (2 * ((i 2).val - 1) + 1) 2 (off39 i hp) (by omega)
  have r43 := read_vblk arg5 f5 (lag (i 2).val ((i 2).val - 1)) 2 (off43 i hp) (lag_lt ha (by omega))
  have r47 := read_vblk arg5 f5 (2 * ((i 2).val - 1)) 2 (off47 i hp) (by omega)
  have e3 := read_kblk arg4 f4 0 3 (off := ![0, 0, 384]) rfl (by omega)
  have q3 := read_qblk arg3 f3 (off := ![0, 0, 384]) 3 rfl
  have u3 := read_qhalf arg3 f3 (off := ![0, 256, 384]) 3 rfl
  have r4 := read_kblk arg4 f4 (2 * (i 2).val) 3 (off4 i) (by omega)
  have r8 := read_kblk arg4 f4 (2 * (i 2).val + 1) 3 (off8 i) (by omega)
  have r12 := read_vblk arg5 f5 (2 * (i 2).val) 3 (off12 i) (by omega)
  have r52 := read_vblk arg5 f5 (lag (i 2).val (i 2).val) 3 (off52 i) (lag_lt ha ha)
  have r40 := read_kblk arg4 f4 (2 * ((i 2).val - 1) + 1) 3 (off40 i hp) (by omega)
  have r44 := read_vblk arg5 f5 (lag (i 2).val ((i 2).val - 1)) 3 (off44 i hp) (lag_lt ha (by omega))
  have r48 := read_vblk arg5 f5 (2 * ((i 2).val - 1)) 3 (off48 i hp) (by omega)
  sl_exec_parts
  have hS : headsOf arg8 arg13 arg12 arg17 arg18 arg19 f8L0 f13L5 f12L4 f17L9 f18L10 f19L11 = st (arg3.view.read (Elt F) f3) (arg4.view.read (Elt F) f4) (arg5.view.read (Elt F) f5) k0_pay234 (i 2).val ((i 2).val - 1) := by
    rw [← trips_eq i]
    refine hL15.trans (congrArg (fun S => steps (arg3.view.read (Elt F) f3) (arg4.view.read (Elt F) f4) (arg5.view.read (Elt F) f5) k0_pay234 (i 2).val S (k0_t1_loop i).trips) ?_)
    refine headsOf_eq ?_ ?_ ?_ ?_ ?_ ?_ ?_ ?_ ((join256 arg12 _ _ (by decide) (by decide)).trans ?_) ((join256 arg12 _ _ (by decide) (by decide)).trans ?_) ((join256 arg12 _ _ (by decide) (by decide)).trans ?_) ((join256 arg12 _ _ (by decide) (by decide)).trans ?_) ?_ ?_ ?_ ?_ ((join1 arg18 _ _ (by decide) (by decide)).trans ?_) ((join1 arg18 _ _ (by decide) (by decide)).trans ?_) ((join1 arg18 _ _ (by decide) (by decide)).trans ?_) ((join1 arg18 _ _ (by decide) (by decide)).trans ?_) ?_ ?_ ?_ ?_
    all_goals
      sl_open_run
      simp (config := {decide := true}) only [load_hit, load_skip, load_skip3, cov_hit, cov_skip, lower_hit, upper_hit, lower_cov, upper_cov, floorRow_cov, noSums_cov, e0, q0, u0, r1, r5, r9, e1, q1, u1, r2, r6, r10, e2, q2, u2, r3, r7, r11, e3, q3, u3, r4, r8, r12]
      sl_open_pay
      simp only [start]
      first | (with_reducible rfl) | rfl
  have a8_0 : arg8.view.readAt (Elt F) (Rect.unit (s := S4x256x512) ![0, 0, 0] S1x256x512.size inb_S4x256x512_S1x256x512_0_0_0).toLoadRect f8L0 = (st (arg3.view.read (Elt F) f3) (arg4.view.read (Elt F) f4) (arg5.view.read (Elt F) f5) k0_pay234 (i 2).val ((i 2).val - 1) 0).s0 := congrArg HS.s0 (congrFun hS 0)
  have a8_1 : arg8.view.readAt (Elt F) (Rect.unit (s := S4x256x512) ![1, 0, 0] S1x256x512.size inb_S4x256x512_S1x256x512_1_0_0).toLoadRect f8L0 = (st (arg3.view.read (Elt F) f3) (arg4.view.read (Elt F) f4) (arg5.view.read (Elt F) f5) k0_pay234 (i 2).val ((i 2).val - 1) 1).s0 := congrArg HS.s0 (congrFun hS 1)
  have a8_2 : arg8.view.readAt (Elt F) (Rect.unit (s := S4x256x512) ![2, 0, 0] S1x256x512.size inb_S4x256x512_S1x256x512_2_0_0).toLoadRect f8L0 = (st (arg3.view.read (Elt F) f3) (arg4.view.read (Elt F) f4) (arg5.view.read (Elt F) f5) k0_pay234 (i 2).val ((i 2).val - 1) 2).s0 := congrArg HS.s0 (congrFun hS 2)
  have a8_3 : arg8.view.readAt (Elt F) (Rect.unit (s := S4x256x512) ![3, 0, 0] S1x256x512.size inb_S4x256x512_S1x256x512_3_0_0).toLoadRect f8L0 = (st (arg3.view.read (Elt F) f3) (arg4.view.read (Elt F) f4) (arg5.view.read (Elt F) f5) k0_pay234 (i 2).val ((i 2).val - 1) 3).s0 := congrArg HS.s0 (congrFun hS 3)
  have a13_0 : arg13.view.readAt (Elt F) (Rect.unit (s := S4x1x512) ![0, 0, 0] S1x1x512.size inb_S4x1x512_S1x1x512_0_0_0).toLoadRect f13L5 = (st (arg3.view.read (Elt F) f3) (arg4.view.read (Elt F) f4) (arg5.view.read (Elt F) f5) k0_pay234 (i 2).val ((i 2).val - 1) 0).cm0 := congrArg HS.cm0 (congrFun hS 0)
  have a13_1 : arg13.view.readAt (Elt F) (Rect.unit (s := S4x1x512) ![1, 0, 0] S1x1x512.size inb_S4x1x512_S1x1x512_1_0_0).toLoadRect f13L5 = (st (arg3.view.read (Elt F) f3) (arg4.view.read (Elt F) f4) (arg5.view.read (Elt F) f5) k0_pay234 (i 2).val ((i 2).val - 1) 1).cm0 := congrArg HS.cm0 (congrFun hS 1)
  have a13_2 : arg13.view.readAt (Elt F) (Rect.unit (s := S4x1x512) ![2, 0, 0] S1x1x512.size inb_S4x1x512_S1x1x512_2_0_0).toLoadRect f13L5 = (st (arg3.view.read (Elt F) f3) (arg4.view.read (Elt F) f4) (arg5.view.read (Elt F) f5) k0_pay234 (i 2).val ((i 2).val - 1) 2).cm0 := congrArg HS.cm0 (congrFun hS 2)
  have a13_3 : arg13.view.readAt (Elt F) (Rect.unit (s := S4x1x512) ![3, 0, 0] S1x1x512.size inb_S4x1x512_S1x1x512_3_0_0).toLoadRect f13L5 = (st (arg3.view.read (Elt F) f3) (arg4.view.read (Elt F) f4) (arg5.view.read (Elt F) f5) k0_pay234 (i 2).val ((i 2).val - 1) 3).cm0 := congrArg HS.cm0 (congrFun hS 3)
  have a12_0 : arg12.view.readAt (Elt F) (Rect.unit (s := S4x256x512) ![0, 0, 0] S1x256x512.size inb_S4x256x512_S1x256x512_0_0_0).toLoadRect f12L4 = (st (arg3.view.read (Elt F) f3) (arg4.view.read (Elt F) f4) (arg5.view.read (Elt F) f5) k0_pay234 (i 2).val ((i 2).val - 1) 0).p1 := congrArg HS.p1 (congrFun hS 0)
  have a12_1 : arg12.view.readAt (Elt F) (Rect.unit (s := S4x256x512) ![1, 0, 0] S1x256x512.size inb_S4x256x512_S1x256x512_1_0_0).toLoadRect f12L4 = (st (arg3.view.read (Elt F) f3) (arg4.view.read (Elt F) f4) (arg5.view.read (Elt F) f5) k0_pay234 (i 2).val ((i 2).val - 1) 1).p1 := congrArg HS.p1 (congrFun hS 1)
  have a12_2 : arg12.view.readAt (Elt F) (Rect.unit (s := S4x256x512) ![2, 0, 0] S1x256x512.size inb_S4x256x512_S1x256x512_2_0_0).toLoadRect f12L4 = (st (arg3.view.read (Elt F) f3) (arg4.view.read (Elt F) f4) (arg5.view.read (Elt F) f5) k0_pay234 (i 2).val ((i 2).val - 1) 2).p1 := congrArg HS.p1 (congrFun hS 2)
  have a12_3 : arg12.view.readAt (Elt F) (Rect.unit (s := S4x256x512) ![3, 0, 0] S1x256x512.size inb_S4x256x512_S1x256x512_3_0_0).toLoadRect f12L4 = (st (arg3.view.read (Elt F) f3) (arg4.view.read (Elt F) f4) (arg5.view.read (Elt F) f5) k0_pay234 (i 2).val ((i 2).val - 1) 3).p1 := congrArg HS.p1 (congrFun hS 3)
  have a17_0 : arg17.view.readAt (Elt F) (Rect.unit (s := S4x1x512) ![0, 0, 0] S1x1x512.size inb_S4x1x512_S1x1x512_0_0_0).toLoadRect f17L9 = (st (arg3.view.read (Elt F) f3) (arg4.view.read (Elt F) f4) (arg5.view.read (Elt F) f5) k0_pay234 (i 2).val ((i 2).val - 1) 0).al1 := congrArg HS.al1 (congrFun hS 0)
  have a17_1 : arg17.view.readAt (Elt F) (Rect.unit (s := S4x1x512) ![1, 0, 0] S1x1x512.size inb_S4x1x512_S1x1x512_1_0_0).toLoadRect f17L9 = (st (arg3.view.read (Elt F) f3) (arg4.view.read (Elt F) f4) (arg5.view.read (Elt F) f5) k0_pay234 (i 2).val ((i 2).val - 1) 1).al1 := congrArg HS.al1 (congrFun hS 1)
  have a17_2 : arg17.view.readAt (Elt F) (Rect.unit (s := S4x1x512) ![2, 0, 0] S1x1x512.size inb_S4x1x512_S1x1x512_2_0_0).toLoadRect f17L9 = (st (arg3.view.read (Elt F) f3) (arg4.view.read (Elt F) f4) (arg5.view.read (Elt F) f5) k0_pay234 (i 2).val ((i 2).val - 1) 2).al1 := congrArg HS.al1 (congrFun hS 2)
  have a17_3 : arg17.view.readAt (Elt F) (Rect.unit (s := S4x1x512) ![3, 0, 0] S1x1x512.size inb_S4x1x512_S1x1x512_3_0_0).toLoadRect f17L9 = (st (arg3.view.read (Elt F) f3) (arg4.view.read (Elt F) f4) (arg5.view.read (Elt F) f5) k0_pay234 (i 2).val ((i 2).val - 1) 3).al1 := congrArg HS.al1 (congrFun hS 3)
  have a18_0 : arg18.view.readAt (Elt F) (Rect.unit (s := S4x1x512) ![0, 0, 0] S1x1x512.size inb_S4x1x512_S1x1x512_0_0_0).toLoadRect f18L10 = (st (arg3.view.read (Elt F) f3) (arg4.view.read (Elt F) f4) (arg5.view.read (Elt F) f5) k0_pay234 (i 2).val ((i 2).val - 1) 0).m := congrArg HS.m (congrFun hS 0)
  have a18_1 : arg18.view.readAt (Elt F) (Rect.unit (s := S4x1x512) ![1, 0, 0] S1x1x512.size inb_S4x1x512_S1x1x512_1_0_0).toLoadRect f18L10 = (st (arg3.view.read (Elt F) f3) (arg4.view.read (Elt F) f4) (arg5.view.read (Elt F) f5) k0_pay234 (i 2).val ((i 2).val - 1) 1).m := congrArg HS.m (congrFun hS 1)
  have a18_2 : arg18.view.readAt (Elt F) (Rect.unit (s := S4x1x512) ![2, 0, 0] S1x1x512.size inb_S4x1x512_S1x1x512_2_0_0).toLoadRect f18L10 = (st (arg3.view.read (Elt F) f3) (arg4.view.read (Elt F) f4) (arg5.view.read (Elt F) f5) k0_pay234 (i 2).val ((i 2).val - 1) 2).m := congrArg HS.m (congrFun hS 2)
  have a18_3 : arg18.view.readAt (Elt F) (Rect.unit (s := S4x1x512) ![3, 0, 0] S1x1x512.size inb_S4x1x512_S1x1x512_3_0_0).toLoadRect f18L10 = (st (arg3.view.read (Elt F) f3) (arg4.view.read (Elt F) f4) (arg5.view.read (Elt F) f5) k0_pay234 (i 2).val ((i 2).val - 1) 3).m := congrArg HS.m (congrFun hS 3)
  have a19_0 : arg19.view.readAt (Elt F) (Rect.unit (s := S4x80x512) ![0, 0, 0] S1x80x512.size inb_S4x80x512_S1x80x512_0_0_0).toLoadRect f19L11 = (st (arg3.view.read (Elt F) f3) (arg4.view.read (Elt F) f4) (arg5.view.read (Elt F) f5) k0_pay234 (i 2).val ((i 2).val - 1) 0).acc := congrArg HS.acc (congrFun hS 0)
  have a19_1 : arg19.view.readAt (Elt F) (Rect.unit (s := S4x80x512) ![1, 0, 0] S1x80x512.size inb_S4x80x512_S1x80x512_1_0_0).toLoadRect f19L11 = (st (arg3.view.read (Elt F) f3) (arg4.view.read (Elt F) f4) (arg5.view.read (Elt F) f5) k0_pay234 (i 2).val ((i 2).val - 1) 1).acc := congrArg HS.acc (congrFun hS 1)
  have a19_2 : arg19.view.readAt (Elt F) (Rect.unit (s := S4x80x512) ![2, 0, 0] S1x80x512.size inb_S4x80x512_S1x80x512_2_0_0).toLoadRect f19L11 = (st (arg3.view.read (Elt F) f3) (arg4.view.read (Elt F) f4) (arg5.view.read (Elt F) f5) k0_pay234 (i 2).val ((i 2).val - 1) 2).acc := congrArg HS.acc (congrFun hS 2)
  have a19_3 : arg19.view.readAt (Elt F) (Rect.unit (s := S4x80x512) ![3, 0, 0] S1x80x512.size inb_S4x80x512_S1x80x512_3_0_0).toLoadRect f19L11 = (st (arg3.view.read (Elt F) f3) (arg4.view.read (Elt F) f4) (arg5.view.read (Elt F) f5) k0_pay234 (i 2).val ((i 2).val - 1) 3).acc := congrArg HS.acc (congrFun hS 3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _
    isplitr
    rotate_left 1
    · iexact H7
    · ipureintro
      refine (whole_load arg7 _ (off := ![0, 0, 0]) (by decide) (by decide)).symm.trans ((load_hit arg7.view _ _ _ _ _).trans ?_)
      rw [whole_load arg6 f6 (off := ![0, 0, 0]) (by decide)]
      sl_open_run
      simp (config := {decide := true}) only [load_hit, load_skip, cov_hit, cov_skip, e0, q0, u0, r1, r5, r9, e1, q1, u1, r2, r6, r10, e2, q2, u2, r3, r7, r11, e3, q3, u3, r4, r8, r12, a8_0, a8_1, a8_2, a8_3, a13_0, a13_1, a13_2, a13_3, a12_0, a12_1, a12_2, a12_3, a17_0, a17_1, a17_2, a17_3, a18_0, a18_1, a18_2, a18_3, a19_0, a19_1, a19_2, a19_3, r37, r41, r45, r38, r42, r46, r39, r43, r47, r40, r44, r48, r49, r50, r51, r52]
      sl_open_pay
      unfold block result
      rw [total_succ _ _ _ _ hp, total_succ _ _ _ _ hp, total_succ _ _ _ _ hp, total_succ _ _ _ _ hp]
      rfl
  isplitl [H8]
  · iapply (hold c arg8) $$ H8
  isplitl [H9]
  · iapply (hold c arg9) $$ H9
  isplitl [H10]
  · iapply (hold c arg10) $$ H10
  isplitl [H11]
  · iapply (hold c arg11) $$ H11
  isplitl [H12]
  · iapply (hold c arg12) $$ H12
  isplitl [H13]
  · iapply (hold c arg13) $$ H13
  isplitl [H14]
  · iapply (hold c arg14) $$ H14
  isplitl [H15]
  · iapply (hold c arg15) $$ H15
  isplitl [H16]
  · iapply (hold c arg16) $$ H16
  isplitl [H17]
  · iapply (hold c arg17) $$ H17
  isplitl [H18]
  · iapply (hold c arg18) $$ H18
  iapply (hold c arg19) $$ H19

end Cert.KernelIdeal.Attn
-- ==== Proof.Launch.lean ====
/-
  The run of the whole attention kernel: every grid point leaves `block` of its input blocks in the output's staging buffer,
  so the output array ends as the blocks written back; the arguments end unchanged and every counter at zero.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.First
public import proofs.«01_k».proof.Proof.Later
public import Idealize.ShloMosaic.Lib.Pipeline.FrameBody
public import Idealize.ShloMosaic.Lib.Claim
public import Idealize.ShloMosaic.Lib.LoopRemainder
public import Idealize.ShloMosaic.Lib.Tactic
public import Idealize.ShloMosaic.Lib.Tactic.Stretches

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev sc0 := Memref.whole cc0_scratch0
abbrev sc1 := Memref.whole cc0_scratch1
abbrev sc2 := Memref.whole cc0_scratch2
abbrev sc3 := Memref.whole cc0_scratch3
abbrev sc4 := Memref.whole cc0_scratch4
abbrev sc5 := Memref.whole cc0_scratch5
abbrev sc6 := Memref.whole cc0_scratch6
abbrev sc7 := Memref.whole cc0_scratch7
abbrev sc8 := Memref.whole cc0_scratch8
abbrev sc9 := Memref.whole cc0_scratch9
abbrev sc10 := Memref.whole cc0_scratch10
abbrev sc11 := Memref.whole cc0_scratch11

/-- What a grid point finds besides its blocks: the scratch buffers and the generator's register. -/
theorem rest_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d)) ∗ (∃ r, prngReg c r)) := by
  unfold Pipeline.ΦA; rw [scopedRest0_eq]; simp only [sc0, sc1, sc2, sc3, sc4, sc5, sc6, sc7, sc8, sc9, sc10, sc11, owns_whole]; try rfl

/-- The proof data: inputs keep their blocks, the output's buffer holds `block` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block (iblk m c 0 t) (iblk m c 1 t) (iblk m c 2 t) (iblk m c 3 t) (grid0.coords t 2).val
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t =
    block (iblk m c 0 t) (iblk m c 1 t) (iblk m c 2 t) (iblk m c 3 t) (grid0.coords t 2).val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point, with earlier blocks or without. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, rest_eq]
  iintro ⟨⟨⟨S0, S1, S2, S3, S4, S5, S6, S7, S8, S9, S10, S11⟩, Hg⟩, Ho, ⟨%d0, H0⟩, ⟨%d1, H1⟩, ⟨%d2, H2⟩, ⟨%d3, H3⟩, ⟨%d4, H4⟩⟩
  by_cases hc : k0_cond1 (grid0.coords t) = 1#1
  · iapply (point_later c (grid0.coords t) hc _ _ _ _ _ _ _ _ _ _ _ _ _ _ _ _ _ _ _ _ _ _ _ _ _ _ _ _ _ _ _ _ _ _ (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iintro ⟨H0, H1, H2, H3, H4, S0, S1, S2, S3, S4, S5, S6, S7, S8, S9, S10, S11⟩
    isplitl [S0 S1 S2 S3 S4 S5 S6 S7 S8 S9 S10 S11 Hg]
    · isplitr [Hg]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        iexact S11
      iexact Hg
    isplitl [Ho]; · iexact Ho
    isplitl [H0]; · iexact H0
    isplitl [H1]; · iexact H1
    isplitl [H2]; · iexact H2
    isplitl [H3]; · iexact H3
    iexact H4
  · iapply (point_first c (grid0.coords t) hc _ _ _ _ _ _ _ _ _ _ _ _ _ _ _ _ _ _ _ _ _ _ _ _ _ _ _ _ _ _ _ _ _ _ (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iintro ⟨H0, H1, H2, H3, H4, S0, S1, S2, S3, S4, S5, S6, S7, S8, S9, S10, S11⟩
    isplitl [S0 S1 S2 S3 S4 S5 S6 S7 S8 S9 S10 S11 Hg]
    · isplitr [Hg]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        iexact S11
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array of the pipeline ends at what the proof data says, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The kernel runs, its arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.KernelIdeal.Attn
-- ==== Proof.Softmax.lean ====
/-
  The online softmax over the extended reals, without any program: weights `2 ^ (s - μ)` under a running maximum, what moving
  the maximum does to a block's weighted sum, and that the quotient of the sums does not depend on the maximum or the base.
-/
module

public import Idealize.ShloMosaic.PureOps.Ideal

@[expose] public section

noncomputable section

namespace Cert.Softmax

open Idealize.ShloMosaic

/-! ## Reals among the extended reals -/

/-- A finite extended real. -/
def Finite (x : EReal) : Prop := ∃ r : ℝ, x = (r : EReal)

theorem finite_of_ne {x : EReal} (hb : x ≠ ⊥) (ht : x ≠ ⊤) : Finite x := ⟨x.toReal, (EReal.coe_toReal ht hb).symm⟩

/-- A sum of products of finite numbers is finite. -/
theorem finite_dot {ι : Type} [Fintype ι] (f g : ι → EReal) (hf : ∀ i, Finite (f i)) (hg : ∀ i, Finite (g i)) :
    Finite (∑ i, f i * g i) := by
  choose u hu using hf
  choose v hv using hg
  refine ⟨∑ i, u i * v i, ?_⟩
  have h : ∀ s : Finset ι, ∑ i ∈ s, f i * g i = ((∑ i ∈ s, u i * v i : ℝ) : EReal) := by
    intro s
    classical
    induction s using Finset.induction_on with
    | empty => simp
    | insert i s hi ih => rw [Finset.sum_insert hi, Finset.sum_insert hi, ih, hu, hv, EReal.coe_add, EReal.coe_mul]
  exact h _

/-- A nonnegative real distributes over a sum of extended reals. -/
theorem mul_sum {ι : Type} (s : Finset ι) (f : ι → EReal) {c : ℝ} (hc : 0 ≤ c) :
    (c : EReal) * ∑ i ∈ s, f i = ∑ i ∈ s, (c : EReal) * f i := by
  classical
  induction s using Finset.induction_on with
  | empty => simp
  | insert i s hi ih =>
    rw [Finset.sum_insert hi, Finset.sum_insert hi, ← ih]
    exact EReal.left_distrib_of_nonneg_of_ne_top (EReal.coe_nonneg.2 hc) (EReal.coe_ne_top c) _ _

/-- The largest of numbers below `⊤`, from one below `⊤`, is below `⊤`. -/
theorem fold_max_ne_top {ι : Type} (s : Finset ι) (f : ι → EReal) (b : EReal) (hb : b ≠ ⊤) (hf : ∀ i, f i ≠ ⊤) :
    Finset.fold max b f s ≠ ⊤ := by
  classical
  induction s using Finset.induction_on with
  | empty => simpa using hb
  | insert i s hi ih =>
    rw [Finset.fold_insert hi]
    rcases max_choice (f i) (Finset.fold max b f s) with h | h <;> rw [h]
    · exact hf i
    · exact ih

/-- It is at least each of them. -/
theorem le_fold_max {ι : Type} (s : Finset ι) (f : ι → EReal) (b : EReal) {i : ι} (hi : i ∈ s) :
    f i ≤ Finset.fold max b f s := by
  classical
  induction s using Finset.induction_on with
  | empty => exact absurd hi (Finset.notMem_empty i)
  | insert j s hj ih =>
    rw [Finset.fold_insert hj]
    rcases Finset.mem_insert.1 hi with rfl | h
    · exact le_max_left _ _
    · exact (ih h).trans (le_max_right _ _)

/-! ## Weights -/

/-- The weight of a score under the maximum `μ`. -/
def wt (s μ : EReal) : EReal := Ideal.exp2 (s - μ)

/-- A masked score has no weight. -/
theorem wt_bot (μ : EReal) : wt ⊥ μ = 0 := by
  unfold wt; rw [sub_eq_add_neg, EReal.bot_add, Ideal.exp2_bot]

theorem wt_coe (s μ : ℝ) : wt s μ = ((Real.rpow 2 (s - μ) : ℝ) : EReal) := by
  unfold wt; rw [← EReal.coe_sub, Ideal.exp2_coe]

/-- Moving the maximum from `μ` to `ν` multiplies every weight by the weight of `μ` under `ν`. -/
theorem wt_move {s : EReal} (hs : s ≠ ⊤) (μ ν : ℝ) : wt μ ν * wt s μ = wt s ν := by
  induction s with
  | bot => rw [wt_bot, wt_bot, mul_zero]
  | top => exact absurd rfl hs
  | coe s =>
    rw [wt_coe, wt_coe, wt_coe, ← EReal.coe_mul]
    congr 1
    have h := Real.rpow_add (x := 2) (by norm_num) (μ - ν) (s - μ)
    rw [show μ - ν + (s - μ) = s - ν by ring] at h
    exact h.symm

/-- A weight is a real, not negative. -/
theorem wt_real {s : EReal} (hs : s ≠ ⊤) (μ : ℝ) : ∃ y : ℝ, 0 ≤ y ∧ wt s μ = (y : EReal) := by
  induction s with
  | bot => exact ⟨0, le_refl _, by rw [wt_bot]; rfl⟩
  | top => exact absurd rfl hs
  | coe s => exact ⟨_, Real.rpow_nonneg (by norm_num) _, wt_coe s μ⟩

/-- A block's weighted sum: `n` values against `n` scores under the maximum `μ`. -/
def blockSum {n : ℕ} (v s : Fin n → EReal) (μ : EReal) : EReal := ∑ j, v j * wt (s j) μ

/-- A wholly masked block adds nothing. -/
theorem blockSum_bot {n : ℕ} (v s : Fin n → EReal) (μ : EReal) (hs : ∀ j, s j = ⊥) : blockSum v s μ = 0 :=
  Finset.sum_eq_zero fun j _ => by rw [hs j, wt_bot, mul_zero]

/-- Moving the maximum scales a block's weighted sum. -/
theorem blockSum_move {n : ℕ} (v s : Fin n → EReal) (hs : ∀ j, s j ≠ ⊤) (μ ν : ℝ) :
    wt μ ν * blockSum v s μ = blockSum v s ν := by
  unfold blockSum
  rw [wt_coe, mul_sum _ _ (c := Real.rpow 2 (μ - ν)) (Real.rpow_nonneg (by norm_num) _)]
  refine Finset.sum_congr rfl fun j _ => ?_
  rw [mul_left_comm, ← wt_coe, wt_move (hs j)]

/-- The weighted sum of two own blocks and of the blocks below `n`. -/
def seen (v s : ℕ → Fin 256 → EReal) (o n : ℕ) (μ : EReal) : EReal :=
  blockSum (v o) (s o) μ + blockSum (v (o + 1)) (s (o + 1)) μ + ∑ b ∈ Finset.range n, blockSum (v b) (s b) μ

/-- Moving the maximum scales it too. -/
theorem seen_move (v s : ℕ → Fin 256 → EReal) (hs : ∀ b j, s b j ≠ ⊤) (o n : ℕ) (μ ν : ℝ) :
    wt μ ν * seen v s o n μ = seen v s o n ν := by
  have d : ∀ x y : EReal, wt μ ν * (x + y) = wt μ ν * x + wt μ ν * y := fun x y => by
    rw [wt_coe]
    exact EReal.left_distrib_of_nonneg_of_ne_top (EReal.coe_nonneg.2 (Real.rpow_nonneg (by norm_num) _)) (EReal.coe_ne_top _) _ _
  unfold seen
  rw [d, d, blockSum_move _ _ (hs _), blockSum_move _ _ (hs _)]
  congr 1
  rw [wt_coe, mul_sum _ _ (c := Real.rpow 2 (μ - ν)) (Real.rpow_nonneg (by norm_num) _), ← wt_coe]
  exact Finset.sum_congr rfl fun b _ => blockSum_move _ _ (hs b) μ ν

/-- One block more: the sums so far are scaled to the new maximum and the block is added under it. -/
theorem seen_succ (v s : ℕ → Fin 256 → EReal) (hs : ∀ b j, s b j ≠ ⊤) (o n : ℕ) (μ ν : ℝ) :
    wt μ ν * seen v s o n μ + blockSum (v n) (s n) ν = seen v s o (n + 1) ν := by
  rw [seen_move v s hs]
  unfold seen
  rw [Finset.sum_range_succ, add_assoc]

/-- With every block below the own ones seen, the sum is over all of them in order. -/
theorem seen_all (v s : ℕ → Fin 256 → EReal) (o : ℕ) (μ : EReal) :
    seen v s o o μ = ∑ b ∈ Finset.range (o + 2), blockSum (v b) (s b) μ := by
  unfold seen
  rw [Finset.sum_range_succ, Finset.sum_range_succ, add_comm, add_assoc]

/-! ## From blocks to keys -/

/-- Blocks of 256 keys, one after another, are the keys. -/
theorem sum_blocks (f : ℕ → EReal) (n : ℕ) :
    ∑ b ∈ Finset.range n, ∑ j : Fin 256, f (256 * b + j.val) = ∑ j ∈ Finset.range (256 * n), f j := by
  induction n with
  | zero => simp
  | succ n ih =>
    rw [Finset.sum_range_succ, ih, Nat.mul_succ, Finset.sum_range_add, Fin.sum_univ_eq_sum_range (fun j => f (256 * n + j))]

/-- Keys past the last block that count for nothing may be added. -/
theorem sum_keys (f : ℕ → EReal) {n N : ℕ} (h : 256 * n ≤ N) (hf : ∀ j, 256 * n ≤ j → f j = 0) :
    ∑ b ∈ Finset.range n, ∑ j : Fin 256, f (256 * b + j.val) = ∑ j : Fin N, f j.val := by
  rw [sum_blocks, Fin.sum_univ_eq_sum_range f N]
  refine Finset.sum_subset (Finset.range_mono h) fun j _ hj => hf j ?_
  simpa using hj

/-! ## The quotient -/

/-- The exponential of a score in nats under the maximum `M` is its weight under `μ` times one factor. -/
theorem exp_eq {s : EReal} (hs : s ≠ ⊤) (μ M : ℝ) :
    Ideal.exp (s * ((Real.log 2 : ℝ) : EReal) - M) = ((Real.exp (μ * Real.log 2 - M) : ℝ) : EReal) * wt s μ := by
  have hl : (0 : ℝ) < Real.log 2 := Real.log_pos (by norm_num)
  induction s with
  | bot =>
    rw [wt_bot, mul_zero, EReal.bot_mul_coe_of_pos hl, sub_eq_add_neg, EReal.bot_add, Ideal.exp_bot]
  | top => exact absurd rfl hs
  | coe s =>
    rw [wt_coe, ← EReal.coe_mul, ← EReal.coe_sub, Ideal.exp_coe, ← EReal.coe_mul]
    congr 1
    have h : Real.rpow 2 (s - μ) = Real.exp (Real.log 2 * (s - μ)) := Real.rpow_def_of_pos (by norm_num) _
    rw [h, ← Real.exp_add]
    congr 1
    ring

theorem div_coe (x : EReal) {r : ℝ} (hr : r ≠ 0) : Ideal.div x (r : EReal) = x * ((r⁻¹ : ℝ) : EReal) := by
  unfold Ideal.div
  rw [if_neg (by exact_mod_cast hr), EReal.coe_inv]

/-- The total weight of scores of which one is finite is a positive real. -/
theorem total_pos {N : ℕ} (s : Fin N → EReal) (hs : ∀ j, s j ≠ ⊤) (μ : ℝ) (i : Fin N) (hi : Finite (s i)) :
    ∃ y : ℝ, 0 < y ∧ ∑ j, wt (s j) μ = (y : EReal) := by
  choose u hu0 hu using fun j => wt_real (hs j) μ
  refine ⟨∑ j, u j, ?_, ?_⟩
  · refine Finset.sum_pos' (fun j _ => hu0 j) ⟨i, Finset.mem_univ i, ?_⟩
    obtain ⟨r, hr⟩ := hi
    have h := hu i
    rw [hr, wt_coe] at h
    rw [← EReal.coe_eq_coe_iff.1 h]
    exact Real.rpow_pos_of_pos (by norm_num) _
  · have h : ∀ t : Finset (Fin N), ∑ j ∈ t, wt (s j) μ = ((∑ j ∈ t, u j : ℝ) : EReal) := by
      intro t
      induction t using Finset.induction_on with
      | empty => simp
      | insert j t hj ih => rw [Finset.sum_insert hj, Finset.sum_insert hj, ih, hu, EReal.coe_add]
    exact h _

/-- The softmax in nats under any maximum `M`, applied to values, is the quotient of the weighted sums under `μ`. -/
theorem quotient {N : ℕ} (v s : Fin N → EReal) (hs : ∀ j, s j ≠ ⊤) (μ M : ℝ) (i : Fin N) (hi : Finite (s i)) :
    (∑ j, v j * wt (s j) μ) * Ideal.div 1 (∑ j, wt (s j) μ)
      = ∑ j, v j * Ideal.div (Ideal.exp (s j * ((Real.log 2 : ℝ) : EReal) - M))
          (∑ k, Ideal.exp (s k * ((Real.log 2 : ℝ) : EReal) - M)) := by
  obtain ⟨L, hL, hLs⟩ := total_pos s hs μ i hi
  have hc : 0 < Real.exp (μ * Real.log 2 - M) := Real.exp_pos _
  set c := Real.exp (μ * Real.log 2 - M) with hcdef
  have hsum : ∑ k, Ideal.exp (s k * ((Real.log 2 : ℝ) : EReal) - M) = ((c * L : ℝ) : EReal) := by
    rw [EReal.coe_mul, ← hLs, mul_sum _ _ hc.le]
    exact Finset.sum_congr rfl fun k _ => exp_eq (hs k) μ M
  rw [hsum, hLs, div_coe _ hL.ne', one_mul, mul_comm, mul_sum _ _ (inv_nonneg.2 hL.le)]
  refine Finset.sum_congr rfl fun j _ => ?_
  rw [exp_eq (hs j) μ M, ← hcdef, div_coe _ (mul_pos hc hL).ne', mul_left_comm]
  obtain ⟨y, -, hy⟩ := wt_real (hs j) μ
  rw [hy, ← EReal.coe_mul, ← EReal.coe_mul, ← EReal.coe_mul]
  congr 2
  field_simp

end Cert.Softmax
-- ==== Proof.Columns.lean ====
/-
  The stages of the attention kernel over the extended reals, one entry at a time: scores, maxima, decays, weights, sums and
  the output block.
-/
module

public import proofs.«01_k».proof.Proof.State
public import proofs.«01_k».proof.Proof.Softmax
public import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen Cert.Softmax

theorem ofBits_neg_inf : Ideal.ofBits .f32 0xFF800000#32 = ⊥ := by
  simp [Ideal.ofBits, Ideal.ieee]

/-- The product of row `j` of a key block with row `r` of the queries. -/
def dotAt {n : ℕ} (kb : Vec Ideal S1x256x128 .bf16) (qb : Vec Ideal ⟨3, ![1, n, 128]⟩ .bf16) (j : Fin 256) (r : Fin n) : EReal :=
  ∑ e : Fin 128, (kb (ix3 0 j e) : EReal) * (qb (ix3 0 r e) : EReal)

/-- The causal mask inside a block: `0` where the key is not after the query. -/
def maskAt (j r : ℕ) : EReal := if j ≤ r then 0 else ⊥

theorem select_mask (j r : ℕ) (hj : j < 4096) (hr : r < 4096) :
    Scalar.select (IntOp.cmpi CmpIPredicate.sle (BitVec.ofNat 32 j) (BitVec.ofNat 32 r)) (0 : EReal)
      (Ideal.ofBits .f32 0xFF800000#32) = maskAt j r := by
  rw [ofBits_neg_inf]
  have h : (BitVec.ofNat 32 j).sle (BitVec.ofNat 32 r) = decide (j ≤ r) := by
    have t : ∀ n : ℕ, n < 4096 → (BitVec.ofNat 32 n).toInt = n := fun n hn => by
      rw [BitVec.toInt_eq_toNat_of_lt (by rw [BitVec.toNat_ofNat]; omega), BitVec.toNat_ofNat]; omega
    rw [BitVec.sle, t j hj, t r hr]
    simp
  unfold maskAt Scalar.select IntOp.cmpi
  by_cases hjr : j ≤ r
  · simp [h, hjr]
  · simp [h, hjr]

theorem dots_at (kb : Vec Ideal S1x256x128 .bf16) (qb : Vec Ideal S1x512x128 .bf16) (j : Fin 256) (r : Fin 512) :
    dots kb qb (ix2 j r) = dotAt kb qb j r := by
  unfold dotAt
  pointwise [dots]

theorem keep_at (s : FVec Ideal S256x512 .f32) (j : Fin 256) (r : Fin 512) : keep s (ix3 0 j r) = s (ix2 j r) := by
  pointwise [keep]

theorem colMax_at (s : FVec Ideal S256x512 .f32) (r : Fin 512) :
    colMax s (ix3 0 0 r) = Finset.fold max ⊥ (fun j => s (ix2 j r)) Finset.univ := by
  rw [← ofBits_neg_inf]
  pointwise [colMax]

theorem halfMax_at (s : FVec Ideal S256x256 .f32) (r : Fin 256) :
    halfMax s (ix3 0 0 r) = Finset.fold max ⊥ (fun j => s (ix2 j r)) Finset.univ := by
  rw [← ofBits_neg_inf]
  pointwise [halfMax]

theorem newMax_at (m cm : Vec Ideal S1x1x512 .f32) (r : Fin 512) :
    newMax m cm (ix3 0 0 r) = max (m (ix3 0 0 r) : EReal) (cm (ix3 0 0 r)) := by
  pointwise [newMax, rowMax]

theorem decay_at (m cm : Vec Ideal S1x1x512 .f32) (r : Fin 512) :
    decay m cm (ix3 0 0 r) = wt (m (ix3 0 0 r)) (max (m (ix3 0 0 r) : EReal) (cm (ix3 0 0 r))) := by
  pointwise [decay, rowMax]
  rfl

theorem weights_at (m cm : Vec Ideal S1x1x512 .f32) (s : Vec Ideal S1x256x512 .f32) (j : Fin 256) (r : Fin 512) :
    weights m cm s (ix3 0 j r) = wt (s (ix3 0 j r)) (max (m (ix3 0 0 r) : EReal) (cm (ix3 0 0 r))) := by
  pointwise [weights, rowMax]
  rfl

/-- A value of a block, with ones below the head's 64 rows. -/
def augAt (vb : Vec Ideal S1x1x64x256 .bf16) (d : Fin 80) (j : Fin 256) : EReal :=
  if h : d.val < 64 then vb (ix4 0 0 ⟨d.val, h⟩ j) else 1

theorem accum_at (vb : Vec Ideal S1x1x64x256 .bf16) (al : Vec Ideal S1x1x512 .f32) (acc : Vec Ideal S1x80x512 .f32)
    (p : Vec Ideal S1x256x512 .bf16) (d : Fin 80) (r : Fin 512) : accum k0_pay234 vb al acc p (ix3 0 d r)
      = (al (ix3 0 0 r) : EReal) * acc (ix3 0 d r) + ∑ j : Fin 256, augAt vb d j * (p (ix3 0 j r) : EReal) := by
  unfold augAt
  pointwise [accum, augment, k0_pay234]

theorem ownDots_at (kb : Vec Ideal S1x256x128 .bf16) (qb : Vec Ideal S1x512x128 .bf16) (j : Fin 256) (r : Fin 512) :
    ownDots kb qb (ix2 j r) = if r.val < 256 then dotAt kb qb j r + maskAt j.val r.val else dotAt kb qb j r := by
  rw [← select_mask j.val r.val (by omega) (by omega)]
  unfold dotAt
  pointwise [ownDots, tri, dots]
  split
  · rfl
  · blk_point []

theorem halfDots_at (kb qb : Vec Ideal S1x256x128 .bf16) (j r : Fin 256) :
    halfDots kb qb (ix2 j r) = dotAt kb qb j r + maskAt j.val r.val := by
  rw [← select_mask j.val r.val (by omega) (by omega)]
  unfold dotAt
  pointwise [halfDots, tri]

theorem halfWeights_at (m cm : Vec Ideal S1x1x256 .f32) (s : FVec Ideal S256x256 .f32) (j r : Fin 256) :
    halfWeights m cm s (ix3 0 j r) = wt (s (ix2 j r)) (max (m (ix3 0 0 r) : EReal) (cm (ix3 0 0 r))) := by
  pointwise [halfWeights, halfRow]
  rfl

theorem ownDecay_at (m cm : Vec Ideal S1x1x256 .f32) (r : Fin 512) : ownDecay m cm (ix3 0 0 r)
      = if h : r.val < 256 then (1 : EReal) else wt (m (ix3 0 0 ⟨r.val - 256, by omega⟩))
          (max (m (ix3 0 0 ⟨r.val - 256, by omega⟩) : EReal) (cm (ix3 0 0 ⟨r.val - 256, by omega⟩))) := by
  pointwise [ownDecay, halfRow]
  rfl

theorem halfRow_at (m cm : Vec Ideal S1x1x256 .f32) (r : Fin 256) :
    (shapeCast S1x1x256 (halfRow m cm) shapeCasts_S1x256_S1x1x256 : FVec Ideal S1x1x256 .f32) (ix3 0 0 r)
      = max (m (ix3 0 0 r) : EReal) (cm (ix3 0 0 r)) := by
  pointwise [halfRow]

theorem noWeights_at (j r : Fin 256) : noWeights (F := Ideal) (ix3 0 j r) = (0 : EReal) := by
  pointwise [noWeights]
  try rfl

/-- The weighted mean of row `d` of a head's sums. -/
def meanAt (s : FVec Ideal S1x80x512 .f32) (d : Fin 64) (r : Fin 512) : EReal :=
  (s (ix3 0 ⟨d.val, by omega⟩ r) : EReal) * Ideal.div 1 (s (ix3 0 (64 : Fin 80) r))

theorem result_at (t : Fin 4 → FVec Ideal S1x80x512 .f32) (x3 : Vec Ideal S1x512x256 .bf16) (r : Fin 512) (h : Fin 4)
    (d : Fin 64) : result t x3 (ix3 0 r (⟨64 * h.val + d.val, by omega⟩ : Fin 256))
      = meanAt (t h) d r * (x3 (ix3 0 r (⟨64 * h.val + d.val, by omega⟩ : Fin 256)) : EReal) := by
  unfold meanAt
  pointwise [result, means]
  congr 1
  obtain ⟨h, hh⟩ := h
  interval_cases h <;> simp only [] <;> split_ifs with h1 h2 h3 <;> first
    | (exfalso; omega)
    | (congr 2; refine congrArg (ix3 0 · r) (Fin.ext ?_); simp only []; omega)

end Cert.KernelIdeal.Attn
-- ==== Proof.Online.lean ====
/-
  What one head carries, column by column: before trip `k` its sums, scaled and with the pending block added, are the weighted
  sums of the two own blocks and of the blocks below `2k` under its running maximum.
-/
module

public import proofs.«01_k».proof.Proof.Columns

@[expose] public section

set_option maxRecDepth 16384

noncomputable section

namespace Cert.KernelIdeal.Attn

open Idealize.ShloMosaic Idealize.ShloMosaic.TcCoe
open Cert.KernelIdeal Cert.KernelIdeal.Gen Cert.Softmax

variable (x0 : Vec Ideal S1x512x512 .bf16) (x1 : Vec Ideal S1x4096x512 .bf16) (x2 : Vec Ideal S1x16x256x256 .bf16)

/-- The score of key `j` of block `b` for the query in row `r`, head `h`. -/
def rawAt (h : Fin 4) (r : Fin 512) (b : ℕ) (j : Fin 256) : EReal := dotAt (kblk x1 b h) (qblk x0 h) j r

/-- The score with the keys after the query masked, at query tile `a`. -/
def scoreAt (a : ℕ) (h : Fin 4) (r : Fin 512) (b : ℕ) (j : Fin 256) : EReal :=
  if 256 * b + j.val ≤ 512 * a + r.val then rawAt x0 x1 h r b j else ⊥

/-- The values of block `b`, head `h`, row `d` of the augmented values. -/
def valAt (h : Fin 4) (d : Fin 80) (b : ℕ) (j : Fin 256) : EReal := augAt (vblk x2 b h) d j

/-- Finite queries and keys. -/
structure Tame : Prop where
  q : ∀ y, Finite (x0 y)
  k : ∀ y, Finite (x1 y)

variable {x0 x1}

theorem rawAt_finite (T : Tame x0 x1) (h : Fin 4) (r : Fin 512) (b : ℕ) (j : Fin 256) : Finite (rawAt x0 x1 h r b j) :=
  finite_dot (fun e => kblk x1 b h (ix3 0 j e)) (fun e => qblk x0 h (ix3 0 r e)) (fun _ => T.k _) (fun _ => T.q _)

theorem Finite.ne_top {x : EReal} (h : Finite x) : x ≠ ⊤ := by obtain ⟨r, rfl⟩ := h; exact EReal.coe_ne_top r

theorem scoreAt_ne_top (T : Tame x0 x1) (a : ℕ) (h : Fin 4) (r : Fin 512) (b : ℕ) (j : Fin 256) :
    scoreAt x0 x1 a h r b j ≠ ⊤ := by
  unfold scoreAt
  split
  · exact Finite.ne_top (rawAt_finite T h r b j)
  · exact bot_ne_top

/-- A maximum of a finite number and one below `⊤` is finite. -/
theorem finite_max {x y : EReal} (hx : Finite x) (hy : y ≠ ⊤) : Finite (max x y) := by
  obtain ⟨r, rfl⟩ := hx
  refine finite_of_ne (fun h => ?_) (fun h => ?_)
  · exact EReal.coe_ne_bot r (le_bot_iff.1 (h ▸ le_max_left _ _))
  · rcases max_choice (r : EReal) y with e | e <;> rw [e] at h
    · exact EReal.coe_ne_top r h
    · exact hy h

/-- The state of column `r` before trip `k`. -/
structure Carries (x0 : Vec Ideal S1x512x512 .bf16) (x1 : Vec Ideal S1x4096x512 .bf16) (x2 : Vec Ideal S1x16x256x256 .bf16)
    (a k : ℕ) (h : Fin 4) (r : Fin 512) (S : HS Ideal) : Prop where
  /-- The scores kept for the trip are block `2k`'s. -/
  s0 : ∀ j, S.s0 (ix3 0 j r) = rawAt x0 x1 h r (2 * k) j
  /-- Their maximum is below `⊤`. -/
  cm0 : S.cm0 (ix3 0 0 r) ≠ (⊤ : EReal)
  /-- The running maximum is finite. -/
  m : Finite (S.m (ix3 0 0 r))
  /-- The sums with the pending block added. -/
  sums : ∀ d, (S.al1 (ix3 0 0 r) : EReal) * S.acc (ix3 0 d r) + ∑ j, valAt x2 h d (lag a k) j * (S.p1 (ix3 0 j r) : EReal)
    = seen (valAt x2 h d) (scoreAt x0 x1 a h r) (2 * a) (2 * k) (S.m (ix3 0 0 r))

theorem colMax_ne_top (T : Tame x0 x1) (h : Fin 4) (r : Fin 512) (b : ℕ) :
    colMax (dots (kblk x1 b h) (qblk x0 h)) (ix3 0 0 r) ≠ (⊤ : EReal) := by
  rw [colMax_at]
  refine fold_max_ne_top _ _ _ bot_ne_top fun j => ?_
  rw [dots_at]
  exact Finite.ne_top (rawAt_finite T h r b j)

/-- A block before the query's tile is not masked. -/
theorem scoreAt_past {a b : ℕ} (hb : b < 2 * a) (h : Fin 4) (r : Fin 512) (j : Fin 256) :
    scoreAt x0 x1 a h r b j = rawAt x0 x1 h r b j := if_pos (by omega)

theorem next_cm0 (a k : ℕ) (h : Fin 4) (S : HS Ideal) : (next x0 x1 x2 k0_pay234 a k h S).cm0
    = colMax (dots (kblk x1 (2 * k + 2) h) (qblk x0 h)) := by rw [next]

theorem start_cm0 (a : ℕ) (h : Fin 4) : (start x0 x1 x2 k0_pay234 a h).cm0 = colMax (dots (kblk x1 0 h) (qblk x0 h)) := by rw [start]

/-- One trip. -/
theorem carries_next (T : Tame x0 x1) {a k : ℕ} (hk : k < a) (h : Fin 4) (r : Fin 512) (S : HS Ideal)
    (H : Carries x0 x1 x2 a k h r S) : Carries x0 x1 x2 a (k + 1) h r (next x0 x1 x2 k0_pay234 a k h S) := by
  have e0 : newMax S.m S.cm0 (ix3 0 0 r) = max (S.m (ix3 0 0 r) : EReal) (S.cm0 (ix3 0 0 r)) := newMax_at _ _ _
  have f0 : Finite (newMax S.m S.cm0 (ix3 0 0 r)) := e0 ▸ finite_max H.m H.cm0
  have e1 := newMax_at (newMax S.m S.cm0) (colMax (dots (kblk x1 (2 * k + 1) h) (qblk x0 h))) r
  have f1 : Finite (newMax (newMax S.m S.cm0) (colMax (dots (kblk x1 (2 * k + 1) h) (qblk x0 h))) (ix3 0 0 r)) :=
    e1 ▸ finite_max f0 (colMax_ne_top T h r _)
  refine ⟨fun j => ?_, ?_, f1, fun d => ?_⟩
  · show keep (dots (kblk x1 (2 * k + 2) h) (qblk x0 h)) (ix3 0 j r) = _
    rw [keep_at, dots_at, Nat.mul_succ]; rfl
  · rw [next_cm0]
    exact colMax_ne_top T h r _
  · obtain ⟨μ, hμ⟩ := H.m
    obtain ⟨ν, hν⟩ := f0
    obtain ⟨ξ, hξ⟩ := f1
    have hS := H.sums d
    show (decay (newMax S.m S.cm0) (colMax (dots (kblk x1 (2 * k + 1) h) (qblk x0 h))) (ix3 0 0 r) : EReal)
        * accum k0_pay234 (vblk x2 (2 * k) h) (decay S.m S.cm0)
          (accum k0_pay234 (vblk x2 (lag a k) h) S.al1 S.acc S.p1) (weights S.m S.cm0 S.s0) (ix3 0 d r)
        + ∑ j, valAt x2 h d (2 * (k + 1) - 1) j
          * (weights (newMax S.m S.cm0) (colMax (dots (kblk x1 (2 * k + 1) h) (qblk x0 h)))
              (keep (dots (kblk x1 (2 * k + 1) h) (qblk x0 h))) (ix3 0 j r) : EReal)
      = seen (valAt x2 h d) (scoreAt x0 x1 a h r) (2 * a) (2 * (k + 1))
          (newMax (newMax S.m S.cm0) (colMax (dots (kblk x1 (2 * k + 1) h) (qblk x0 h))) (ix3 0 0 r))
    rw [accum_at, accum_at, decay_at, decay_at, ← e0, ← e1, hξ, hν]
    unfold valAt at hS
    rw [hS, hμ]
    have hb0 : (∑ j, augAt (vblk x2 (2 * k) h) d j * (weights S.m S.cm0 S.s0 (ix3 0 j r) : EReal))
        = blockSum (valAt x2 h d (2 * k)) (scoreAt x0 x1 a h r (2 * k)) ν := Finset.sum_congr rfl fun j _ => by
      rw [weights_at, ← e0, hν, H.s0, scoreAt_past (by omega)]; rfl
    have hb1 : (∑ j, valAt x2 h d (2 * (k + 1) - 1) j
          * (weights (newMax S.m S.cm0) (colMax (dots (kblk x1 (2 * k + 1) h) (qblk x0 h)))
              (keep (dots (kblk x1 (2 * k + 1) h) (qblk x0 h))) (ix3 0 j r) : EReal))
        = blockSum (valAt x2 h d (2 * k + 1)) (scoreAt x0 x1 a h r (2 * k + 1)) ξ := Finset.sum_congr rfl fun j _ => by
      rw [weights_at, ← e1, hξ, keep_at, dots_at, scoreAt_past (by omega)]; rfl
    rw [hb0, hb1]
    have hs := scoreAt_ne_top T a h r
    have u0 := seen_succ (valAt x2 h d) _ hs (2 * a) (2 * k) μ ν
    have u1 := seen_succ (valAt x2 h d) _ hs (2 * a) (2 * k + 1) ν ξ
    unfold valAt at u0 u1 ⊢
    rw [u0, u1, show 2 * (k + 1) = 2 * k + 1 + 1 by omega]

/-! ## Before the loop -/

theorem floorRow_finite (r : Fin 512) : Finite (floorRow (F := Ideal) (ix3 0 0 r)) := by
  show Finite (Ideal.ieee 8 23 0xF149F2CA#32)
  unfold Ideal.ieee
  rw [if_neg (by decide), if_neg (by decide)]
  exact ⟨_, rfl⟩

theorem noSums_at (d : Fin 80) (r : Fin 512) : noSums (F := Ideal) (ix3 0 d r) = (0 : EReal) := by
  show Ideal.ofBits .f32 0x00000000#32 = 0
  simp [Ideal.ofBits, Ideal.ieee]

/-- The masked scores of the first own block. -/
theorem ownDots_score (a : ℕ) (h : Fin 4) (r : Fin 512) (j : Fin 256) :
    ownDots (kblk x1 (2 * a) h) (qblk x0 h) (ix2 j r) = scoreAt x0 x1 a h r (2 * a) j := by
  rw [ownDots_at]
  unfold scoreAt maskAt rawAt
  by_cases hr : r.val < 256
  · rw [if_pos hr]
    by_cases hj : j.val ≤ r.val
    · rw [if_pos hj, if_pos (by omega), add_zero]
    · rw [if_neg hj, if_neg (by omega), EReal.add_bot]
  · rw [if_neg hr, if_pos (by omega)]

/-- A row in the second half. -/
def up (q : Fin 256) : Fin 512 := ⟨256 + q.val, by omega⟩

theorem eq_up (r : Fin 512) (hr : ¬ r.val < 256) : ∃ q : Fin 256, r = up q :=
  ⟨⟨r.val - 256, by omega⟩, Fin.ext (show r.val = 256 + (r.val - 256) by omega)⟩

/-- The masked scores of the second own block, for the second half of the queries. -/
theorem halfDots_score (a : ℕ) (h : Fin 4) (r : Fin 256) (j : Fin 256) :
    halfDots (kblk x1 (2 * a + 1) h) (qhalf x0 h) (ix2 j r)
      = scoreAt x0 x1 a h (up r) (2 * a + 1) j := by
  rw [halfDots_at]
  have hu : (up r).val = 256 + r.val := rfl
  have e : dotAt (kblk x1 (2 * a + 1) h) (qhalf x0 h) j r
      = rawAt x0 x1 h (up r) (2 * a + 1) j := rfl
  rw [e]
  unfold scoreAt maskAt
  by_cases hj : j.val ≤ r.val
  · rw [if_pos hj, if_pos (by omega), add_zero]
  · rw [if_neg hj, if_neg (by omega), EReal.add_bot]

theorem halves_low {n : ℕ} {e : EltTy} (l u : Vec Ideal ⟨3, ![1, n, 256]⟩ e) (i : Fin n) (r : Fin 512) (hr : r.val < 256) :
    halves l u (ix3 0 i r) = l (ix3 0 i (⟨r.val, hr⟩ : Fin 256)) := dif_pos hr

theorem halves_high {n : ℕ} {e : EltTy} (l u : Vec Ideal ⟨3, ![1, n, 256]⟩ e) (i : Fin n) (q : Fin 256) :
    halves l u (ix3 0 i (up q)) = u (ix3 0 i q) := by
  have hr : ¬ (up q).val < 256 := by unfold up; simp
  refine (dif_neg hr).trans (congrArg u (congrArg (ix3 0 i) (Fin.ext ?_)))
  exact Nat.add_sub_cancel_left ..

theorem ownDecay_up (m cm : Vec Ideal S1x1x256 .f32) (q : Fin 256) : ownDecay m cm (ix3 0 0 (up q))
    = wt (m (ix3 0 0 q)) (max (m (ix3 0 0 q) : EReal) (cm (ix3 0 0 q))) := by
  have hr : ¬ (up q).val < 256 := by unfold up; simp
  have hq : ∀ h, (⟨(up q).val - 256, h⟩ : Fin 256) = q := fun h => Fin.ext (Nat.add_sub_cancel_left ..)
  rw [ownDecay_at, dif_neg hr]
  simp only [hq]

/-- Into the loop. -/
theorem carries_start (T : Tame x0 x1) (a : ℕ) (h : Fin 4) (r : Fin 512) :
    Carries x0 x1 x2 a 0 h r (start x0 x1 x2 k0_pay234 a h) := by
  have hs := scoreAt_ne_top T a h r
  have c2 : colMax (ownDots (kblk x1 (2 * a) h) (qblk x0 h)) (ix3 0 0 r) ≠ (⊤ : EReal) := by
    rw [colMax_at]
    exact fold_max_ne_top _ _ _ bot_ne_top fun j => by rw [ownDots_score]; exact hs _ _
  have e0 := newMax_at floorRow (colMax (ownDots (kblk x1 (2 * a) h) (qblk x0 h))) r
  have f0 : Finite (newMax floorRow (colMax (ownDots (kblk x1 (2 * a) h) (qblk x0 h))) (ix3 0 0 r)) :=
    e0 ▸ finite_max (floorRow_finite r) c2
  have hacc : ∀ d, (start x0 x1 x2 k0_pay234 a h).acc (ix3 0 d r)
      = blockSum (valAt x2 h d (2 * a)) (scoreAt x0 x1 a h r (2 * a))
          (newMax floorRow (colMax (ownDots (kblk x1 (2 * a) h) (qblk x0 h))) (ix3 0 0 r)) := fun d => by
    show accum k0_pay234 (vblk x2 (2 * a) h) (decay floorRow (colMax (ownDots (kblk x1 (2 * a) h) (qblk x0 h)))) noSums
      (weights floorRow (colMax (ownDots (kblk x1 (2 * a) h) (qblk x0 h))) (keep (ownDots (kblk x1 (2 * a) h) (qblk x0 h))))
      (ix3 0 d r) = _
    rw [accum_at, noSums_at, mul_zero, zero_add, e0]
    refine Finset.sum_congr rfl fun j _ => ?_
    rw [weights_at, keep_at, ownDots_score]; rfl
  have h0 : ∀ j, (start x0 x1 x2 k0_pay234 a h).s0 (ix3 0 j r) = rawAt x0 x1 h r (2 * 0) j := fun j => by
    show keep (dots (kblk x1 0 h) (qblk x0 h)) (ix3 0 j r) = _
    rw [keep_at, dots_at]; rfl
  have hc : (start x0 x1 x2 k0_pay234 a h).cm0 (ix3 0 0 r) ≠ (⊤ : EReal) := by
    rw [start_cm0]
    exact colMax_ne_top T h r _
  by_cases hr : r.val < 256
  · have hm : (start x0 x1 x2 k0_pay234 a h).m (ix3 0 0 r)
        = newMax floorRow (colMax (ownDots (kblk x1 (2 * a) h) (qblk x0 h))) (ix3 0 0 r) :=
      (halves_low _ _ 0 r hr).trans (congrArg (newMax floorRow (colMax (ownDots (kblk x1 (2 * a) h) (qblk x0 h)))) (by
        refine congrArg (ix3 0 0) (Fin.ext ?_)
        exact Nat.mod_eq_of_lt r.isLt))
    refine ⟨h0, hc, hm ▸ f0, fun d => ?_⟩
    have hal : (start x0 x1 x2 k0_pay234 a h).al1 (ix3 0 0 r) = (1 : EReal) :=
      (ownDecay_at _ _ r).trans (dif_pos hr)
    have hp : ∀ j, (start x0 x1 x2 k0_pay234 a h).p1 (ix3 0 j r) = (0 : EReal) := fun j =>
      (halves_low (n := 256) (e := .bf16) (noWeights (F := Ideal)) (halfWeights (upper (newMax floorRow (colMax (ownDots (kblk x1 (2 * a) h)
        (qblk x0 h))))) (halfMax (halfDots (kblk x1 (2 * a + 1) h) (qhalf x0 h))) (halfDots (kblk x1 (2 * a + 1) h) (qhalf x0 h))) j r hr).trans
        (noWeights_at j _)
    rw [hal, hacc, hm, one_mul, Finset.sum_eq_zero fun j _ => by rw [hp, mul_zero], add_zero]
    unfold seen
    rw [blockSum_bot _ (scoreAt x0 x1 a h r (2 * a + 1)) _ fun j => if_neg (by omega)]
    simp
  · obtain ⟨q, rfl⟩ := eq_up r hr
    have hu : upper (newMax floorRow (colMax (ownDots (kblk x1 (2 * a) h) (qblk x0 h)))) (ix3 0 0 q)
        = newMax floorRow (colMax (ownDots (kblk x1 (2 * a) h) (qblk x0 h))) (ix3 0 0 (up q)) :=
      congrArg (newMax floorRow (colMax (ownDots (kblk x1 (2 * a) h) (qblk x0 h)))) (by
        refine congrArg (ix3 0 0) (Fin.ext ?_)
        exact Nat.mod_eq_of_lt (show 256 + q.val < 512 by omega))
    have ch : halfMax (halfDots (kblk x1 (2 * a + 1) h) (qhalf x0 h)) (ix3 0 0 q) ≠ (⊤ : EReal) := by
      rw [halfMax_at]
      exact fold_max_ne_top _ _ _ bot_ne_top fun j => by rw [halfDots_score]; exact hs _ _
    have hm : (start x0 x1 x2 k0_pay234 a h).m (ix3 0 0 (up q))
        = max (newMax floorRow (colMax (ownDots (kblk x1 (2 * a) h) (qblk x0 h))) (ix3 0 0 (up q)) : EReal)
            (halfMax (halfDots (kblk x1 (2 * a + 1) h) (qhalf x0 h)) (ix3 0 0 q)) := by
      refine (halves_high _ _ 0 q).trans ?_
      rw [halfRow_at, hu]
    have fm := finite_max f0 ch
    rw [← hm] at fm
    refine ⟨h0, hc, fm, fun d => ?_⟩
    have hal : (start x0 x1 x2 k0_pay234 a h).al1 (ix3 0 0 (up q))
        = wt (newMax floorRow (colMax (ownDots (kblk x1 (2 * a) h) (qblk x0 h))) (ix3 0 0 (up q)))
            ((start x0 x1 x2 k0_pay234 a h).m (ix3 0 0 (up q))) := by
      refine (ownDecay_up _ _ q).trans ?_
      rw [hu, hm]
    have hp : ∀ j, (start x0 x1 x2 k0_pay234 a h).p1 (ix3 0 j (up q))
        = wt (scoreAt x0 x1 a h (up q) (2 * a + 1) j)
            ((start x0 x1 x2 k0_pay234 a h).m (ix3 0 0 (up q))) := fun j => by
      refine (halves_high (n := 256) (e := .bf16) (noWeights (F := Ideal)) (halfWeights (upper (newMax floorRow (colMax (ownDots (kblk x1 (2 * a) h)
        (qblk x0 h))))) (halfMax (halfDots (kblk x1 (2 * a + 1) h) (qhalf x0 h))) (halfDots (kblk x1 (2 * a + 1) h) (qhalf x0 h))) j q).trans ?_
      rw [halfWeights_at, halfDots_score, hu, hm]
    rw [hal, hacc, Finset.sum_congr rfl fun j _ => by rw [hp j]]
    obtain ⟨μ, hμ⟩ := f0
    obtain ⟨ν, hν⟩ := fm
    rw [hμ, hν, blockSum_move _ _ (hs _)]
    unfold seen
    simp only [Nat.mul_zero, Finset.range_zero, Finset.sum_empty, add_zero]
    rfl

/-- Before every trip. -/
theorem carries (T : Tame x0 x1) (a : ℕ) (h : Fin 4) (r : Fin 512) :
    ∀ k, k ≤ a → Carries x0 x1 x2 a k h r (st x0 x1 x2 k0_pay234 a k h)
  | 0, _ => carries_start x2 T a h r
  | k + 1, hk => carries_next x2 T (by omega) h r _ (carries T a h r k (by omega))

end Cert.KernelIdeal.Attn
-- ==== Proof.Output.lean ====
/-
  What one grid point writes: the softmax of its queries over all keys up to each, applied to the values, times the gate.
-/
module

public import proofs.«01_k».proof.Proof.Online

@[expose] public section

set_option maxRecDepth 16384

noncomputable section

namespace Cert.KernelIdeal.Attn

open Idealize.ShloMosaic Idealize.ShloMosaic.TcCoe
open Cert.KernelIdeal Cert.KernelIdeal.Gen Cert.Softmax

variable {x0 : Vec Ideal S1x512x512 .bf16} {x1 : Vec Ideal S1x4096x512 .bf16} (x2 : Vec Ideal S1x16x256x256 .bf16)

/-- The place of a key in its block. -/
def inBlock (j : ℕ) : Fin 256 := ⟨j % 256, Nat.mod_lt _ (by decide)⟩

/-- The score of key `j` out of all keys. -/
def keyScore (x0 : Vec Ideal S1x512x512 .bf16) (x1 : Vec Ideal S1x4096x512 .bf16) (a : ℕ) (h : Fin 4) (r : Fin 512) (j : Fin 4096) :
    EReal := scoreAt x0 x1 a h r (j.val / 256) (inBlock j.val)

/-- A head's sums at the end are the weighted sums over all keys. -/
theorem total_at (T : Tame x0 x1) {a : ℕ} (ha : a < 8) (h : Fin 4) (r : Fin 512) : ∃ μ : ℝ, ∀ d,
    total x0 x1 x2 k0_pay234 a h (ix3 0 d r)
      = ∑ j : Fin 4096, valAt x2 h d (j.val / 256) (inBlock j.val) * wt (keyScore x0 x1 a h r j) μ := by
  have C := carries x2 T a h r a le_rfl
  obtain ⟨μ, hμ⟩ := C.m
  refine ⟨μ, fun d => ?_⟩
  have e : total x0 x1 x2 k0_pay234 a h (ix3 0 d r)
      = seen (valAt x2 h d) (scoreAt x0 x1 a h r) (2 * a) (2 * a) μ := by
    rw [← hμ, ← C.sums d]
    exact accum_at _ _ _ _ d r
  have k := sum_keys (fun j => valAt x2 h d (j / 256) (inBlock j) * wt (scoreAt x0 x1 a h r (j / 256) (inBlock j)) μ)
    (n := 2 * a + 2) (N := 4096) (by omega) fun j hj => by
      have hm : scoreAt x0 x1 a h r (j / 256) (inBlock j) = ⊥ := if_neg (by
        have : 256 * (j / 256) + j % 256 = j := Nat.div_add_mod ..
        show ¬ 256 * (j / 256) + j % 256 ≤ 512 * a + r.val
        omega)
      simp only [hm, wt_bot, mul_zero]
  rw [e, seen_all]
  refine Eq.trans (Finset.sum_congr rfl fun b _ => ?_) k
  unfold blockSum
  refine Finset.sum_congr rfl fun j _ => ?_
  have h1 : (256 * b + j.val) / 256 = b := by omega
  have h2 : inBlock (256 * b + j.val) = j := Fin.ext (show (256 * b + j.val) % 256 = j.val by omega)
  simp only [h1, h2]

theorem keyScore_ne_top (T : Tame x0 x1) (a : ℕ) (h : Fin 4) (r : Fin 512) (j : Fin 4096) : keyScore x0 x1 a h r j ≠ ⊤ :=
  scoreAt_ne_top T a h r _ _

/-- A query's own key is not masked. -/
theorem keyScore_self (T : Tame x0 x1) {a : ℕ} (ha : a < 8) (h : Fin 4) (r : Fin 512) :
    Finite (keyScore x0 x1 a h r ⟨512 * a + r.val, by omega⟩) := by
  have e : keyScore x0 x1 a h r ⟨512 * a + r.val, by omega⟩ = rawAt x0 x1 h r ((512 * a + r.val) / 256) (inBlock (512 * a + r.val)) :=
    if_pos (show 256 * ((512 * a + r.val) / 256) + (512 * a + r.val) % 256 ≤ 512 * a + r.val from (Nat.div_add_mod ..).le)
  rw [e]
  exact rawAt_finite T h r _ _

/-- The value of key `j`, entry `d`. -/
def keyVal (h : Fin 4) (d : Fin 64) (j : Fin 4096) : EReal := vblk x2 (j.val / 256) h (ix4 0 0 d (inBlock j.val))

/-- One entry of what a grid point writes, whatever number `M` the exponents are taken above. -/
theorem block_at (T : Tame x0 x1) (x3 : Vec Ideal S1x512x256 .bf16) {a : ℕ} (ha : a < 8) (h : Fin 4) (r : Fin 512) (d : Fin 64)
    (M : ℝ) : block x0 x1 x2 x3 a (ix3 0 r (⟨64 * h.val + d.val, by omega⟩ : Fin 256))
      = (∑ j : Fin 4096, keyVal x2 h d j * Ideal.div (Ideal.exp (keyScore x0 x1 a h r j * ((Real.log 2 : ℝ) : EReal) - M))
          (∑ k, Ideal.exp (keyScore x0 x1 a h r k * ((Real.log 2 : ℝ) : EReal) - M)))
        * (x3 (ix3 0 r (⟨64 * h.val + d.val, by omega⟩ : Fin 256)) : EReal) := by
  obtain ⟨μ, hμ⟩ := total_at x2 T ha h r
  unfold block
  rw [result_at]
  refine congrArg (· * (x3 _ : EReal)) ?_
  unfold meanAt
  rw [hμ, hμ, ← quotient (keyVal x2 h d) _ (keyScore_ne_top T a h r) μ M _ (keyScore_self T ha h r)]
  have hv : ∀ j : Fin 4096, valAt x2 h ⟨d.val, by omega⟩ (j.val / 256) (inBlock j.val) = keyVal x2 h d j := fun j =>
    dif_pos d.isLt
  have h1 : ∀ j : Fin 4096, valAt x2 h (64 : Fin 80) (j.val / 256) (inBlock j.val) = 1 := fun j => by
    unfold valAt augAt
    exact dif_neg (by decide)
  simp only [hv, h1, one_mul]

end Cert.KernelIdeal.Attn
-- ==== Proof.Reference.lean ====
/-
  The reference's attention over the extended reals, one entry at a time.
-/
module

public import proofs.«01_k».proof.Proof.Online
public import proofs.«01_k».proof.Proof.Gen.ReferenceIdeal.Run

@[expose] public section

set_option maxRecDepth 16384

noncomputable section

namespace Cert.ReferenceIdeal.Attn

open Idealize.ShloMosaic Idealize.ShloMosaic.TcCoe
open Cert.ReferenceIdeal Cert.ReferenceIdeal.Gen Cert.Softmax

/-- The products of queries and keys, in nats. -/
def products (q k : FVec Ideal S16x4096x1024 .bf16) : FVec Ideal S16x8x4096x4096 .f32 :=
  mulf (Host.dotGeneral dot_S16x4096x8x128_S16x4096x8x128_S16x8x4096x4096_3_3_1_1_02_02 none
    (shapeCast S16x4096x8x128 (extf .f32 q bitsLt_bf16_f32) shapeCasts_S16x4096x1024_S16x4096x8x128)
    (shapeCast S16x4096x8x128 (extf .f32 k bitsLt_bf16_f32) shapeCasts_S16x4096x1024_S16x4096x8x128))
    (broadcastInDim S16x8x4096x4096 ![] bcast_S_S16x8x4096x4096 (id (Host.log (constant S_ .f32 0x40000000#32))))

/-- The causal scores. -/
def scores (q k : FVec Ideal S16x4096x1024 .bf16) : FVec Ideal S16x8x4096x4096 .f32 :=
  select (broadcastInDim S16x8x4096x4096 ![2, 3] bcast_S4096x4096_S16x8x4096x4096_2_3
    (cmpi .sle (broadcastInDim S4096x4096 ![0, 1] bcast_S1x4096_S4096x4096_0_1
        (broadcastInDim S1x4096 ![1] bcast_S4096_S1x4096_1 (iotaInDim S4096 32 0)))
      (broadcastInDim S4096x4096 ![0, 1] bcast_S4096x1_S4096x4096_0_1
        (broadcastInDim S4096x1 ![0] bcast_S4096_S4096x1_0 (iotaInDim S4096 32 0)))))
    (products q k) (broadcastInDim S16x8x4096x4096 ![] bcast_S_S16x8x4096x4096 (id (constant S_ .f32 0xFF800000#32)))

/-- The largest entry along the last axis. -/
def topOf (x : FVec Ideal S16x8x4096x4096 .f32) : FVec Ideal S16x8x4096 .f32 :=
  Host.reduce FloatOps.maximumf x (constant S_ .f32 0xFF800000#32) reducesTo_S16x8x4096x4096_S16x8x4096_d3 h_S_

/-- The largest score of every query. -/
def tops (q k : FVec Ideal S16x4096x1024 .bf16) : FVec Ideal S16x8x4096 .f32 :=
  maximumf (broadcastInDim S16x8x4096 ![] bcast_S_S16x8x4096 (constant S_ .f32 0xFF800000#32)) (topOf (scores q k))

/-- The exponentials. -/
def exps (q k : FVec Ideal S16x4096x1024 .bf16) : FVec Ideal S16x8x4096x4096 .f32 :=
  Host.exp (subf (scores q k) (broadcastInDim S16x8x4096x4096 ![0, 1, 2, 3] bcast_S16x8x4096x1_S16x8x4096x4096_0_1_2_3
    (broadcastInDim S16x8x4096x1 ![0, 1, 2] bcast_S16x8x4096_S16x8x4096x1_0_1_2 (tops q k))))

/-- The probabilities. -/
def probs (q k : FVec Ideal S16x4096x1024 .bf16) : FVec Ideal S16x8x4096x4096 .f32 :=
  Host.divf (exps q k) (broadcastInDim S16x8x4096x4096 ![0, 1, 2, 3] bcast_S16x8x4096x1_S16x8x4096x4096_0_1_2_3
    (broadcastInDim S16x8x4096x1 ![0, 1, 2] bcast_S16x8x4096_S16x8x4096x1_0_1_2
      (Host.reduceAdd (exps q k) (constant S_ .f32 0x00000000#32) reducesTo_S16x8x4096x4096_S16x8x4096_d3 h_S_)))

/-- The reference's result. -/
def attention (q k : FVec Ideal S16x4096x1024 .bf16) (vt : FVec Ideal S16x16x512x256 .bf16) (z : FVec Ideal S16x4096x512 .bf16) :
    FVec Ideal S16x4096x512 .bf16 :=
  truncf .bf16 (mulf (shapeCast S16x4096x512 (transpose S16x4096x8x64 [0, 3, 1, 2]
    (Host.dotGeneral dot_S16x4096x8x64_S16x8x4096x4096_S16x8x64x4096_1_3_3_2_02_01 none
      (shapeCast S16x4096x8x64 (transpose S16x16x256x512 [0, 1, 3, 2] (extf .f32 vt bitsLt_bf16_f32)
        transposes_S16x16x512x256_S16x16x256x512_0_1_3_2) shapeCasts_S16x16x256x512_S16x4096x8x64) (probs q k))
    transposes_S16x8x64x4096_S16x4096x8x64_0_3_1_2) shapeCasts_S16x4096x8x64_S16x4096x512)
    (extf .f32 z bitsLt_bf16_f32)) bitsLt_bf16_f32

theorem result_eq (m : (ℓ : Loc nD τ sig) → Buf (Elt Ideal) ℓ) (c : Dev nD) : Value.res_out0 m c
    = attention (m ((c.tc : Thread nD τ).loc main_arg0)) (m ((c.tc : Thread nD τ).loc main_arg1))
      (m ((c.tc : Thread nD τ).loc main_arg2)) (m ((c.tc : Thread nD τ).loc main_arg3)) := by
  unfold attention probs exps tops topOf scores products
  rfl

variable (q k : FVec Ideal S16x4096x1024 .bf16) (vt : FVec Ideal S16x16x512x256 .bf16) (z : FVec Ideal S16x4096x512 .bf16)

theorem log_two : Host.log (constant (F := Ideal) S_ .f32 0x40000000#32) ix0 = ((Real.log 2 : ℝ) : EReal) := by
  show Ideal.log (Ideal.ofBits .f32 0x40000000#32) = _
  have h : Ideal.ofBits .f32 0x40000000#32 = ((2 : ℝ) : EReal) := by
    simp only [Ideal.ofBits, Ideal.ieee]
    rw [if_neg (by decide), if_neg (by decide)]
    refine congrArg _ ?_
    simp
    norm_num
  rw [h, Ideal.log_coe, if_neg (by norm_num)]

/-- A choice by the order of two small numbers. -/
theorem select_le {α : Type} (j i : ℕ) (hj : j < 4096) (hi : i < 4096) (x y : α) :
    Scalar.select (IntOp.cmpi CmpIPredicate.sle (BitVec.ofNat 32 j) (BitVec.ofNat 32 i)) x y = if j ≤ i then x else y := by
  have h : (BitVec.ofNat 32 j).sle (BitVec.ofNat 32 i) = decide (j ≤ i) := by
    have t : ∀ n : ℕ, n < 4096 → (BitVec.ofNat 32 n).toInt = n := fun n hn => by
      rw [BitVec.toInt_eq_toNat_of_lt (by rw [BitVec.toNat_ofNat]; omega), BitVec.toNat_ofNat]; omega
    rw [BitVec.sle, t j hj, t i hi]
    simp
  unfold Scalar.select IntOp.cmpi
  by_cases hji : j ≤ i <;> simp [h, hji]

/-- The product of a query and a key of one head. -/
def dotOf (b : Fin 16) (h : Fin 8) (i j : Fin 4096) : EReal :=
  ∑ e : Fin 128, (q (ix3 b i (⟨h.val * 128 + e.val, by omega⟩ : Fin 1024)) : EReal)
    * (k (ix3 b j (⟨h.val * 128 + e.val, by omega⟩ : Fin 1024)) : EReal)

/-- The score: masked where the key comes after the query. -/
def scoreOf (b : Fin 16) (h : Fin 8) (i j : Fin 4096) : EReal := if j.val ≤ i.val then dotOf q k b h i j else ⊥

theorem products_at (b : Fin 16) (h : Fin 8) (i j : Fin 4096) :
    products q k (ix4 b h i j) = dotOf q k b h i j * ((Real.log 2 : ℝ) : EReal) := by
  have e : products q k (ix4 b h i j) = dotOf q k b h i j * Host.log (constant (F := Ideal) S_ .f32 0x40000000#32) ix0 := by
    unfold dotOf
    pointwise [products]
    rfl
  rw [e, log_two]

theorem scores_at (b : Fin 16) (h : Fin 8) (i j : Fin 4096) :
    scores q k (ix4 b h i j) = scoreOf q k b h i j * ((Real.log 2 : ℝ) : EReal) := by
  have e : scores q k (ix4 b h i j) = Scalar.select (IntOp.cmpi CmpIPredicate.sle (BitVec.ofNat 32 j.val) (BitVec.ofNat 32 i.val))
      (products q k (ix4 b h i j)) (Ideal.ofBits .f32 0xFF800000#32) := by
    pointwise [scores]
    rfl
  rw [e, select_le _ _ j.isLt i.isLt, products_at, Cert.KernelIdeal.Attn.ofBits_neg_inf]
  unfold scoreOf
  split
  · rfl
  · exact (EReal.bot_mul_coe_of_pos (Real.log_pos (by norm_num))).symm

theorem drop_last (b : Fin 16) (h : Fin 8) (i j : Fin 4096) :
    reducesTo_S16x8x4096x4096_S16x8x4096_d3.drop (ix4 b h i j) = ix3 b h i := by
  funext a
  apply Fin.ext
  match a with
  | ⟨0, _⟩ => exact reducesTo_S16x8x4096x4096_S16x8x4096_d3.drop_apply_val_of_eq (ix4 b h i j) 0 0
  | ⟨1, _⟩ => exact reducesTo_S16x8x4096x4096_S16x8x4096_d3.drop_apply_val_of_eq (ix4 b h i j) 1 1
  | ⟨2, _⟩ => exact reducesTo_S16x8x4096x4096_S16x8x4096_d3.drop_apply_val_of_eq (ix4 b h i j) 2 2

theorem coords (y : S16x8x4096x4096.Idx) : ∃ (b : Fin 16) (h : Fin 8) (i j : Fin 4096), y = ix4 b h i j :=
  ⟨y 0, y 1, y 2, y 3, by
    funext a
    match a with
    | ⟨0, _⟩ => rfl
    | ⟨1, _⟩ => rfl
    | ⟨2, _⟩ => rfl
    | ⟨3, _⟩ => rfl⟩

theorem topOf_eq (x : FVec Ideal S16x8x4096x4096 .f32) (y : S16x8x4096.Idx) : topOf x y
    = Finset.fold (max : EReal → EReal → EReal) (constant (F := Ideal) S_ .f32 0xFF800000#32 (Shape.Idx.first h_S_)) x
        (Finset.univ.filter fun w => reducesTo_S16x8x4096x4096_S16x8x4096_d3.drop w = y) :=
  Host.reduce_eq_fold (max : EReal → EReal → EReal) x (constant (F := Ideal) S_ .f32 0xFF800000#32)
    reducesTo_S16x8x4096x4096_S16x8x4096_d3 h_S_ y

/-- The largest of a query's scores is finite if one of them is, and none is `⊤`. -/
theorem topOf_finite (x : FVec Ideal S16x8x4096x4096 .f32) (hx : ∀ b h i j, x (ix4 b h i j) ≠ (⊤ : EReal)) (b : Fin 16) (h : Fin 8)
    (i j : Fin 4096) (hj : Softmax.Finite (x (ix4 b h i j))) : Softmax.Finite (topOf x (ix3 b h i)) := by
  rw [topOf_eq]
  refine finite_of_ne (fun hb => ?_) ?_
  · obtain ⟨r, hr⟩ := hj
    have l := le_fold_max (Finset.univ.filter fun y => reducesTo_S16x8x4096x4096_S16x8x4096_d3.drop y = ix3 b h i) x
      (constant (F := Ideal) S_ .f32 0xFF800000#32 (Shape.Idx.first h_S_)) (i := ix4 b h i j)
      (Finset.mem_filter.2 ⟨Finset.mem_univ _, drop_last b h i j⟩)
    rw [hb, hr] at l
    exact EReal.coe_ne_bot r (le_bot_iff.1 l)
  · refine fold_max_ne_top _ _ _ ?_ fun y => ?_
    · show Ideal.ofBits .f32 0xFF800000#32 ≠ ⊤
      rw [Cert.KernelIdeal.Attn.ofBits_neg_inf]
      exact bot_ne_top
    · obtain ⟨b, h, i, j, rfl⟩ := coords y
      exact hx b h i j

theorem maximumf_at {s : Shape} (a b : FVec Ideal s .f32) (y : s.Idx) : maximumf a b y = max (a y : EReal) (b y) := rfl

theorem scoreOf_ne_top (hq : ∀ y, Softmax.Finite (q y)) (hk : ∀ y, Softmax.Finite (k y)) (b : Fin 16) (h : Fin 8) (i j : Fin 4096) :
    scoreOf q k b h i j ≠ ⊤ := by
  unfold scoreOf
  split
  · exact Cert.KernelIdeal.Attn.Finite.ne_top (finite_dot _ _ (fun _ => hq _) fun _ => hk _)
  · exact bot_ne_top

theorem scoreOf_self (hq : ∀ y, Softmax.Finite (q y)) (hk : ∀ y, Softmax.Finite (k y)) (b : Fin 16) (h : Fin 8) (i : Fin 4096) :
    Softmax.Finite (scoreOf q k b h i i) := by
  unfold scoreOf
  rw [if_pos le_rfl]
  exact finite_dot _ _ (fun _ => hq _) fun _ => hk _

/-- The largest score of a query is finite. -/
theorem tops_finite (hq : ∀ y, Softmax.Finite (q y)) (hk : ∀ y, Softmax.Finite (k y)) (b : Fin 16) (h : Fin 8) (i : Fin 4096) :
    Softmax.Finite (tops q k (ix3 b h i)) := by
  have l : 0 < Real.log 2 := Real.log_pos (by norm_num)
  have f := topOf_finite (scores q k) (fun b h i j => by
    rw [scores_at]
    have hn := scoreOf_ne_top q k hq hk b h i j
    generalize scoreOf q k b h i j = x at hn ⊢
    induction x with
    | bot => rw [EReal.bot_mul_coe_of_pos l]; exact bot_ne_top
    | coe r => rw [← EReal.coe_mul]; exact EReal.coe_ne_top _
    | top => exact absurd rfl hn) b h i i (by
    rw [scores_at]
    obtain ⟨r, hr⟩ := scoreOf_self q k hq hk b h i
    exact ⟨r * Real.log 2, by rw [hr, EReal.coe_mul]⟩)
  unfold tops
  rw [maximumf_at, max_comm]
  exact Cert.KernelIdeal.Attn.finite_max f (by
    show Ideal.ofBits .f32 0xFF800000#32 ≠ ⊤
    rw [Cert.KernelIdeal.Attn.ofBits_neg_inf]
    exact bot_ne_top)

theorem exps_at (b : Fin 16) (h : Fin 8) (i j : Fin 4096) :
    exps q k (ix4 b h i j) = Ideal.exp (scores q k (ix4 b h i j) - tops q k (ix3 b h i) : EReal) := by
  pointwise [exps]

theorem probs_at (b : Fin 16) (h : Fin 8) (i j : Fin 4096) : probs q k (ix4 b h i j)
    = Ideal.div (exps q k (ix4 b h i j)) (∑ x : Fin 4096, (exps q k (ix4 b h i x) : EReal)) := by
  pointwise [probs]

theorem attention_at (b : Fin 16) (i : Fin 4096) (h : Fin 8) (d : Fin 64) :
    attention q k vt z (ix3 b i (⟨h.val * 64 + d.val, by omega⟩ : Fin 512))
      = (∑ x : Fin 4096, (vt (ix4 b (⟨x.val / 256, by omega⟩ : Fin 16) (⟨h.val * 64 + d.val, by omega⟩ : Fin 512)
            (⟨x.val % 256, by omega⟩ : Fin 256)) : EReal) * probs q k (ix4 b h i x))
        * z (ix3 b i (⟨h.val * 64 + d.val, by omega⟩ : Fin 512)) := by
  pointwise [attention]

/-- One entry of the reference's result: for some number `M`, the mean of the values with the exponentials above `M` as
    weights, times the gate. -/
theorem attention_eq (hq : ∀ y, Softmax.Finite (q y)) (hk : ∀ y, Softmax.Finite (k y)) (b : Fin 16) (i : Fin 4096) (h : Fin 8)
    (d : Fin 64) : ∃ M : ℝ, attention q k vt z (ix3 b i (⟨h.val * 64 + d.val, by omega⟩ : Fin 512))
      = (∑ x : Fin 4096, (vt (ix4 b (⟨x.val / 256, by omega⟩ : Fin 16) (⟨h.val * 64 + d.val, by omega⟩ : Fin 512)
            (⟨x.val % 256, by omega⟩ : Fin 256)) : EReal)
          * Ideal.div (Ideal.exp (scoreOf q k b h i x * ((Real.log 2 : ℝ) : EReal) - M))
              (∑ y, Ideal.exp (scoreOf q k b h i y * ((Real.log 2 : ℝ) : EReal) - M)))
        * z (ix3 b i (⟨h.val * 64 + d.val, by omega⟩ : Fin 512)) := by
  obtain ⟨M, hM⟩ := tops_finite q k hq hk b h i
  refine ⟨M, ?_⟩
  rw [attention_at]
  refine congrArg (· * (z _ : EReal)) (Finset.sum_congr rfl fun x _ => ?_)
  rw [probs_at, exps_at, hM, scores_at]
  simp only [exps_at, hM, scores_at]

end Cert.ReferenceIdeal.Attn
-- ==== Proof.Value.lean ====
/-
  The array the kernel writes is the reference's attention.
-/
module

public import proofs.«01_k».proof.Proof.Output
public import proofs.«01_k».proof.Proof.Reference
public import proofs.«01_k».proof.Proof.Launch
public import Idealize.ShloMosaic.Lib.Pipeline.ValueKit

@[expose] public section

set_option maxRecDepth 16384

noncomputable section

namespace Cert.KernelIdeal.Attn

open Idealize.ShloMosaic Idealize.ShloMosaic.TcCoe
open Cert.KernelIdeal Cert.KernelIdeal.Gen Cert.Softmax
open Cert.ReferenceIdeal.Attn (attention scoreOf dotOf attention_eq)

variable (m : (ℓ : Loc nD τ sig) → Buf (Elt Ideal) ℓ) (c : Dev nD)

theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val, 0]
    ∧ win0_3.index t = ![(grid0.coords t 0).val, (grid0.coords t 2).val, (grid0.coords t 1).val]
    ∧ win0_4.index t = ![(grid0.coords t 0).val, (grid0.coords t 2).val, (grid0.coords t 1).val] :=
  (by decide +kernel : ∀ t : Fin grid0.N, _)

/-- The batch element, the group and the query tile of a grid point. -/
def bOf (t : Fin cfg0.N) : Fin 16 := grid0.coords t 0
def gOf (t : Fin cfg0.N) : Fin 2 := grid0.coords t 1
def aOf (t : Fin cfg0.N) : Fin 8 := grid0.coords t 2

theorem read0 (t : Fin cfg0.N) (r : Fin 512) (e : Fin 512) : iblk m c 0 t (ix3 0 r e)
    = m ((c.tc : Thread nD τ).loc main_arg0) (ix3 (bOf t) (⟨512 * (aOf t).val + r.val, by omega⟩ : Fin 4096)
        (⟨512 * (gOf t).val + e.val, by omega⟩ : Fin 1024)) := by
  unfold bOf gOf aOf
  blk_ext [iblk, V, idx t]

theorem read1 (t : Fin cfg0.N) (j : Fin 4096) (e : Fin 512) : iblk m c 1 t (ix3 0 j e)
    = m ((c.tc : Thread nD τ).loc main_arg1) (ix3 (bOf t) j (⟨512 * (gOf t).val + e.val, by omega⟩ : Fin 1024)) := by
  unfold bOf gOf
  blk_ext [iblk, V, idx t]

theorem read2 (t : Fin cfg0.N) (b : Fin 16) (e : Fin 256) (j : Fin 256) : iblk m c 2 t (ix4 0 b e j)
    = m ((c.tc : Thread nD τ).loc main_arg2) (ix4 (bOf t) b (⟨256 * (gOf t).val + e.val, by omega⟩ : Fin 512) j) := by
  unfold bOf gOf
  blk_ext [iblk, V, idx t]

theorem read3 (t : Fin cfg0.N) (r : Fin 512) (e : Fin 256) : iblk m c 3 t (ix3 0 r e)
    = m ((c.tc : Thread nD τ).loc main_arg3) (ix3 (bOf t) (⟨512 * (aOf t).val + r.val, by omega⟩ : Fin 4096)
        (⟨256 * (gOf t).val + e.val, by omega⟩ : Fin 512)) := by
  unfold bOf gOf aOf
  blk_ext [iblk, V, idx t]

theorem place4 (t : Fin cfg0.N) (r : Fin 512) (e : Fin 256) : ((cfg0.win 4).blk t).view.emb (ix3 0 r e)
    = ix3 (bOf t) (⟨512 * (aOf t).val + r.val, by omega⟩ : Fin 4096) (⟨256 * (gOf t).val + e.val, by omega⟩ : Fin 512) := by
  unfold bOf gOf aOf
  blk_ext [iblk, V, idx t]

/-! ## The reads of a head -/

theorem kblk_at (x1 : Vec Ideal S1x4096x512 .bf16) (j : Fin 4096) (h : Fin 4) (e : Fin 128) :
    kblk x1 (j.val / 256) h (ix3 0 (inBlock j.val) e) = x1 (ix3 0 j (⟨128 * h.val + e.val, by omega⟩ : Fin 512)) := by
  refine congrArg x1 ?_
  funext a
  apply Fin.ext
  match a with
  | ⟨0, _⟩ => rfl
  | ⟨1, _⟩ =>
    show (256 * (j.val / 256) + j.val % 256) % 4096 = j.val
    omega
  | ⟨2, _⟩ =>
    show (128 * h.val + e.val) % 512 = 128 * h.val + e.val
    omega

theorem qblk_at (x0 : Vec Ideal S1x512x512 .bf16) (r : Fin 512) (h : Fin 4) (e : Fin 128) :
    qblk x0 h (ix3 0 r e) = x0 (ix3 0 r (⟨128 * h.val + e.val, by omega⟩ : Fin 512)) := by
  refine congrArg x0 ?_
  funext a
  apply Fin.ext
  match a with
  | ⟨0, _⟩ => rfl
  | ⟨1, _⟩ =>
    show r.val % 512 = r.val
    omega
  | ⟨2, _⟩ =>
    show (128 * h.val + e.val) % 512 = 128 * h.val + e.val
    omega

theorem vblk_at (x2 : Vec Ideal S1x16x256x256 .bf16) (j : Fin 4096) (h : Fin 4) (d : Fin 64) :
    vblk x2 (j.val / 256) h (ix4 0 0 d (inBlock j.val)) = x2 (ix4 0 (⟨j.val / 256, by omega⟩ : Fin 16)
      (⟨64 * h.val + d.val, by omega⟩ : Fin 256) (⟨j.val % 256, by omega⟩ : Fin 256)) := by
  refine congrArg x2 ?_
  funext a
  apply Fin.ext
  match a with
  | ⟨0, _⟩ => rfl
  | ⟨1, _⟩ =>
    show j.val / 256 % 16 = j.val / 256
    omega
  | ⟨2, _⟩ =>
    show (64 * h.val + d.val) % 256 = 64 * h.val + d.val
    omega
  | ⟨3, _⟩ =>
    show j.val % 256 % 256 = j.val % 256
    omega

/-- The head of all eight that a grid point's head `h` is. -/
def headOf (t : Fin cfg0.N) (h : Fin 4) : Fin 8 := ⟨4 * (gOf t).val + h.val, by omega⟩

/-- The query of all 4096 in row `r` of a grid point. -/
def rowOf (t : Fin cfg0.N) (r : Fin 512) : Fin 4096 := ⟨512 * (aOf t).val + r.val, by omega⟩

theorem score_eq (t : Fin cfg0.N) (h : Fin 4) (r : Fin 512) (j : Fin 4096) :
    keyScore (iblk m c 0 t) (iblk m c 1 t) (aOf t).val h r j
      = scoreOf (m ((c.tc : Thread nD τ).loc main_arg0)) (m ((c.tc : Thread nD τ).loc main_arg1)) (bOf t) (headOf t h) (rowOf t r) j := by
  have hj : 256 * (j.val / 256) + (inBlock j.val).val = j.val := Nat.div_add_mod ..
  unfold keyScore scoreAt scoreOf
  rw [hj]
  refine if_congr Iff.rfl ?_ rfl
  unfold rawAt dotAt dotOf
  refine Finset.sum_congr rfl fun e _ => ?_
  rw [kblk_at, qblk_at, read0, read1, mul_comm]
  have he : (⟨512 * (gOf t).val + (128 * h.val + e.val), by omega⟩ : Fin 1024)
      = ⟨(headOf t h).val * 128 + e.val, by unfold headOf; simp only []; omega⟩ := Fin.ext (by
    show 512 * (gOf t).val + (128 * h.val + e.val) = (4 * (gOf t).val + h.val) * 128 + e.val
    omega)
  exact congrArg₂ (fun u v : EReal => u * v)
    (congrArg (fun w => m ((c.tc : Thread nD τ).loc main_arg0) (ix3 (bOf t) (rowOf t r) w)) he)
    (congrArg (fun w => m ((c.tc : Thread nD τ).loc main_arg1) (ix3 (bOf t) j w)) he)

/-- The place of a grid point's entry in the last axis. -/
theorem col_eq (t : Fin cfg0.N) (h : Fin 4) (d : Fin 64) :
    (⟨256 * (gOf t).val + (64 * h.val + d.val), by omega⟩ : Fin 512)
      = ⟨(headOf t h).val * 64 + d.val, by unfold headOf; simp only []; omega⟩ := Fin.ext (by
    show 256 * (gOf t).val + (64 * h.val + d.val) = (4 * (gOf t).val + h.val) * 64 + d.val
    omega)

theorem val_eq (t : Fin cfg0.N) (h : Fin 4) (d : Fin 64) (j : Fin 4096) : keyVal (iblk m c 2 t) h d j
    = m ((c.tc : Thread nD τ).loc main_arg2) (ix4 (bOf t) (⟨j.val / 256, by omega⟩ : Fin 16)
        (⟨(headOf t h).val * 64 + d.val, by unfold headOf; simp only []; omega⟩ : Fin 512) (⟨j.val % 256, by omega⟩ : Fin 256)) := by
  unfold keyVal
  rw [vblk_at, read2, col_eq]

/-- Every point writes its part of the reference's attention. -/
theorem point (hq : ∀ y, Softmax.Finite (m ((c.tc : Thread nD τ).loc main_arg0) y))
    (hk : ∀ y, Softmax.Finite (m ((c.tc : Thread nD τ).loc main_arg1) y)) (t : Fin cfg0.N) (r : Fin 512) (h : Fin 4) (d : Fin 64) :
    block (iblk m c 0 t) (iblk m c 1 t) (iblk m c 2 t) (iblk m c 3 t) (aOf t).val
        (ix3 0 r (⟨64 * h.val + d.val, by omega⟩ : Fin 256))
      = attention (m ((c.tc : Thread nD τ).loc main_arg0)) (m ((c.tc : Thread nD τ).loc main_arg1))
        (m ((c.tc : Thread nD τ).loc main_arg2)) (m ((c.tc : Thread nD τ).loc main_arg3))
        (ix3 (bOf t) (rowOf t r) (⟨256 * (gOf t).val + (64 * h.val + d.val), by omega⟩ : Fin 512)) := by
  have T : Tame (iblk m c 0 t) (iblk m c 1 t) := by
    refine ⟨fun y => ?_, fun y => ?_⟩
    · blk_simp [iblk, V]
      exact hq _
    · blk_simp [iblk, V]
      exact hk _
  obtain ⟨M, hM⟩ := attention_eq (m ((c.tc : Thread nD τ).loc main_arg0)) (m ((c.tc : Thread nD τ).loc main_arg1))
    (m ((c.tc : Thread nD τ).loc main_arg2)) (m ((c.tc : Thread nD τ).loc main_arg3)) hq hk (bOf t) (rowOf t r) (headOf t h) d
  rw [col_eq, hM, block_at (iblk m c 2 t) T (iblk m c 3 t) (aOf t).isLt h r d M, read3, col_eq]
  simp only [score_eq, val_eq]
  rfl

/-- The array written. -/
theorem final (hq : ∀ y, Softmax.Finite (m ((c.tc : Thread nD τ).loc main_arg0) y))
    (hk : ∀ y, Softmax.Finite (m ((c.tc : Thread nD τ).loc main_arg1) y)) : (dats m 0 c).arrAt 4 (cfgs 0).N
      = attention (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 4 _ (by decide +kernel) fun t _ y => ?_
  blk_simp
  rw [after_4]
  have hy : ∃ (r : Fin 512) (h : Fin 4) (d : Fin 64), y = ix3 0 r (⟨64 * h.val + d.val, by omega⟩ : Fin 256) := by
    have h2 : (y 2).val < 256 := (y 2).isLt
    refine ⟨y 1, ⟨(y 2).val / 64, by omega⟩, ⟨(y 2).val % 64, by omega⟩, ?_⟩
    funext a
    apply Fin.ext
    match a with
    | ⟨0, _⟩ =>
      have h0 : (y 0).val < 1 := (y 0).isLt
      show (y 0).val = 0
      omega
    | ⟨1, _⟩ => rfl
    | ⟨2, _⟩ =>
      show (y 2).val = 64 * ((y 2).val / 64) + (y 2).val % 64
      omega
  obtain ⟨r, h, d, rfl⟩ := hy
  refine (point m c hq hk t r h d).trans (congrArg _ ?_)
  exact (place4 t r (⟨64 * h.val + d.val, by omega⟩ : Fin 256)).symm

end Cert.KernelIdeal.Attn
-- ==== Proof.Projection.lean ====
/-
  The value of the output projection: every block the kernel stores is the reference's block.
-/
module

public import proofs.«01_k».proof.Proof.Gen.Kernel2Ideal.Frame
public import proofs.«01_k».proof.Proof.Gen.Reference2Ideal.Run
public import Idealize.ShloMosaic.Lib.Pipeline.ValueKit

@[expose] public section

set_option maxRecDepth 16384

noncomputable section

namespace Cert.Reference2Ideal.Proj

open Idealize.ShloMosaic Idealize.ShloMosaic.TcCoe
open Cert.Reference2Ideal Cert.Reference2Ideal.Gen
open Idealize.SL.Sem

/-- A branch projected to the model's width. -/
def branch (o : FVec Ideal S16x4096x512 .bf16) (w : FVec Ideal S512x1024 .f32) : FVec Ideal S16x4096x1024 .f32 :=
  Host.dotGeneral dot_S16x4096x512_S512x1024_S16x4096x1024_2_0_01_1_n_n none (extf .f32 o bitsLt_bf16_f32) w

/-- The two branches merged by their gates, projected again. -/
def merged (o_a o_b : FVec Ideal S16x4096x512 .bf16) (g_a g_b : FVec Ideal S16x4096x1024 .bf16)
    (w_a w_b : FVec Ideal S512x1024 .f32) (w : FVec Ideal S1024x1024 .f32) : FVec Ideal S16x4096x1024 .f32 :=
  Host.dotGeneral dot_S16x4096x1024_S1024x1024_S16x4096x1024_2_0_01_1_n_n none
    (addf (mulf (extf .f32 g_a bitsLt_bf16_f32) (branch o_a w_a)) (mulf (extf .f32 g_b bitsLt_bf16_f32) (branch o_b w_b))) w

/-- Normalized by its root mean square, gated and added to the stream. -/
def finish (x : FVec Ideal S16x4096x1024 .f32) (mod : FVec Ideal S16x3x1024 .f32) (y : FVec Ideal S16x4096x1024 .f32)
    (g : FVec Ideal S1024 .f32) : FVec Ideal S16x4096x1024 .f32 :=
  addf x (mulf (broadcastInDim S16x4096x1024 ![0, 1, 2] bcast_S16x1x1024_S16x4096x1024_0_1_2
      (broadcastInDim S16x1x1024 ![0, 2] bcast_S16x1024_S16x1x1024_0_2
        (shapeCast S16x1024 (extractStridedSlice S16x1x1024 ![0, 2, 0] mod slices_S16x3x1024_S16x1x1024_0_2_0)
          shapeCasts_S16x1x1024_S16x1024)))
    (mulf (mulf y (broadcastInDim S16x4096x1024 ![0, 1, 2] bcast_S16x4096x1_S16x4096x1024_0_1_2
        (Host.rsqrt (addf (Host.divf (broadcastInDim S16x4096x1 ![0, 1] bcast_S16x4096_S16x4096x1_0_1
            (Host.reduceAdd (mulf y y) (constant S_ .f32 0x00000000#32) reducesTo_S16x4096x1024_S16x4096_d2 h_S_))
          (broadcastInDim S16x4096x1 ![] bcast_S_S16x4096x1 (constant S_ .f32 0x44800000#32)))
          (broadcastInDim S16x4096x1 ![] bcast_S_S16x4096x1 (constant S_ .f32 0x358637BD#32))))))
      (broadcastInDim S16x4096x1024 ![0, 1, 2] bcast_S1x1x1024_S16x4096x1024_0_1_2
        (broadcastInDim S1x1x1024 ![2] bcast_S1024_S1x1x1024_2 g))))

/-- The reference's result over its arguments. -/
def result (m : (ℓ : Loc nD τ sig) → Buf (Elt Ideal) ℓ) (c : Dev nD) : FVec Ideal S16x4096x1024 .f32 :=
  finish (m ((c.tc : Thread nD τ).loc main_arg0)) (m ((c.tc : Thread nD τ).loc main_arg1))
    (merged (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8))) (m ((c.tc : Thread nD τ).loc main_arg9))

/-- A run of the reference ends with that result and its arguments unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨((h c).1).trans ?_, (h c).2⟩) (Value.run (F := Ideal) m g)
  unfold result finish merged branch
  rfl

end Cert.Reference2Ideal.Proj

namespace Cert.Kernel2Ideal.Proj

open Idealize.ShloMosaic Idealize.ShloMosaic.TcCoe
open Cert.Kernel2Ideal Cert.Kernel2Ideal.Gen
open Cert.Reference2Ideal.Proj (merged finish branch)

/-- The block of every window at every point of the grid: a row tile of one batch, or the whole weight. -/
theorem places : ∀ t : Fin cfg0.N, win0_0.index t = ![t.val / 4, t.val % 4, 0] ∧ win0_1.index t = ![t.val / 4, 0, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![0, 0] ∧ win0_7.index t = ![0, 0] ∧ win0_8.index t = ![0, 0] ∧ win0_9.index t = ![0, 0]
    ∧ win0_10.index t = ![t.val / 4, t.val % 4, 0] :=
  (by decide +kernel : ∀ t : Fin grid0.N, _)

variable (m : (ℓ : Loc nD τ sig) → Buf (Elt Ideal) ℓ)

/-- The reference's result over the kernel's arguments. -/
abbrev result (c : Dev nD) : FVec Ideal Cert.Reference2Ideal.S16x4096x1024 .f32 :=
  finish (m ((c.tc : Thread nD τ).loc main_arg0)) (m ((c.tc : Thread nD τ).loc main_arg1))
    (merged (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8))) (m ((c.tc : Thread nD τ).loc main_arg9))

/-- What the body stores at an index of its block is the reference at the index of the array it stands for. -/
theorem point (c : Dev nD) (t : Fin cfg0.N) (y) :
    k0_pay1 (k0_pay2 (iblk m c 2 t) (iblk m c 6 t) (iblk m c 3 t) (iblk m c 7 t) (iblk m c 4 t) (iblk m c 5 t) (iblk m c 8 t))
      (k0_pay3 (View.ld (iblk m c 1 t) r0_4)) (k0_pay4 (iblk m c 0 t)) (k0_pay5 (iblk m c 9 t)) y
      = result m c (((cfg0.win 10).blk t).view.emb y) := by
  pointwise [k0_pay1, k0_pay2, k0_pay3, k0_pay4, k0_pay5, result, finish, merged, branch]
  blk_point [iblk, V, places t]

/-- The output after the run is the reference's result. -/
theorem final (c : Dev nD) : (dats m 0 c).arrAt 10 (cfgs 0).N = result m c := by
  refine (dats m 0 c).arrAt_eq_of_covers 10 _ (by decide +kernel) fun t _ y => ?_
  blk_simp
  rw [after0_10]
  frame_out
  exact point m c t y

end Cert.Kernel2Ideal.Proj

end
-- ==== Proof.InputsFrame.lean ====
/- The launch of the input projection call, at every element type: its windows' blocks, its body's triple, its run and its frame. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Window 0 is read only: its staging buffer holds its block at every point of the grid, whether or not it is fetched there. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 is read only: its staging buffer holds its block at every point of the grid, whether or not it is fetched there. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 is read only: its staging buffer holds its block at every point of the grid, whether or not it is fetched there. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 is read only: its staging buffer holds its block at every point of the grid, whether or not it is fetched there. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 is read only: its staging buffer holds its block at every point of the grid, whether or not it is fetched there. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 is read only: its staging buffer holds its block at every point of the grid, whether or not it is fetched there. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6 is read only: its staging buffer holds its block at every point of the grid, whether or not it is fetched there. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7 is read only: its staging buffer holds its block at every point of the grid, whether or not it is fetched there. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Window 8 is read only: its staging buffer holds its block at every point of the grid, whether or not it is fetched there. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Window 9 is read only: its staging buffer holds its block at every point of the grid, whether or not it is fetched there. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Window 10 is read only: its staging buffer holds its block at every point of the grid, whether or not it is fetched there. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Window 11 is read only: its staging buffer holds its block at every point of the grid, whether or not it is fetched there. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Window 12 is read only: its staging buffer holds its block at every point of the grid, whether or not it is fetched there. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Window 13 is read only: its staging buffer holds its block at every point of the grid, whether or not it is fetched there. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1500000 in
/-- A run that ends with every staged array as the pipeline leaves it, and every other array as the region found it, ends
    with the thirteen arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 10).trans (((dats 0 c).arrAt_in 10 rfl _).trans ((hA c 10).trans (V_main_arg9 m c))),
      ((h c).1 11).trans (((dats 0 c).arrAt_in 11 rfl _).trans ((hA c 11).trans (V_main_arg10 m c))),
      ((h c).1 12).trans (((dats 0 c).arrAt_in 12 rfl _).trans ((hA c 12).trans (V_main_arg11 m c))),
      ((h c).1 13).trans (((dats 0 c).arrAt_in 13 rfl _).trans ((hA c 13).trans (V_main_arg12 m c)))⟩) h

/-! ## The body's accesses -/

abbrev r0_0 : Rect S1x512x1024 := Rect.unit (s := S1x512x1024) ![0, 0, 0] S1x512x1024.size inb_S1x512x1024_S1x512x1024_0_0_0
abbrev r0_1 : Rect S1x3x1024 := Rect.unit (s := S1x3x1024) ![0, 0, 0] S1x1x1024.size inb_S1x3x1024_S1x1x1024_0_0_0
abbrev r0_2 : Rect S1x3x1024 := Rect.unit (s := S1x3x1024) ![0, 1, 0] S1x1x1024.size inb_S1x3x1024_S1x1x1024_0_1_0
abbrev r0_3 : Rect S1x1024 := Rect.unit (s := S1x1024) ![0, 0] S1x1024.size inb_S1x1024_S1x1024_0_0
abbrev r0_4 : Rect S1x512x128 := Rect.unit (s := S1x512x128) ![0, 0, 0] S1x512x128.size inb_S1x512x128_S1x512x128_0_0_0
abbrev r0_5 : Rect S1024x5120 := Rect.unit (s := S1024x5120) ![0, 0] S1024x512.size inb_S1024x5120_S1024x512_0_0
abbrev r0_6 : Rect S1x256 := Rect.unit (s := S1x256) ![0, 0] S1x256.size inb_S1x256_S1x256_0_0
abbrev r0_7 : Rect S1x128 := Rect.unit (s := S1x128) ![0, 0] S1x128.size inb_S1x128_S1x128_0_0
abbrev r0_8 : Rect S256x1024 := Rect.unit (s := S256x1024) ![0, 0] S256x1024.size inb_S256x1024_S256x1024_0_0
abbrev r0_9 : Rect S128x1024 := Rect.unit (s := S128x1024) ![0, 0] S128x1024.size inb_S128x1024_S128x1024_0_0
abbrev r0_10 : Rect S1x512x1024 := Rect.unit (s := S1x512x1024) ![0, 0, 0] S1x512x128.size inb_S1x512x1024_S1x512x128_0_0_0
abbrev r0_11 : Rect S1x512x1024 := Rect.unit (s := S1x512x1024) ![0, 0, 128] S1x512x128.size inb_S1x512x1024_S1x512x128_0_0_128
abbrev r0_12 : Rect S1x512x1024 := Rect.unit (s := S1x512x1024) ![0, 0, 256] S1x512x128.size inb_S1x512x1024_S1x512x128_0_0_256
abbrev r0_13 : Rect S1x512x1024 := Rect.unit (s := S1x512x1024) ![0, 0, 384] S1x512x128.size inb_S1x512x1024_S1x512x128_0_0_384
abbrev r0_14 : Rect S1x512x1024 := Rect.unit (s := S1x512x1024) ![0, 0, 512] S1x512x128.size inb_S1x512x1024_S1x512x128_0_0_512
abbrev r0_15 : Rect S1x512x1024 := Rect.unit (s := S1x512x1024) ![0, 0, 640] S1x512x128.size inb_S1x512x1024_S1x512x128_0_0_640
abbrev r0_16 : Rect S1x512x1024 := Rect.unit (s := S1x512x1024) ![0, 0, 768] S1x512x128.size inb_S1x512x1024_S1x512x128_0_0_768
abbrev r0_17 : Rect S1x512x1024 := Rect.unit (s := S1x512x1024) ![0, 0, 896] S1x512x128.size inb_S1x512x1024_S1x512x128_0_0_896
abbrev r0_18 : Rect S128x512 := Rect.unit (s := S128x512) ![0, 0] S128x512.size inb_S128x512_S128x512_0_0
abbrev r0_19 : Rect S1x2x512x256 := Rect.unit (s := S1x2x512x256) ![0, 0, 0, 0] S1x1x512x256.size inb_S1x2x512x256_S1x1x512x256_0_0_0_0
abbrev r0_20 : Rect S1x2x512x256 := Rect.unit (s := S1x2x512x256) ![0, 1, 0, 0] S1x1x512x256.size inb_S1x2x512x256_S1x1x512x256_0_1_0_0
abbrev r0_21 : Rect S1024x5120 := Rect.unit (s := S1024x5120) ![0, 512] S1024x512.size inb_S1024x5120_S1024x512_0_512
abbrev r0_22 : Rect S1x512x512 := Rect.unit (s := S1x512x512) ![0, 0, 0] S1x512x512.size inb_S1x512x512_S1x512x512_0_0_0
abbrev r0_23 : Rect S1024x5120 := Rect.unit (s := S1024x5120) ![0, 1024] S1024x512.size inb_S1024x5120_S1024x512_0_1024
abbrev r0_24 : Rect S1024x5120 := Rect.unit (s := S1024x5120) ![0, 1536] S1024x512.size inb_S1024x5120_S1024x512_0_1536
abbrev r0_25 : Rect S1x512x512 := Rect.unit (s := S1x512x512) ![0, 0, 0] S1x512x128.size inb_S1x512x512_S1x512x128_0_0_0
abbrev r0_26 : Rect S1x2x1x512 := Rect.unit (s := S1x2x1x512) ![0, 0, 0, 0] S1x1x1x128.size inb_S1x2x1x512_S1x1x1x128_0_0_0_0
abbrev r0_27 : Rect S1x2x1x512 := Rect.unit (s := S1x2x1x512) ![0, 1, 0, 0] S1x1x1x128.size inb_S1x2x1x512_S1x1x1x128_0_1_0_0
abbrev r0_28 : Rect S1x512x512 := Rect.unit (s := S1x512x512) ![0, 0, 128] S1x512x128.size inb_S1x512x512_S1x512x128_0_0_128
abbrev r0_29 : Rect S1x2x1x512 := Rect.unit (s := S1x2x1x512) ![0, 0, 0, 128] S1x1x1x128.size inb_S1x2x1x512_S1x1x1x128_0_0_0_128
abbrev r0_30 : Rect S1x2x1x512 := Rect.unit (s := S1x2x1x512) ![0, 1, 0, 128] S1x1x1x128.size inb_S1x2x1x512_S1x1x1x128_0_1_0_128
abbrev r0_31 : Rect S1x512x512 := Rect.unit (s := S1x512x512) ![0, 0, 256] S1x512x128.size inb_S1x512x512_S1x512x128_0_0_256
abbrev r0_32 : Rect S1x2x1x512 := Rect.unit (s := S1x2x1x512) ![0, 0, 0, 256] S1x1x1x128.size inb_S1x2x1x512_S1x1x1x128_0_0_0_256
abbrev r0_33 : Rect S1x2x1x512 := Rect.unit (s := S1x2x1x512) ![0, 1, 0, 256] S1x1x1x128.size inb_S1x2x1x512_S1x1x1x128_0_1_0_256
abbrev r0_34 : Rect S1x512x512 := Rect.unit (s := S1x512x512) ![0, 0, 384] S1x512x128.size inb_S1x512x512_S1x512x128_0_0_384
abbrev r0_35 : Rect S1x2x1x512 := Rect.unit (s := S1x2x1x512) ![0, 0, 0, 384] S1x1x1x128.size inb_S1x2x1x512_S1x1x1x128_0_0_0_384
abbrev r0_36 : Rect S1x2x1x512 := Rect.unit (s := S1x2x1x512) ![0, 1, 0, 384] S1x1x1x128.size inb_S1x2x1x512_S1x1x1x128_0_1_0_384
abbrev r0_37 : Rect S1024x5120 := Rect.unit (s := S1024x5120) ![0, 2048] S1024x512.size inb_S1024x5120_S1024x512_0_2048
abbrev r0_38 : Rect S1024x5120 := Rect.unit (s := S1024x5120) ![0, 2560] S1024x512.size inb_S1024x5120_S1024x512_0_2560
abbrev r0_39 : Rect S1024x5120 := Rect.unit (s := S1024x5120) ![0, 3072] S1024x1024.size inb_S1024x5120_S1024x1024_0_3072
abbrev r0_40 : Rect S1x2048 := Rect.unit (s := S1x2048) ![0, 0] S1x1024.size inb_S1x2048_S1x1024_0_0
abbrev r0_41 : Rect S1024x5120 := Rect.unit (s := S1024x5120) ![0, 4096] S1024x1024.size inb_S1024x5120_S1024x1024_0_4096
abbrev r0_42 : Rect S1x2048 := Rect.unit (s := S1x2048) ![0, 1024] S1x1024.size inb_S1x2048_S1x1024_0_1024

/-! ## What the body leaves in each output window's buffer -/

/-! ### Values of the body that the stores' payloads, spelt out, would write more than once

    Each is a vector the body binds, stated over the input windows' blocks, so that the buffers' contents name it instead of
    spelling it out; the comment after each is the printed function's name for the value. -/

def k0_pay81 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x1024 .bf16 :=
  k0_pay2 (View.ld x0 r0_0) (View.ld x1 r0_1) (View.ld x1 r0_2) (View.ld x2 r0_3) -- `v26`
def k0_pay82 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x128 .f32 :=
  k0_pay3 (View.ld x10 r0_4) -- `v28`
def k0_pay83 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x128 .f32 :=
  k0_pay4 (View.ld x11 r0_4) -- `v30`
def k0_pay84 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x128 .f32 :=
  k0_pay5 (View.ld x12 r0_4) -- `v32`
def k0_pay85 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x128 .f32 :=
  k0_pay6 (View.ld x13 r0_4) -- `v34`
def k0_pay86 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x256 .bf16 :=
  k0_pay8 (k0_pay81 x0 x1 x2 x3 x4 x5 x6 x7 x8 x9 x10 x11 x12 x13) (View.ld x3 r0_5) (View.ld x4 r0_6) -- `v55`
def k0_pay87 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x128 .bf16 :=
  k0_pay9 (k0_pay81 x0 x1 x2 x3 x4 x5 x6 x7 x8 x9 x10 x11 x12 x13) (View.ld x3 r0_5) (View.ld x6 r0_7) -- `v71`
def k0_pay88 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x128 .f32 :=
  k0_pay10 (k0_pay81 x0 x1 x2 x3 x4 x5 x6 x7 x8 x9 x10 x11 x12 x13) (View.ld x3 r0_5) -- `v72`
def k0_pay89 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : IVec S512x128 32 :=
  k0_pay11 -- `v75`
def k0_pay90 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x128 .f32 :=
  k0_pay12 (k0_pay84 x0 x1 x2 x3 x4 x5 x6 x7 x8 x9 x10 x11 x12 x13) (k0_pay85 x0 x1 x2 x3 x4 x5 x6 x7 x8 x9 x10 x11 x12 x13) (k0_pay88 x0 x1 x2 x3 x4 x5 x6 x7 x8 x9 x10 x11 x12 x13) (k0_pay89 x0 x1 x2 x3 x4 x5 x6 x7 x8 x9 x10 x11 x12 x13) -- `v83`
def k0_pay91 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x1024 .f32 :=
  k0_pay13 (k0_pay86 x0 x1 x2 x3 x4 x5 x6 x7 x8 x9 x10 x11 x12 x13) (View.ld x5 r0_8) -- `v86`
def k0_pay92 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x1024 .f32 :=
  k0_pay14 (k0_pay87 x0 x1 x2 x3 x4 x5 x6 x7 x8 x9 x10 x11 x12 x13) (View.ld x7 r0_9) -- `v89`
def k0_pay93 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x512 .f32 :=
  constant S512x512 .f32 0x00000000#32 -- `cst_120`
def k0_pay94 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S128x512 .bf16 :=
  k0_pay36 (View.ld x8 r0_18) -- `v267`
def k0_pay95 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x512 .f32 :=
  k0_pay41 (k0_pay81 x0 x1 x2 x3 x4 x5 x6 x7 x8 x9 x10 x11 x12 x13) (View.ld x3 r0_23) -- `v298`
def k0_pay96 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x512 .f32 :=
  k0_pay42 (k0_pay81 x0 x1 x2 x3 x4 x5 x6 x7 x8 x9 x10 x11 x12 x13) (View.ld x3 r0_24) -- `v301`
def k0_pay97 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x128 .f32 :=
  k0_pay50 (k0_pay96 x0 x1 x2 x3 x4 x5 x6 x7 x8 x9 x10 x11 x12 x13) -- `v370`
def k0_pay98 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : IVec S512x128 1 :=
  k0_pay51 -- `v375`
def k0_pay99 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x128 .f32 :=
  k0_pay52 (k0_pay96 x0 x1 x2 x3 x4 x5 x6 x7 x8 x9 x10 x11 x12 x13) -- `v376`
def k0_pay100 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : FVec F S512x128 .f32 :=
  k0_pay53 (k0_pay96 x0 x1 x2 x3 x4 x5 x6 x7 x8 x9 x10 x11 x12 x13) -- `v377`

/-- What the body stores in window 14's staging buffer, from the input windows' blocks: 8 piece(s), the last stored first. -/
def out0_14 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : Vec F S1x512x1024 .bf16 :=
  View.canon [⟨r0_17, k0_pay34 (k0_pay84 x0 x1 x2 x3 x4 x5 x6 x7 x8 x9 x10 x11 x12 x13) (k0_pay85 x0 x1 x2 x3 x4 x5 x6 x7 x8 x9 x10 x11 x12 x13) (k0_pay91 x0 x1 x2 x3 x4 x5 x6 x7 x8 x9 x10 x11 x12 x13)⟩,
    ⟨r0_16, k0_pay32 (k0_pay84 x0 x1 x2 x3 x4 x5 x6 x7 x8 x9 x10 x11 x12 x13) (k0_pay85 x0 x1 x2 x3 x4 x5 x6 x7 x8 x9 x10 x11 x12 x13) (k0_pay30 (k0_pay91 x0 x1 x2 x3 x4 x5 x6 x7 x8 x9 x10 x11 x12 x13)) (k0_pay31 (k0_pay91 x0 x1 x2 x3 x4 x5 x6 x7 x8 x9 x10 x11 x12 x13))⟩,
    ⟨r0_15, k0_pay28 (k0_pay84 x0 x1 x2 x3 x4 x5 x6 x7 x8 x9 x10 x11 x12 x13) (k0_pay85 x0 x1 x2 x3 x4 x5 x6 x7 x8 x9 x10 x11 x12 x13) (k0_pay91 x0 x1 x2 x3 x4 x5 x6 x7 x8 x9 x10 x11 x12 x13)⟩,
    ⟨r0_14, k0_pay26 (k0_pay25 (k0_pay84 x0 x1 x2 x3 x4 x5 x6 x7 x8 x9 x10 x11 x12 x13) (k0_pay85 x0 x1 x2 x3 x4 x5 x6 x7 x8 x9 x10 x11 x12 x13) (k0_pay91 x0 x1 x2 x3 x4 x5 x6 x7 x8 x9 x10 x11 x12 x13))⟩,
    ⟨r0_13, k0_pay23 (k0_pay84 x0 x1 x2 x3 x4 x5 x6 x7 x8 x9 x10 x11 x12 x13) (k0_pay85 x0 x1 x2 x3 x4 x5 x6 x7 x8 x9 x10 x11 x12 x13) (k0_pay91 x0 x1 x2 x3 x4 x5 x6 x7 x8 x9 x10 x11 x12 x13)⟩,
    ⟨r0_12, k0_pay20 (k0_pay84 x0 x1 x2 x3 x4 x5 x6 x7 x8 x9 x10 x11 x12 x13) (k0_pay85 x0 x1 x2 x3 x4 x5 x6 x7 x8 x9 x10 x11 x12 x13) (k0_pay91 x0 x1 x2 x3 x4 x5 x6 x7 x8 x9 x10 x11 x12 x13)⟩,
    ⟨r0_11, k0_pay18 (k0_pay84 x0 x1 x2 x3 x4 x5 x6 x7 x8 x9 x10 x11 x12 x13) (k0_pay85 x0 x1 x2 x3 x4 x5 x6 x7 x8 x9 x10 x11 x12 x13) (k0_pay17 (k0_pay86 x0 x1 x2 x3 x4 x5 x6 x7 x8 x9 x10 x11 x12 x13) (View.ld x5 r0_8)) (iota .tc S512x128 32 [1] iota_S512x128_d1_w32) 31#32⟩,
    ⟨r0_10, k0_pay15 (k0_pay84 x0 x1 x2 x3 x4 x5 x6 x7 x8 x9 x10 x11 x12 x13) (k0_pay85 x0 x1 x2 x3 x4 x5 x6 x7 x8 x9 x10 x11 x12 x13) (k0_pay86 x0 x1 x2 x3 x4 x5 x6 x7 x8 x9 x10 x11 x12 x13) (View.ld x5 r0_8)⟩]

/-- Its stores tile the buffer (checked by evaluation), so they cover it. -/
theorem cover0_14 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x512x1024.Idx) :
    ∃ pc ∈ ([⟨r0_17, p0⟩, ⟨r0_16, p1⟩, ⟨r0_15, p2⟩, ⟨r0_14, p3⟩, ⟨r0_13, p4⟩, ⟨r0_12, p5⟩, ⟨r0_11, p6⟩, ⟨r0_10, p7⟩] : List (View.Piece (Elt F) S1x512x1024 .bf16)), y ∈ pc.1.set :=
  View.cover_of_tiled [⟨r0_17, p0⟩, ⟨r0_16, p1⟩, ⟨r0_15, p2⟩, ⟨r0_14, p3⟩, ⟨r0_13, p4⟩, ⟨r0_12, p5⟩, ⟨r0_11, p6⟩, ⟨r0_10, p7⟩] S1x512x128.size (by rfl) y

/-- What the body stores in window 15's staging buffer, from the input windows' blocks: 8 piece(s), the last stored first. -/
def out0_15 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : Vec F S1x512x1024 .bf16 :=
  View.canon [⟨r0_17, k0_pay35 (k0_pay90 x0 x1 x2 x3 x4 x5 x6 x7 x8 x9 x10 x11 x12 x13) (k0_pay92 x0 x1 x2 x3 x4 x5 x6 x7 x8 x9 x10 x11 x12 x13)⟩,
    ⟨r0_16, k0_pay33 (k0_pay90 x0 x1 x2 x3 x4 x5 x6 x7 x8 x9 x10 x11 x12 x13) (k0_pay92 x0 x1 x2 x3 x4 x5 x6 x7 x8 x9 x10 x11 x12 x13)⟩,
    ⟨r0_15, k0_pay29 (k0_pay90 x0 x1 x2 x3 x4 x5 x6 x7 x8 x9 x10 x11 x12 x13) (k0_pay92 x0 x1 x2 x3 x4 x5 x6 x7 x8 x9 x10 x11 x12 x13)⟩,
    ⟨r0_14, k0_pay27 (k0_pay90 x0 x1 x2 x3 x4 x5 x6 x7 x8 x9 x10 x11 x12 x13) (k0_pay92 x0 x1 x2 x3 x4 x5 x6 x7 x8 x9 x10 x11 x12 x13)⟩,
    ⟨r0_13, k0_pay24 (k0_pay90 x0 x1 x2 x3 x4 x5 x6 x7 x8 x9 x10 x11 x12 x13) (k0_pay92 x0 x1 x2 x3 x4 x5 x6 x7 x8 x9 x10 x11 x12 x13)⟩,
    ⟨r0_12, k0_pay22 (k0_pay21 (k0_pay90 x0 x1 x2 x3 x4 x5 x6 x7 x8 x9 x10 x11 x12 x13) (k0_pay92 x0 x1 x2 x3 x4 x5 x6 x7 x8 x9 x10 x11 x12 x13))⟩,
    ⟨r0_11, k0_pay19 (k0_pay90 x0 x1 x2 x3 x4 x5 x6 x7 x8 x9 x10 x11 x12 x13) (k0_pay92 x0 x1 x2 x3 x4 x5 x6 x7 x8 x9 x10 x11 x12 x13)⟩,
    ⟨r0_10, k0_pay16 (k0_pay84 x0 x1 x2 x3 x4 x5 x6 x7 x8 x9 x10 x11 x12 x13) (k0_pay85 x0 x1 x2 x3 x4 x5 x6 x7 x8 x9 x10 x11 x12 x13) (k0_pay87 x0 x1 x2 x3 x4 x5 x6 x7 x8 x9 x10 x11 x12 x13) (k0_pay88 x0 x1 x2 x3 x4 x5 x6 x7 x8 x9 x10 x11 x12 x13) (k0_pay89 x0 x1 x2 x3 x4 x5 x6 x7 x8 x9 x10 x11 x12 x13) (View.ld x7 r0_9)⟩]

/-- Its stores tile the buffer (checked by evaluation), so they cover it. -/
theorem cover0_15 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x512x1024.Idx) :
    ∃ pc ∈ ([⟨r0_17, p0⟩, ⟨r0_16, p1⟩, ⟨r0_15, p2⟩, ⟨r0_14, p3⟩, ⟨r0_13, p4⟩, ⟨r0_12, p5⟩, ⟨r0_11, p6⟩, ⟨r0_10, p7⟩] : List (View.Piece (Elt F) S1x512x1024 .bf16)), y ∈ pc.1.set :=
  View.cover_of_tiled [⟨r0_17, p0⟩, ⟨r0_16, p1⟩, ⟨r0_15, p2⟩, ⟨r0_14, p3⟩, ⟨r0_13, p4⟩, ⟨r0_12, p5⟩, ⟨r0_11, p6⟩, ⟨r0_10, p7⟩] S1x512x128.size (by rfl) y

/-- What the body stores in window 16's staging buffer, from the input windows' blocks: 2 piece(s), the last stored first. -/
def out0_16 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : Vec F S1x2x512x256 .bf16 :=
  View.canon [⟨r0_20, k0_pay39 (k0_pay87 x0 x1 x2 x3 x4 x5 x6 x7 x8 x9 x10 x11 x12 x13) (k0_pay94 x0 x1 x2 x3 x4 x5 x6 x7 x8 x9 x10 x11 x12 x13) (k0_pay93 x0 x1 x2 x3 x4 x5 x6 x7 x8 x9 x10 x11 x12 x13)⟩,
    ⟨r0_19, k0_pay38 (k0_pay87 x0 x1 x2 x3 x4 x5 x6 x7 x8 x9 x10 x11 x12 x13) (k0_pay94 x0 x1 x2 x3 x4 x5 x6 x7 x8 x9 x10 x11 x12 x13) (k0_pay93 x0 x1 x2 x3 x4 x5 x6 x7 x8 x9 x10 x11 x12 x13)⟩]

/-- Its stores tile the buffer (checked by evaluation), so they cover it. -/
theorem cover0_16 (p0 : Vec F S1x1x512x256 .bf16) (p1 : Vec F S1x1x512x256 .bf16) (y : S1x2x512x256.Idx) :
    ∃ pc ∈ ([⟨r0_20, p0⟩, ⟨r0_19, p1⟩] : List (View.Piece (Elt F) S1x2x512x256 .bf16)), y ∈ pc.1.set :=
  View.cover_of_tiled [⟨r0_20, p0⟩, ⟨r0_19, p1⟩] S1x1x512x256.size (by rfl) y

/-- What the body stores in window 17's staging buffer, from the input windows' blocks: 1 piece(s), the last stored first. -/
def out0_17 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : Vec F S1x512x512 .bf16 :=
  View.canon [⟨r0_22, k0_pay40 (k0_pay81 x0 x1 x2 x3 x4 x5 x6 x7 x8 x9 x10 x11 x12 x13) (View.ld x3 r0_21)⟩]

/-- Its stores tile the buffer (checked by evaluation), so they cover it. -/
theorem cover0_17 (p0 : Vec F S1x512x512 .bf16) (y : S1x512x512.Idx) :
    ∃ pc ∈ ([⟨r0_22, p0⟩] : List (View.Piece (Elt F) S1x512x512 .bf16)), y ∈ pc.1.set :=
  View.cover_of_tiled [⟨r0_22, p0⟩] S1x512x512.size (by rfl) y

/-- What the body stores in window 18's staging buffer, from the input windows' blocks: 4 piece(s), the last stored first. -/
def out0_18 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : Vec F S1x512x512 .bf16 :=
  View.canon [⟨r0_34, k0_pay66 (k0_pay82 x0 x1 x2 x3 x4 x5 x6 x7 x8 x9 x10 x11 x12 x13) (k0_pay83 x0 x1 x2 x3 x4 x5 x6 x7 x8 x9 x10 x11 x12 x13) (k0_pay95 x0 x1 x2 x3 x4 x5 x6 x7 x8 x9 x10 x11 x12 x13)⟩,
    ⟨r0_31, k0_pay60 (k0_pay58 (k0_pay82 x0 x1 x2 x3 x4 x5 x6 x7 x8 x9 x10 x11 x12 x13) (k0_pay83 x0 x1 x2 x3 x4 x5 x6 x7 x8 x9 x10 x11 x12 x13) (k0_pay95 x0 x1 x2 x3 x4 x5 x6 x7 x8 x9 x10 x11 x12 x13)) (k0_pay59 (F := F))⟩,
    ⟨r0_28, k0_pay49 (k0_pay82 x0 x1 x2 x3 x4 x5 x6 x7 x8 x9 x10 x11 x12 x13) (k0_pay83 x0 x1 x2 x3 x4 x5 x6 x7 x8 x9 x10 x11 x12 x13) (k0_pay95 x0 x1 x2 x3 x4 x5 x6 x7 x8 x9 x10 x11 x12 x13)⟩,
    ⟨r0_25, k0_pay43 (k0_pay82 x0 x1 x2 x3 x4 x5 x6 x7 x8 x9 x10 x11 x12 x13) (k0_pay83 x0 x1 x2 x3 x4 x5 x6 x7 x8 x9 x10 x11 x12 x13) (k0_pay95 x0 x1 x2 x3 x4 x5 x6 x7 x8 x9 x10 x11 x12 x13)⟩]

/-- Its stores tile the buffer (checked by evaluation), so they cover it. -/
theorem cover0_18 (p0 : Vec F S1x512x128 .bf16) (p1 : Vec F S1x512x128 .bf16) (p2 : Vec F S1x512x128 .bf16) (p3 : Vec F S1x512x128 .bf16) (y : S1x512x512.Idx) :
    ∃ pc ∈ ([⟨r0_34, p0⟩, ⟨r0_31, p1⟩, ⟨r0_28, p2⟩, ⟨r0_25, p3⟩] : List (View.Piece (Elt F) S1x512x512 .bf16)), y ∈ pc.1.set :=
  View.cover_of_tiled [⟨r0_34, p0⟩, ⟨r0_31, p1⟩, ⟨r0_28, p2⟩, ⟨r0_25, p3⟩] S1x512x128.size (by rfl) y

/-- What the body stores in window 19's staging buffer, from the input windows' blocks: 4 piece(s), the last stored first. -/
def out0_19 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : Vec F S1x512x512 .bf16 :=
  View.canon [⟨r0_34, k0_pay68 (k0_pay82 x0 x1 x2 x3 x4 x5 x6 x7 x8 x9 x10 x11 x12 x13) (k0_pay83 x0 x1 x2 x3 x4 x5 x6 x7 x8 x9 x10 x11 x12 x13) (k0_pay96 x0 x1 x2 x3 x4 x5 x6 x7 x8 x9 x10 x11 x12 x13)⟩,
    ⟨r0_31, k0_pay62 (k0_pay82 x0 x1 x2 x3 x4 x5 x6 x7 x8 x9 x10 x11 x12 x13) (k0_pay83 x0 x1 x2 x3 x4 x5 x6 x7 x8 x9 x10 x11 x12 x13) (k0_pay96 x0 x1 x2 x3 x4 x5 x6 x7 x8 x9 x10 x11 x12 x13)⟩,
    ⟨r0_28, k0_pay55 (k0_pay82 x0 x1 x2 x3 x4 x5 x6 x7 x8 x9 x10 x11 x12 x13) (k0_pay83 x0 x1 x2 x3 x4 x5 x6 x7 x8 x9 x10 x11 x12 x13) (k0_pay97 x0 x1 x2 x3 x4 x5 x6 x7 x8 x9 x10 x11 x12 x13) (k0_pay98 x0 x1 x2 x3 x4 x5 x6 x7 x8 x9 x10 x11 x12 x13) (k0_pay99 x0 x1 x2 x3 x4 x5 x6 x7 x8 x9 x10 x11 x12 x13) (k0_pay100 x0 x1 x2 x3 x4 x5 x6 x7 x8 x9 x10 x11 x12 x13)⟩,
    ⟨r0_25, k0_pay45 (k0_pay82 x0 x1 x2 x3 x4 x5 x6 x7 x8 x9 x10 x11 x12 x13) (k0_pay83 x0 x1 x2 x3 x4 x5 x6 x7 x8 x9 x10 x11 x12 x13) (k0_pay96 x0 x1 x2 x3 x4 x5 x6 x7 x8 x9 x10 x11 x12 x13)⟩]

/-- Its stores tile the buffer (checked by evaluation), so they cover it. -/
theorem cover0_19 (p0 : Vec F S1x512x128 .bf16) (p1 : Vec F S1x512x128 .bf16) (p2 : Vec F S1x512x128 .bf16) (p3 : Vec F S1x512x128 .bf16) (y : S1x512x512.Idx) :
    ∃ pc ∈ ([⟨r0_34, p0⟩, ⟨r0_31, p1⟩, ⟨r0_28, p2⟩, ⟨r0_25, p3⟩] : List (View.Piece (Elt F) S1x512x512 .bf16)), y ∈ pc.1.set :=
  View.cover_of_tiled [⟨r0_34, p0⟩, ⟨r0_31, p1⟩, ⟨r0_28, p2⟩, ⟨r0_25, p3⟩] S1x512x128.size (by rfl) y

/-- What the body stores in window 20's staging buffer, from the input windows' blocks: 2 piece(s), the last stored first. -/
def out0_20 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : Vec F S1x2x512x256 .bf16 :=
  View.canon [⟨r0_20, k0_pay75 (k0_pay81 x0 x1 x2 x3 x4 x5 x6 x7 x8 x9 x10 x11 x12 x13) (View.ld x3 r0_37)⟩,
    ⟨r0_19, k0_pay74 (k0_pay81 x0 x1 x2 x3 x4 x5 x6 x7 x8 x9 x10 x11 x12 x13) (View.ld x3 r0_37)⟩]

/-- Its stores tile the buffer (checked by evaluation), so they cover it. -/
theorem cover0_20 (p0 : Vec F S1x1x512x256 .bf16) (p1 : Vec F S1x1x512x256 .bf16) (y : S1x2x512x256.Idx) :
    ∃ pc ∈ ([⟨r0_20, p0⟩, ⟨r0_19, p1⟩] : List (View.Piece (Elt F) S1x2x512x256 .bf16)), y ∈ pc.1.set :=
  View.cover_of_tiled [⟨r0_20, p0⟩, ⟨r0_19, p1⟩] S1x1x512x256.size (by rfl) y

/-- What the body stores in window 21's staging buffer, from the input windows' blocks: 1 piece(s), the last stored first. -/
def out0_21 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : Vec F S1x512x512 .bf16 :=
  View.canon [⟨r0_22, k0_pay78 (k0_pay76 (k0_pay81 x0 x1 x2 x3 x4 x5 x6 x7 x8 x9 x10 x11 x12 x13) (View.ld x3 r0_38)) (k0_pay77 (F := F))⟩]

/-- Its stores tile the buffer (checked by evaluation), so they cover it. -/
theorem cover0_21 (p0 : Vec F S1x512x512 .bf16) (y : S1x512x512.Idx) :
    ∃ pc ∈ ([⟨r0_22, p0⟩] : List (View.Piece (Elt F) S1x512x512 .bf16)), y ∈ pc.1.set :=
  View.cover_of_tiled [⟨r0_22, p0⟩] S1x512x512.size (by rfl) y

/-- What the body stores in window 22's staging buffer, from the input windows' blocks: 1 piece(s), the last stored first. -/
def out0_22 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : Vec F S1x512x1024 .bf16 :=
  View.canon [⟨r0_0, k0_pay79 (k0_pay81 x0 x1 x2 x3 x4 x5 x6 x7 x8 x9 x10 x11 x12 x13) (View.ld x3 r0_39) (View.ld x9 r0_40)⟩]

/-- Its stores tile the buffer (checked by evaluation), so they cover it. -/
theorem cover0_22 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- What the body stores in window 23's staging buffer, from the input windows' blocks: 1 piece(s), the last stored first. -/
def out0_23 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : Vec F S1x512x1024 .bf16 :=
  View.canon [⟨r0_0, k0_pay1 (k0_pay80 (k0_pay81 x0 x1 x2 x3 x4 x5 x6 x7 x8 x9 x10 x11 x12 x13) (View.ld x3 r0_41) (View.ld x9 r0_42)) (Scalar.ofBits .f32 0x00000000#32)⟩]

/-- Its stores tile the buffer (checked by evaluation), so they cover it. -/
theorem cover0_23 (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-- What the body stores in window 24's staging buffer, from the input windows' blocks: 8 piece(s), the last stored first. -/
def out0_24 (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) : Vec F S1x2x1x512 .f32 :=
  View.canon [⟨r0_36, k0_pay72 (k0_pay67 (k0_pay82 x0 x1 x2 x3 x4 x5 x6 x7 x8 x9 x10 x11 x12 x13) (k0_pay83 x0 x1 x2 x3 x4 x5 x6 x7 x8 x9 x10 x11 x12 x13) (k0_pay96 x0 x1 x2 x3 x4 x5 x6 x7 x8 x9 x10 x11 x12 x13))⟩,
    ⟨r0_35, k0_pay71 (k0_pay69 (k0_pay82 x0 x1 x2 x3 x4 x5 x6 x7 x8 x9 x10 x11 x12 x13) (k0_pay83 x0 x1 x2 x3 x4 x5 x6 x7 x8 x9 x10 x11 x12 x13) (k0_pay96 x0 x1 x2 x3 x4 x5 x6 x7 x8 x9 x10 x11 x12 x13)) (k0_pay70 (F := F))⟩,
    ⟨r0_33, k0_pay65 (k0_pay64 (k0_pay82 x0 x1 x2 x3 x4 x5 x6 x7 x8 x9 x10 x11 x12 x13) (k0_pay83 x0 x1 x2 x3 x4 x5 x6 x7 x8 x9 x10 x11 x12 x13) (k0_pay96 x0 x1 x2 x3 x4 x5 x6 x7 x8 x9 x10 x11 x12 x13))⟩,
    ⟨r0_32, k0_pay63 (k0_pay82 x0 x1 x2 x3 x4 x5 x6 x7 x8 x9 x10 x11 x12 x13) (k0_pay83 x0 x1 x2 x3 x4 x5 x6 x7 x8 x9 x10 x11 x12 x13) (k0_pay96 x0 x1 x2 x3 x4 x5 x6 x7 x8 x9 x10 x11 x12 x13)⟩,
    ⟨r0_30, k0_pay57 (k0_pay82 x0 x1 x2 x3 x4 x5 x6 x7 x8 x9 x10 x11 x12 x13) (k0_pay83 x0 x1 x2 x3 x4 x5 x6 x7 x8 x9 x10 x11 x12 x13) (k0_pay97 x0 x1 x2 x3 x4 x5 x6 x7 x8 x9 x10 x11 x12 x13) (k0_pay98 x0 x1 x2 x3 x4 x5 x6 x7 x8 x9 x10 x11 x12 x13) (k0_pay99 x0 x1 x2 x3 x4 x5 x6 x7 x8 x9 x10 x11 x12 x13) (k0_pay100 x0 x1 x2 x3 x4 x5 x6 x7 x8 x9 x10 x11 x12 x13)⟩,
    ⟨r0_29, k0_pay56 (k0_pay82 x0 x1 x2 x3 x4 x5 x6 x7 x8 x9 x10 x11 x12 x13) (k0_pay83 x0 x1 x2 x3 x4 x5 x6 x7 x8 x9 x10 x11 x12 x13) (k0_pay97 x0 x1 x2 x3 x4 x5 x6 x7 x8 x9 x10 x11 x12 x13) (k0_pay98 x0 x1 x2 x3 x4 x5 x6 x7 x8 x9 x10 x11 x12 x13) (k0_pay99 x0 x1 x2 x3 x4 x5 x6 x7 x8 x9 x10 x11 x12 x13) (k0_pay100 x0 x1 x2 x3 x4 x5 x6 x7 x8 x9 x10 x11 x12 x13)⟩,
    ⟨r0_27, k0_pay48 (k0_pay44 (k0_pay82 x0 x1 x2 x3 x4 x5 x6 x7 x8 x9 x10 x11 x12 x13) (k0_pay83 x0 x1 x2 x3 x4 x5 x6 x7 x8 x9 x10 x11 x12 x13) (k0_pay96 x0 x1 x2 x3 x4 x5 x6 x7 x8 x9 x10 x11 x12 x13))⟩,
    ⟨r0_26, k0_pay47 (k0_pay46 (k0_pay82 x0 x1 x2 x3 x4 x5 x6 x7 x8 x9 x10 x11 x12 x13) (k0_pay83 x0 x1 x2 x3 x4 x5 x6 x7 x8 x9 x10 x11 x12 x13) (k0_pay96 x0 x1 x2 x3 x4 x5 x6 x7 x8 x9 x10 x11 x12 x13))⟩]

/-- Its stores tile the buffer (checked by evaluation), so they cover it. -/
theorem cover0_24 (p0 : Vec F S1x1x1x128 .f32) (p1 : Vec F S1x1x1x128 .f32) (p2 : Vec F S1x1x1x128 .f32) (p3 : Vec F S1x1x1x128 .f32) (p4 : Vec F S1x1x1x128 .f32) (p5 : Vec F S1x1x1x128 .f32) (p6 : Vec F S1x1x1x128 .f32) (p7 : Vec F S1x1x1x128 .f32) (y : S1x2x1x512.Idx) :
    ∃ pc ∈ ([⟨r0_36, p0⟩, ⟨r0_35, p1⟩, ⟨r0_33, p2⟩, ⟨r0_32, p3⟩, ⟨r0_30, p4⟩, ⟨r0_29, p5⟩, ⟨r0_27, p6⟩, ⟨r0_26, p7⟩] : List (View.Piece (Elt F) S1x2x1x512 .f32)), y ∈ pc.1.set :=
  View.cover_of_tiled [⟨r0_36, p0⟩, ⟨r0_35, p1⟩, ⟨r0_33, p2⟩, ⟨r0_32, p3⟩, ⟨r0_30, p4⟩, ⟨r0_29, p5⟩, ⟨r0_27, p6⟩, ⟨r0_26, p7⟩] S1x1x1x128.size (by rfl) y

/-! ## The body's triple -/

set_option maxHeartbeats 1000000 in
/-- The kernel body on whole staging memrefs, the inputs' at read contents `xW` and the outputs' at anything, runs to
    the continuation holding the inputs' as they were and each output's at `out0_W` of the inputs'. -/
theorem sound_kernel (c : Dev nD) (E : Set ℕ) (i : grid0.Coords) (arg2 : Memref sig .tc .vmem S1x512x1024 .f32) (harg2 : arg2.IsWhole) (arg3 : Memref sig .tc .vmem S1x3x1024 .f32) (harg3 : arg3.IsWhole) (arg4 : Memref sig .tc .vmem S1x1024 .f32) (harg4 : arg4.IsWhole) (arg5 : Memref sig .tc .vmem S1024x5120 .bf16) (harg5 : arg5.IsWhole) (arg6 : Memref sig .tc .vmem S1x256 .f32) (harg6 : arg6.IsWhole) (arg7 : Memref sig .tc .vmem S256x1024 .bf16) (harg7 : arg7.IsWhole) (arg8 : Memref sig .tc .vmem S1x128 .f32) (harg8 : arg8.IsWhole) (arg9 : Memref sig .tc .vmem S128x1024 .bf16) (harg9 : arg9.IsWhole) (arg10 : Memref sig .tc .vmem S128x512 .bf16) (harg10 : arg10.IsWhole) (arg11 : Memref sig .tc .vmem S1x2048 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x1024 .bf16) (harg16 : arg16.IsWhole) (arg17 : Memref sig .tc .vmem S1x512x1024 .bf16) (harg17 : arg17.IsWhole) (arg18 : Memref sig .tc .vmem S1x2x512x256 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x512x512 .bf16) (harg21 : arg21.IsWhole) (arg22 : Memref sig .tc .vmem S1x2x512x256 .bf16) (harg22 : arg22.IsWhole) (arg23 : Memref sig .tc .vmem S1x512x512 .bf16) (harg23 : arg23.IsWhole) (arg24 : Memref sig .tc .vmem S1x512x1024 .bf16) (harg24 : arg24.IsWhole) (arg25 : Memref sig .tc .vmem S1x512x1024 .bf16) (harg25 : arg25.IsWhole) (arg26 : Memref sig .tc .vmem S1x2x1x512 .f32) (harg26 : arg26.IsWhole)
    (x0 : Vec F S1x512x1024 .f32) (x1 : Vec F S1x3x1024 .f32) (x2 : Vec F S1x1024 .f32) (x3 : Vec F S1024x5120 .bf16) (x4 : Vec F S1x256 .f32) (x5 : Vec F S256x1024 .bf16) (x6 : Vec F S1x128 .f32) (x7 : Vec F S128x1024 .bf16) (x8 : Vec F S128x512 .bf16) (x9 : Vec F S1x2048 .f32) (x10 : Vec F S1x512x128 .f32) (x11 : Vec F S1x512x128 .f32) (x12 : Vec F S1x512x128 .f32) (x13 : Vec F S1x512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (out0_14 x0 x1 x2 x3 x4 x5 x6 x7 x8 x9 x10 x11 x12 x13) ∗ owns (c : Thread nD τ) arg17 fullShare (out0_15 x0 x1 x2 x3 x4 x5 x6 x7 x8 x9 x10 x11 x12 x13) ∗ owns (c : Thread nD τ) arg18 fullShare (out0_16 x0 x1 x2 x3 x4 x5 x6 x7 x8 x9 x10 x11 x12 x13) ∗ owns (c : Thread nD τ) arg19 fullShare (out0_17 x0 x1 x2 x3 x4 x5 x6 x7 x8 x9 x10 x11 x12 x13) ∗ owns (c : Thread nD τ) arg20 fullShare (out0_18 x0 x1 x2 x3 x4 x5 x6 x7 x8 x9 x10 x11 x12 x13) ∗ owns (c : Thread nD τ) arg21 fullShare (out0_19 x0 x1 x2 x3 x4 x5 x6 x7 x8 x9 x10 x11 x12 x13) ∗ owns (c : Thread nD τ) arg22 fullShare (out0_20 x0 x1 x2 x3 x4 x5 x6 x7 x8 x9 x10 x11 x12 x13) ∗ owns (c : Thread nD τ) arg23 fullShare (out0_21 x0 x1 x2 x3 x4 x5 x6 x7 x8 x9 x10 x11 x12 x13) ∗ owns (c : Thread nD τ) arg24 fullShare (out0_22 x0 x1 x2 x3 x4 x5 x6 x7 x8 x9 x10 x11 x12 x13) ∗ owns (c : Thread nD τ) arg25 fullShare (out0_23 x0 x1 x2 x3 x4 x5 x6 x7 x8 x9 x10 x11 x12 x13) ∗ owns (c : Thread nD τ) arg26 fullShare (out0_24 x0 x1 x2 x3 x4 x5 x6 x7 x8 x9 x10 x11 x12 x13)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _ _ _ _ _ _ _ _)).trans ?_
    rfl
  isplitl [H15]
  · iexists _; isplitr
    swap; · iexact H15
    ipureintro
    refine (View.read_writes_eq_canon _ _ _ (cover0_15 _ _ _ _ _ _ _ _)).trans ?_
    rfl
  isplitl [H16]
  · iexists _; isplitr
    swap; · iexact H16
    ipureintro
    refine (View.read_writes_eq_canon _ _ _ (cover0_16 _ _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _ _ _ _)).trans ?_
    rfl
  isplitl [H19]
  · iexists _; isplitr
    swap; · iexact H19
    ipureintro
    refine (View.read_writes_eq_canon _ _ _ (cover0_19 _ _ _ _)).trans ?_
    rfl
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  iexists _; isplitr
  swap; · iexact H24
  ipureintro
  refine (View.read_writes_eq_canon _ _ _ (cover0_24 _ _ _ _ _ _ _ _)).trans ?_
  rfl

/-! ## The pipeline's proof data -/

/-- The proof data of the one pipeline on core `c`: the arrays as the region finds them (`V`); after the body at
    point `t` each input's buffer at its block and each output's at `out0_W` of the input blocks; the invariant: the scoped rest and
    the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 25, h⟩ => absurd h (Nat.not_lt.2 (Nat.le_add_left _ _))
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` : the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run's statement below, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The call runs without error, leaves its thirteen arguments as they were and ends with every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel3Ideal.Gen

end
-- ==== Proof.InputsSame.lean ====
/- The frame of the input projection's kernel, carried over from the same program read over the ideal
numbers: the two are printed from one trace, so their bodies and their host code are the same terms. -/
module

public import proofs.«01_k».proof.Defs
public import proofs.«01_k».proof.Proof.Gen.Kernel3
public import proofs.«01_k».proof.Proof.Gen.Kernel3Ideal
public import proofs.«01_k».proof.Proof.InputsFrame

@[expose] public section

noncomputable section

namespace Cert.Proof

open Idealize.ShloMosaic Idealize.SL.Sem

set_option maxRecDepth 16384
set_option maxHeartbeats 8000000

variable {F : FTy → Type} [FloatOps F]

local instance kernelFacts : Cert.Kernel3.Facts := Cert.Kernel3.Gen.facts
local instance idealFacts : Cert.Kernel3Ideal.Facts := Cert.Kernel3Ideal.Gen.facts

/-- The kernel and its reading over the ideal numbers have the same body table, at every element type. -/
theorem same_table : (Cert.Kernel3.defs₀ (F := F)) = (Cert.Kernel3Ideal.defs₀ (F := F)) := by
  refine congrArg Defs.onTc (funext fun l => funext fun a => ?_)
  obtain ⟨n, hn⟩ := l
  obtain rfl : n = 0 := by omega
  rfl

/-- So have their pipelines. -/
theorem same_defs : (Cert.Kernel3.defs (F := F)) = (Cert.Kernel3Ideal.defs (F := F)) :=
  congrArg (Pipeline.defs Cert.Kernel3.pcfgs) same_table

/-- The input projection's kernel runs on the machine's numbers without error, leaves its thirteen
    arguments as they were and ends with every semaphore at zero. -/
theorem frame_Kernel3 : Cert.quiescent_Kernel3 (hKernel3 := Cert.Kernel3.Gen.facts) := fun m g _ => by
  refine (congrArg (fun D => θ_run D (onTc (τ := Cert.Kernel3.τ) (Cert.Kernel3.main (F := Bits))) ⟨m, fun _ => 0, g⟩ _)
    (same_defs (F := Bits))).mpr ?_
  exact Cert.Kernel3Ideal.Gen.frame (F := Bits) m g

end Cert.Proof

end
-- ==== Proof.InputsRef.lean ====
/-
  The reference of the input projection in layers, and its rotations read at an index.
-/
module

public import proofs.«01_k».proof.Proof.Gen.Reference3Ideal.Run
public import Idealize.ShloMosaic.Lib.Pipeline.ValueKit

@[expose] public section

set_option maxRecDepth 16384

noncomputable section

namespace Cert.Reference3Ideal.Inp

open Idealize.ShloMosaic Idealize.ShloMosaic.TcCoe
open Cert.Reference3Ideal Cert.Reference3Ideal.Gen
open Idealize.SL.Sem

/-- The stream normalized by its root mean square, scaled and shifted by the modulation. -/
def normed (a0 : FVec Ideal S16x4096x1024 .f32) (a1 : FVec Ideal S16x3x1024 .f32)
    (a2 : FVec Ideal S1024 .f32) : FVec Ideal S16x4096x1024 .f32 :=
  addf (mulf (mulf (mulf a0 (broadcastInDim S16x4096x1024 ![0, 1, 2] bcast_S16x4096x1_S16x4096x1024_0_1_2 (Host.rsqrt (addf
    (Host.divf (broadcastInDim S16x4096x1 ![0, 1] bcast_S16x4096_S16x4096x1_0_1 (Host.reduceAdd (mulf a0 a0)
    (constant S_ .f32 0x00000000#32) reducesTo_S16x4096x1024_S16x4096_d2 h_S_))
    (broadcastInDim S16x4096x1 ![] bcast_S_S16x4096x1 (constant S_ .f32 0x44800000#32)))
    (broadcastInDim S16x4096x1 ![] bcast_S_S16x4096x1 (constant S_ .f32 0x358637BD#32))))))
    (broadcastInDim S16x4096x1024 ![0, 1, 2] bcast_S1x1x1024_S16x4096x1024_0_1_2
    (broadcastInDim S1x1x1024 ![2] bcast_S1024_S1x1x1024_2 a2)))
    (broadcastInDim S16x4096x1024 ![0, 1, 2] bcast_S16x1x1024_S16x4096x1024_0_1_2 (addf
    (broadcastInDim S16x1x1024 ![] bcast_S_S16x1x1024 (constant S_ .f32 0x3F800000#32))
    (broadcastInDim S16x1x1024 ![0, 2] bcast_S16x1024_S16x1x1024_0_2 (shapeCast _
    (extractStridedSlice S16x1x1024 ![0, 1, 0] a1 slices_S16x3x1024_S16x1x1024_0_1_0) shapeCasts_S16x1x1024_S16x1024)))))
    (broadcastInDim S16x4096x1024 ![0, 1, 2] bcast_S16x1x1024_S16x4096x1024_0_1_2
    (broadcastInDim S16x1x1024 ![0, 2] bcast_S16x1024_S16x1x1024_0_2 (shapeCast _
    (extractStridedSlice S16x1x1024 ![0, 0, 0] a1 slices_S16x3x1024_S16x1x1024_0_0_0) shapeCasts_S16x1x1024_S16x1024)))

/-- The input projection of a tensor. -/
def projected (h : FVec Ideal S16x4096x1024 .f32) (a3 : FVec Ideal S1024x5024 .f32) : FVec Ideal S16x4096x5024 .f32 :=
  Host.dotGeneral dot_S16x4096x1024_S1024x5024_S16x4096x5024_2_0_01_1_n_n none h a3

/-- The query latent normalized and scaled. -/
def queryLatent (p : FVec Ideal S16x4096x5024 .f32) (a4 : FVec Ideal S256 .f32) : FVec Ideal S16x4096x256 .f32 :=
  mulf (mulf (mulf (extractStridedSlice S16x4096x256 ![0, 0, 0] p slices_S16x4096x5024_S16x4096x256_0_0_0)
    (broadcastInDim S16x4096x256 ![0, 1, 2] bcast_S16x4096x1_S16x4096x256_0_1_2 (Host.rsqrt (addf (Host.divf
    (broadcastInDim S16x4096x1 ![0, 1] bcast_S16x4096_S16x4096x1_0_1 (Host.reduceAdd (mulf
    (extractStridedSlice S16x4096x256 ![0, 0, 0] p slices_S16x4096x5024_S16x4096x256_0_0_0)
    (extractStridedSlice S16x4096x256 ![0, 0, 0] p slices_S16x4096x5024_S16x4096x256_0_0_0))
    (constant S_ .f32 0x00000000#32) reducesTo_S16x4096x256_S16x4096_d2 h_S_))
    (broadcastInDim S16x4096x1 ![] bcast_S_S16x4096x1 (constant S_ .f32 0x43800000#32)))
    (broadcastInDim S16x4096x1 ![] bcast_S_S16x4096x1 (constant S_ .f32 0x358637BD#32))))))
    (broadcastInDim S16x4096x256 ![0, 1, 2] bcast_S1x1x256_S16x4096x256_0_1_2
    (broadcastInDim S1x1x256 ![2] bcast_S256_S1x1x256_2 a4))) (broadcastInDim S16x4096x256 ![] bcast_S_S16x4096x256
    (constant S_ .f32 0x3E16C740#32))

/-- The queries of the eight heads, each padded to a slab of 128 lanes. -/
def queries (l : FVec Ideal S16x4096x256 .f32) (a5 : FVec Ideal S256x768 .f32) : FVec Ideal S16x4096x8x128 .f32 :=
  pad S16x4096x8x128 ![0, 0, 0, 0] ![0, 0, 0, 32] ![0, 0, 0, 0] (shapeCast _
    (Host.dotGeneral dot_S16x4096x256_S256x768_S16x4096x768_2_0_01_1_n_n none l a5) shapeCasts_S16x4096x768_S16x4096x8x96)
    (sitofp .f32 (constantI S_ 32 0#32)) pads_S16x4096x8x96_S16x4096x8x128_000_000_000_0320 h_S_

/-- The key-value latent normalized. -/
def keyLatent (p : FVec Ideal S16x4096x5024 .f32) (a6 : FVec Ideal S128 .f32) : FVec Ideal S16x4096x128 .f32 :=
  mulf (mulf (extractStridedSlice S16x4096x128 ![0, 0, 256] p slices_S16x4096x5024_S16x4096x128_0_0_256)
    (broadcastInDim S16x4096x128 ![0, 1, 2] bcast_S16x4096x1_S16x4096x128_0_1_2 (Host.rsqrt (addf (Host.divf
    (broadcastInDim S16x4096x1 ![0, 1] bcast_S16x4096_S16x4096x1_0_1 (Host.reduceAdd (mulf
    (extractStridedSlice S16x4096x128 ![0, 0, 256] p slices_S16x4096x5024_S16x4096x128_0_0_256)
    (extractStridedSlice S16x4096x128 ![0, 0, 256] p slices_S16x4096x5024_S16x4096x128_0_0_256))
    (constant S_ .f32 0x00000000#32) reducesTo_S16x4096x128_S16x4096_d2 h_S_))
    (broadcastInDim S16x4096x1 ![] bcast_S_S16x4096x1 (constant S_ .f32 0x43000000#32)))
    (broadcastInDim S16x4096x1 ![] bcast_S_S16x4096x1 (constant S_ .f32 0x358637BD#32))))))
    (broadcastInDim S16x4096x128 ![0, 1, 2] bcast_S1x1x128_S16x4096x128_0_1_2
    (broadcastInDim S1x1x128 ![2] bcast_S128_S1x1x128_2 a6))

/-- The keys and values of the eight heads without position. -/
def keyValues (l : FVec Ideal S16x4096x128 .f32) (a7 : FVec Ideal S128x1024 .f32) : FVec Ideal S16x4096x8x128 .f32 :=
  shapeCast _ (Host.dotGeneral dot_S16x4096x128_S128x1024_S16x4096x1024_2_0_01_1_n_n none l a7) shapeCasts_S16x4096x1024_S16x4096x8x128

/-- The positional key shared by the heads, in the lanes 64 to 95 of a slab. -/
def ropeKey (p : FVec Ideal S16x4096x5024 .f32) : FVec Ideal S16x4096x1x128 .f32 :=
  broadcastInDim S16x4096x1x128 ![0, 1, 3] bcast_S16x4096x128_S16x4096x1x128_0_1_3
    (pad S16x4096x128 ![0, 0, 64] ![0, 0, 32] ![0, 0, 0]
    (extractStridedSlice S16x4096x32 ![0, 0, 384] p slices_S16x4096x5024_S16x4096x32_0_0_384) (sitofp .f32
    (constantI S_ 32 0#32)) pads_S16x4096x32_S16x4096x128_000_000_64320 h_S_)

/-- Eight heads rotated, the halves of every 32 lanes exchanged against the sines. -/
def turned8 (u : FVec Ideal S16x4096x8x128 .f32) (cs sn : FVec Ideal S16x4096x128 .f32) : FVec Ideal S16x4096x8x128 .f32 :=
  addf (mulf u (broadcastInDim S16x4096x8x128 ![0, 1, 2, 3] bcast_S16x4096x1x128_S16x4096x8x128_0_1_2_3
    (broadcastInDim S16x4096x1x128 ![0, 1, 3] bcast_S16x4096x128_S16x4096x1x128_0_1_3 cs))) (mulf (shapeCast _
    (concatenate S16x4096x8x4x2x16 4 [⟨S16x4096x8x4x1x16, (extractStridedSlice S16x4096x8x4x1x16 ![0, 0, 0, 0, 1, 0]
    (shapeCast _ u shapeCasts_S16x4096x8x128_S16x4096x8x4x2x16) slices_S16x4096x8x4x2x16_S16x4096x8x4x1x16_0_0_0_0_1_0)⟩, ⟨S16x4096x8x4x1x16, (extractStridedSlice S16x4096x8x4x1x16 ![0, 0, 0, 0, 0, 0] (shapeCast _ u shapeCasts_S16x4096x8x128_S16x4096x8x4x2x16) slices_S16x4096x8x4x2x16_S16x4096x8x4x1x16_0_0_0_0_0_0)⟩] concatenates_S16x4096x8x4x1x16_S16x4096x8x4x1x16_S16x4096x8x4x2x16_d4) shapeCasts_S16x4096x8x4x2x16_S16x4096x8x128) (broadcastInDim S16x4096x8x128 ![0, 1, 2, 3] bcast_S16x4096x1x128_S16x4096x8x128_0_1_2_3 (broadcastInDim S16x4096x1x128 ![0, 1, 3] bcast_S16x4096x128_S16x4096x1x128_0_1_3 sn)))

/-- One head rotated, the halves of every 32 lanes exchanged against the sines. -/
def turned1 (u : FVec Ideal S16x4096x1x128 .f32) (cs sn : FVec Ideal S16x4096x128 .f32) : FVec Ideal S16x4096x1x128 .f32 :=
  addf (mulf u (broadcastInDim S16x4096x1x128 ![0, 1, 3] bcast_S16x4096x128_S16x4096x1x128_0_1_3 cs)) (mulf (shapeCast _
    (concatenate S16x4096x1x4x2x16 4 [⟨S16x4096x1x4x1x16, (extractStridedSlice S16x4096x1x4x1x16 ![0, 0, 0, 0, 1, 0]
    (shapeCast _ u shapeCasts_S16x4096x1x128_S16x4096x1x4x2x16) slices_S16x4096x1x4x2x16_S16x4096x1x4x1x16_0_0_0_0_1_0)⟩, ⟨S16x4096x1x4x1x16, (extractStridedSlice S16x4096x1x4x1x16 ![0, 0, 0, 0, 0, 0] (shapeCast _ u shapeCasts_S16x4096x1x128_S16x4096x1x4x2x16) slices_S16x4096x1x4x2x16_S16x4096x1x4x1x16_0_0_0_0_0_0)⟩] concatenates_S16x4096x1x4x1x16_S16x4096x1x4x1x16_S16x4096x1x4x2x16_d4) shapeCasts_S16x4096x1x4x2x16_S16x4096x1x128) (broadcastInDim S16x4096x1x128 ![0, 1, 3] bcast_S16x4096x128_S16x4096x1x128_0_1_3 sn))

/-- Four heads rotated, the halves of every 64 lanes exchanged against the sines. -/
def turned4 (u : FVec Ideal S16x4096x4x128 .f32) (cs sn : FVec Ideal S16x4096x128 .f32) : FVec Ideal S16x4096x4x128 .f32 :=
  addf (mulf u (broadcastInDim S16x4096x4x128 ![0, 1, 2, 3] bcast_S16x4096x1x128_S16x4096x4x128_0_1_2_3
    (broadcastInDim S16x4096x1x128 ![0, 1, 3] bcast_S16x4096x128_S16x4096x1x128_0_1_3 cs))) (mulf (shapeCast _
    (concatenate S16x4096x4x2x2x32 4 [⟨S16x4096x4x2x1x32, (extractStridedSlice S16x4096x4x2x1x32 ![0, 0, 0, 0, 1, 0]
    (shapeCast _ u shapeCasts_S16x4096x4x128_S16x4096x4x2x2x32) slices_S16x4096x4x2x2x32_S16x4096x4x2x1x32_0_0_0_0_1_0)⟩, ⟨S16x4096x4x2x1x32, (extractStridedSlice S16x4096x4x2x1x32 ![0, 0, 0, 0, 0, 0] (shapeCast _ u shapeCasts_S16x4096x4x128_S16x4096x4x2x2x32) slices_S16x4096x4x2x2x32_S16x4096x4x2x1x32_0_0_0_0_0_0)⟩] concatenates_S16x4096x4x2x1x32_S16x4096x4x2x1x32_S16x4096x4x2x2x32_d4) shapeCasts_S16x4096x4x2x2x32_S16x4096x4x128) (broadcastInDim S16x4096x4x128 ![0, 1, 2, 3] bcast_S16x4096x1x128_S16x4096x4x128_0_1_2_3 (broadcastInDim S16x4096x1x128 ![0, 1, 3] bcast_S16x4096x128_S16x4096x1x128_0_1_3 sn)))

/-- The queries of the latent attention. -/
def out_q (u : FVec Ideal S16x4096x8x128 .f32) (cs sn : FVec Ideal S16x4096x128 .f32) : FVec Ideal S16x4096x1024 .bf16 :=
  truncf .bf16 (shapeCast _ (turned8 u cs sn) shapeCasts_S16x4096x8x128_S16x4096x1024) bitsLt_bf16_f32

/-- The keys of the latent attention. -/
def out_k (u : FVec Ideal S16x4096x8x128 .f32) (r : FVec Ideal S16x4096x1x128 .f32)
    (cs sn : FVec Ideal S16x4096x128 .f32) : FVec Ideal S16x4096x1024 .bf16 :=
  truncf .bf16 (shapeCast _ (addf (pad S16x4096x8x128 ![0, 0, 0, 0] ![0, 0, 0, 64] ![0, 0, 0, 0]
    (extractStridedSlice S16x4096x8x64 ![0, 0, 0, 0] u slices_S16x4096x8x128_S16x4096x8x64_0_0_0_0) (sitofp .f32
    (constantI S_ 32 0#32)) pads_S16x4096x8x64_S16x4096x8x128_000_000_000_0640 h_S_)
    (broadcastInDim S16x4096x8x128 ![0, 1, 2, 3] bcast_S16x4096x1x128_S16x4096x8x128_0_1_2_3
    (turned1 r cs sn))) shapeCasts_S16x4096x8x128_S16x4096x1024) bitsLt_bf16_f32

/-- The values of the latent attention, transposed by blocks. -/
def out_v (u : FVec Ideal S16x4096x8x128 .f32) : FVec Ideal S16x16x512x256 .bf16 :=
  truncf .bf16 (transpose S16x16x512x256 [0, 1, 3, 2] (shapeCast _
    (extractStridedSlice S16x4096x8x64 ![0, 0, 0, 64] u slices_S16x4096x8x128_S16x4096x8x64_0_0_0_64) shapeCasts_S16x4096x8x64_S16x16x256x512) transposes_S16x16x256x512_S16x16x512x256_0_1_3_2) bitsLt_bf16_f32

/-- The output gate of the latent attention. -/
def out_z (p : FVec Ideal S16x4096x5024 .f32) : FVec Ideal S16x4096x512 .bf16 :=
  truncf .bf16 (mulf (extractStridedSlice S16x4096x512 ![0, 0, 416] p slices_S16x4096x5024_S16x4096x512_0_0_416) (Host.divf
    (broadcastInDim S16x4096x512 ![] bcast_S_S16x4096x512 (constant S_ .f32 0x3F800000#32)) (addf
    (broadcastInDim S16x4096x512 ![] bcast_S_S16x4096x512 (constant S_ .f32 0x3F800000#32)) (Host.exp (Host.negf
    (extractStridedSlice S16x4096x512 ![0, 0, 416] p slices_S16x4096x5024_S16x4096x512_0_0_416)))))) bitsLt_bf16_f32

/-- The four query heads of the sparse attention. -/
def heads_q (p : FVec Ideal S16x4096x5024 .f32) : FVec Ideal S16x4096x4x128 .f32 :=
  shapeCast _ (extractStridedSlice S16x4096x512 ![0, 0, 928] p slices_S16x4096x5024_S16x4096x512_0_0_928) shapeCasts_S16x4096x512_S16x4096x4x128

/-- The four key heads of the sparse attention. -/
def heads_k (p : FVec Ideal S16x4096x5024 .f32) : FVec Ideal S16x4096x4x128 .f32 :=
  shapeCast _ (extractStridedSlice S16x4096x512 ![0, 0, 1440] p slices_S16x4096x5024_S16x4096x512_0_0_1440) shapeCasts_S16x4096x512_S16x4096x4x128

/-- The queries of the sparse attention. -/
def out_qm (u : FVec Ideal S16x4096x4x128 .f32) (cs sn : FVec Ideal S16x4096x128 .f32) : FVec Ideal S16x4096x512 .bf16 :=
  truncf .bf16 (shapeCast _ (mulf (turned4 u cs sn) (broadcastInDim S16x4096x4x128 ![] bcast_S_S16x4096x4x128
    (constant S_ .f32 0x3E38AA3B#32))) shapeCasts_S16x4096x4x128_S16x4096x512) bitsLt_bf16_f32

/-- The keys of the sparse attention before rounding. -/
def keys_m (u : FVec Ideal S16x4096x4x128 .f32) (cs sn : FVec Ideal S16x4096x128 .f32) : FVec Ideal S16x4096x512 .f32 :=
  shapeCast _ (turned4 u cs sn) shapeCasts_S16x4096x4x128_S16x4096x512

/-- The keys of the sparse attention. -/
def out_km (k : FVec Ideal S16x4096x512 .f32) : FVec Ideal S16x4096x512 .bf16 :=
  truncf .bf16 k bitsLt_bf16_f32

/-- The values of the sparse attention, transposed by blocks. -/
def out_vm (p : FVec Ideal S16x4096x5024 .f32) : FVec Ideal S16x16x512x256 .bf16 :=
  truncf .bf16 (transpose S16x16x512x256 [0, 1, 3, 2] (shapeCast _
    (extractStridedSlice S16x4096x512 ![0, 0, 1952] p slices_S16x4096x5024_S16x4096x512_0_0_1952) shapeCasts_S16x4096x512_S16x16x256x512) transposes_S16x16x256x512_S16x16x512x256_0_1_3_2) bitsLt_bf16_f32

/-- The output gate of the sparse attention. -/
def out_zm (p : FVec Ideal S16x4096x5024 .f32) : FVec Ideal S16x4096x512 .bf16 :=
  truncf .bf16 (mulf (extractStridedSlice S16x4096x512 ![0, 0, 2464] p slices_S16x4096x5024_S16x4096x512_0_0_2464) (Host.divf
    (broadcastInDim S16x4096x512 ![] bcast_S_S16x4096x512 (constant S_ .f32 0x3F800000#32)) (addf
    (broadcastInDim S16x4096x512 ![] bcast_S_S16x4096x512 (constant S_ .f32 0x3F800000#32)) (Host.exp (Host.negf
    (extractStridedSlice S16x4096x512 ![0, 0, 2464] p slices_S16x4096x5024_S16x4096x512_0_0_2464)))))) bitsLt_bf16_f32

/-- The two merge gates. -/
def gates (p : FVec Ideal S16x4096x5024 .f32) (a8 : FVec Ideal S2048 .f32) : FVec Ideal S16x4096x2048 .f32 :=
  Host.divf (broadcastInDim S16x4096x2048 ![] bcast_S_S16x4096x2048 (constant S_ .f32 0x3F800000#32)) (addf
    (broadcastInDim S16x4096x2048 ![] bcast_S_S16x4096x2048 (constant S_ .f32 0x3F800000#32)) (Host.exp (Host.negf (addf
    (extractStridedSlice S16x4096x2048 ![0, 0, 2976] p slices_S16x4096x5024_S16x4096x2048_0_0_2976)
    (broadcastInDim S16x4096x2048 ![0, 1, 2] bcast_S1x1x2048_S16x4096x2048_0_1_2
    (broadcastInDim S1x1x2048 ![2] bcast_S2048_S1x1x2048_2 a8))))))

/-- The first merge gate. -/
def out_ga (g : FVec Ideal S16x4096x2048 .f32) : FVec Ideal S16x4096x1024 .bf16 :=
  truncf .bf16 (extractStridedSlice S16x4096x1024 ![0, 0, 0] g slices_S16x4096x2048_S16x4096x1024_0_0_0) bitsLt_bf16_f32

/-- The second merge gate. -/
def out_gb (g : FVec Ideal S16x4096x2048 .f32) : FVec Ideal S16x4096x1024 .bf16 :=
  truncf .bf16 (extractStridedSlice S16x4096x1024 ![0, 0, 1024] g slices_S16x4096x2048_S16x4096x1024_0_0_1024) bitsLt_bf16_f32

/-- The mean key of every block of 256 tokens. -/
def out_mean (k : FVec Ideal S16x4096x512 .f32) : FVec Ideal S16x16x1x512 .f32 :=
  Host.divf (broadcastInDim S16x16x1x512 ![0, 1, 3] bcast_S16x16x512_S16x16x1x512_0_1_3 (Host.reduceAdd
    (shapeCast _ k shapeCasts_S16x4096x512_S16x16x256x512)
    (constant S_ .f32 0x00000000#32) reducesTo_S16x16x256x512_S16x16x512_d2 h_S_))
    (broadcastInDim S16x16x1x512 ![] bcast_S_S16x16x1x512 (constant S_ .f32 0x43800000#32))

/-! ## The rotations at an index -/

/-- The lane a lane is exchanged with inside its run of 32. -/
def swap16 (e : Fin 128) : Fin 128 :=
  if h : e.val % 32 < 16 then ⟨e.val + 16, by omega⟩ else ⟨e.val - 16, by omega⟩

/-- The lane a lane is exchanged with inside its run of 64. -/
def swap32 (e : Fin 128) : Fin 128 :=
  if h : e.val % 64 < 32 then ⟨e.val + 32, by omega⟩ else ⟨e.val - 32, by omega⟩

end Cert.Reference3Ideal.Inp

end
-- ==== Proof.InputsWeights.lean ====
/-
  The arrays the kernel's windows stage: the padded weights and the gains, and their blocks.
-/
module

public import proofs.«01_k».proof.Proof.InputsFrame
public import proofs.«01_k».proof.Proof.InputsRef

@[expose] public section

set_option maxRecDepth 16384

noncomputable section

namespace Cert.Kernel3Ideal.Inp

open Idealize.ShloMosaic Idealize.ShloMosaic.TcCoe
open Cert.Kernel3Ideal Cert.Kernel3Ideal.Gen
open Cert.Reference3Ideal.Inp

/-- The block of every window at every point of the grid: a row tile of one batch, or a whole array. -/
theorem places : ∀ t : Fin cfg0.N, win0_0.index t = ![t.val / 8, t.val % 8, 0] ∧ win0_1.index t = ![t.val / 8, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val / 8, t.val % 8, 0] ∧ win0_11.index t = ![t.val / 8, t.val % 8, 0]
    ∧ win0_12.index t = ![t.val / 8, t.val % 8, 0] ∧ win0_13.index t = ![t.val / 8, t.val % 8, 0]
    ∧ win0_14.index t = ![t.val / 8, t.val % 8, 0] ∧ win0_15.index t = ![t.val / 8, t.val % 8, 0]
    ∧ win0_16.index t = ![t.val / 8, t.val % 8, 0, 0] ∧ win0_17.index t = ![t.val / 8, t.val % 8, 0]
    ∧ win0_18.index t = ![t.val / 8, t.val % 8, 0] ∧ win0_19.index t = ![t.val / 8, t.val % 8, 0]
    ∧ win0_20.index t = ![t.val / 8, t.val % 8, 0, 0] ∧ win0_21.index t = ![t.val / 8, t.val % 8, 0]
    ∧ win0_22.index t = ![t.val / 8, t.val % 8, 0] ∧ win0_23.index t = ![t.val / 8, t.val % 8, 0]
    ∧ win0_24.index t = ![t.val / 8, t.val % 8, 0, 0] :=
  (by decide +kernel : ∀ t : Fin grid0.N, _)

variable (m : (ℓ : Loc nD τ sig) → Buf (Elt Ideal) ℓ)

/-- The projection's weight padded to the kernel's columns. -/
def padW (w : FVec Ideal S1024x5024 .f32) : FVec Ideal S1024x5120 .bf16 :=
  concatenate S1024x5120 1 [
    ⟨S1024x256, extractStridedSlice S1024x256 ![0, 0] (truncf .bf16 w bitsLt_bf16_f32) slices_S1024x5024_S1024x256_0_0⟩,
    ⟨S1024x128, extractStridedSlice S1024x128 ![0, 256] (truncf .bf16 w bitsLt_bf16_f32) slices_S1024x5024_S1024x128_0_256⟩,
    ⟨S1024x64, broadcastInDim S1024x64 ![] bcast_S_S1024x64 (constant S_ .bf16 0x0000#16)⟩,
    ⟨S1024x32, extractStridedSlice S1024x32 ![0, 384] (truncf .bf16 w bitsLt_bf16_f32) slices_S1024x5024_S1024x32_0_384⟩,
    ⟨S1024x32, broadcastInDim S1024x32 ![] bcast_S_S1024x32 (constant S_ .bf16 0x0000#16)⟩,
    ⟨S1024x512, extractStridedSlice S1024x512 ![0, 416] (truncf .bf16 w bitsLt_bf16_f32) slices_S1024x5024_S1024x512_0_416⟩,
    ⟨S1024x512, extractStridedSlice S1024x512 ![0, 928] (truncf .bf16 w bitsLt_bf16_f32) slices_S1024x5024_S1024x512_0_928⟩,
    ⟨S1024x512, extractStridedSlice S1024x512 ![0, 1440] (truncf .bf16 w bitsLt_bf16_f32) slices_S1024x5024_S1024x512_0_1440⟩,
    ⟨S1024x512, extractStridedSlice S1024x512 ![0, 1952] (truncf .bf16 w bitsLt_bf16_f32) slices_S1024x5024_S1024x512_0_1952⟩,
    ⟨S1024x512, extractStridedSlice S1024x512 ![0, 2464] (truncf .bf16 w bitsLt_bf16_f32) slices_S1024x5024_S1024x512_0_2464⟩,
    ⟨S1024x2048, extractStridedSlice S1024x2048 ![0, 2976] (truncf .bf16 w bitsLt_bf16_f32) slices_S1024x5024_S1024x2048_0_2976⟩]
    concatenates_S1024x256_S1024x128_S1024x64_S1024x32_S1024x32_S1024x512_S1024x512_S1024x512_S1024x512_S1024x512_S1024x2048_S1024x5120_d1

/-- The query weight with each head padded to a slab. -/
def padQ (w : FVec Ideal S256x768 .f32) : FVec Ideal S256x1024 .bf16 :=
  truncf .bf16 (shapeCast S256x1024 (pad S256x8x128 ![0, 0, 0] ![0, 0, 32] ![0, 0, 0]
    (shapeCast S256x8x96 w shapeCasts_S256x768_S256x8x96) (sitofp .f32 (constantI S_ 32 0#32))
    pads_S256x8x96_S256x8x128_000_000_0320 h_S_) shapeCasts_S256x8x128_S256x1024) bitsLt_bf16_f32

/-- The key half of the key-value weight with each head padded to a slab. -/
def padK (w : FVec Ideal S128x1024 .f32) : FVec Ideal S128x1024 .bf16 :=
  truncf .bf16 (shapeCast S128x1024 (pad S128x8x128 ![0, 0, 0] ![0, 0, 64] ![0, 0, 0]
    (extractStridedSlice S128x8x64 ![0, 0, 0] (shapeCast S128x8x128 w shapeCasts_S128x1024_S128x8x128) slices_S128x8x128_S128x8x64_0_0_0)
    (sitofp .f32 (constantI S_ 32 0#32))
    pads_S128x8x64_S128x8x128_000_000_0640 h_S_) shapeCasts_S128x8x128_S128x1024) bitsLt_bf16_f32

/-- The value half of the key-value weight. -/
def halfV (w : FVec Ideal S128x1024 .f32) : FVec Ideal S128x512 .bf16 :=
  truncf .bf16 (shapeCast S128x512
    (extractStridedSlice S128x8x64 ![0, 0, 64] (shapeCast S128x8x128 w shapeCasts_S128x1024_S128x8x128) slices_S128x8x128_S128x8x64_0_0_64)
    shapeCasts_S128x8x64_S128x512) bitsLt_bf16_f32

/-- What the region finds in this buffer. -/
theorem V_22 (c : Dev nD) : V m c main_v22 = padQ (m ((c.tc : Thread nD τ).loc main_arg5)) := by
  simp only [V, hostOps0, hostOps0_1, hostOps0_2, hostOps0_3, hostOps0_4, List.flatten_cons, List.flatten_nil, List.append_nil,
    List.cons_append, List.nil_append]
  entry_read
  rfl

/-- What the region finds in this buffer. -/
theorem V_23 (c : Dev nD) : V m c main_v23 = padK (m ((c.tc : Thread nD τ).loc main_arg7)) := by
  simp only [V, hostOps0, hostOps0_1, hostOps0_2, hostOps0_3, hostOps0_4, List.flatten_cons, List.flatten_nil, List.append_nil,
    List.cons_append, List.nil_append]
  entry_read
  rfl

/-- What the region finds in this buffer. -/
theorem V_24 (c : Dev nD) : V m c main_v24 = halfV (m ((c.tc : Thread nD τ).loc main_arg7)) := by
  simp only [V, hostOps0, hostOps0_1, hostOps0_2, hostOps0_3, hostOps0_4, List.flatten_cons, List.flatten_nil, List.append_nil,
    List.cons_append, List.nil_append]
  entry_read
  rfl

/-- What the region finds in this buffer. -/
theorem V_25 (c : Dev nD) : V m c main_v25 = broadcastInDim S1x1024 ![1] bcast_S1024_S1x1024_1 (m ((c.tc : Thread nD τ).loc main_arg2) : FVec Ideal S1024 .f32) := by
  simp only [V, hostOps0, hostOps0_1, hostOps0_2, hostOps0_3, hostOps0_4, List.flatten_cons, List.flatten_nil, List.append_nil,
    List.cons_append, List.nil_append]
  entry_read
  rfl

/-- What the region finds in this buffer. -/
theorem V_26 (c : Dev nD) : V m c main_v26 = broadcastInDim S1x256 ![1] bcast_S256_S1x256_1 (m ((c.tc : Thread nD τ).loc main_arg4) : FVec Ideal S256 .f32) := by
  simp only [V, hostOps0, hostOps0_1, hostOps0_2, hostOps0_3, hostOps0_4, List.flatten_cons, List.flatten_nil, List.append_nil,
    List.cons_append, List.nil_append]
  entry_read
  rfl

/-- What the region finds in this buffer. -/
theorem V_27 (c : Dev nD) : V m c main_v27 = broadcastInDim S1x128 ![1] bcast_S128_S1x128_1 (m ((c.tc : Thread nD τ).loc main_arg6) : FVec Ideal S128 .f32) := by
  simp only [V, hostOps0, hostOps0_1, hostOps0_2, hostOps0_3, hostOps0_4, List.flatten_cons, List.flatten_nil, List.append_nil,
    List.cons_append, List.nil_append]
  entry_read
  rfl

/-- What the region finds in this buffer. -/
theorem V_28 (c : Dev nD) : V m c main_v28 = broadcastInDim S1x2048 ![1] bcast_S2048_S1x2048_1 (m ((c.tc : Thread nD τ).loc main_arg8) : FVec Ideal S2048 .f32) := by
  simp only [V, hostOps0, hostOps0_1, hostOps0_2, hostOps0_3, hostOps0_4, List.flatten_cons, List.flatten_nil, List.append_nil,
    List.cons_append, List.nil_append]
  entry_read
  rfl

end Cert.Kernel3Ideal.Inp

end
-- ==== Proof.InputsColumns.lean ====
/-
  The padded weights read at a column: which columns hold the weight's own entries, and which are zero.
-/
module

public import proofs.«01_k».proof.Proof.InputsFrame
public import proofs.«01_k».proof.Proof.InputsWeights

@[expose] public section

set_option maxRecDepth 16384

noncomputable section

namespace Cert.Kernel3Ideal.Inp

open Idealize.ShloMosaic Idealize.ShloMosaic.TcCoe
open Cert.Kernel3Ideal Cert.Kernel3Ideal.Gen
open Cert.Reference3Ideal.Inp

/-- A choice whose two branches have one value has that value. -/
theorem dite_eq_of {p : Prop} [Decidable p] {α : Sort*} {a : p → α} {b : ¬p → α} {x : α} (ha : ∀ h, a h = x) (hb : ∀ h, b h = x) :
    dite p a b = x := by
  by_cases h : p
  · rw [dif_pos h]; exact ha h
  · rw [dif_neg h]; exact hb h

/-- The columns that hold the weight's own: the latents, the positional key, the rest. -/
theorem padW_at (w : FVec Ideal S1024x5024 .f32) (k : Fin 1024) (j : Fin 5120) (j' : Fin 5024)
    (h : (j.val < 384 ∧ j'.val = j.val) ∨ (448 ≤ j.val ∧ j.val < 480 ∧ j'.val + 64 = j.val) ∨ (512 ≤ j.val ∧ j'.val + 96 = j.val)) :
    padW w (ix2 k j) = w (ix2 k j') := by
  pointwise [padW]
  repeat' refine dite_eq_of (fun _ => ?_) (fun _ => ?_)
  all_goals first
    | (exfalso; omega)
    | (refine congrArg (fun q => w (ix2 k q)) (Fin.ext ?_); (try dsimp only) <;> omega)

/-- The columns beside the positional key are zero. -/
theorem padW_zero (w : FVec Ideal S1024x5024 .f32) (k : Fin 1024) (j : Fin 5120)
    (h : (384 ≤ j.val ∧ j.val < 448) ∨ (480 ≤ j.val ∧ j.val < 512)) : padW w (ix2 k j) = 0 := by
  pointwise [padW]
  repeat' refine dite_eq_of (fun _ => ?_) (fun _ => ?_)
  all_goals first
    | (exfalso; omega)
    | rfl

/-- The padding value is zero. -/
theorem pad_value : (FloatOps.sitofp (F := Ideal) .f32 (0#32) : Ideal .f32) = 0 := by
  show (((0#32 : BitVec 32).toInt : ℝ) : EReal) = 0
  simp

/-- The first 96 lanes of a slab hold the query weight's head. -/
theorem padQ_at (w : FVec Ideal S256x768 .f32) (k : Fin 256) (n : Fin 8) (e : Fin 128) (j : Fin 1024) (j' : Fin 768)
    (hj : j.val = n.val * 128 + e.val) (h : e.val < 96) (he : j'.val = n.val * 96 + e.val) :
    padQ w (ix2 k j) = w (ix2 k j') := by
  pointwise [padQ]
  split
  · refine congrArg (fun q => w (ix2 k q)) (Fin.ext ?_); (try dsimp only) <;> omega
  · exfalso; omega

/-- The last lanes of a slab of the query weight are zero. -/
theorem padQ_zero (w : FVec Ideal S256x768 .f32) (k : Fin 256) (n : Fin 8) (e : Fin 128) (j : Fin 1024)
    (hj : j.val = n.val * 128 + e.val) (h : 96 ≤ e.val) : padQ w (ix2 k j) = 0 := by
  pointwise [padQ]
  split
  · exfalso; omega
  · exact pad_value

/-- The first 64 lanes of a slab hold the key weight's head. -/
theorem padK_at (w : FVec Ideal S128x1024 .f32) (k : Fin 128) (n : Fin 8) (e : Fin 128) (j : Fin 1024)
    (hj : j.val = n.val * 128 + e.val) (h : e.val < 64) : padK w (ix2 k j) = w (ix2 k j) := by
  pointwise [padK]
  split
  · refine congrArg (fun q => w (ix2 k q)) (Fin.ext ?_); (try dsimp only) <;> omega
  · exfalso; omega

/-- The last lanes of a slab of the key weight are zero. -/
theorem padK_zero (w : FVec Ideal S128x1024 .f32) (k : Fin 128) (n : Fin 8) (e : Fin 128) (j : Fin 1024)
    (hj : j.val = n.val * 128 + e.val) (h : 64 ≤ e.val) : padK w (ix2 k j) = 0 := by
  pointwise [padK]
  split
  · exfalso; omega
  · exact pad_value

/-- The value weight is the second half of every head. -/
theorem halfV_at (w : FVec Ideal S128x1024 .f32) (k : Fin 128) (n : Fin 8) (e : Fin 64) (j : Fin 512) (j' : Fin 1024)
    (hj : j.val = n.val * 64 + e.val) (hj' : j'.val = n.val * 128 + 64 + e.val) : halfV w (ix2 k j) = w (ix2 k j') := by
  pointwise [halfV]
  refine congrArg (fun q => w (ix2 k q)) (Fin.ext ?_); (try dsimp only) <;> omega

end Cert.Kernel3Ideal.Inp

end
-- ==== Proof.InputsEntry.lean ====
/-
  The host operations that put the padded weights together, up to the call of the kernel.
-/
module

public import proofs.«01_k».proof.Proof.InputsFrame
public import proofs.«01_k».proof.Proof.InputsWeights

@[expose] public section

set_option maxRecDepth 16384

noncomputable section

namespace Cert.Kernel3Ideal.Inp

open Idealize.ShloMosaic Idealize.ShloMosaic.TcCoe
open Cert.Kernel3Ideal Cert.Kernel3Ideal.Gen
open Cert.Reference3Ideal.Inp

variable (m : (ℓ : Loc nD τ sig) → Buf (Elt Ideal) ℓ)

/-- The operations before the padded weight is put together. -/
abbrev before (c : Dev nD) : Valuation τ sig (Elt Ideal) :=
  StableHlo.after (List.take 14 hostOps0) (fun b => m (c, b))

/-- A slice of the weight. -/
theorem before_1 (c : Dev nD) : before m c (Proc.devRef .tc main_v1)
    = (extractStridedSlice S1024x256 ![0, 0] (truncf .bf16 (m ((c.tc : Thread nD τ).loc main_arg3) : FVec Ideal S1024x5024 .f32) bitsLt_bf16_f32) slices_S1024x5024_S1024x256_0_0 : FVec Ideal S1024x256 .bf16) := by
  simp only [before, hostOps0, List.take_succ_cons, List.take_zero]
  entry_read
  rfl

/-- A slice of the weight. -/
theorem before_2 (c : Dev nD) : before m c (Proc.devRef .tc main_v2)
    = (extractStridedSlice S1024x128 ![0, 256] (truncf .bf16 (m ((c.tc : Thread nD τ).loc main_arg3) : FVec Ideal S1024x5024 .f32) bitsLt_bf16_f32) slices_S1024x5024_S1024x128_0_256 : FVec Ideal S1024x128 .bf16) := by
  simp only [before, hostOps0, List.take_succ_cons, List.take_zero]
  entry_read
  rfl

/-- A slice of the weight. -/
theorem before_3 (c : Dev nD) : before m c (Proc.devRef .tc main_v3)
    = (extractStridedSlice S1024x32 ![0, 384] (truncf .bf16 (m ((c.tc : Thread nD τ).loc main_arg3) : FVec Ideal S1024x5024 .f32) bitsLt_bf16_f32) slices_S1024x5024_S1024x32_0_384 : FVec Ideal S1024x32 .bf16) := by
  simp only [before, hostOps0, List.take_succ_cons, List.take_zero]
  entry_read
  rfl

/-- A slice of the weight. -/
theorem before_4 (c : Dev nD) : before m c (Proc.devRef .tc main_v4)
    = (extractStridedSlice S1024x512 ![0, 416] (truncf .bf16 (m ((c.tc : Thread nD τ).loc main_arg3) : FVec Ideal S1024x5024 .f32) bitsLt_bf16_f32) slices_S1024x5024_S1024x512_0_416 : FVec Ideal S1024x512 .bf16) := by
  simp only [before, hostOps0, List.take_succ_cons, List.take_zero]
  entry_read
  rfl

/-- A slice of the weight. -/
theorem before_5 (c : Dev nD) : before m c (Proc.devRef .tc main_v5)
    = (extractStridedSlice S1024x512 ![0, 928] (truncf .bf16 (m ((c.tc : Thread nD τ).loc main_arg3) : FVec Ideal S1024x5024 .f32) bitsLt_bf16_f32) slices_S1024x5024_S1024x512_0_928 : FVec Ideal S1024x512 .bf16) := by
  simp only [before, hostOps0, List.take_succ_cons, List.take_zero]
  entry_read
  rfl

/-- A slice of the weight. -/
theorem before_6 (c : Dev nD) : before m c (Proc.devRef .tc main_v6)
    = (extractStridedSlice S1024x512 ![0, 1440] (truncf .bf16 (m ((c.tc : Thread nD τ).loc main_arg3) : FVec Ideal S1024x5024 .f32) bitsLt_bf16_f32) slices_S1024x5024_S1024x512_0_1440 : FVec Ideal S1024x512 .bf16) := by
  simp only [before, hostOps0, List.take_succ_cons, List.take_zero]
  entry_read
  rfl

/-- A slice of the weight. -/
theorem before_7 (c : Dev nD) : before m c (Proc.devRef .tc main_v7)
    = (extractStridedSlice S1024x512 ![0, 1952] (truncf .bf16 (m ((c.tc : Thread nD τ).loc main_arg3) : FVec Ideal S1024x5024 .f32) bitsLt_bf16_f32) slices_S1024x5024_S1024x512_0_1952 : FVec Ideal S1024x512 .bf16) := by
  simp only [before, hostOps0, List.take_succ_cons, List.take_zero]
  entry_read
  rfl

/-- A slice of the weight. -/
theorem before_8 (c : Dev nD) : before m c (Proc.devRef .tc main_v8)
    = (extractStridedSlice S1024x512 ![0, 2464] (truncf .bf16 (m ((c.tc : Thread nD τ).loc main_arg3) : FVec Ideal S1024x5024 .f32) bitsLt_bf16_f32) slices_S1024x5024_S1024x512_0_2464 : FVec Ideal S1024x512 .bf16) := by
  simp only [before, hostOps0, List.take_succ_cons, List.take_zero]
  entry_read
  rfl

/-- A slice of the weight. -/
theorem before_9 (c : Dev nD) : before m c (Proc.devRef .tc main_v9)
    = (extractStridedSlice S1024x2048 ![0, 2976] (truncf .bf16 (m ((c.tc : Thread nD τ).loc main_arg3) : FVec Ideal S1024x5024 .f32) bitsLt_bf16_f32) slices_S1024x5024_S1024x2048_0_2976 : FVec Ideal S1024x2048 .bf16) := by
  simp only [before, hostOps0, List.take_succ_cons, List.take_zero]
  entry_read
  rfl

/-- The zero columns. -/
theorem before_10 (c : Dev nD) : before m c (Proc.devRef .tc main_v10)
    = (broadcastInDim S1024x64 ![] bcast_S_S1024x64 (constant S_ .bf16 0x0000#16) : FVec Ideal S1024x64 .bf16) := by
  simp only [before, hostOps0, List.take_succ_cons, List.take_zero]
  entry_read
  rfl

/-- The zero columns. -/
theorem before_11 (c : Dev nD) : before m c (Proc.devRef .tc main_v11)
    = (broadcastInDim S1024x32 ![] bcast_S_S1024x32 (constant S_ .bf16 0x0000#16) : FVec Ideal S1024x32 .bf16) := by
  simp only [before, hostOps0, List.take_succ_cons, List.take_zero]
  entry_read
  rfl

/-- What the region finds in this buffer. -/
theorem V_12 (c : Dev nD) : V m c main_v12 = padW (m ((c.tc : Thread nD τ).loc main_arg3)) := by
  show StableHlo.after (List.drop 15 hostOps0 ++ (hostOps0_1 ++ (hostOps0_2 ++ (hostOps0_3 ++ hostOps0_4))))
    (HloOp.result (hostOps0[14]) (before m c)) (Proc.devRef .tc main_v12) = _
  refine (StableHlo.after_of_forall_not_mem (b := Proc.devRef .tc main_v12) _ _ (List.forall_iff_forall_mem.mp (by
    simp only [hostOps0, hostOps0_1, hostOps0_2, hostOps0_3, hostOps0_4, List.drop_succ_cons, List.drop_zero, List.cons_append,
      List.nil_append, List.Forall, StableHlo.nullary_writes, StableHlo.unary_writes, StableHlo.binary_writes,
      StableHlo.reshape_writes, Finset.mem_singleton]
    repeat' apply And.intro
    all_goals exact StableHlo.devRef_ne_of_ne (by decide)))).trans ?_
  simp only [hostOps0, List.getElem_cons_succ, List.getElem_cons_zero]
  refine (StableHlo.nary_result _ _ _ _ _ _).trans ?_
  show concatenate S1024x5120 1 [⟨S1024x256, before m c (Proc.devRef .tc main_v1)⟩, ⟨S1024x128, before m c (Proc.devRef .tc main_v2)⟩,
    ⟨S1024x64, before m c (Proc.devRef .tc main_v10)⟩, ⟨S1024x32, before m c (Proc.devRef .tc main_v3)⟩,
    ⟨S1024x32, before m c (Proc.devRef .tc main_v11)⟩, ⟨S1024x512, before m c (Proc.devRef .tc main_v4)⟩,
    ⟨S1024x512, before m c (Proc.devRef .tc main_v5)⟩, ⟨S1024x512, before m c (Proc.devRef .tc main_v6)⟩,
    ⟨S1024x512, before m c (Proc.devRef .tc main_v7)⟩, ⟨S1024x512, before m c (Proc.devRef .tc main_v8)⟩,
    ⟨S1024x2048, before m c (Proc.devRef .tc main_v9)⟩] _ = _
  unfold padW
  rw [before_1, before_2, before_3, before_4, before_5, before_6, before_7, before_8, before_9, before_10, before_11]

end Cert.Kernel3Ideal.Inp

end
-- ==== Proof.InputsRows.lean ====
/-
  The rows the kernel normalizes and projects at a point of the grid are the reference's.
-/
module

public import proofs.«01_k».proof.Proof.InputsFrame
public import proofs.«01_k».proof.Proof.InputsColumns
public import proofs.«01_k».proof.Proof.InputsEntry

@[expose] public section

set_option maxRecDepth 16384

noncomputable section

namespace Cert.Kernel3Ideal.Inp

open Idealize.ShloMosaic Idealize.ShloMosaic.TcCoe
open Cert.Kernel3Ideal Cert.Kernel3Ideal.Gen
open Cert.Reference3Ideal.Inp

variable (m : (ℓ : Loc nD τ sig) → Buf (Elt Ideal) ℓ)

/-- The stream normalized over the kernel's arguments. -/
abbrev H (c : Dev nD) : FVec Ideal Cert.Reference3Ideal.S16x4096x1024 .f32 :=
  normed (m ((c.tc : Thread nD τ).loc main_arg0)) (m ((c.tc : Thread nD τ).loc main_arg1)) (m ((c.tc : Thread nD τ).loc main_arg2))

/-- The rows the kernel normalizes at a point of the grid. -/
abbrev rows (c : Dev nD) (t : Fin cfg0.N) : FVec Ideal S512x1024 .bf16 :=
  k0_pay81 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The kernel's normalized rows are the reference's. -/
theorem h_at (c : Dev nD) (t : Fin cfg0.N) (b : Fin 16) (s : Fin 4096) (r : Fin 512) (k : Fin 1024)
    (hb : b.val = t.val / 8) (hs : s.val = t.val % 8 * 512 + r.val) :
    rows m c t (ix2 r k)
      = H m c (ix3 b s k) := by
  unfold rows k0_pay81
  frame_out
  pointwise [k0_pay2, H, normed]
  blk_point [iblk, V, places t, V_25]
  rw [V_25]
  pointwise
  blk_ext [places t]

/-- The projection over the kernel's arguments. -/
abbrev P (c : Dev nD) : FVec Ideal Cert.Reference3Ideal.S16x4096x5024 .f32 :=
  projected (H m c) (m ((c.tc : Thread nD τ).loc main_arg3))

/-- The grid has 128 points. -/
theorem point_lt (t : Fin cfg0.N) : t.val < 128 := t.isLt

/-- The weight's block is the whole padded weight. -/
theorem w_at (c : Dev nD) (t : Fin cfg0.N) (k : Fin 1024) (j : Fin 5120) :
    iblk m c 3 t (ix2 k j) = padW (m ((c.tc : Thread nD τ).loc main_arg3)) (ix2 k j) := by
  blk_simp [iblk]
  rw [V_12]
  blk_ext [places t]

/-- An entry of the projection is a sum over the hidden dimension. -/
theorem P_at (c : Dev nD) (b : Fin 16) (s : Fin 4096) (j : Fin 5024) :
    P m c (ix3 b s j) = ∑ k : Fin 1024, H m c (ix3 b s k) * (m ((c.tc : Thread nD τ).loc main_arg3) : FVec Ideal S1024x5024 .f32) (ix2 k j) := by
  pointwise [P, projected]

/-- The kernel's rows times a column of the padded weight is the projection at the column it stands for. -/
theorem cols (c : Dev nD) (t : Fin cfg0.N) (b : Fin 16) (s : Fin 4096) (r : Fin 512)
    (hb : b.val = t.val / 8) (hs : s.val = t.val % 8 * 512 + r.val) (w : Fin 1024 → Ideal .bf16) (j : Fin 5120) (j' : Fin 5024)
    (hj : (j.val < 384 ∧ j'.val = j.val) ∨ (448 ≤ j.val ∧ j.val < 480 ∧ j'.val + 64 = j.val) ∨ (512 ≤ j.val ∧ j'.val + 96 = j.val))
    (hw : ∀ k, w k = iblk m c 3 t (ix2 k j)) :
    (∑ k : Fin 1024, rows m c t (ix2 r k) * w k : EReal) = P m c (ix3 b s j') := by
  rw [P_at]
  refine Finset.sum_congr rfl fun k _ => ?_
  rw [hw k, w_at, padW_at _ k j j' hj, h_at m c t b s r k hb hs]

/-- The kernel's rows times a zero column is zero. -/
theorem cols_zero (c : Dev nD) (t : Fin cfg0.N) (r : Fin 512) (w : Fin 1024 → Ideal .bf16) (j : Fin 5120)
    (hj : (384 ≤ j.val ∧ j.val < 448) ∨ (480 ≤ j.val ∧ j.val < 512))
    (hw : ∀ k, w k = iblk m c 3 t (ix2 k j)) : (∑ k : Fin 1024, rows m c t (ix2 r k) * w k : EReal) = 0 := by
  refine Finset.sum_eq_zero fun k _ => ?_
  rw [hw k, w_at, padW_zero _ k j hj]
  exact mul_zero _

end Cert.Kernel3Ideal.Inp

end
-- ==== Proof.InputsGates.lean ====
/-
  The two merge gates and the two branches' gates after the run.
-/
module

public import proofs.«01_k».proof.Proof.InputsFrame
public import proofs.«01_k».proof.Proof.InputsRows

@[expose] public section

set_option maxRecDepth 16384

noncomputable section

namespace Cert.Kernel3Ideal.Inp

open Idealize.ShloMosaic Idealize.ShloMosaic.TcCoe
open Cert.Kernel3Ideal Cert.Kernel3Ideal.Gen
open Cert.Reference3Ideal.Inp

variable (m : (ℓ : Loc nD τ sig) → Buf (Elt Ideal) ℓ)

/-- The sparse attention's gate of a row and a column. -/
theorem core_21 (h : FVec Ideal S512x1024 .bf16) (w : FVec Ideal S1024x512 .bf16) (p : FVec Ideal Cert.Reference3Ideal.S16x4096x5024 .f32)
    (z : Fin 1) (r : Fin 512) (j : Fin 512) (b : Fin 16) (s : Fin 4096)
    (e : (∑ k : Fin 1024, h (ix2 r k) * w (ix2 k j) : EReal) = p (ix3 b s ⟨2464 + j.val, by omega⟩)) :
    k0_pay78 (k0_pay76 h w) k0_pay77 (ix3 z r j) = out_zm p (ix3 b s j) := by
  pointwise [k0_pay78, k0_pay76, k0_pay77, out_zm]
  rw [e, zero_sub]

/-- What the body stores of the sparse attention's gate. -/
theorem point_21 (c : Dev nD) (t : Fin cfg0.N) (y) :
    k0_pay78 (k0_pay76 (rows m c t) (View.ld (iblk m c 3 t) r0_38)) k0_pay77 y
      = out_zm (P m c) (((cfg0.win 21).blk t).view.emb y) := by
  idx_vars y
  have ht := point_lt t
  refine (core_21 _ _ (P m c) y0 y1 y2 ⟨t.val / 8, by omega⟩ ⟨t.val % 8 * 512 + y1.val, by omega⟩ (cols m c t ⟨t.val / 8, by omega⟩ ⟨t.val % 8 * 512 + y1.val, by omega⟩ y1 rfl rfl _ ⟨2560 + y2.val, by omega⟩ ⟨2464 + y2.val, by omega⟩
    (by simp only; omega) (fun k => ?_))).trans ?_
  · pointwise
    blk_ext []
  · blk_ext [places t]

/-- The array after the run. -/
theorem final_21 (c : Dev nD) : (dats m 0 c).arrAt 21 (cfgs 0).N = out_zm (P m c) := by
  refine (dats m 0 c).arrAt_eq_of_covers 21 _ (by decide +kernel) fun t _ y => ?_
  blk_simp
  rw [after0_21]
  frame_out
  exact point_21 m c t y

/-- The latent attention's gate of a row and a column. -/
theorem core_17 (h : FVec Ideal S512x1024 .bf16) (w : FVec Ideal S1024x512 .bf16) (p : FVec Ideal Cert.Reference3Ideal.S16x4096x5024 .f32)
    (z : Fin 1) (r : Fin 512) (j : Fin 512) (b : Fin 16) (s : Fin 4096)
    (e : (∑ k : Fin 1024, h (ix2 r k) * w (ix2 k j) : EReal) = p (ix3 b s ⟨416 + j.val, by omega⟩)) :
    k0_pay40 h w (ix3 z r j) = out_z p (ix3 b s j) := by
  pointwise [k0_pay40, out_z]
  rw [e, zero_sub]

/-- What the body stores of the latent attention's gate. -/
theorem point_17 (c : Dev nD) (t : Fin cfg0.N) (y) :
    k0_pay40 (rows m c t) (View.ld (iblk m c 3 t) r0_21) y
      = out_z (P m c) (((cfg0.win 17).blk t).view.emb y) := by
  idx_vars y
  have ht := point_lt t
  refine (core_17 _ _ (P m c) y0 y1 y2 ⟨t.val / 8, by omega⟩ ⟨t.val % 8 * 512 + y1.val, by omega⟩ (cols m c t ⟨t.val / 8, by omega⟩ ⟨t.val % 8 * 512 + y1.val, by omega⟩ y1 rfl rfl _ ⟨512 + y2.val, by omega⟩ ⟨416 + y2.val, by omega⟩
    (by simp only; omega) (fun k => ?_))).trans ?_
  · pointwise
    blk_ext []
  · blk_ext [places t]

/-- The array after the run. -/
theorem final_17 (c : Dev nD) : (dats m 0 c).arrAt 17 (cfgs 0).N = out_z (P m c) := by
  refine (dats m 0 c).arrAt_eq_of_covers 17 _ (by decide +kernel) fun t _ y => ?_
  blk_simp
  rw [after0_17]
  frame_out
  exact point_17 m c t y

/-- The merge gates over the kernel's arguments. -/
abbrev G (c : Dev nD) : FVec Ideal Cert.Reference3Ideal.S16x4096x2048 .f32 :=
  gates (P m c) (m ((c.tc : Thread nD τ).loc main_arg8))

/-- The bias's block is the whole bias. -/
theorem bias_at (c : Dev nD) (t : Fin cfg0.N) (z : Fin 1) (j : Fin 2048) :
    iblk m c 9 t (ix2 z j) = (m ((c.tc : Thread nD τ).loc main_arg8) : FVec Ideal S2048 .f32) (ix1 j) := by
  blk_simp [iblk]
  rw [V_28]
  pointwise
  blk_ext [places t]

/-- A merge gate of a row and a column. -/
theorem core_22 (h : FVec Ideal S512x1024 .bf16) (w : FVec Ideal S1024x1024 .bf16) (g : FVec Ideal S1x1024 .f32)
    (p : FVec Ideal Cert.Reference3Ideal.S16x4096x5024 .f32) (a : FVec Ideal Cert.Reference3Ideal.S2048 .f32)
    (z : Fin 1) (r : Fin 512) (j : Fin 1024) (b : Fin 16) (s : Fin 4096)
    (e : (∑ k : Fin 1024, h (ix2 r k) * w (ix2 k j) : EReal) = p (ix3 b s ⟨2976 + j.val, by omega⟩))
    (eg : g (ix2 0 j) = a (ix1 ⟨0 + j.val, by omega⟩)) :
    k0_pay79 h w g (ix3 z r j) = out_ga (gates p a) (ix3 b s j) := by
  pointwise [k0_pay79, out_ga, gates]
  rw [e, eg, zero_sub]
  blk_point []

/-- What the body stores of a merge gate. -/
theorem point_22 (c : Dev nD) (t : Fin cfg0.N) (y) :
    k0_pay79 (rows m c t) (View.ld (iblk m c 3 t) r0_39) (View.ld (iblk m c 9 t) r0_40) y
      = out_ga (G m c) (((cfg0.win 22).blk t).view.emb y) := by
  idx_vars y
  have ht := point_lt t
  refine (core_22 _ _ _ (P m c) (m ((c.tc : Thread nD τ).loc main_arg8)) y0 y1 y2 ⟨t.val / 8, by omega⟩ ⟨t.val % 8 * 512 + y1.val, by omega⟩ (cols m c t ⟨t.val / 8, by omega⟩ ⟨t.val % 8 * 512 + y1.val, by omega⟩ y1 rfl rfl _ ⟨3072 + y2.val, by omega⟩ ⟨2976 + y2.val, by omega⟩
    (by simp only; omega) (fun k => ?_)) ?_).trans ?_
  · pointwise
    blk_ext []
  · pointwise
    refine Eq.trans ?_ (bias_at m c t 0 ⟨y2.val, by omega⟩)
    blk_ext []
  · blk_ext [places t]

/-- The array after the run. -/
theorem final_22 (c : Dev nD) : (dats m 0 c).arrAt 22 (cfgs 0).N = out_ga (G m c) := by
  refine (dats m 0 c).arrAt_eq_of_covers 22 _ (by decide +kernel) fun t _ y => ?_
  blk_simp
  rw [after0_22]
  frame_out
  exact point_22 m c t y

/-- A merge gate of a row and a column. -/
theorem core_23 (h : FVec Ideal S512x1024 .bf16) (w : FVec Ideal S1024x1024 .bf16) (g : FVec Ideal S1x1024 .f32)
    (p : FVec Ideal Cert.Reference3Ideal.S16x4096x5024 .f32) (a : FVec Ideal Cert.Reference3Ideal.S2048 .f32)
    (z : Fin 1) (r : Fin 512) (j : Fin 1024) (b : Fin 16) (s : Fin 4096)
    (e : (∑ k : Fin 1024, h (ix2 r k) * w (ix2 k j) : EReal) = p (ix3 b s ⟨4000 + j.val, by omega⟩))
    (eg : g (ix2 0 j) = a (ix1 ⟨1024 + j.val, by omega⟩)) :
    k0_pay1 (k0_pay80 h w g) (Scalar.ofBits .f32 0x00000000#32) (ix3 z r j) = out_gb (gates p a) (ix3 b s j) := by
  pointwise [k0_pay1, k0_pay80, out_gb, gates]
  rw [e, eg, zero_sub]
  blk_point []

/-- What the body stores of a merge gate. -/
theorem point_23 (c : Dev nD) (t : Fin cfg0.N) (y) :
    k0_pay1 (k0_pay80 (rows m c t) (View.ld (iblk m c 3 t) r0_41) (View.ld (iblk m c 9 t) r0_42)) (Scalar.ofBits .f32 0x00000000#32) y
      = out_gb (G m c) (((cfg0.win 23).blk t).view.emb y) := by
  idx_vars y
  have ht := point_lt t
  refine (core_23 _ _ _ (P m c) (m ((c.tc : Thread nD τ).loc main_arg8)) y0 y1 y2 ⟨t.val / 8, by omega⟩ ⟨t.val % 8 * 512 + y1.val, by omega⟩ (cols m c t ⟨t.val / 8, by omega⟩ ⟨t.val % 8 * 512 + y1.val, by omega⟩ y1 rfl rfl _ ⟨4096 + y2.val, by omega⟩ ⟨4000 + y2.val, by omega⟩
    (by simp only; omega) (fun k => ?_)) ?_).trans ?_
  · pointwise
    blk_ext []
  · pointwise
    refine Eq.trans ?_ (bias_at m c t 0 ⟨1024 + y2.val, by omega⟩)
    blk_ext []
  · blk_ext [places t]

/-- The array after the run. -/
theorem final_23 (c : Dev nD) : (dats m 0 c).arrAt 23 (cfgs 0).N = out_gb (G m c) := by
  refine (dats m 0 c).arrAt_eq_of_covers 23 _ (by decide +kernel) fun t _ y => ?_
  blk_simp
  rw [after0_23]
  frame_out
  exact point_23 m c t y

end Cert.Kernel3Ideal.Inp

end
-- ==== Proof.InputsTables.lean ====
/-
  The rotary tables' blocks.
-/
module

public import proofs.«01_k».proof.Proof.InputsRows

@[expose] public section

set_option maxRecDepth 16384

noncomputable section

namespace Cert.Kernel3Ideal.Inp

open Idealize.ShloMosaic Idealize.ShloMosaic.TcCoe
open Cert.Kernel3Ideal Cert.Kernel3Ideal.Gen
open Cert.Reference3Ideal.Inp

variable (m : (ℓ : Loc nD τ sig) → Buf (Elt Ideal) ℓ)

/-- The sparse attention's cosines at a point of the grid. -/
abbrev cosB (c : Dev nD) (t : Fin cfg0.N) : FVec Ideal S512x128 .f32 :=
  k0_pay82 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- They are the rows of the table the point covers. -/
theorem cosB_at (c : Dev nD) (t : Fin cfg0.N) (b : Fin 16) (s : Fin 4096) (r : Fin 512) (e : Fin 128)
    (hb : b.val = t.val / 8) (hs : s.val = t.val % 8 * 512 + r.val) :
    cosB m c t (ix2 r e) = ((m ((c.tc : Thread nD τ).loc main_arg9)) : FVec Ideal Cert.Reference3Ideal.S16x4096x128 .f32) (ix3 b s e) := by
  unfold cosB k0_pay82
  pointwise [k0_pay3]
  blk_point [iblk, V, places t]

/-- The sparse attention's sines at a point of the grid. -/
abbrev sinB (c : Dev nD) (t : Fin cfg0.N) : FVec Ideal S512x128 .f32 :=
  k0_pay83 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- They are the rows of the table the point covers. -/
theorem sinB_at (c : Dev nD) (t : Fin cfg0.N) (b : Fin 16) (s : Fin 4096) (r : Fin 512) (e : Fin 128)
    (hb : b.val = t.val / 8) (hs : s.val = t.val % 8 * 512 + r.val) :
    sinB m c t (ix2 r e) = ((m ((c.tc : Thread nD τ).loc main_arg10)) : FVec Ideal Cert.Reference3Ideal.S16x4096x128 .f32) (ix3 b s e) := by
  unfold sinB k0_pay83
  pointwise [k0_pay4]
  blk_point [iblk, V, places t]

/-- The latent attention's cosines at a point of the grid. -/
abbrev cosA (c : Dev nD) (t : Fin cfg0.N) : FVec Ideal S512x128 .f32 :=
  k0_pay84 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- They are the rows of the table the point covers. -/
theorem cosA_at (c : Dev nD) (t : Fin cfg0.N) (b : Fin 16) (s : Fin 4096) (r : Fin 512) (e : Fin 128)
    (hb : b.val = t.val / 8) (hs : s.val = t.val % 8 * 512 + r.val) :
    cosA m c t (ix2 r e) = ((m ((c.tc : Thread nD τ).loc main_arg11)) : FVec Ideal Cert.Reference3Ideal.S16x4096x128 .f32) (ix3 b s e) := by
  unfold cosA k0_pay84
  pointwise [k0_pay5]
  blk_point [iblk, V, places t]

/-- The latent attention's sines at a point of the grid. -/
abbrev sinA (c : Dev nD) (t : Fin cfg0.N) : FVec Ideal S512x128 .f32 :=
  k0_pay85 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- They are the rows of the table the point covers. -/
theorem sinA_at (c : Dev nD) (t : Fin cfg0.N) (b : Fin 16) (s : Fin 4096) (r : Fin 512) (e : Fin 128)
    (hb : b.val = t.val / 8) (hs : s.val = t.val % 8 * 512 + r.val) :
    sinA m c t (ix2 r e) = ((m ((c.tc : Thread nD τ).loc main_arg12)) : FVec Ideal Cert.Reference3Ideal.S16x4096x128 .f32) (ix3 b s e) := by
  unfold sinA k0_pay85
  pointwise [k0_pay6]
  blk_point [iblk, V, places t]

end Cert.Kernel3Ideal.Inp

end
-- ==== Proof.InputsShapes.lean ====
/-
  Reshapes read at an index, at any sizes: splitting and joining the last axis, cutting the rows into blocks,
  and exchanging the two halves of every run of lanes.
-/
module

public import Idealize.ShloMosaic.Lib.Pipeline.ValueKit
public import Idealize.ShloMosaic.Lib.ValueIdxRank6

@[expose] public section

noncomputable section

namespace Cert.Inputs

open Idealize.ShloMosaic Idealize.ShloMosaic.TcCoe

variable {α : Type} {B S N E : Nat}

/-- The last axis split in two. -/
theorem split_at {M : Nat} (x : (⟨3, ![B, S, M]⟩ : Shape).Idx → α) (h : (⟨3, ![B, S, M]⟩ : Shape).ShapeCasts ⟨4, ![B, S, N, E]⟩)
    (b : Fin B) (s : Fin S) (n : Fin N) (e : Fin E) (j : Fin M) (hM : M = N * E) (hj : j.val = n.val * E + e.val) :
    shapeCast ⟨4, ![B, S, N, E]⟩ x h (ix4 b s n e) = x (ix3 b s j) := by
  refine shapeCast_apply x h _ _ ?_
  rw [Shape.rowMajor_val_three, Shape.rowMajor_val_four]
  subst hM
  show (b.val * S + s.val) * (N * E) + j.val = ((b.val * S + s.val) * N + n.val) * E + e.val
  rw [hj]; ring

/-- The last two axes joined. -/
theorem join_at {M : Nat} (x : (⟨4, ![B, S, N, E]⟩ : Shape).Idx → α) (h : (⟨4, ![B, S, N, E]⟩ : Shape).ShapeCasts ⟨3, ![B, S, M]⟩)
    (b : Fin B) (s : Fin S) (n : Fin N) (e : Fin E) (j : Fin M) (hM : M = N * E) (hj : j.val = n.val * E + e.val) :
    shapeCast ⟨3, ![B, S, M]⟩ x h (ix3 b s j) = x (ix4 b s n e) := by
  refine shapeCast_apply x h _ _ ?_
  rw [Shape.rowMajor_val_three, Shape.rowMajor_val_four]
  subst hM
  show ((b.val * S + s.val) * N + n.val) * E + e.val = (b.val * S + s.val) * (N * E) + j.val
  rw [hj]; ring

/-- The rows cut into blocks. -/
theorem blocks_at {Q R M : Nat} (x : (⟨3, ![B, S, M]⟩ : Shape).Idx → α)
    (h : (⟨3, ![B, S, M]⟩ : Shape).ShapeCasts ⟨4, ![B, Q, R, M]⟩)
    (b : Fin B) (q : Fin Q) (r : Fin R) (j : Fin M) (s : Fin S) (hS : S = Q * R) (hs : s.val = q.val * R + r.val) :
    shapeCast ⟨4, ![B, Q, R, M]⟩ x h (ix4 b q r j) = x (ix3 b s j) := by
  refine shapeCast_apply x h _ _ ?_
  rw [Shape.rowMajor_val_three, Shape.rowMajor_val_four]
  subst hS
  show (b.val * (Q * R) + s.val) * M + j.val = ((b.val * Q + q.val) * R + r.val) * M + j.val
  rw [hs]; ring

/-- The rows cut into blocks while the last two axes are joined. -/
theorem blocks_join_at {Q R M : Nat} (x : (⟨4, ![B, S, N, E]⟩ : Shape).Idx → α)
    (h : (⟨4, ![B, S, N, E]⟩ : Shape).ShapeCasts ⟨4, ![B, Q, R, M]⟩)
    (b : Fin B) (q : Fin Q) (r : Fin R) (j : Fin M) (s : Fin S) (n : Fin N) (e : Fin E)
    (hS : S = Q * R) (hs : s.val = q.val * R + r.val) (hM : M = N * E) (hj : j.val = n.val * E + e.val) :
    shapeCast ⟨4, ![B, Q, R, M]⟩ x h (ix4 b q r j) = x (ix4 b s n e) := by
  refine shapeCast_apply x h _ _ ?_
  rw [Shape.rowMajor_val_four, Shape.rowMajor_val_four]
  subst hS hM
  show ((b.val * (Q * R) + s.val) * N + n.val) * E + e.val = ((b.val * Q + q.val) * R + r.val) * (N * E) + j.val
  rw [hs, hj]; ring

variable {A W : Nat}

/-- The lanes split into runs of two halves. -/
theorem runs_at (u : (⟨4, ![B, S, N, E]⟩ : Shape).Idx → α) (h : (⟨4, ![B, S, N, E]⟩ : Shape).ShapeCasts ⟨6, ![B, S, N, A, 2, W]⟩)
    (b : Fin B) (s : Fin S) (n : Fin N) (a : Fin A) (k : Fin 2) (l : Fin W) (e : Fin E) (hE : E = A * (2 * W))
    (he : e.val = (a.val * 2 + k.val) * W + l.val) :
    shapeCast ⟨6, ![B, S, N, A, 2, W]⟩ u h (ix6 b s n a k l) = u (ix4 b s n e) := by
  refine shapeCast_apply u h _ _ ?_
  rw [Shape.rowMajor_val_four, Shape.rowMajor_val_six]
  subst hE
  show ((b.val * S + s.val) * N + n.val) * (A * (2 * W)) + e.val
    = ((((b.val * S + s.val) * N + n.val) * A + a.val) * 2 + k.val) * W + l.val
  rw [he]; ring

/-- The runs of two halves joined into the lanes. -/
theorem lanes_at (v : (⟨6, ![B, S, N, A, 2, W]⟩ : Shape).Idx → α) (h : (⟨6, ![B, S, N, A, 2, W]⟩ : Shape).ShapeCasts ⟨4, ![B, S, N, E]⟩)
    (b : Fin B) (s : Fin S) (n : Fin N) (a : Fin A) (k : Fin 2) (l : Fin W) (e : Fin E) (hE : E = A * (2 * W))
    (he : e.val = (a.val * 2 + k.val) * W + l.val) :
    shapeCast ⟨4, ![B, S, N, E]⟩ v h (ix4 b s n e) = v (ix6 b s n a k l) := by
  refine shapeCast_apply v h _ _ ?_
  rw [Shape.rowMajor_val_four, Shape.rowMajor_val_six]
  subst hE
  show ((((b.val * S + s.val) * N + n.val) * A + a.val) * 2 + k.val) * W + l.val
    = ((b.val * S + s.val) * N + n.val) * (A * (2 * W)) + e.val
  rw [he]; ring

/-- The halves of every run exchanged: a lane reads the lane at the same place of the other half. -/
theorem exchanged_at (u : (⟨4, ![B, S, N, E]⟩ : Shape).Idx → α)
    (h1 : (⟨4, ![B, S, N, E]⟩ : Shape).ShapeCasts ⟨6, ![B, S, N, A, 2, W]⟩)
    (hs1 : (⟨6, ![B, S, N, A, 2, W]⟩ : Shape).Slices ![0, 0, 0, 0, 1, 0] ⟨6, ![B, S, N, A, 1, W]⟩)
    (hs0 : (⟨6, ![B, S, N, A, 2, W]⟩ : Shape).Slices ![0, 0, 0, 0, 0, 0] ⟨6, ![B, S, N, A, 1, W]⟩)
    (hc : Shape.Concatenates [⟨6, ![B, S, N, A, 1, W]⟩, ⟨6, ![B, S, N, A, 1, W]⟩] ⟨6, ![B, S, N, A, 2, W]⟩ 4)
    (h2 : (⟨6, ![B, S, N, A, 2, W]⟩ : Shape).ShapeCasts ⟨4, ![B, S, N, E]⟩)
    (b : Fin B) (s : Fin S) (n : Fin N) (a : Fin A) (k k' : Fin 2) (l : Fin W) (e e' : Fin E) (hE : E = A * (2 * W))
    (he : e.val = (a.val * 2 + k.val) * W + l.val) (he' : e'.val = (a.val * 2 + k'.val) * W + l.val) (hk : k'.val = 1 - k.val) :
    shapeCast ⟨4, ![B, S, N, E]⟩ (concatenate ⟨6, ![B, S, N, A, 2, W]⟩ 4
      [⟨⟨6, ![B, S, N, A, 1, W]⟩, extractStridedSlice ⟨6, ![B, S, N, A, 1, W]⟩ ![0, 0, 0, 0, 1, 0] (shapeCast ⟨6, ![B, S, N, A, 2, W]⟩ u h1) hs1⟩,
       ⟨⟨6, ![B, S, N, A, 1, W]⟩, extractStridedSlice ⟨6, ![B, S, N, A, 1, W]⟩ ![0, 0, 0, 0, 0, 0] (shapeCast ⟨6, ![B, S, N, A, 2, W]⟩ u h1) hs0⟩] hc) h2
      (ix4 b s n e) = u (ix4 b s n e') := by
  rw [lanes_at _ h2 b s n a k l e hE he]
  by_cases hk0 : k.val = 0
  · rw [concatenate_pair_apply_left (t := ⟨6, ![B, S, N, A, 2, W]⟩) (s₁ := ⟨6, ![B, S, N, A, 1, W]⟩) (s₂ := ⟨6, ![B, S, N, A, 1, W]⟩)
      4 _ _ hc (ix6 b s n a k l) rfl (ix6 b s n a 0 l) (fun q => by fin_cases q <;> first | rfl | exact hk0.symm)]
    rw [extractStridedSlice_apply _ _ hs1 (ix6 b s n a 0 l) (ix6 b s n a k' l)
      (fun q => by fin_cases q <;> first | exact (Nat.zero_add _).symm | (show k'.val = 1 + 0; omega))]
    exact runs_at u h1 b s n a k' l e' hE he'
  · have hk1 : k.val = 1 := by omega
    rw [concatenate_pair_apply_right (t := ⟨6, ![B, S, N, A, 2, W]⟩) (s₁ := ⟨6, ![B, S, N, A, 1, W]⟩) (s₂ := ⟨6, ![B, S, N, A, 1, W]⟩)
      4 _ _ hc (ix6 b s n a k l) rfl rfl (ix6 b s n a 0 l) (fun q hq => by fin_cases q <;> first | rfl | exact absurd rfl hq)
      (show 0 + 1 = k.val by omega)]
    rw [extractStridedSlice_apply _ _ hs0 (ix6 b s n a 0 l) (ix6 b s n a k' l)
      (fun q => by fin_cases q <;> first | exact (Nat.zero_add _).symm | (show k'.val = 0 + 0; omega))]
    exact runs_at u h1 b s n a k' l e' hE he'

end Cert.Inputs

end
-- ==== Proof.InputsTurned.lean ====
/-
  The rotary embeddings of the reference read at a row, a head and a lane.
-/
module

public import proofs.«01_k».proof.Proof.InputsFrame
public import proofs.«01_k».proof.Proof.InputsRef
public import proofs.«01_k».proof.Proof.InputsShapes

@[expose] public section

set_option maxRecDepth 16384

noncomputable section

namespace Cert.Reference3Ideal.Inp

open Idealize.ShloMosaic Idealize.ShloMosaic.TcCoe
open Cert.Reference3Ideal Cert.Reference3Ideal.Gen

/-- A sum of products with the two tables spread over eight heads, at an index. -/
theorem mix8 (u v : FVec Ideal S16x4096x8x128 .f32) (cs sn : FVec Ideal S16x4096x128 .f32) (b : Fin 16) (s : Fin 4096) (n : Fin 8) (e : Fin 128) :
    addf (mulf u (broadcastInDim S16x4096x8x128 ![0, 1, 2, 3] bcast_S16x4096x1x128_S16x4096x8x128_0_1_2_3
      (broadcastInDim S16x4096x1x128 ![0, 1, 3] bcast_S16x4096x128_S16x4096x1x128_0_1_3 cs)))
      (mulf v (broadcastInDim S16x4096x8x128 ![0, 1, 2, 3] bcast_S16x4096x1x128_S16x4096x8x128_0_1_2_3
      (broadcastInDim S16x4096x1x128 ![0, 1, 3] bcast_S16x4096x128_S16x4096x1x128_0_1_3 sn))) (ix4 b s n e)
      = u (ix4 b s n e) * cs (ix3 b s e) + v (ix4 b s n e) * sn (ix3 b s e) := by
  pointwise
/-- A sum of products with the two tables spread over one head, at an index. -/
theorem mix1 (u v : FVec Ideal S16x4096x1x128 .f32) (cs sn : FVec Ideal S16x4096x128 .f32) (b : Fin 16) (s : Fin 4096) (n : Fin 1) (e : Fin 128) :
    addf (mulf u (broadcastInDim S16x4096x1x128 ![0, 1, 3] bcast_S16x4096x128_S16x4096x1x128_0_1_3 cs))
      (mulf v (broadcastInDim S16x4096x1x128 ![0, 1, 3] bcast_S16x4096x128_S16x4096x1x128_0_1_3 sn)) (ix4 b s n e)
      = u (ix4 b s n e) * cs (ix3 b s e) + v (ix4 b s n e) * sn (ix3 b s e) := by
  pointwise
/-- A sum of products with the two tables spread over four heads, at an index. -/
theorem mix4 (u v : FVec Ideal S16x4096x4x128 .f32) (cs sn : FVec Ideal S16x4096x128 .f32) (b : Fin 16) (s : Fin 4096) (n : Fin 4) (e : Fin 128) :
    addf (mulf u (broadcastInDim S16x4096x4x128 ![0, 1, 2, 3] bcast_S16x4096x1x128_S16x4096x4x128_0_1_2_3
      (broadcastInDim S16x4096x1x128 ![0, 1, 3] bcast_S16x4096x128_S16x4096x1x128_0_1_3 cs)))
      (mulf v (broadcastInDim S16x4096x4x128 ![0, 1, 2, 3] bcast_S16x4096x1x128_S16x4096x4x128_0_1_2_3
      (broadcastInDim S16x4096x1x128 ![0, 1, 3] bcast_S16x4096x128_S16x4096x1x128_0_1_3 sn))) (ix4 b s n e)
      = u (ix4 b s n e) * cs (ix3 b s e) + v (ix4 b s n e) * sn (ix3 b s e) := by
  pointwise

/-- The place of a lane's partner in its run of 32. -/
theorem swap16_val (e : Fin 128) : (swap16 e).val = (e.val / 32 * 2 + (1 - e.val / 16 % 2)) * 16 + e.val % 16 := by
  unfold swap16
  split <;> simp only <;> omega

/-- The place of a lane's partner in its run of 64. -/
theorem swap32_val (e : Fin 128) : (swap32 e).val = (e.val / 64 * 2 + (1 - e.val / 32 % 2)) * 32 + e.val % 32 := by
  unfold swap32
  split <;> simp only <;> omega

/-- A rotated head at an index. -/
theorem turned8_at (u : FVec Ideal S16x4096x8x128 .f32) (cs sn : FVec Ideal S16x4096x128 .f32) (b : Fin 16) (s : Fin 4096) (n : Fin 8) (e : Fin 128) :
    turned8 u cs sn (ix4 b s n e) = u (ix4 b s n e) * cs (ix3 b s e) + u (ix4 b s n (swap16 e)) * sn (ix3 b s e) := by
  refine (mix8 u _ cs sn b s n e).trans ?_
  refine congrArg (fun q => u (ix4 b s n e) * cs (ix3 b s e) + q * sn (ix3 b s e)) ?_
  exact Cert.Inputs.exchanged_at (A := 4) (W := 16) u _ _ _ _ _ b s n ⟨e.val / 32, by omega⟩ ⟨e.val / 16 % 2, by omega⟩
    ⟨1 - e.val / 16 % 2, by omega⟩ ⟨e.val % 16, by omega⟩ e (swap16 e) rfl (by simp only; omega) (by simp only [swap16_val]) rfl

/-- A rotated head at an index. -/
theorem turned1_at (u : FVec Ideal S16x4096x1x128 .f32) (cs sn : FVec Ideal S16x4096x128 .f32) (b : Fin 16) (s : Fin 4096) (n : Fin 1) (e : Fin 128) :
    turned1 u cs sn (ix4 b s n e) = u (ix4 b s n e) * cs (ix3 b s e) + u (ix4 b s n (swap16 e)) * sn (ix3 b s e) := by
  refine (mix1 u _ cs sn b s n e).trans ?_
  refine congrArg (fun q => u (ix4 b s n e) * cs (ix3 b s e) + q * sn (ix3 b s e)) ?_
  exact Cert.Inputs.exchanged_at (A := 4) (W := 16) u _ _ _ _ _ b s n ⟨e.val / 32, by omega⟩ ⟨e.val / 16 % 2, by omega⟩
    ⟨1 - e.val / 16 % 2, by omega⟩ ⟨e.val % 16, by omega⟩ e (swap16 e) rfl (by simp only; omega) (by simp only [swap16_val]) rfl

/-- A rotated head at an index. -/
theorem turned4_at (u : FVec Ideal S16x4096x4x128 .f32) (cs sn : FVec Ideal S16x4096x128 .f32) (b : Fin 16) (s : Fin 4096) (n : Fin 4) (e : Fin 128) :
    turned4 u cs sn (ix4 b s n e) = u (ix4 b s n e) * cs (ix3 b s e) + u (ix4 b s n (swap32 e)) * sn (ix3 b s e) := by
  refine (mix4 u _ cs sn b s n e).trans ?_
  refine congrArg (fun q => u (ix4 b s n e) * cs (ix3 b s e) + q * sn (ix3 b s e)) ?_
  exact Cert.Inputs.exchanged_at (A := 2) (W := 32) u _ _ _ _ _ b s n ⟨e.val / 64, by omega⟩ ⟨e.val / 32 % 2, by omega⟩
    ⟨1 - e.val / 32 % 2, by omega⟩ ⟨e.val % 32, by omega⟩ e (swap32 e) rfl (by simp only; omega) (by simp only [swap32_val]) rfl

end Cert.Reference3Ideal.Inp

end
-- ==== Proof.InputsPieces.lean ====
/-
  The heads the kernel stores, read at a row and a lane.
-/
module

public import proofs.«01_k».proof.Proof.InputsTurned

@[expose] public section

set_option maxRecDepth 16384

noncomputable section

namespace Cert.Kernel3Ideal.Inp

open Idealize.ShloMosaic Idealize.ShloMosaic.TcCoe
open Cert.Kernel3Ideal Cert.Kernel3Ideal.Gen
open Cert.Reference3Ideal.Inp

/-- The kernel's lane mask: the first half of every run of 32. -/
theorem mask16 : ∀ e : Fin 128, IntOp.cmpi CmpIPredicate.slt (IntOp.andi (BitVec.ofNat 32 e.val) 31#32) 16#32
    = if e.val % 32 < 16 then 1#1 else 0#1 := by decide +kernel

/-- The kernel's lane mask: the first half of every run of 64. -/
theorem mask32 : ∀ e : Fin 128, IntOp.cmpi CmpIPredicate.slt (IntOp.andi (BitVec.ofNat 32 e.val) 63#32) 32#32
    = if e.val % 64 < 32 then 1#1 else 0#1 := by decide +kernel

/-- A lane of the first half is exchanged with the lane 16 further. -/
theorem swap16_low (e : Fin 128) (h : e.val % 32 < 16) : (swap16 e).val = e.val + 16 := by
  unfold swap16; rw [dif_pos h]

/-- A lane of the second half is exchanged with the lane 16 before. -/
theorem swap16_high (e : Fin 128) (h : ¬ e.val % 32 < 16) : (swap16 e).val = e.val - 16 := by
  unfold swap16; rw [dif_neg h]

/-- A lane of the first half is exchanged with the lane 32 further. -/
theorem swap32_low (e : Fin 128) (h : e.val % 64 < 32) : (swap32 e).val = e.val + 32 := by
  unfold swap32; rw [dif_pos h]

/-- A lane of the second half is exchanged with the lane 32 before. -/
theorem swap32_high (e : Fin 128) (h : ¬ e.val % 64 < 32) : (swap32 e).val = e.val - 32 := by
  unfold swap32; rw [dif_neg h]

/-- A row rotated by a select between two shifted rows, in runs of 32 lanes. -/
theorem turn16 {N : Nat} (u : Fin N → EReal) (e : Fin 128) (x y : EReal) (a p q J J' : Fin N) (ha : a.val = J.val)
    (hp : e.val % 32 < 16 → p.val = J'.val) (hq : ¬ e.val % 32 < 16 → q.val = J'.val) :
    u a * x + Scalar.select (IntOp.cmpi CmpIPredicate.slt (IntOp.andi (BitVec.ofNat 32 e.val) 31#32) 16#32) (u p) (u q) * y
      = u J * x + u J' * y := by
  rw [mask16]
  obtain rfl : a = J := Fin.ext ha
  by_cases h : e.val % 32 < 16
  · obtain rfl : p = J' := Fin.ext (hp h)
    rw [if_pos h]; rfl
  · obtain rfl : q = J' := Fin.ext (hq h)
    rw [if_neg h]; rfl

/-- A row rotated by a select between two shifted rows, in runs of 64 lanes. -/
theorem turn32 {N : Nat} (u : Fin N → EReal) (e : Fin 128) (x y : EReal) (a p q J J' : Fin N) (ha : a.val = J.val)
    (hp : e.val % 64 < 32 → p.val = J'.val) (hq : ¬ e.val % 64 < 32 → q.val = J'.val) :
    u a * x + Scalar.select (IntOp.cmpi CmpIPredicate.slt (IntOp.andi (BitVec.ofNat 32 e.val) 63#32) 32#32) (u p) (u q) * y
      = u J * x + u J' * y := by
  rw [mask32]
  obtain rfl : a = J := Fin.ext ha
  by_cases h : e.val % 64 < 32
  · obtain rfl : p = J' := Fin.ext (hp h)
    rw [if_pos h]; rfl
  · obtain rfl : q = J' := Fin.ext (hq h)
    rw [if_neg h]; rfl

/-- Head 0 of the latent attention's queries, rotated. -/
theorem q_0 (x y : FVec Ideal S512x128 .f32) (l : FVec Ideal S512x256 .bf16) (w : FVec Ideal S256x1024 .bf16) (z : Fin 1) (r : Fin 512) (e : Fin 128)
    (J J' : Fin 1024) (hJ : J.val = 0 + e.val) (hJ' : J'.val = 0 + (swap16 e).val) :
    k0_pay15 x y l w (ix3 z r e) = k0_pay13 l w (ix2 r J) * x (ix2 r e) + k0_pay13 l w (ix2 r J') * y (ix2 r e) := by
  pointwise [k0_pay15]
  refine turn16 (fun q => k0_pay13 l w (ix2 r q)) e _ _ _ _ _ J J' ?_ (fun h => ?_) (fun h => ?_)
  · (try dsimp only) <;> omega
  · have := swap16_low e h; (try dsimp only) <;> omega
  · have := swap16_high e h; (try dsimp only) <;> omega

/-- Head 1 of the latent attention's queries, rotated. -/
theorem q_1 (x y : FVec Ideal S512x128 .f32) (l : FVec Ideal S512x256 .bf16) (w : FVec Ideal S256x1024 .bf16) (z : Fin 1) (r : Fin 512) (e : Fin 128)
    (J J' : Fin 1024) (hJ : J.val = 128 + e.val) (hJ' : J'.val = 128 + (swap16 e).val) :
    k0_pay18 x y (k0_pay17 l w) (iota .tc S512x128 32 [1] iota_S512x128_d1_w32) 31#32 (ix3 z r e) = k0_pay13 l w (ix2 r J) * x (ix2 r e) + k0_pay13 l w (ix2 r J') * y (ix2 r e) := by
  pointwise [k0_pay18, k0_pay17]
  refine turn16 (fun q => k0_pay13 l w (ix2 r q)) e _ _ _ _ _ J J' ?_ (fun h => ?_) (fun h => ?_)
  · (try dsimp only) <;> omega
  · have := swap16_low e h; (try dsimp only) <;> omega
  · have := swap16_high e h; (try dsimp only) <;> omega

/-- Head 2 of the latent attention's queries, rotated. -/
theorem q_2 (x y : FVec Ideal S512x128 .f32) (u : FVec Ideal S512x1024 .f32) (z : Fin 1) (r : Fin 512) (e : Fin 128)
    (J J' : Fin 1024) (hJ : J.val = 256 + e.val) (hJ' : J'.val = 256 + (swap16 e).val) :
    k0_pay20 x y u (ix3 z r e) = u (ix2 r J) * x (ix2 r e) + u (ix2 r J') * y (ix2 r e) := by
  pointwise [k0_pay20]
  refine turn16 (fun q => u (ix2 r q)) e _ _ _ _ _ J J' ?_ (fun h => ?_) (fun h => ?_)
  · (try dsimp only) <;> omega
  · have := swap16_low e h; (try dsimp only) <;> omega
  · have := swap16_high e h; (try dsimp only) <;> omega

/-- Head 3 of the latent attention's queries, rotated. -/
theorem q_3 (x y : FVec Ideal S512x128 .f32) (u : FVec Ideal S512x1024 .f32) (z : Fin 1) (r : Fin 512) (e : Fin 128)
    (J J' : Fin 1024) (hJ : J.val = 384 + e.val) (hJ' : J'.val = 384 + (swap16 e).val) :
    k0_pay23 x y u (ix3 z r e) = u (ix2 r J) * x (ix2 r e) + u (ix2 r J') * y (ix2 r e) := by
  pointwise [k0_pay23]
  refine turn16 (fun q => u (ix2 r q)) e _ _ _ _ _ J J' ?_ (fun h => ?_) (fun h => ?_)
  · (try dsimp only) <;> omega
  · have := swap16_low e h; (try dsimp only) <;> omega
  · have := swap16_high e h; (try dsimp only) <;> omega

/-- Head 4 of the latent attention's queries, rotated. -/
theorem q_4 (x y : FVec Ideal S512x128 .f32) (u : FVec Ideal S512x1024 .f32) (z : Fin 1) (r : Fin 512) (e : Fin 128)
    (J J' : Fin 1024) (hJ : J.val = 512 + e.val) (hJ' : J'.val = 512 + (swap16 e).val) :
    k0_pay26 (k0_pay25 x y u) (ix3 z r e) = u (ix2 r J) * x (ix2 r e) + u (ix2 r J') * y (ix2 r e) := by
  pointwise [k0_pay26, k0_pay25]
  refine turn16 (fun q => u (ix2 r q)) e _ _ _ _ _ J J' ?_ (fun h => ?_) (fun h => ?_)
  · (try dsimp only) <;> omega
  · have := swap16_low e h; (try dsimp only) <;> omega
  · have := swap16_high e h; (try dsimp only) <;> omega

/-- Head 5 of the latent attention's queries, rotated. -/
theorem q_5 (x y : FVec Ideal S512x128 .f32) (u : FVec Ideal S512x1024 .f32) (z : Fin 1) (r : Fin 512) (e : Fin 128)
    (J J' : Fin 1024) (hJ : J.val = 640 + e.val) (hJ' : J'.val = 640 + (swap16 e).val) :
    k0_pay28 x y u (ix3 z r e) = u (ix2 r J) * x (ix2 r e) + u (ix2 r J') * y (ix2 r e) := by
  pointwise [k0_pay28]
  refine turn16 (fun q => u (ix2 r q)) e _ _ _ _ _ J J' ?_ (fun h => ?_) (fun h => ?_)
  · (try dsimp only) <;> omega
  · have := swap16_low e h; (try dsimp only) <;> omega
  · have := swap16_high e h; (try dsimp only) <;> omega

/-- Head 6 of the latent attention's queries, rotated. -/
theorem q_6 (x y : FVec Ideal S512x128 .f32) (u : FVec Ideal S512x1024 .f32) (z : Fin 1) (r : Fin 512) (e : Fin 128)
    (J J' : Fin 1024) (hJ : J.val = 768 + e.val) (hJ' : J'.val = 768 + (swap16 e).val) :
    k0_pay32 x y (k0_pay30 u) (k0_pay31 u) (ix3 z r e) = u (ix2 r J) * x (ix2 r e) + u (ix2 r J') * y (ix2 r e) := by
  pointwise [k0_pay32, k0_pay30, k0_pay31]
  refine turn16 (fun q => u (ix2 r q)) e _ _ _ _ _ J J' ?_ (fun h => ?_) (fun h => ?_)
  · (try dsimp only) <;> omega
  · have := swap16_low e h; (try dsimp only) <;> omega
  · have := swap16_high e h; (try dsimp only) <;> omega

/-- Head 7 of the latent attention's queries, rotated. -/
theorem q_7 (x y : FVec Ideal S512x128 .f32) (u : FVec Ideal S512x1024 .f32) (z : Fin 1) (r : Fin 512) (e : Fin 128)
    (J J' : Fin 1024) (hJ : J.val = 896 + e.val) (hJ' : J'.val = 896 + (swap16 e).val) :
    k0_pay34 x y u (ix3 z r e) = u (ix2 r J) * x (ix2 r e) + u (ix2 r J') * y (ix2 r e) := by
  pointwise [k0_pay34]
  refine turn16 (fun q => u (ix2 r q)) e _ _ _ _ _ J J' ?_ (fun h => ?_) (fun h => ?_)
  · (try dsimp only) <;> omega
  · have := swap16_low e h; (try dsimp only) <;> omega
  · have := swap16_high e h; (try dsimp only) <;> omega

/-- The positional key, rotated. -/
theorem r_0 (x y : FVec Ideal S512x128 .f32) (u : FVec Ideal S512x128 .f32) (r : Fin 512) (e : Fin 128)
    (J J' : Fin 128) (hJ : J.val = 0 + e.val) (hJ' : J'.val = 0 + (swap16 e).val) :
    k0_pay12 x y u k0_pay11 (ix2 r e) = u (ix2 r J) * x (ix2 r e) + u (ix2 r J') * y (ix2 r e) := by
  pointwise [k0_pay12, k0_pay11]
  refine turn16 (fun q => u (ix2 r q)) e _ _ _ _ _ J J' ?_ (fun h => ?_) (fun h => ?_)
  · (try dsimp only) <;> omega
  · have := swap16_low e h; (try dsimp only) <;> omega
  · have := swap16_high e h; (try dsimp only) <;> omega

/-- Head 0 of the latent attention's keys: the part without position plus the rotated positional key. -/
theorem k_0 (x y u : FVec Ideal S512x128 .f32) (l : FVec Ideal S512x128 .bf16) (w : FVec Ideal S128x1024 .bf16) (z : Fin 1) (r : Fin 512) (e : Fin 128)
    (J : Fin 1024) (hJ : J.val = e.val) :
    k0_pay16 x y l u k0_pay11 w (ix3 z r e) = k0_pay14 l w (ix2 r J) + k0_pay12 x y u k0_pay11 (ix2 r e) := by
  rw [show J = (⟨e.val, by omega⟩ : Fin 1024) from Fin.ext hJ]
  pointwise [k0_pay16]

/-- Head 1 of the latent attention's keys: the part without position plus the rotated positional key. -/
theorem k_1 (a : FVec Ideal S512x128 .f32) (b : FVec Ideal S512x1024 .f32) (z : Fin 1) (r : Fin 512) (e : Fin 128)
    (J : Fin 1024) (hJ : J.val = 128 + e.val) :
    k0_pay19 a b (ix3 z r e) = b (ix2 r J) + a (ix2 r e) := by
  rw [show J = (⟨128 + e.val, by omega⟩ : Fin 1024) from Fin.ext hJ]
  pointwise [k0_pay19]

/-- Head 2 of the latent attention's keys: the part without position plus the rotated positional key. -/
theorem k_2 (a : FVec Ideal S512x128 .f32) (b : FVec Ideal S512x1024 .f32) (z : Fin 1) (r : Fin 512) (e : Fin 128)
    (J : Fin 1024) (hJ : J.val = 256 + e.val) :
    k0_pay22 (k0_pay21 a b) (ix3 z r e) = b (ix2 r J) + a (ix2 r e) := by
  rw [show J = (⟨256 + e.val, by omega⟩ : Fin 1024) from Fin.ext hJ]
  pointwise [k0_pay22, k0_pay21]

/-- Head 3 of the latent attention's keys: the part without position plus the rotated positional key. -/
theorem k_3 (a : FVec Ideal S512x128 .f32) (b : FVec Ideal S512x1024 .f32) (z : Fin 1) (r : Fin 512) (e : Fin 128)
    (J : Fin 1024) (hJ : J.val = 384 + e.val) :
    k0_pay24 a b (ix3 z r e) = b (ix2 r J) + a (ix2 r e) := by
  rw [show J = (⟨384 + e.val, by omega⟩ : Fin 1024) from Fin.ext hJ]
  pointwise [k0_pay24]

/-- Head 4 of the latent attention's keys: the part without position plus the rotated positional key. -/
theorem k_4 (a : FVec Ideal S512x128 .f32) (b : FVec Ideal S512x1024 .f32) (z : Fin 1) (r : Fin 512) (e : Fin 128)
    (J : Fin 1024) (hJ : J.val = 512 + e.val) :
    k0_pay27 a b (ix3 z r e) = b (ix2 r J) + a (ix2 r e) := by
  rw [show J = (⟨512 + e.val, by omega⟩ : Fin 1024) from Fin.ext hJ]
  pointwise [k0_pay27]

/-- Head 5 of the latent attention's keys: the part without position plus the rotated positional key. -/
theorem k_5 (a : FVec Ideal S512x128 .f32) (b : FVec Ideal S512x1024 .f32) (z : Fin 1) (r : Fin 512) (e : Fin 128)
    (J : Fin 1024) (hJ : J.val = 640 + e.val) :
    k0_pay29 a b (ix3 z r e) = b (ix2 r J) + a (ix2 r e) := by
  rw [show J = (⟨640 + e.val, by omega⟩ : Fin 1024) from Fin.ext hJ]
  pointwise [k0_pay29]

/-- Head 6 of the latent attention's keys: the part without position plus the rotated positional key. -/
theorem k_6 (a : FVec Ideal S512x128 .f32) (b : FVec Ideal S512x1024 .f32) (z : Fin 1) (r : Fin 512) (e : Fin 128)
    (J : Fin 1024) (hJ : J.val = 768 + e.val) :
    k0_pay33 a b (ix3 z r e) = b (ix2 r J) + a (ix2 r e) := by
  rw [show J = (⟨768 + e.val, by omega⟩ : Fin 1024) from Fin.ext hJ]
  pointwise [k0_pay33]

/-- Head 7 of the latent attention's keys: the part without position plus the rotated positional key. -/
theorem k_7 (a : FVec Ideal S512x128 .f32) (b : FVec Ideal S512x1024 .f32) (z : Fin 1) (r : Fin 512) (e : Fin 128)
    (J : Fin 1024) (hJ : J.val = 896 + e.val) :
    k0_pay35 a b (ix3 z r e) = b (ix2 r J) + a (ix2 r e) := by
  rw [show J = (⟨896 + e.val, by omega⟩ : Fin 1024) from Fin.ext hJ]
  pointwise [k0_pay35]

/-- Head 0 of the sparse attention's queries, rotated and scaled. -/
theorem qm_0 (x y : FVec Ideal S512x128 .f32) (u : FVec Ideal S512x512 .f32) (z : Fin 1) (r : Fin 512) (e : Fin 128)
    (J J' : Fin 512) (hJ : J.val = 0 + e.val) (hJ' : J'.val = 0 + (swap32 e).val) :
    k0_pay43 x y u (ix3 z r e) = (u (ix2 r J) * x (ix2 r e) + u (ix2 r J') * y (ix2 r e)) * Ideal.ofBits .f32 0x3E38AA3B#32 := by
  pointwise [k0_pay43]
  refine congrArg (fun q => q * Ideal.ofBits .f32 0x3E38AA3B#32) ?_
  refine turn32 (fun q => u (ix2 r q)) e _ _ _ _ _ J J' ?_ (fun h => ?_) (fun h => ?_)
  · (try dsimp only) <;> omega
  · have := swap32_low e h; (try dsimp only) <;> omega
  · have := swap32_high e h; (try dsimp only) <;> omega

/-- Head 1 of the sparse attention's queries, rotated and scaled. -/
theorem qm_1 (x y : FVec Ideal S512x128 .f32) (u : FVec Ideal S512x512 .f32) (z : Fin 1) (r : Fin 512) (e : Fin 128)
    (J J' : Fin 512) (hJ : J.val = 128 + e.val) (hJ' : J'.val = 128 + (swap32 e).val) :
    k0_pay49 x y u (ix3 z r e) = (u (ix2 r J) * x (ix2 r e) + u (ix2 r J') * y (ix2 r e)) * Ideal.ofBits .f32 0x3E38AA3B#32 := by
  pointwise [k0_pay49]
  refine congrArg (fun q => q * Ideal.ofBits .f32 0x3E38AA3B#32) ?_
  refine turn32 (fun q => u (ix2 r q)) e _ _ _ _ _ J J' ?_ (fun h => ?_) (fun h => ?_)
  · (try dsimp only) <;> omega
  · have := swap32_low e h; (try dsimp only) <;> omega
  · have := swap32_high e h; (try dsimp only) <;> omega

/-- Head 2 of the sparse attention's queries, rotated and scaled. -/
theorem qm_2 (x y : FVec Ideal S512x128 .f32) (u : FVec Ideal S512x512 .f32) (z : Fin 1) (r : Fin 512) (e : Fin 128)
    (J J' : Fin 512) (hJ : J.val = 256 + e.val) (hJ' : J'.val = 256 + (swap32 e).val) :
    k0_pay60 (k0_pay58 x y u) k0_pay59 (ix3 z r e) = (u (ix2 r J) * x (ix2 r e) + u (ix2 r J') * y (ix2 r e)) * Ideal.ofBits .f32 0x3E38AA3B#32 := by
  pointwise [k0_pay60, k0_pay58, k0_pay59]
  refine congrArg (fun q => q * Ideal.ofBits .f32 0x3E38AA3B#32) ?_
  refine turn32 (fun q => u (ix2 r q)) e _ _ _ _ _ J J' ?_ (fun h => ?_) (fun h => ?_)
  · (try dsimp only) <;> omega
  · have := swap32_low e h; (try dsimp only) <;> omega
  · have := swap32_high e h; (try dsimp only) <;> omega

/-- Head 3 of the sparse attention's queries, rotated and scaled. -/
theorem qm_3 (x y : FVec Ideal S512x128 .f32) (u : FVec Ideal S512x512 .f32) (z : Fin 1) (r : Fin 512) (e : Fin 128)
    (J J' : Fin 512) (hJ : J.val = 384 + e.val) (hJ' : J'.val = 384 + (swap32 e).val) :
    k0_pay66 x y u (ix3 z r e) = (u (ix2 r J) * x (ix2 r e) + u (ix2 r J') * y (ix2 r e)) * Ideal.ofBits .f32 0x3E38AA3B#32 := by
  pointwise [k0_pay66]
  refine congrArg (fun q => q * Ideal.ofBits .f32 0x3E38AA3B#32) ?_
  refine turn32 (fun q => u (ix2 r q)) e _ _ _ _ _ J J' ?_ (fun h => ?_) (fun h => ?_)
  · (try dsimp only) <;> omega
  · have := swap32_low e h; (try dsimp only) <;> omega
  · have := swap32_high e h; (try dsimp only) <;> omega

/-- Head 0 of the sparse attention's keys, rotated. -/
theorem km_0 (x y : FVec Ideal S512x128 .f32) (u : FVec Ideal S512x512 .f32) (r : Fin 512) (e : Fin 128)
    (J J' : Fin 512) (hJ : J.val = 0 + e.val) (hJ' : J'.val = 0 + (swap32 e).val) :
    k0_pay44 x y u (ix2 r e) = u (ix2 r J) * x (ix2 r e) + u (ix2 r J') * y (ix2 r e) := by
  pointwise [k0_pay44]
  refine turn32 (fun q => u (ix2 r q)) e _ _ _ _ _ J J' ?_ (fun h => ?_) (fun h => ?_)
  · (try dsimp only) <;> omega
  · have := swap32_low e h; (try dsimp only) <;> omega
  · have := swap32_high e h; (try dsimp only) <;> omega

/-- Head 1 of the sparse attention's keys, rotated. -/
theorem km_1 (x y : FVec Ideal S512x128 .f32) (u : FVec Ideal S512x512 .f32) (r : Fin 512) (e : Fin 128)
    (J J' : Fin 512) (hJ : J.val = 128 + e.val) (hJ' : J'.val = 128 + (swap32 e).val) :
    k0_pay54 x y (k0_pay50 u) k0_pay51 (k0_pay52 u) (k0_pay53 u) (ix2 r e) = u (ix2 r J) * x (ix2 r e) + u (ix2 r J') * y (ix2 r e) := by
  pointwise [k0_pay54, k0_pay50, k0_pay51, k0_pay52, k0_pay53]
  refine turn32 (fun q => u (ix2 r q)) e _ _ _ _ _ J J' ?_ (fun h => ?_) (fun h => ?_)
  · (try dsimp only) <;> omega
  · have := swap32_low e h; (try dsimp only) <;> omega
  · have := swap32_high e h; (try dsimp only) <;> omega

/-- Head 2 of the sparse attention's keys, rotated. -/
theorem km_2 (x y : FVec Ideal S512x128 .f32) (u : FVec Ideal S512x512 .f32) (r : Fin 512) (e : Fin 128)
    (J J' : Fin 512) (hJ : J.val = 256 + e.val) (hJ' : J'.val = 256 + (swap32 e).val) :
    k0_pay61 x y u (ix2 r e) = u (ix2 r J) * x (ix2 r e) + u (ix2 r J') * y (ix2 r e) := by
  pointwise [k0_pay61]
  refine turn32 (fun q => u (ix2 r q)) e _ _ _ _ _ J J' ?_ (fun h => ?_) (fun h => ?_)
  · (try dsimp only) <;> omega
  · have := swap32_low e h; (try dsimp only) <;> omega
  · have := swap32_high e h; (try dsimp only) <;> omega

/-- Head 3 of the sparse attention's keys, rotated. -/
theorem km_3 (x y : FVec Ideal S512x128 .f32) (u : FVec Ideal S512x512 .f32) (r : Fin 512) (e : Fin 128)
    (J J' : Fin 512) (hJ : J.val = 384 + e.val) (hJ' : J'.val = 384 + (swap32 e).val) :
    k0_pay67 x y u (ix2 r e) = u (ix2 r J) * x (ix2 r e) + u (ix2 r J') * y (ix2 r e) := by
  pointwise [k0_pay67]
  refine turn32 (fun q => u (ix2 r q)) e _ _ _ _ _ J J' ?_ (fun h => ?_) (fun h => ?_)
  · (try dsimp only) <;> omega
  · have := swap32_low e h; (try dsimp only) <;> omega
  · have := swap32_high e h; (try dsimp only) <;> omega

/-- Head 0 of the sparse attention's keys as stored. -/
theorem kms_0 (x y : FVec Ideal S512x128 .f32) (u : FVec Ideal S512x512 .f32) (z : Fin 1) (r : Fin 512) (e : Fin 128) :
    k0_pay45 x y u (ix3 z r e) = k0_pay44 x y u (ix2 r e) := by
  pointwise [k0_pay45]

/-- Head 1 of the sparse attention's keys as stored. -/
theorem kms_1 (x y : FVec Ideal S512x128 .f32) (u : FVec Ideal S512x512 .f32) (z : Fin 1) (r : Fin 512) (e : Fin 128) :
    k0_pay55 x y (k0_pay50 u) k0_pay51 (k0_pay52 u) (k0_pay53 u) (ix3 z r e) = k0_pay54 x y (k0_pay50 u) k0_pay51 (k0_pay52 u) (k0_pay53 u) (ix2 r e) := by
  pointwise [k0_pay55]

/-- Head 2 of the sparse attention's keys as stored. -/
theorem kms_2 (x y : FVec Ideal S512x128 .f32) (u : FVec Ideal S512x512 .f32) (z : Fin 1) (r : Fin 512) (e : Fin 128) :
    k0_pay62 x y u (ix3 z r e) = k0_pay61 x y u (ix2 r e) := by
  pointwise [k0_pay62]

/-- Head 3 of the sparse attention's keys as stored. -/
theorem kms_3 (x y : FVec Ideal S512x128 .f32) (u : FVec Ideal S512x512 .f32) (z : Fin 1) (r : Fin 512) (e : Fin 128) :
    k0_pay68 x y u (ix3 z r e) = k0_pay67 x y u (ix2 r e) := by
  pointwise [k0_pay68]

end Cert.Kernel3Ideal.Inp

end
-- ==== Proof.InputsSparse.lean ====
/-
  The sparse attention's queries, keys, values and block means.
-/
module

public import proofs.«01_k».proof.Proof.InputsTables
public import proofs.«01_k».proof.Proof.InputsPieces

@[expose] public section

set_option maxRecDepth 16384

noncomputable section

namespace Cert.Kernel3Ideal.Inp

open Idealize.ShloMosaic Idealize.ShloMosaic.TcCoe
open Cert.Kernel3Ideal Cert.Kernel3Ideal.Gen
open Cert.Reference3Ideal.Inp

variable (m : (ℓ : Loc nD τ sig) → Buf (Elt Ideal) ℓ)

/-- The sparse attention's queries before rotation, at a point of the grid. -/
abbrev queriesB (c : Dev nD) (t : Fin cfg0.N) : FVec Ideal S512x512 .f32 :=
  k0_pay95 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- A product of rows and columns at an index. -/
theorem queriesB_sum (h : FVec Ideal S512x1024 .bf16) (w : FVec Ideal S1024x512 .bf16) (r : Fin 512) (j : Fin 512) :
    k0_pay41 h w (ix2 r j) = ∑ k : Fin 1024, h (ix2 r k) * w (ix2 k j) := by
  pointwise [k0_pay41]

/-- They are columns of the projection. -/
theorem queriesB_at (c : Dev nD) (t : Fin cfg0.N) (b : Fin 16) (s : Fin 4096) (r : Fin 512) (j : Fin 512) (j' : Fin 5024)
    (hb : b.val = t.val / 8) (hs : s.val = t.val % 8 * 512 + r.val) (hj : j'.val = 928 + j.val) :
    queriesB m c t (ix2 r j) = P m c (ix3 b s j') := by
  refine (queriesB_sum (rows m c t) (View.ld (iblk m c 3 t) r0_23) r j).trans ?_
  refine cols m c t b s r hb hs _ ⟨1024 + j.val, by omega⟩ j' (by simp only; omega) (fun k => ?_)
  pointwise
  blk_ext []

/-- The sparse attention's keys before rotation, at a point of the grid. -/
abbrev keysB (c : Dev nD) (t : Fin cfg0.N) : FVec Ideal S512x512 .f32 :=
  k0_pay96 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- A product of rows and columns at an index. -/
theorem keysB_sum (h : FVec Ideal S512x1024 .bf16) (w : FVec Ideal S1024x512 .bf16) (r : Fin 512) (j : Fin 512) :
    k0_pay42 h w (ix2 r j) = ∑ k : Fin 1024, h (ix2 r k) * w (ix2 k j) := by
  pointwise [k0_pay42]

/-- They are columns of the projection. -/
theorem keysB_at (c : Dev nD) (t : Fin cfg0.N) (b : Fin 16) (s : Fin 4096) (r : Fin 512) (j : Fin 512) (j' : Fin 5024)
    (hb : b.val = t.val / 8) (hs : s.val = t.val % 8 * 512 + r.val) (hj : j'.val = 1440 + j.val) :
    keysB m c t (ix2 r j) = P m c (ix3 b s j') := by
  refine (keysB_sum (rows m c t) (View.ld (iblk m c 3 t) r0_24) r j).trans ?_
  refine cols m c t b s r hb hs _ ⟨1536 + j.val, by omega⟩ j' (by simp only; omega) (fun k => ?_)
  pointwise
  blk_ext []

/-- A head is a slab of 128 columns. -/
theorem heads_q_at (p : FVec Ideal Cert.Reference3Ideal.S16x4096x5024 .f32) (b : Fin 16) (s : Fin 4096) (n : Fin 4) (e : Fin 128) (j : Fin 5024)
    (hj : j.val = 928 + (n.val * 128 + e.val)) : heads_q p (ix4 b s n e) = p (ix3 b s j) := by
  rw [show j = (⟨928 + (n.val * 128 + e.val), by omega⟩ : Fin 5024) from Fin.ext hj]
  pointwise [heads_q]

/-- A head is a slab of 128 columns. -/
theorem heads_k_at (p : FVec Ideal Cert.Reference3Ideal.S16x4096x5024 .f32) (b : Fin 16) (s : Fin 4096) (n : Fin 4) (e : Fin 128) (j : Fin 5024)
    (hj : j.val = 1440 + (n.val * 128 + e.val)) : heads_k p (ix4 b s n e) = p (ix3 b s j) := by
  rw [show j = (⟨1440 + (n.val * 128 + e.val), by omega⟩ : Fin 5024) from Fin.ext hj]
  pointwise [heads_k]

/-- An entry of a rotated head. -/
theorem out_qm_at (u : FVec Ideal Cert.Reference3Ideal.S16x4096x4x128 .f32) (cs sn : FVec Ideal Cert.Reference3Ideal.S16x4096x128 .f32) (b : Fin 16) (s : Fin 4096)
    (n : Fin 4) (e : Fin 128) (j : Fin 512) (hj : j.val = n.val * 128 + e.val) :
    out_qm u cs sn (ix3 b s j) = (u (ix4 b s n e) * cs (ix3 b s e) + u (ix4 b s n (swap32 e)) * sn (ix3 b s e)) * Ideal.ofBits .f32 0x3E38AA3B#32 := by
  rw [show n = (⟨j.val / 128, Nat.div_lt_of_lt_mul (show j.val < 128 * 4 from j.isLt)⟩ : Fin 4) from Fin.ext (by simp only; omega),
    show e = (⟨j.val % 128, Nat.mod_lt _ (by decide)⟩ : Fin 128) from Fin.ext (by simp only; omega)]
  pointwise [out_qm]
  exact congrArg (fun q => q * Ideal.ofBits .f32 0x3E38AA3B#32) (turned4_at u cs sn b s _ _)

/-- An entry of a rotated head. -/
theorem keys_m_at (u : FVec Ideal Cert.Reference3Ideal.S16x4096x4x128 .f32) (cs sn : FVec Ideal Cert.Reference3Ideal.S16x4096x128 .f32) (b : Fin 16) (s : Fin 4096)
    (n : Fin 4) (e : Fin 128) (j : Fin 512) (hj : j.val = n.val * 128 + e.val) :
    keys_m u cs sn (ix3 b s j) = u (ix4 b s n e) * cs (ix3 b s e) + u (ix4 b s n (swap32 e)) * sn (ix3 b s e) := by
  rw [show n = (⟨j.val / 128, Nat.div_lt_of_lt_mul (show j.val < 128 * 4 from j.isLt)⟩ : Fin 4) from Fin.ext (by simp only; omega),
    show e = (⟨j.val % 128, Nat.mod_lt _ (by decide)⟩ : Fin 128) from Fin.ext (by simp only; omega)]
  pointwise [keys_m]
  exact (turned4_at u cs sn b s _ _)

/-- The kernel's rotated head is the reference's. -/
theorem head_qm (c : Dev nD) (t : Fin cfg0.N) (b : Fin 16) (s : Fin 4096) (r : Fin 512)
    (hb : b.val = t.val / 8) (hs : s.val = t.val % 8 * 512 + r.val) (n : Fin 4) (e : Fin 128) (J J' : Fin 512)
    (hJ : J.val = n.val * 128 + e.val) (hJ' : J'.val = n.val * 128 + (swap32 e).val) :
    (queriesB m c t (ix2 r J) * cosB m c t (ix2 r e) + queriesB m c t (ix2 r J') * sinB m c t (ix2 r e)) * Ideal.ofBits .f32 0x3E38AA3B#32
      = out_qm (heads_q (P m c)) (m ((c.tc : Thread nD τ).loc main_arg9)) (m ((c.tc : Thread nD τ).loc main_arg10)) (ix3 b s J) := by
  rw [out_qm_at _ _ _ b s n e J hJ, cosB_at m c t b s r e hb hs, sinB_at m c t b s r e hb hs,
    queriesB_at m c t b s r J ⟨928 + J.val, by omega⟩ hb hs rfl, queriesB_at m c t b s r J' ⟨928 + J'.val, by omega⟩ hb hs rfl,
    heads_q_at _ b s n e ⟨928 + J.val, by omega⟩ (by simp only; omega), heads_q_at _ b s n (swap32 e) ⟨928 + J'.val, by omega⟩ (by simp only; omega)]

/-- The kernel's rotated head is the reference's. -/
theorem head_km (c : Dev nD) (t : Fin cfg0.N) (b : Fin 16) (s : Fin 4096) (r : Fin 512)
    (hb : b.val = t.val / 8) (hs : s.val = t.val % 8 * 512 + r.val) (n : Fin 4) (e : Fin 128) (J J' : Fin 512)
    (hJ : J.val = n.val * 128 + e.val) (hJ' : J'.val = n.val * 128 + (swap32 e).val) :
    keysB m c t (ix2 r J) * cosB m c t (ix2 r e) + keysB m c t (ix2 r J') * sinB m c t (ix2 r e)
      = keys_m (heads_k (P m c)) (m ((c.tc : Thread nD τ).loc main_arg9)) (m ((c.tc : Thread nD τ).loc main_arg10)) (ix3 b s J) := by
  rw [keys_m_at _ _ _ b s n e J hJ, cosB_at m c t b s r e hb hs, sinB_at m c t b s r e hb hs,
    keysB_at m c t b s r J ⟨1440 + J.val, by omega⟩ hb hs rfl, keysB_at m c t b s r J' ⟨1440 + J'.val, by omega⟩ hb hs rfl,
    heads_k_at _ b s n e ⟨1440 + J.val, by omega⟩ (by simp only; omega), heads_k_at _ b s n (swap32 e) ⟨1440 + J'.val, by omega⟩ (by simp only; omega)]

/-- The mean of head 0's keys over the first block of a point. -/
theorem mean_0_0 (x y : FVec Ideal S512x128 .f32) (u : FVec Ideal S512x512 .f32) (k : FVec Ideal Cert.Reference3Ideal.S16x4096x512 .f32)
    (z z' z'' : Fin 1) (e : Fin 128) (b q : Fin 16) (j : Fin 512)
    (hk : ∀ i : Fin 256, (k0_pay44 x y u (ix2 (⟨0 + i.val, by omega⟩ : Fin 512) e) : EReal) = k (ix3 b (⟨q.val * 256 + i.val, by omega⟩ : Fin 4096) j)) :
    k0_pay47 (k0_pay46 x y u) (ix4 z z' z'' e) = out_mean k (ix4 b q z'' j) := by
  pointwise [k0_pay47, k0_pay46, out_mean]
  refine congrArg (fun w => Ideal.div w (Ideal.ofBits .f32 0x43800000#32)) (Finset.sum_congr rfl fun i _ => ?_)
  refine Eq.trans (congrArg (fun w => k0_pay44 x y u (ix2 w e)) (Fin.ext ?_)) (hk i)
  (try dsimp only) <;> omega

/-- The mean of head 0's keys over the second block of a point. -/
theorem mean_0_1 (x y : FVec Ideal S512x128 .f32) (u : FVec Ideal S512x512 .f32) (k : FVec Ideal Cert.Reference3Ideal.S16x4096x512 .f32)
    (z z' z'' : Fin 1) (e : Fin 128) (b q : Fin 16) (j : Fin 512)
    (hk : ∀ i : Fin 256, (k0_pay44 x y u (ix2 (⟨256 + i.val, by omega⟩ : Fin 512) e) : EReal) = k (ix3 b (⟨q.val * 256 + i.val, by omega⟩ : Fin 4096) j)) :
    k0_pay48 (k0_pay44 x y u) (ix4 z z' z'' e) = out_mean k (ix4 b q z'' j) := by
  pointwise [k0_pay48, out_mean]
  refine congrArg (fun w => Ideal.div w (Ideal.ofBits .f32 0x43800000#32)) (Finset.sum_congr rfl fun i _ => ?_)
  refine Eq.trans (congrArg (fun w => k0_pay44 x y u (ix2 w e)) (Fin.ext ?_)) (hk i)
  (try dsimp only) <;> omega

/-- The mean of head 1's keys over the first block of a point. -/
theorem mean_1_0 (x y : FVec Ideal S512x128 .f32) (u : FVec Ideal S512x512 .f32) (k : FVec Ideal Cert.Reference3Ideal.S16x4096x512 .f32)
    (z z' z'' : Fin 1) (e : Fin 128) (b q : Fin 16) (j : Fin 512)
    (hk : ∀ i : Fin 256, (k0_pay54 x y (k0_pay50 u) k0_pay51 (k0_pay52 u) (k0_pay53 u) (ix2 (⟨0 + i.val, by omega⟩ : Fin 512) e) : EReal) = k (ix3 b (⟨q.val * 256 + i.val, by omega⟩ : Fin 4096) j)) :
    k0_pay56 x y (k0_pay50 u) k0_pay51 (k0_pay52 u) (k0_pay53 u) (ix4 z z' z'' e) = out_mean k (ix4 b q z'' j) := by
  pointwise [k0_pay56, out_mean]
  refine congrArg (fun w => Ideal.div w (Ideal.ofBits .f32 0x43800000#32)) (Finset.sum_congr rfl fun i _ => ?_)
  refine Eq.trans (congrArg (fun w => k0_pay54 x y (k0_pay50 u) k0_pay51 (k0_pay52 u) (k0_pay53 u) (ix2 w e)) (Fin.ext ?_)) (hk i)
  (try dsimp only) <;> omega

/-- The mean of head 1's keys over the second block of a point. -/
theorem mean_1_1 (x y : FVec Ideal S512x128 .f32) (u : FVec Ideal S512x512 .f32) (k : FVec Ideal Cert.Reference3Ideal.S16x4096x512 .f32)
    (z z' z'' : Fin 1) (e : Fin 128) (b q : Fin 16) (j : Fin 512)
    (hk : ∀ i : Fin 256, (k0_pay54 x y (k0_pay50 u) k0_pay51 (k0_pay52 u) (k0_pay53 u) (ix2 (⟨256 + i.val, by omega⟩ : Fin 512) e) : EReal) = k (ix3 b (⟨q.val * 256 + i.val, by omega⟩ : Fin 4096) j)) :
    k0_pay57 x y (k0_pay50 u) k0_pay51 (k0_pay52 u) (k0_pay53 u) (ix4 z z' z'' e) = out_mean k (ix4 b q z'' j) := by
  pointwise [k0_pay57, out_mean]
  refine congrArg (fun w => Ideal.div w (Ideal.ofBits .f32 0x43800000#32)) (Finset.sum_congr rfl fun i _ => ?_)
  refine Eq.trans (congrArg (fun w => k0_pay54 x y (k0_pay50 u) k0_pay51 (k0_pay52 u) (k0_pay53 u) (ix2 w e)) (Fin.ext ?_)) (hk i)
  (try dsimp only) <;> omega

/-- The mean of head 2's keys over the first block of a point. -/
theorem mean_2_0 (x y : FVec Ideal S512x128 .f32) (u : FVec Ideal S512x512 .f32) (k : FVec Ideal Cert.Reference3Ideal.S16x4096x512 .f32)
    (z z' z'' : Fin 1) (e : Fin 128) (b q : Fin 16) (j : Fin 512)
    (hk : ∀ i : Fin 256, (k0_pay61 x y u (ix2 (⟨0 + i.val, by omega⟩ : Fin 512) e) : EReal) = k (ix3 b (⟨q.val * 256 + i.val, by omega⟩ : Fin 4096) j)) :
    k0_pay63 x y u (ix4 z z' z'' e) = out_mean k (ix4 b q z'' j) := by
  pointwise [k0_pay63, out_mean]
  refine congrArg (fun w => Ideal.div w (Ideal.ofBits .f32 0x43800000#32)) (Finset.sum_congr rfl fun i _ => ?_)
  refine Eq.trans (congrArg (fun w => k0_pay61 x y u (ix2 w e)) (Fin.ext ?_)) (hk i)
  (try dsimp only) <;> omega

/-- The mean of head 2's keys over the second block of a point. -/
theorem mean_2_1 (x y : FVec Ideal S512x128 .f32) (u : FVec Ideal S512x512 .f32) (k : FVec Ideal Cert.Reference3Ideal.S16x4096x512 .f32)
    (z z' z'' : Fin 1) (e : Fin 128) (b q : Fin 16) (j : Fin 512)
    (hk : ∀ i : Fin 256, (k0_pay61 x y u (ix2 (⟨256 + i.val, by omega⟩ : Fin 512) e) : EReal) = k (ix3 b (⟨q.val * 256 + i.val, by omega⟩ : Fin 4096) j)) :
    k0_pay65 (k0_pay64 x y u) (ix4 z z' z'' e) = out_mean k (ix4 b q z'' j) := by
  pointwise [k0_pay65, k0_pay64, out_mean]
  refine congrArg (fun w => Ideal.div w (Ideal.ofBits .f32 0x43800000#32)) (Finset.sum_congr rfl fun i _ => ?_)
  refine Eq.trans (congrArg (fun w => k0_pay61 x y u (ix2 w e)) (Fin.ext ?_)) (hk i)
  (try dsimp only) <;> omega

/-- The mean of head 3's keys over the first block of a point. -/
theorem mean_3_0 (x y : FVec Ideal S512x128 .f32) (u : FVec Ideal S512x512 .f32) (k : FVec Ideal Cert.Reference3Ideal.S16x4096x512 .f32)
    (z z' z'' : Fin 1) (e : Fin 128) (b q : Fin 16) (j : Fin 512)
    (hk : ∀ i : Fin 256, (k0_pay67 x y u (ix2 (⟨0 + i.val, by omega⟩ : Fin 512) e) : EReal) = k (ix3 b (⟨q.val * 256 + i.val, by omega⟩ : Fin 4096) j)) :
    k0_pay71 (k0_pay69 x y u) k0_pay70 (ix4 z z' z'' e) = out_mean k (ix4 b q z'' j) := by
  pointwise [k0_pay71, k0_pay69, k0_pay70, out_mean]
  refine congrArg (fun w => Ideal.div w (Ideal.ofBits .f32 0x43800000#32)) (Finset.sum_congr rfl fun i _ => ?_)
  refine Eq.trans (congrArg (fun w => k0_pay67 x y u (ix2 w e)) (Fin.ext ?_)) (hk i)
  (try dsimp only) <;> omega

/-- The mean of head 3's keys over the second block of a point. -/
theorem mean_3_1 (x y : FVec Ideal S512x128 .f32) (u : FVec Ideal S512x512 .f32) (k : FVec Ideal Cert.Reference3Ideal.S16x4096x512 .f32)
    (z z' z'' : Fin 1) (e : Fin 128) (b q : Fin 16) (j : Fin 512)
    (hk : ∀ i : Fin 256, (k0_pay67 x y u (ix2 (⟨256 + i.val, by omega⟩ : Fin 512) e) : EReal) = k (ix3 b (⟨q.val * 256 + i.val, by omega⟩ : Fin 4096) j)) :
    k0_pay72 (k0_pay67 x y u) (ix4 z z' z'' e) = out_mean k (ix4 b q z'' j) := by
  pointwise [k0_pay72, out_mean]
  refine congrArg (fun w => Ideal.div w (Ideal.ofBits .f32 0x43800000#32)) (Finset.sum_congr rfl fun i _ => ?_)
  refine Eq.trans (congrArg (fun w => k0_pay67 x y u (ix2 w e)) (Fin.ext ?_)) (hk i)
  (try dsimp only) <;> omega

/-- The first block of a point's values, transposed. -/
theorem vm_0 (h : FVec Ideal S512x1024 .bf16) (w : FVec Ideal S1024x512 .bf16) (p : FVec Ideal Cert.Reference3Ideal.S16x4096x5024 .f32)
    (z z' : Fin 1) (j : Fin 512) (i : Fin 256) (b q : Fin 16) (r : Fin 512) (hr : r.val = 0 + i.val)
    (hk : (∑ k : Fin 1024, h (ix2 r k) * w (ix2 k j) : EReal) = p (ix3 b (⟨q.val * 256 + i.val, by omega⟩ : Fin 4096) (⟨1952 + j.val, by omega⟩ : Fin 5024))) :
    k0_pay74 h w (ix4 z z' j i) = out_vm p (ix4 b q j i) := by
  pointwise [k0_pay74, k0_pay73, out_vm]
  refine Eq.trans (Finset.sum_congr rfl fun k _ => congrArg (fun q => h (ix2 q k) * w (ix2 k j)) (Fin.ext ?_)) hk
  (try dsimp only) <;> omega

/-- The second block of a point's values, transposed. -/
theorem vm_1 (h : FVec Ideal S512x1024 .bf16) (w : FVec Ideal S1024x512 .bf16) (p : FVec Ideal Cert.Reference3Ideal.S16x4096x5024 .f32)
    (z z' : Fin 1) (j : Fin 512) (i : Fin 256) (b q : Fin 16) (r : Fin 512) (hr : r.val = 256 + i.val)
    (hk : (∑ k : Fin 1024, h (ix2 r k) * w (ix2 k j) : EReal) = p (ix3 b (⟨q.val * 256 + i.val, by omega⟩ : Fin 4096) (⟨1952 + j.val, by omega⟩ : Fin 5024))) :
    k0_pay75 h w (ix4 z z' j i) = out_vm p (ix4 b q j i) := by
  pointwise [k0_pay75, k0_pay73, out_vm]
  refine Eq.trans (Finset.sum_congr rfl fun k _ => congrArg (fun q => h (ix2 q k) * w (ix2 k j)) (Fin.ext ?_)) hk
  (try dsimp only) <;> omega

/-- The keys of the sparse attention over the kernel's arguments. -/
abbrev KM (c : Dev nD) : FVec Ideal Cert.Reference3Ideal.S16x4096x512 .f32 := keys_m (heads_k (P m c)) (m ((c.tc : Thread nD τ).loc main_arg9)) (m ((c.tc : Thread nD τ).loc main_arg10))

set_option maxHeartbeats 2000000 in
/-- What the body stores of the sparse attention's queries. -/
theorem point_18 (c : Dev nD) (t : Fin cfg0.N) (y) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = out_qm (heads_q (P m c)) (m ((c.tc : Thread nD τ).loc main_arg9)) (m ((c.tc : Thread nD τ).loc main_arg10)) (((cfg0.win 18).blk t).view.emb y) := by
  have lt := point_lt t
  canon_tiles x h
  case piece0 =>
    idx_vars x
    refine ((qm_3 (cosB m c t) (sinB m c t) (queriesB m c t) x0 x1 x2 ⟨384 + x2.val, by omega⟩ ⟨384 + (swap32 x2).val, by omega⟩ rfl rfl).trans
      (head_qm m c t ⟨t.val / 8, by omega⟩ ⟨t.val % 8 * 512 + x1.val, by omega⟩ x1 rfl rfl 3 x2 _ _ (by simp only; omega) (by simp only; omega))).trans ?_
    blk_ext [places t, h0, h1, h2]
  case piece1 =>
    idx_vars x
    refine ((qm_2 (cosB m c t) (sinB m c t) (queriesB m c t) x0 x1 x2 ⟨256 + x2.val, by omega⟩ ⟨256 + (swap32 x2).val, by omega⟩ rfl rfl).trans
      (head_qm m c t ⟨t.val / 8, by omega⟩ ⟨t.val % 8 * 512 + x1.val, by omega⟩ x1 rfl rfl 2 x2 _ _ (by simp only; omega) (by simp only; omega))).trans ?_
    blk_ext [places t, h0, h1, h2]
  case piece2 =>
    idx_vars x
    refine ((qm_1 (cosB m c t) (sinB m c t) (queriesB m c t) x0 x1 x2 ⟨128 + x2.val, by omega⟩ ⟨128 + (swap32 x2).val, by omega⟩ rfl rfl).trans
      (head_qm m c t ⟨t.val / 8, by omega⟩ ⟨t.val % 8 * 512 + x1.val, by omega⟩ x1 rfl rfl 1 x2 _ _ (by simp only; omega) (by simp only; omega))).trans ?_
    blk_ext [places t, h0, h1, h2]
  case piece3 =>
    idx_vars x
    refine ((qm_0 (cosB m c t) (sinB m c t) (queriesB m c t) x0 x1 x2 ⟨0 + x2.val, by omega⟩ ⟨0 + (swap32 x2).val, by omega⟩ rfl rfl).trans
      (head_qm m c t ⟨t.val / 8, by omega⟩ ⟨t.val % 8 * 512 + x1.val, by omega⟩ x1 rfl rfl 0 x2 _ _ (by simp only; omega) (by simp only; omega))).trans ?_
    blk_ext [places t, h0, h1, h2]

/-- The array after the run. -/
theorem final_18 (c : Dev nD) : (dats m 0 c).arrAt 18 (cfgs 0).N = out_qm (heads_q (P m c)) (m ((c.tc : Thread nD τ).loc main_arg9)) (m ((c.tc : Thread nD τ).loc main_arg10)) := by
  refine (dats m 0 c).arrAt_eq_of_covers 18 _ (by decide +kernel) fun t _ y => ?_
  blk_simp
  rw [after0_18]
  exact point_18 m c t y

set_option maxHeartbeats 2000000 in
/-- What the body stores of the sparse attention's keys. -/
theorem point_19 (c : Dev nD) (t : Fin cfg0.N) (y) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = out_km (KM m c) (((cfg0.win 19).blk t).view.emb y) := by
  have lt := point_lt t
  canon_tiles x h
  case piece0 =>
    idx_vars x
    refine ((kms_3 (cosB m c t) (sinB m c t) (keysB m c t) x0 x1 x2).trans
      ((km_3 (cosB m c t) (sinB m c t) (keysB m c t) x1 x2 ⟨384 + x2.val, by omega⟩ ⟨384 + (swap32 x2).val, by omega⟩ rfl rfl).trans
      (head_km m c t ⟨t.val / 8, by omega⟩ ⟨t.val % 8 * 512 + x1.val, by omega⟩ x1 rfl rfl 3 x2 _ _ (by simp only; omega) (by simp only; omega)))).trans ?_
    pointwise [out_km]
    blk_ext [places t, h0, h1, h2]
  case piece1 =>
    idx_vars x
    refine ((kms_2 (cosB m c t) (sinB m c t) (keysB m c t) x0 x1 x2).trans
      ((km_2 (cosB m c t) (sinB m c t) (keysB m c t) x1 x2 ⟨256 + x2.val, by omega⟩ ⟨256 + (swap32 x2).val, by omega⟩ rfl rfl).trans
      (head_km m c t ⟨t.val / 8, by omega⟩ ⟨t.val % 8 * 512 + x1.val, by omega⟩ x1 rfl rfl 2 x2 _ _ (by simp only; omega) (by simp only; omega)))).trans ?_
    pointwise [out_km]
    blk_ext [places t, h0, h1, h2]
  case piece2 =>
    idx_vars x
    refine ((kms_1 (cosB m c t) (sinB m c t) (keysB m c t) x0 x1 x2).trans
      ((km_1 (cosB m c t) (sinB m c t) (keysB m c t) x1 x2 ⟨128 + x2.val, by omega⟩ ⟨128 + (swap32 x2).val, by omega⟩ rfl rfl).trans
      (head_km m c t ⟨t.val / 8, by omega⟩ ⟨t.val % 8 * 512 + x1.val, by omega⟩ x1 rfl rfl 1 x2 _ _ (by simp only; omega) (by simp only; omega)))).trans ?_
    pointwise [out_km]
    blk_ext [places t, h0, h1, h2]
  case piece3 =>
    idx_vars x
    refine ((kms_0 (cosB m c t) (sinB m c t) (keysB m c t) x0 x1 x2).trans
      ((km_0 (cosB m c t) (sinB m c t) (keysB m c t) x1 x2 ⟨0 + x2.val, by omega⟩ ⟨0 + (swap32 x2).val, by omega⟩ rfl rfl).trans
      (head_km m c t ⟨t.val / 8, by omega⟩ ⟨t.val % 8 * 512 + x1.val, by omega⟩ x1 rfl rfl 0 x2 _ _ (by simp only; omega) (by simp only; omega)))).trans ?_
    pointwise [out_km]
    blk_ext [places t, h0, h1, h2]

/-- The array after the run. -/
theorem final_19 (c : Dev nD) : (dats m 0 c).arrAt 19 (cfgs 0).N = out_km (KM m c) := by
  refine (dats m 0 c).arrAt_eq_of_covers 19 _ (by decide +kernel) fun t _ y => ?_
  blk_simp
  rw [after0_19]
  exact point_19 m c t y

set_option maxHeartbeats 2000000 in
/-- What the body stores of the sparse attention's values. -/
theorem point_20 (c : Dev nD) (t : Fin cfg0.N) (y) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = out_vm (P m c) (((cfg0.win 20).blk t).view.emb y) := by
  have lt := point_lt t
  canon_tiles x h
  case piece0 =>
    idx_vars x
    refine (vm_1 (rows m c t) (View.ld (iblk m c 3 t) r0_37) (P m c) x0 x1 x2 x3 ⟨t.val / 8, by omega⟩ ⟨t.val % 8 * 2 + 1, by omega⟩ ⟨256 + x3.val, by omega⟩ rfl
      (cols m c t ⟨t.val / 8, by omega⟩ ⟨(t.val % 8 * 2 + 1) * 256 + x3.val, by omega⟩ _ rfl (by simp only; omega) _ ⟨2048 + x2.val, by omega⟩ _ (by simp only; omega)
        (fun k => ?_))).trans ?_
    · pointwise
      blk_ext []
    blk_ext [places t, h0, h1, h2, h3]
  case piece1 =>
    idx_vars x
    refine (vm_0 (rows m c t) (View.ld (iblk m c 3 t) r0_37) (P m c) x0 x1 x2 x3 ⟨t.val / 8, by omega⟩ ⟨t.val % 8 * 2 + 0, by omega⟩ ⟨0 + x3.val, by omega⟩ rfl
      (cols m c t ⟨t.val / 8, by omega⟩ ⟨(t.val % 8 * 2 + 0) * 256 + x3.val, by omega⟩ _ rfl (by simp only; omega) _ ⟨2048 + x2.val, by omega⟩ _ (by simp only; omega)
        (fun k => ?_))).trans ?_
    · pointwise
      blk_ext []
    blk_ext [places t, h0, h1, h2, h3]

/-- The array after the run. -/
theorem final_20 (c : Dev nD) : (dats m 0 c).arrAt 20 (cfgs 0).N = out_vm (P m c) := by
  refine (dats m 0 c).arrAt_eq_of_covers 20 _ (by decide +kernel) fun t _ y => ?_
  blk_simp
  rw [after0_20]
  exact point_20 m c t y

set_option maxHeartbeats 2000000 in
/-- What the body stores of the block means. -/
theorem point_24 (c : Dev nD) (t : Fin cfg0.N) (y) :
    out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = out_mean (KM m c) (((cfg0.win 24).blk t).view.emb y) := by
  have lt := point_lt t
  canon_tiles x h
  case piece0 =>
    idx_vars x
    refine (mean_3_1 (cosB m c t) (sinB m c t) (keysB m c t) (KM m c) x0 x1 x2 x3 ⟨t.val / 8, by omega⟩ ⟨t.val % 8 * 2 + 1, by omega⟩ ⟨384 + x3.val, by omega⟩
      (fun i => (km_3 (cosB m c t) (sinB m c t) (keysB m c t) _ x3 ⟨384 + x3.val, by omega⟩ ⟨384 + (swap32 x3).val, by omega⟩ rfl rfl).trans
      (head_km m c t ⟨t.val / 8, by omega⟩ _ _ rfl (by simp only; omega) 3 x3 _ _ (by simp only; omega) (by simp only; omega)))).trans ?_
    blk_ext [places t, h0, h1, h2, h3]
  case piece1 =>
    idx_vars x
    refine (mean_3_0 (cosB m c t) (sinB m c t) (keysB m c t) (KM m c) x0 x1 x2 x3 ⟨t.val / 8, by omega⟩ ⟨t.val % 8 * 2 + 0, by omega⟩ ⟨384 + x3.val, by omega⟩
      (fun i => (km_3 (cosB m c t) (sinB m c t) (keysB m c t) _ x3 ⟨384 + x3.val, by omega⟩ ⟨384 + (swap32 x3).val, by omega⟩ rfl rfl).trans
      (head_km m c t ⟨t.val / 8, by omega⟩ _ _ rfl (by simp only; omega) 3 x3 _ _ (by simp only; omega) (by simp only; omega)))).trans ?_
    blk_ext [places t, h0, h1, h2, h3]
  case piece2 =>
    idx_vars x
    refine (mean_2_1 (cosB m c t) (sinB m c t) (keysB m c t) (KM m c) x0 x1 x2 x3 ⟨t.val / 8, by omega⟩ ⟨t.val % 8 * 2 + 1, by omega⟩ ⟨256 + x3.val, by omega⟩
      (fun i => (km_2 (cosB m c t) (sinB m c t) (keysB m c t) _ x3 ⟨256 + x3.val, by omega⟩ ⟨256 + (swap32 x3).val, by omega⟩ rfl rfl).trans
      (head_km m c t ⟨t.val / 8, by omega⟩ _ _ rfl (by simp only; omega) 2 x3 _ _ (by simp only; omega) (by simp only; omega)))).trans ?_
    blk_ext [places t, h0, h1, h2, h3]
  case piece3 =>
    idx_vars x
    refine (mean_2_0 (cosB m c t) (sinB m c t) (keysB m c t) (KM m c) x0 x1 x2 x3 ⟨t.val / 8, by omega⟩ ⟨t.val % 8 * 2 + 0, by omega⟩ ⟨256 + x3.val, by omega⟩
      (fun i => (km_2 (cosB m c t) (sinB m c t) (keysB m c t) _ x3 ⟨256 + x3.val, by omega⟩ ⟨256 + (swap32 x3).val, by omega⟩ rfl rfl).trans
      (head_km m c t ⟨t.val / 8, by omega⟩ _ _ rfl (by simp only; omega) 2 x3 _ _ (by simp only; omega) (by simp only; omega)))).trans ?_
    blk_ext [places t, h0, h1, h2, h3]
  case piece4 =>
    idx_vars x
    refine (mean_1_1 (cosB m c t) (sinB m c t) (keysB m c t) (KM m c) x0 x1 x2 x3 ⟨t.val / 8, by omega⟩ ⟨t.val % 8 * 2 + 1, by omega⟩ ⟨128 + x3.val, by omega⟩
      (fun i => (km_1 (cosB m c t) (sinB m c t) (keysB m c t) _ x3 ⟨128 + x3.val, by omega⟩ ⟨128 + (swap32 x3).val, by omega⟩ rfl rfl).trans
      (head_km m c t ⟨t.val / 8, by omega⟩ _ _ rfl (by simp only; omega) 1 x3 _ _ (by simp only; omega) (by simp only; omega)))).trans ?_
    blk_ext [places t, h0, h1, h2, h3]
  case piece5 =>
    idx_vars x
    refine (mean_1_0 (cosB m c t) (sinB m c t) (keysB m c t) (KM m c) x0 x1 x2 x3 ⟨t.val / 8, by omega⟩ ⟨t.val % 8 * 2 + 0, by omega⟩ ⟨128 + x3.val, by omega⟩
      (fun i => (km_1 (cosB m c t) (sinB m c t) (keysB m c t) _ x3 ⟨128 + x3.val, by omega⟩ ⟨128 + (swap32 x3).val, by omega⟩ rfl rfl).trans
      (head_km m c t ⟨t.val / 8, by omega⟩ _ _ rfl (by simp only; omega) 1 x3 _ _ (by simp only; omega) (by simp only; omega)))).trans ?_
    blk_ext [places t, h0, h1, h2, h3]
  case piece6 =>
    idx_vars x
    refine (mean_0_1 (cosB m c t) (sinB m c t) (keysB m c t) (KM m c) x0 x1 x2 x3 ⟨t.val / 8, by omega⟩ ⟨t.val % 8 * 2 + 1, by omega⟩ ⟨0 + x3.val, by omega⟩
      (fun i => (km_0 (cosB m c t) (sinB m c t) (keysB m c t) _ x3 ⟨0 + x3.val, by omega⟩ ⟨0 + (swap32 x3).val, by omega⟩ rfl rfl).trans
      (head_km m c t ⟨t.val / 8, by omega⟩ _ _ rfl (by simp only; omega) 0 x3 _ _ (by simp only; omega) (by simp only; omega)))).trans ?_
    blk_ext [places t, h0, h1, h2, h3]
  case piece7 =>
    idx_vars x
    refine (mean_0_0 (cosB m c t) (sinB m c t) (keysB m c t) (KM m c) x0 x1 x2 x3 ⟨t.val / 8, by omega⟩ ⟨t.val % 8 * 2 + 0, by omega⟩ ⟨0 + x3.val, by omega⟩
      (fun i => (km_0 (cosB m c t) (sinB m c t) (keysB m c t) _ x3 ⟨0 + x3.val, by omega⟩ ⟨0 + (swap32 x3).val, by omega⟩ rfl rfl).trans
      (head_km m c t ⟨t.val / 8, by omega⟩ _ _ rfl (by simp only; omega) 0 x3 _ _ (by simp only; omega) (by simp only; omega)))).trans ?_
    blk_ext [places t, h0, h1, h2, h3]

/-- The array after the run. -/
theorem final_24 (c : Dev nD) : (dats m 0 c).arrAt 24 (cfgs 0).N = out_mean (KM m c) := by
  refine (dats m 0 c).arrAt_eq_of_covers 24 _ (by decide +kernel) fun t _ y => ?_
  blk_simp
  rw [after0_24]
  exact point_24 m c t y

end Cert.Kernel3Ideal.Inp

end
-- ==== Proof.InputsLatent.lean ====
/-
  The latents, queries, keys and values of the latent attention.
-/
module

public import proofs.«01_k».proof.Proof.InputsTables
public import proofs.«01_k».proof.Proof.InputsPieces

@[expose] public section

set_option maxRecDepth 16384

noncomputable section

namespace Cert.Kernel3Ideal.Inp

open Idealize.ShloMosaic Idealize.ShloMosaic.TcCoe
open Cert.Kernel3Ideal Cert.Kernel3Ideal.Gen
open Cert.Reference3Ideal.Inp

variable (m : (ℓ : Loc nD τ sig) → Buf (Elt Ideal) ℓ)

/-- The kernel's query latent is the reference's, where its columns are columns of the projection. -/
theorem ql (h : FVec Ideal S512x1024 .bf16) (w : FVec Ideal S1024x512 .bf16) (g : FVec Ideal S1x256 .f32)
    (p : FVec Ideal Cert.Reference3Ideal.S16x4096x5024 .f32) (a : FVec Ideal Cert.Reference3Ideal.S256 .f32) (b : Fin 16) (s : Fin 4096) (r : Fin 512)
    (hp : ∀ k : Fin 256, (∑ x : Fin 1024, h (ix2 r x) * w (ix2 x (⟨k.val, by omega⟩ : Fin 512)) : EReal) = p (ix3 b s (⟨k.val, by omega⟩ : Fin 5024)))
    (hg : ∀ k : Fin 256, g (ix2 0 k) = a (ix1 k)) (k : Fin 256) :
    k0_pay8 h w g (ix2 r k) = queryLatent p a (ix3 b s k) := by
  pointwise [k0_pay8, k0_pay7, queryLatent]
  simp only [hp, hg]
  exact (mul_assoc _ _ _).symm

/-- The kernel's key-value latent is the reference's, where its columns are columns of the projection. -/
theorem kl (h : FVec Ideal S512x1024 .bf16) (w : FVec Ideal S1024x512 .bf16) (g : FVec Ideal S1x128 .f32)
    (p : FVec Ideal Cert.Reference3Ideal.S16x4096x5024 .f32) (a : FVec Ideal Cert.Reference3Ideal.S128 .f32) (b : Fin 16) (s : Fin 4096) (r : Fin 512)
    (hp : ∀ k : Fin 128, (∑ x : Fin 1024, h (ix2 r x) * w (ix2 x (⟨256 + k.val, by omega⟩ : Fin 512)) : EReal) = p (ix3 b s (⟨256 + k.val, by omega⟩ : Fin 5024)))
    (hg : ∀ k : Fin 128, g (ix2 0 k) = a (ix1 k)) (k : Fin 128) :
    k0_pay9 h w g (ix2 r k) = keyLatent p a (ix3 b s k) := by
  pointwise [k0_pay9, k0_pay7, keyLatent]
  simp only [hp, hg]

/-- The query gain's block is the whole gain. -/
theorem gainQ_at (c : Dev nD) (t : Fin cfg0.N) (z : Fin 1) (j : Fin 256) :
    iblk m c 4 t (ix2 z j) = ((m ((c.tc : Thread nD τ).loc main_arg4)) : FVec Ideal S256 .f32) (ix1 j) := by
  blk_simp [iblk]
  rw [V_26]
  pointwise
  blk_ext [places t]

/-- The key-value gain's block is the whole gain. -/
theorem gainK_at (c : Dev nD) (t : Fin cfg0.N) (z : Fin 1) (j : Fin 128) :
    iblk m c 6 t (ix2 z j) = ((m ((c.tc : Thread nD τ).loc main_arg6)) : FVec Ideal S128 .f32) (ix1 j) := by
  blk_simp [iblk]
  rw [V_27]
  pointwise
  blk_ext [places t]

/-- The query weight's block is the whole rearranged weight. -/
theorem wQ_at (c : Dev nD) (t : Fin cfg0.N) (k : Fin 256) (j : Fin 1024) :
    iblk m c 5 t (ix2 k j) = padQ (m ((c.tc : Thread nD τ).loc main_arg5)) (ix2 k j) := by
  blk_simp [iblk]
  rw [V_22]
  blk_ext [places t]

/-- The key weight's block is the whole rearranged weight. -/
theorem wK_at (c : Dev nD) (t : Fin cfg0.N) (k : Fin 128) (j : Fin 1024) :
    iblk m c 7 t (ix2 k j) = padK (m ((c.tc : Thread nD τ).loc main_arg7)) (ix2 k j) := by
  blk_simp [iblk]
  rw [V_23]
  blk_ext [places t]

/-- The value weight's block is the whole rearranged weight. -/
theorem wV_at (c : Dev nD) (t : Fin cfg0.N) (k : Fin 128) (j : Fin 512) :
    iblk m c 8 t (ix2 k j) = halfV (m ((c.tc : Thread nD τ).loc main_arg7)) (ix2 k j) := by
  blk_simp [iblk]
  rw [V_24]
  blk_ext [places t]

/-- The kernel's query latent at a point of the grid. -/
abbrev latQ (c : Dev nD) (t : Fin cfg0.N) : FVec Ideal S512x256 .bf16 :=
  k0_pay86 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The query latent over the kernel's arguments. -/
abbrev LQ (c : Dev nD) : FVec Ideal Cert.Reference3Ideal.S16x4096x256 .f32 := queryLatent (P m c) (m ((c.tc : Thread nD τ).loc main_arg4))

/-- It is the reference's. -/
theorem latQ_at (c : Dev nD) (t : Fin cfg0.N) (b : Fin 16) (s : Fin 4096) (r : Fin 512)
    (hb : b.val = t.val / 8) (hs : s.val = t.val % 8 * 512 + r.val) (k : Fin 256) :
    latQ m c t (ix2 r k) = LQ m c (ix3 b s k) := by
  refine ql (rows m c t) (View.ld (iblk m c 3 t) r0_5) (View.ld (iblk m c 4 t) r0_6) (P m c) _ b s r (fun k => ?_) (fun k => ?_) k
  · refine cols m c t b s r hb hs _ ⟨0 + k.val, by omega⟩ ⟨k.val, by omega⟩ (by first | exact Or.inl ⟨by simp only; omega, rfl⟩ | (simp only; omega)) (fun x => ?_)
    pointwise
    blk_ext []
  · pointwise
    exact gainQ_at m c t 0 k

/-- The kernel's key-value latent at a point of the grid. -/
abbrev latK (c : Dev nD) (t : Fin cfg0.N) : FVec Ideal S512x128 .bf16 :=
  k0_pay87 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The key-value latent over the kernel's arguments. -/
abbrev LK (c : Dev nD) : FVec Ideal Cert.Reference3Ideal.S16x4096x128 .f32 := keyLatent (P m c) (m ((c.tc : Thread nD τ).loc main_arg6))

/-- It is the reference's. -/
theorem latK_at (c : Dev nD) (t : Fin cfg0.N) (b : Fin 16) (s : Fin 4096) (r : Fin 512)
    (hb : b.val = t.val / 8) (hs : s.val = t.val % 8 * 512 + r.val) (k : Fin 128) :
    latK m c t (ix2 r k) = LK m c (ix3 b s k) := by
  refine kl (rows m c t) (View.ld (iblk m c 3 t) r0_5) (View.ld (iblk m c 6 t) r0_7) (P m c) _ b s r (fun k => ?_) (fun k => ?_) k
  · refine cols m c t b s r hb hs _ ⟨256 + k.val, by omega⟩ ⟨256 + k.val, by omega⟩ (by first | exact Or.inl ⟨by simp only; omega, rfl⟩ | (simp only; omega)) (fun x => ?_)
    pointwise
    blk_ext []
  · pointwise
    exact gainK_at m c t 0 k

/-- The queries over the kernel's arguments. -/
abbrev Q (c : Dev nD) : FVec Ideal Cert.Reference3Ideal.S16x4096x8x128 .f32 := queries (LQ m c) (m ((c.tc : Thread nD τ).loc main_arg5))

/-- The keys and values over the kernel's arguments. -/
abbrev KV (c : Dev nD) : FVec Ideal Cert.Reference3Ideal.S16x4096x8x128 .f32 := keyValues (LK m c) (m ((c.tc : Thread nD τ).loc main_arg7))

/-- The positional key over the kernel's arguments. -/
abbrev R (c : Dev nD) : FVec Ideal Cert.Reference3Ideal.S16x4096x1x128 .f32 := ropeKey (P m c)

/-- The first 96 lanes of a query head. -/
theorem queries_low (l : FVec Ideal Cert.Reference3Ideal.S16x4096x256 .f32) (w : FVec Ideal Cert.Reference3Ideal.S256x768 .f32) (b : Fin 16) (s : Fin 4096) (n : Fin 8) (e : Fin 128)
    (he : e.val < 96) (j : Fin 768) (hj : j.val = n.val * 96 + e.val) :
    queries l w (ix4 b s n e) = ∑ x : Fin 256, l (ix3 b s x) * w (ix2 x j) := by
  rw [show j = (⟨n.val * 96 + e.val, by omega⟩ : Fin 768) from Fin.ext hj]
  pointwise [queries]
  exact dif_pos he

/-- The other lanes of a query head are zero. -/
theorem queries_high (l : FVec Ideal Cert.Reference3Ideal.S16x4096x256 .f32) (w : FVec Ideal Cert.Reference3Ideal.S256x768 .f32) (b : Fin 16) (s : Fin 4096) (n : Fin 8) (e : Fin 128)
    (he : ¬ e.val < 96) : queries l w (ix4 b s n e) = 0 := by
  pointwise [queries]
  exact (dif_neg he).trans pad_value

/-- The keys and values of a head. -/
theorem keyValues_at (l : FVec Ideal Cert.Reference3Ideal.S16x4096x128 .f32) (w : FVec Ideal Cert.Reference3Ideal.S128x1024 .f32) (b : Fin 16) (s : Fin 4096) (n : Fin 8) (e : Fin 128)
    (j : Fin 1024) (hj : j.val = n.val * 128 + e.val) :
    keyValues l w (ix4 b s n e) = ∑ x : Fin 128, l (ix3 b s x) * w (ix2 x j) := by
  rw [show j = (⟨n.val * 128 + e.val, by omega⟩ : Fin 1024) from Fin.ext hj]
  pointwise [keyValues]

/-- The positional key stands in the lanes 64 to 95. -/
theorem ropeKey_at (p : FVec Ideal Cert.Reference3Ideal.S16x4096x5024 .f32) (b : Fin 16) (s : Fin 4096) (n : Fin 1) (e : Fin 128)
    (he : 64 ≤ e.val ∧ e.val < 96) (j : Fin 5024) (hj : j.val = 320 + e.val) : ropeKey p (ix4 b s n e) = p (ix3 b s j) := by
  pointwise [ropeKey]
  refine (dif_pos (by omega)).trans (congrArg (fun q => p (ix3 b s q)) (Fin.ext ?_))
  (try dsimp only) <;> omega

/-- The other lanes of the positional key are zero. -/
theorem ropeKey_zero (p : FVec Ideal Cert.Reference3Ideal.S16x4096x5024 .f32) (b : Fin 16) (s : Fin 4096) (n : Fin 1) (e : Fin 128)
    (he : ¬ (64 ≤ e.val ∧ e.val < 96)) : ropeKey p (ix4 b s n e) = 0 := by
  pointwise [ropeKey]
  exact (dif_neg (by omega)).trans pad_value

/-- The kernel's queries before rotation at a point of the grid. -/
abbrev upQ (c : Dev nD) (t : Fin cfg0.N) : FVec Ideal S512x1024 .f32 :=
  k0_pay91 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The kernel's keys without position at a point of the grid. -/
abbrev upK (c : Dev nD) (t : Fin cfg0.N) : FVec Ideal S512x1024 .f32 :=
  k0_pay92 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- A product with the query weight at an index. -/
theorem upQ_sum (l : FVec Ideal S512x256 .bf16) (w : FVec Ideal S256x1024 .bf16) (r : Fin 512) (j : Fin 1024) :
    k0_pay13 l w (ix2 r j) = ∑ k : Fin 256, l (ix2 r k) * w (ix2 k j) := by
  pointwise [k0_pay13]

/-- A product with the key weight at an index. -/
theorem upK_sum (l : FVec Ideal S512x128 .bf16) (w : FVec Ideal S128x1024 .bf16) (r : Fin 512) (j : Fin 1024) :
    k0_pay14 l w (ix2 r j) = ∑ k : Fin 128, l (ix2 r k) * w (ix2 k j) := by
  pointwise [k0_pay14]

/-- The query weight as loaded. -/
theorem ldQ_at (c : Dev nD) (t : Fin cfg0.N) (k : Fin 256) (j : Fin 1024) :
    (View.ld (iblk m c 5 t) r0_8 : FVec Ideal S256x1024 .bf16) (ix2 k j) = padQ (m ((c.tc : Thread nD τ).loc main_arg5)) (ix2 k j) := by
  pointwise
  exact wQ_at m c t k j

/-- The key weight as loaded. -/
theorem ldK_at (c : Dev nD) (t : Fin cfg0.N) (k : Fin 128) (j : Fin 1024) :
    (View.ld (iblk m c 7 t) r0_9 : FVec Ideal S128x1024 .bf16) (ix2 k j) = padK (m ((c.tc : Thread nD τ).loc main_arg7)) (ix2 k j) := by
  pointwise
  exact wK_at m c t k j

/-- The value weight as loaded. -/
theorem ldV_at (c : Dev nD) (t : Fin cfg0.N) (k : Fin 128) (j : Fin 512) :
    (View.ld (iblk m c 8 t) r0_18 : FVec Ideal S128x512 .bf16) (ix2 k j) = halfV (m ((c.tc : Thread nD τ).loc main_arg7)) (ix2 k j) := by
  pointwise
  exact wV_at m c t k j

/-- The kernel's queries before rotation are the reference's. -/
theorem upQ_at (c : Dev nD) (t : Fin cfg0.N) (b : Fin 16) (s : Fin 4096) (r : Fin 512)
    (hb : b.val = t.val / 8) (hs : s.val = t.val % 8 * 512 + r.val) (n : Fin 8) (e : Fin 128) (J : Fin 1024)
    (hJ : J.val = n.val * 128 + e.val) : upQ m c t (ix2 r J) = Q m c (ix4 b s n e) := by
  refine (upQ_sum (latQ m c t) (View.ld (iblk m c 5 t) r0_8) r J).trans ?_
  by_cases he : e.val < 96
  · rw [Q, queries_low _ _ b s n e he ⟨n.val * 96 + e.val, by omega⟩ rfl]
    refine Finset.sum_congr rfl fun k _ => ?_
    rw [ldQ_at, padQ_at _ k n e J ⟨n.val * 96 + e.val, by omega⟩ hJ he rfl, latQ_at m c t b s r hb hs k]
  · rw [Q, queries_high _ _ b s n e he]
    refine Finset.sum_eq_zero fun k _ => ?_
    rw [ldQ_at, padQ_zero _ k n e J hJ (by omega)]
    exact mul_zero _

/-- The kernel's keys without position are the reference's in the first 64 lanes of a head. -/
theorem upK_at (c : Dev nD) (t : Fin cfg0.N) (b : Fin 16) (s : Fin 4096) (r : Fin 512)
    (hb : b.val = t.val / 8) (hs : s.val = t.val % 8 * 512 + r.val) (n : Fin 8) (e : Fin 128) (J : Fin 1024)
    (hJ : J.val = n.val * 128 + e.val) (he : e.val < 64) : upK m c t (ix2 r J) = KV m c (ix4 b s n e) := by
  refine (upK_sum (latK m c t) (View.ld (iblk m c 7 t) r0_9) r J).trans ?_
  rw [KV, keyValues_at _ _ b s n e J hJ]
  refine Finset.sum_congr rfl fun k _ => ?_
  rw [ldK_at, padK_at _ k n e J hJ he, latK_at m c t b s r hb hs k]

/-- The kernel's keys without position are zero in the other lanes. -/
theorem upK_zero (c : Dev nD) (t : Fin cfg0.N) (r : Fin 512) (n : Fin 8) (e : Fin 128) (J : Fin 1024)
    (hJ : J.val = n.val * 128 + e.val) (he : ¬ e.val < 64) : upK m c t (ix2 r J) = 0 := by
  refine (upK_sum (latK m c t) (View.ld (iblk m c 7 t) r0_9) r J).trans ?_
  refine Finset.sum_eq_zero fun k _ => ?_
  rw [ldK_at, padK_zero _ k n e J hJ (by omega)]
  exact mul_zero _

/-- The kernel's positional key before rotation at a point of the grid. -/
abbrev rope (c : Dev nD) (t : Fin cfg0.N) : FVec Ideal S512x128 .f32 :=
  k0_pay88 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The kernel's rotated positional key at a point of the grid. -/
abbrev ropeT (c : Dev nD) (t : Fin cfg0.N) : FVec Ideal S512x128 .f32 :=
  k0_pay90 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The positional key as a sum. -/
theorem rope_sum (h : FVec Ideal S512x1024 .bf16) (w : FVec Ideal S1024x512 .bf16) (r : Fin 512) (e : Fin 128) :
    k0_pay10 h w (ix2 r e) = ∑ k : Fin 1024, h (ix2 r k) * w (ix2 k (⟨384 + e.val, by omega⟩ : Fin 512)) := by
  pointwise [k0_pay10, k0_pay7]

/-- The kernel's positional key is the reference's. -/
theorem rope_at (c : Dev nD) (t : Fin cfg0.N) (b : Fin 16) (s : Fin 4096) (r : Fin 512)
    (hb : b.val = t.val / 8) (hs : s.val = t.val % 8 * 512 + r.val) (e : Fin 128) :
    rope m c t (ix2 r e) = R m c (ix4 b s 0 e) := by
  refine (rope_sum (rows m c t) (View.ld (iblk m c 3 t) r0_5) r e).trans ?_
  by_cases he : 64 ≤ e.val ∧ e.val < 96
  · rw [R, ropeKey_at _ b s 0 e he ⟨320 + e.val, by omega⟩ rfl]
    refine cols m c t b s r hb hs _ ⟨384 + e.val, by omega⟩ _ (by simp only; omega) (fun x => ?_)
    pointwise
    blk_ext []
  · rw [R, ropeKey_zero _ b s 0 e he]
    refine cols_zero m c t r _ ⟨384 + e.val, by omega⟩ (by simp only; omega) (fun x => ?_)
    pointwise
    blk_ext []

/-- The kernel's rotated positional key is the reference's. -/
theorem ropeT_at (c : Dev nD) (t : Fin cfg0.N) (b : Fin 16) (s : Fin 4096) (r : Fin 512)
    (hb : b.val = t.val / 8) (hs : s.val = t.val % 8 * 512 + r.val) (e : Fin 128) :
    ropeT m c t (ix2 r e) = turned1 (R m c) (m ((c.tc : Thread nD τ).loc main_arg11)) (m ((c.tc : Thread nD τ).loc main_arg12)) (ix4 b s 0 e) := by
  refine (r_0 (cosA m c t) (sinA m c t) (rope m c t) r e e (swap16 e) (Nat.zero_add _).symm (Nat.zero_add _).symm).trans ?_
  rw [turned1_at, rope_at m c t b s r hb hs e, rope_at m c t b s r hb hs (swap16 e), cosA_at m c t b s r e hb hs, sinA_at m c t b s r e hb hs]

/-- An entry of the latent attention's queries. -/
theorem out_q_at (u : FVec Ideal Cert.Reference3Ideal.S16x4096x8x128 .f32) (cs sn : FVec Ideal Cert.Reference3Ideal.S16x4096x128 .f32) (b : Fin 16) (s : Fin 4096)
    (n : Fin 8) (e : Fin 128) (j : Fin 1024) (hj : j.val = n.val * 128 + e.val) :
    out_q u cs sn (ix3 b s j) = u (ix4 b s n e) * cs (ix3 b s e) + u (ix4 b s n (swap16 e)) * sn (ix3 b s e) := by
  rw [show n = (⟨j.val / 128, Nat.div_lt_of_lt_mul (show j.val < 128 * 8 from j.isLt)⟩ : Fin 8) from Fin.ext (by simp only; omega),
    show e = (⟨j.val % 128, Nat.mod_lt _ (by decide)⟩ : Fin 128) from Fin.ext (by simp only; omega)]
  pointwise [out_q]
  exact turned8_at u cs sn b s _ _

/-- An entry of the latent attention's keys in the first 64 lanes of a head. -/
theorem out_k_low (u : FVec Ideal Cert.Reference3Ideal.S16x4096x8x128 .f32) (p : FVec Ideal Cert.Reference3Ideal.S16x4096x1x128 .f32) (cs sn : FVec Ideal Cert.Reference3Ideal.S16x4096x128 .f32)
    (b : Fin 16) (s : Fin 4096) (n : Fin 8) (e : Fin 128) (j : Fin 1024) (hj : j.val = n.val * 128 + e.val) (he : e.val < 64) :
    out_k u p cs sn (ix3 b s j) = u (ix4 b s n e) + turned1 p cs sn (ix4 b s 0 e) := by
  rw [show n = (⟨j.val / 128, Nat.div_lt_of_lt_mul (show j.val < 128 * 8 from j.isLt)⟩ : Fin 8) from Fin.ext (by simp only; omega),
    show e = (⟨j.val % 128, Nat.mod_lt _ (by decide)⟩ : Fin 128) from Fin.ext (by simp only; omega)]
  pointwise [out_k]
  exact congrArg (fun q => q + turned1 p cs sn (ix4 b s 0 _)) (dif_pos (by omega))

/-- An entry of the latent attention's keys in the other lanes of a head. -/
theorem out_k_high (u : FVec Ideal Cert.Reference3Ideal.S16x4096x8x128 .f32) (p : FVec Ideal Cert.Reference3Ideal.S16x4096x1x128 .f32) (cs sn : FVec Ideal Cert.Reference3Ideal.S16x4096x128 .f32)
    (b : Fin 16) (s : Fin 4096) (n : Fin 8) (e : Fin 128) (j : Fin 1024) (hj : j.val = n.val * 128 + e.val) (he : ¬ e.val < 64) :
    out_k u p cs sn (ix3 b s j) = 0 + turned1 p cs sn (ix4 b s 0 e) := by
  rw [show e = (⟨j.val % 128, Nat.mod_lt _ (by decide)⟩ : Fin 128) from Fin.ext (by simp only; omega)]
  pointwise [out_k]
  rw [dif_neg (by omega), pad_value, zero_add]

/-- The kernel's rotated query head is the reference's. -/
theorem head_q (c : Dev nD) (t : Fin cfg0.N) (b : Fin 16) (s : Fin 4096) (r : Fin 512)
    (hb : b.val = t.val / 8) (hs : s.val = t.val % 8 * 512 + r.val) (n : Fin 8) (e : Fin 128) (J J' : Fin 1024)
    (hJ : J.val = n.val * 128 + e.val) (hJ' : J'.val = n.val * 128 + (swap16 e).val) :
    upQ m c t (ix2 r J) * cosA m c t (ix2 r e) + upQ m c t (ix2 r J') * sinA m c t (ix2 r e)
      = out_q (Q m c) (m ((c.tc : Thread nD τ).loc main_arg11)) (m ((c.tc : Thread nD τ).loc main_arg12)) (ix3 b s J) := by
  rw [out_q_at _ _ _ b s n e J hJ, cosA_at m c t b s r e hb hs, sinA_at m c t b s r e hb hs,
    upQ_at m c t b s r hb hs n e J hJ, upQ_at m c t b s r hb hs n (swap16 e) J' hJ']

/-- The kernel's key head is the reference's. -/
theorem head_k (c : Dev nD) (t : Fin cfg0.N) (b : Fin 16) (s : Fin 4096) (r : Fin 512)
    (hb : b.val = t.val / 8) (hs : s.val = t.val % 8 * 512 + r.val) (n : Fin 8) (e : Fin 128) (J : Fin 1024)
    (hJ : J.val = n.val * 128 + e.val) :
    upK m c t (ix2 r J) + ropeT m c t (ix2 r e) = out_k (KV m c) (R m c) (m ((c.tc : Thread nD τ).loc main_arg11)) (m ((c.tc : Thread nD τ).loc main_arg12)) (ix3 b s J) := by
  by_cases he : e.val < 64
  · rw [out_k_low _ _ _ _ b s n e J hJ he, ropeT_at m c t b s r hb hs e, upK_at m c t b s r hb hs n e J hJ he]
  · rw [out_k_high _ _ _ _ b s n e J hJ he, ropeT_at m c t b s r hb hs e, upK_zero m c t r n e J hJ he]

/-- The first block of a point's values, transposed. -/
theorem v_0 (h : FVec Ideal S512x128 .bf16) (w : FVec Ideal S128x512 .bf16) (u : FVec Ideal Cert.Reference3Ideal.S16x4096x8x128 .f32)
    (z z' : Fin 1) (j : Fin 512) (i : Fin 256) (b q : Fin 16)
    (hk : (∑ k : Fin 128, h (ix2 (⟨0 + i.val, by omega⟩ : Fin 512) k) * w (ix2 k j) : EReal)
      = u (ix4 b (⟨q.val * 256 + i.val, by omega⟩ : Fin 4096) (⟨j.val / 64, by omega⟩ : Fin 8) (⟨64 + j.val % 64, by omega⟩ : Fin 128))) :
    k0_pay38 h (k0_pay36 w) (constant S512x512 .f32 0x00000000#32) (ix4 z z' j i) = out_v u (ix4 b q j i) := by
  pointwise [k0_pay38, k0_pay37, k0_pay36, out_v]
  refine Eq.trans (Finset.sum_congr rfl fun k _ => congrArg (fun q => h (ix2 q k) * w (ix2 k j)) (Fin.ext ?_)) hk
  (try dsimp only) <;> omega

/-- The second block of a point's values, transposed. -/
theorem v_1 (h : FVec Ideal S512x128 .bf16) (w : FVec Ideal S128x512 .bf16) (u : FVec Ideal Cert.Reference3Ideal.S16x4096x8x128 .f32)
    (z z' : Fin 1) (j : Fin 512) (i : Fin 256) (b q : Fin 16)
    (hk : (∑ k : Fin 128, h (ix2 (⟨256 + i.val, by omega⟩ : Fin 512) k) * w (ix2 k j) : EReal)
      = u (ix4 b (⟨q.val * 256 + i.val, by omega⟩ : Fin 4096) (⟨j.val / 64, by omega⟩ : Fin 8) (⟨64 + j.val % 64, by omega⟩ : Fin 128))) :
    k0_pay39 h (k0_pay36 w) (constant S512x512 .f32 0x00000000#32) (ix4 z z' j i) = out_v u (ix4 b q j i) := by
  pointwise [k0_pay39, k0_pay37, k0_pay36, out_v]
  refine Eq.trans (Finset.sum_congr rfl fun k _ => congrArg (fun q => h (ix2 q k) * w (ix2 k j)) (Fin.ext ?_)) hk
  (try dsimp only) <;> omega

/-- The kernel's values are the reference's. -/
theorem vals_at (c : Dev nD) (t : Fin cfg0.N) (b : Fin 16) (s : Fin 4096) (r : Fin 512)
    (hb : b.val = t.val / 8) (hs : s.val = t.val % 8 * 512 + r.val) (j : Fin 512) :
    (∑ k : Fin 128, latK m c t (ix2 r k) * (View.ld (iblk m c 8 t) r0_18 : FVec Ideal S128x512 .bf16) (ix2 k j) : EReal)
      = KV m c (ix4 b s (⟨j.val / 64, by omega⟩ : Fin 8) (⟨64 + j.val % 64, by omega⟩ : Fin 128)) := by
  rw [KV, keyValues_at _ _ b s _ _ ⟨j.val / 64 * 128 + 64 + j.val % 64, by omega⟩ (by simp only; omega)]
  refine Finset.sum_congr rfl fun k _ => ?_
  rw [ldV_at, halfV_at _ k ⟨j.val / 64, by omega⟩ ⟨j.val % 64, by omega⟩ j ⟨j.val / 64 * 128 + 64 + j.val % 64, by omega⟩ (by simp only; omega) rfl,
    latK_at m c t b s r hb hs k]

end Cert.Kernel3Ideal.Inp

end
-- ==== Proof.InputsHeads.lean ====
/-
  The arrays of the latent attention's queries, keys and values.
-/
module

public import proofs.«01_k».proof.Proof.InputsLatent

@[expose] public section

set_option maxRecDepth 16384

noncomputable section

namespace Cert.Kernel3Ideal.Inp

open Idealize.ShloMosaic Idealize.ShloMosaic.TcCoe
open Cert.Kernel3Ideal Cert.Kernel3Ideal.Gen
open Cert.Reference3Ideal.Inp

variable (m : (ℓ : Loc nD τ sig) → Buf (Elt Ideal) ℓ)

set_option maxHeartbeats 4000000 in
/-- What the body stores of the latent attention's queries. -/
theorem point_14 (c : Dev nD) (t : Fin cfg0.N) (y) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = out_q (Q m c) (m ((c.tc : Thread nD τ).loc main_arg11)) (m ((c.tc : Thread nD τ).loc main_arg12)) (((cfg0.win 14).blk t).view.emb y) := by
  have lt := point_lt t
  canon_tiles x h
  case piece0 =>
    idx_vars x
    refine ((q_7 (cosA m c t) (sinA m c t) (upQ m c t) x0 x1 x2 ⟨896 + x2.val, by omega⟩ ⟨896 + (swap16 x2).val, by omega⟩ rfl rfl).trans
      (head_q m c t ⟨t.val / 8, by omega⟩ ⟨t.val % 8 * 512 + x1.val, by omega⟩ x1 rfl rfl 7 x2 _ _ (by simp only; omega) (by simp only; omega))).trans ?_
    blk_ext [places t, h0, h1, h2]
  case piece1 =>
    idx_vars x
    refine ((q_6 (cosA m c t) (sinA m c t) (upQ m c t) x0 x1 x2 ⟨768 + x2.val, by omega⟩ ⟨768 + (swap16 x2).val, by omega⟩ rfl rfl).trans
      (head_q m c t ⟨t.val / 8, by omega⟩ ⟨t.val % 8 * 512 + x1.val, by omega⟩ x1 rfl rfl 6 x2 _ _ (by simp only; omega) (by simp only; omega))).trans ?_
    blk_ext [places t, h0, h1, h2]
  case piece2 =>
    idx_vars x
    refine ((q_5 (cosA m c t) (sinA m c t) (upQ m c t) x0 x1 x2 ⟨640 + x2.val, by omega⟩ ⟨640 + (swap16 x2).val, by omega⟩ rfl rfl).trans
      (head_q m c t ⟨t.val / 8, by omega⟩ ⟨t.val % 8 * 512 + x1.val, by omega⟩ x1 rfl rfl 5 x2 _ _ (by simp only; omega) (by simp only; omega))).trans ?_
    blk_ext [places t, h0, h1, h2]
  case piece3 =>
    idx_vars x
    refine ((q_4 (cosA m c t) (sinA m c t) (upQ m c t) x0 x1 x2 ⟨512 + x2.val, by omega⟩ ⟨512 + (swap16 x2).val, by omega⟩ rfl rfl).trans
      (head_q m c t ⟨t.val / 8, by omega⟩ ⟨t.val % 8 * 512 + x1.val, by omega⟩ x1 rfl rfl 4 x2 _ _ (by simp only; omega) (by simp only; omega))).trans ?_
    blk_ext [places t, h0, h1, h2]
  case piece4 =>
    idx_vars x
    refine ((q_3 (cosA m c t) (sinA m c t) (upQ m c t) x0 x1 x2 ⟨384 + x2.val, by omega⟩ ⟨384 + (swap16 x2).val, by omega⟩ rfl rfl).trans
      (head_q m c t ⟨t.val / 8, by omega⟩ ⟨t.val % 8 * 512 + x1.val, by omega⟩ x1 rfl rfl 3 x2 _ _ (by simp only; omega) (by simp only; omega))).trans ?_
    blk_ext [places t, h0, h1, h2]
  case piece5 =>
    idx_vars x
    refine ((q_2 (cosA m c t) (sinA m c t) (upQ m c t) x0 x1 x2 ⟨256 + x2.val, by omega⟩ ⟨256 + (swap16 x2).val, by omega⟩ rfl rfl).trans
      (head_q m c t ⟨t.val / 8, by omega⟩ ⟨t.val % 8 * 512 + x1.val, by omega⟩ x1 rfl rfl 2 x2 _ _ (by simp only; omega) (by simp only; omega))).trans ?_
    blk_ext [places t, h0, h1, h2]
  case piece6 =>
    idx_vars x
    refine ((q_1 (cosA m c t) (sinA m c t) (latQ m c t) (View.ld (iblk m c 5 t) r0_8) x0 x1 x2 ⟨128 + x2.val, by omega⟩ ⟨128 + (swap16 x2).val, by omega⟩ rfl rfl).trans
      (head_q m c t ⟨t.val / 8, by omega⟩ ⟨t.val % 8 * 512 + x1.val, by omega⟩ x1 rfl rfl 1 x2 _ _ (by simp only; omega) (by simp only; omega))).trans ?_
    blk_ext [places t, h0, h1, h2]
  case piece7 =>
    idx_vars x
    refine ((q_0 (cosA m c t) (sinA m c t) (latQ m c t) (View.ld (iblk m c 5 t) r0_8) x0 x1 x2 ⟨0 + x2.val, by omega⟩ ⟨0 + (swap16 x2).val, by omega⟩ rfl rfl).trans
      (head_q m c t ⟨t.val / 8, by omega⟩ ⟨t.val % 8 * 512 + x1.val, by omega⟩ x1 rfl rfl 0 x2 _ _ (by simp only; omega) (by simp only; omega))).trans ?_
    blk_ext [places t, h0, h1, h2]

/-- The array after the run. -/
theorem final_14 (c : Dev nD) : (dats m 0 c).arrAt 14 (cfgs 0).N = out_q (Q m c) (m ((c.tc : Thread nD τ).loc main_arg11)) (m ((c.tc : Thread nD τ).loc main_arg12)) := by
  refine (dats m 0 c).arrAt_eq_of_covers 14 _ (by decide +kernel) fun t _ y => ?_
  blk_simp
  rw [after0_14]
  exact point_14 m c t y

set_option maxHeartbeats 4000000 in
/-- What the body stores of the latent attention's keys. -/
theorem point_15 (c : Dev nD) (t : Fin cfg0.N) (y) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = out_k (KV m c) (R m c) (m ((c.tc : Thread nD τ).loc main_arg11)) (m ((c.tc : Thread nD τ).loc main_arg12)) (((cfg0.win 15).blk t).view.emb y) := by
  have lt := point_lt t
  canon_tiles x h
  case piece0 =>
    idx_vars x
    refine ((k_7 (ropeT m c t) (upK m c t) x0 x1 x2 ⟨896 + x2.val, by omega⟩ rfl).trans
      (head_k m c t ⟨t.val / 8, by omega⟩ ⟨t.val % 8 * 512 + x1.val, by omega⟩ x1 rfl rfl 7 x2 _ (by simp only; omega))).trans ?_
    blk_ext [places t, h0, h1, h2]
  case piece1 =>
    idx_vars x
    refine ((k_6 (ropeT m c t) (upK m c t) x0 x1 x2 ⟨768 + x2.val, by omega⟩ rfl).trans
      (head_k m c t ⟨t.val / 8, by omega⟩ ⟨t.val % 8 * 512 + x1.val, by omega⟩ x1 rfl rfl 6 x2 _ (by simp only; omega))).trans ?_
    blk_ext [places t, h0, h1, h2]
  case piece2 =>
    idx_vars x
    refine ((k_5 (ropeT m c t) (upK m c t) x0 x1 x2 ⟨640 + x2.val, by omega⟩ rfl).trans
      (head_k m c t ⟨t.val / 8, by omega⟩ ⟨t.val % 8 * 512 + x1.val, by omega⟩ x1 rfl rfl 5 x2 _ (by simp only; omega))).trans ?_
    blk_ext [places t, h0, h1, h2]
  case piece3 =>
    idx_vars x
    refine ((k_4 (ropeT m c t) (upK m c t) x0 x1 x2 ⟨512 + x2.val, by omega⟩ rfl).trans
      (head_k m c t ⟨t.val / 8, by omega⟩ ⟨t.val % 8 * 512 + x1.val, by omega⟩ x1 rfl rfl 4 x2 _ (by simp only; omega))).trans ?_
    blk_ext [places t, h0, h1, h2]
  case piece4 =>
    idx_vars x
    refine ((k_3 (ropeT m c t) (upK m c t) x0 x1 x2 ⟨384 + x2.val, by omega⟩ rfl).trans
      (head_k m c t ⟨t.val / 8, by omega⟩ ⟨t.val % 8 * 512 + x1.val, by omega⟩ x1 rfl rfl 3 x2 _ (by simp only; omega))).trans ?_
    blk_ext [places t, h0, h1, h2]
  case piece5 =>
    idx_vars x
    refine ((k_2 (ropeT m c t) (upK m c t) x0 x1 x2 ⟨256 + x2.val, by omega⟩ rfl).trans
      (head_k m c t ⟨t.val / 8, by omega⟩ ⟨t.val % 8 * 512 + x1.val, by omega⟩ x1 rfl rfl 2 x2 _ (by simp only; omega))).trans ?_
    blk_ext [places t, h0, h1, h2]
  case piece6 =>
    idx_vars x
    refine ((k_1 (ropeT m c t) (upK m c t) x0 x1 x2 ⟨128 + x2.val, by omega⟩ rfl).trans
      (head_k m c t ⟨t.val / 8, by omega⟩ ⟨t.val % 8 * 512 + x1.val, by omega⟩ x1 rfl rfl 1 x2 _ (by simp only; omega))).trans ?_
    blk_ext [places t, h0, h1, h2]
  case piece7 =>
    idx_vars x
    refine ((k_0 (cosA m c t) (sinA m c t) (rope m c t) (latK m c t) (View.ld (iblk m c 7 t) r0_9) x0 x1 x2 ⟨0 + x2.val, by omega⟩ (Nat.zero_add _)).trans
      (head_k m c t ⟨t.val / 8, by omega⟩ ⟨t.val % 8 * 512 + x1.val, by omega⟩ x1 rfl rfl 0 x2 _ (by simp only; omega))).trans ?_
    blk_ext [places t, h0, h1, h2]

/-- The array after the run. -/
theorem final_15 (c : Dev nD) : (dats m 0 c).arrAt 15 (cfgs 0).N = out_k (KV m c) (R m c) (m ((c.tc : Thread nD τ).loc main_arg11)) (m ((c.tc : Thread nD τ).loc main_arg12)) := by
  refine (dats m 0 c).arrAt_eq_of_covers 15 _ (by decide +kernel) fun t _ y => ?_
  blk_simp
  rw [after0_15]
  exact point_15 m c t y

set_option maxHeartbeats 4000000 in
/-- What the body stores of the latent attention's values. -/
theorem point_16 (c : Dev nD) (t : Fin cfg0.N) (y) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = out_v (KV m c) (((cfg0.win 16).blk t).view.emb y) := by
  have lt := point_lt t
  canon_tiles x h
  case piece0 =>
    idx_vars x
    refine (v_1 (latK m c t) (View.ld (iblk m c 8 t) r0_18) (KV m c) x0 x1 x2 x3 ⟨t.val / 8, by omega⟩ ⟨t.val % 8 * 2 + 1, by omega⟩
      (vals_at m c t ⟨t.val / 8, by omega⟩ _ _ rfl (by simp only; omega) x2)).trans ?_
    blk_ext [places t, h0, h1, h2, h3]
  case piece1 =>
    idx_vars x
    refine (v_0 (latK m c t) (View.ld (iblk m c 8 t) r0_18) (KV m c) x0 x1 x2 x3 ⟨t.val / 8, by omega⟩ ⟨t.val % 8 * 2 + 0, by omega⟩
      (vals_at m c t ⟨t.val / 8, by omega⟩ _ _ rfl (by simp only; omega) x2)).trans ?_
    blk_ext [places t, h0, h1, h2, h3]

/-- The array after the run. -/
theorem final_16 (c : Dev nD) : (dats m 0 c).arrAt 16 (cfgs 0).N = out_v (KV m c) := by
  refine (dats m 0 c).arrAt_eq_of_covers 16 _ (by decide +kernel) fun t _ y => ?_
  blk_simp
  rw [after0_16]
  exact point_16 m c t y

end Cert.Kernel3Ideal.Inp

end
-- ==== Proof.InputsRun.lean ====
/-
  The run of the input projection's reference, its results in layers.
-/
module

public import proofs.«01_k».proof.Proof.InputsRef

@[expose] public section

set_option maxRecDepth 16384

noncomputable section

namespace Cert.Reference3Ideal.Inp

open Idealize.ShloMosaic Idealize.ShloMosaic.TcCoe
open Cert.Reference3Ideal Cert.Reference3Ideal.Gen
open Idealize.SL.Sem

/-- The projection over the reference's arguments. -/
abbrev proj (m : (ℓ : Loc nD τ sig) → Buf (Elt Ideal) ℓ) (c : Dev nD) : FVec Ideal S16x4096x5024 .f32 :=
  projected (normed (m ((c.tc : Thread nD τ).loc main_arg0)) (m ((c.tc : Thread nD τ).loc main_arg1)) (m ((c.tc : Thread nD τ).loc main_arg2))) (m ((c.tc : Thread nD τ).loc main_arg3))

/-- The queries over the reference's arguments. -/
abbrev qs (m : (ℓ : Loc nD τ sig) → Buf (Elt Ideal) ℓ) (c : Dev nD) : FVec Ideal S16x4096x8x128 .f32 :=
  queries (queryLatent (proj m c) (m ((c.tc : Thread nD τ).loc main_arg4))) (m ((c.tc : Thread nD τ).loc main_arg5))

/-- The keys and values over the reference's arguments. -/
abbrev kvs (m : (ℓ : Loc nD τ sig) → Buf (Elt Ideal) ℓ) (c : Dev nD) : FVec Ideal S16x4096x8x128 .f32 :=
  keyValues (keyLatent (proj m c) (m ((c.tc : Thread nD τ).loc main_arg6))) (m ((c.tc : Thread nD τ).loc main_arg7))

/-- The sparse attention's keys over the reference's arguments. -/
abbrev kms (m : (ℓ : Loc nD τ sig) → Buf (Elt Ideal) ℓ) (c : Dev nD) : FVec Ideal S16x4096x512 .f32 :=
  keys_m (heads_k (proj m c)) (m ((c.tc : Thread nD τ).loc main_arg9)) (m ((c.tc : Thread nD τ).loc main_arg10))

/-- The merge gates over the reference's arguments. -/
abbrev gs (m : (ℓ : Loc nD τ sig) → Buf (Elt Ideal) ℓ) (c : Dev nD) : FVec Ideal S16x4096x2048 .f32 :=
  gates (proj m c) (m ((c.tc : Thread nD τ).loc main_arg8))

/-- A run of the reference ends with those results and its arguments unchanged. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v151) = out_q (qs m c) (m ((c.tc : Thread nD τ).loc main_arg11)) (m ((c.tc : Thread nD τ).loc main_arg12))
      ∧ r.2.mem ((c.tc : Thread nD τ).loc main_v152) = out_k (kvs m c) (ropeKey (proj m c)) (m ((c.tc : Thread nD τ).loc main_arg11)) (m ((c.tc : Thread nD τ).loc main_arg12))
      ∧ r.2.mem ((c.tc : Thread nD τ).loc main_v153) = out_v (kvs m c)
      ∧ r.2.mem ((c.tc : Thread nD τ).loc main_v154) = out_z (proj m c)
      ∧ r.2.mem ((c.tc : Thread nD τ).loc main_v155) = out_qm (heads_q (proj m c)) (m ((c.tc : Thread nD τ).loc main_arg9)) (m ((c.tc : Thread nD τ).loc main_arg10))
      ∧ r.2.mem ((c.tc : Thread nD τ).loc main_v156) = out_km (kms m c)
      ∧ r.2.mem ((c.tc : Thread nD τ).loc main_v157) = out_vm (proj m c)
      ∧ r.2.mem ((c.tc : Thread nD τ).loc main_v158) = out_zm (proj m c)
      ∧ r.2.mem ((c.tc : Thread nD τ).loc main_v159) = out_ga (gs m c)
      ∧ r.2.mem ((c.tc : Thread nD τ).loc main_v160) = out_gb (gs m c)
      ∧ r.2.mem ((c.tc : Thread nD τ).loc main_v150) = out_mean (kms m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ?_) (Value.run (F := Ideal) m g)
  obtain ⟨h0, h1, h2, h3, h4, h5, h6, h7, h8, h9, h10, hr⟩ := h c
  exact ⟨h0.trans rfl, h1.trans rfl, h2.trans rfl, h3.trans rfl, h4.trans rfl, h5.trans rfl, h6.trans rfl, h7.trans rfl,
    h8.trans rfl, h9.trans rfl, h10.trans rfl, hr⟩

end Cert.Reference3Ideal.Inp

end
-- ==== Proof.lean ====
/-
  The certificate: the frames of the kernel and of the reference, that idealizing keeps the two programs, and that over the
  extended reals the kernel's output is the reference's; for the attention, the output projection and the input projection.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2
public import proofs.«01_k».proof.Proof.Gen.Reference2.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3
public import proofs.«01_k».proof.Proof.Gen.Reference3.Run
public import proofs.«01_k».proof.Proof.Launch
public import proofs.«01_k».proof.Proof.Value
public import proofs.«01_k».proof.Proof.Projection
public import proofs.«01_k».proof.Proof.Machine.Launch
public import proofs.«01_k».proof.Proof.InputsFrame
public import proofs.«01_k».proof.Proof.InputsSame
public import proofs.«01_k».proof.Proof.InputsGates
public import proofs.«01_k».proof.Proof.InputsSparse
public import proofs.«01_k».proof.Proof.InputsHeads
public import proofs.«01_k».proof.Proof.InputsRun
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

/-- An entry whose absolute value is below infinity is a number. -/
theorem finite_of_test (x : EReal) (h : Ideal.cmp .olt (max x (-x)) (Ideal.ofBits .f32 0x7F800000#32) = 1#1) : Cert.Softmax.Finite x := by
  have hi : Ideal.ofBits .f32 0x7F800000#32 = ⊤ := by simp [Ideal.ofBits, Ideal.ieee]
  rw [hi] at h
  refine Cert.Softmax.finite_of_ne ?_ ?_
  · rintro rfl
    simp [Ideal.cmp] at h
  · rintro rfl
    simp [Ideal.cmp] at h

/-- Two bits whose conjunction is one are both one. -/
theorem split_and (u v : BitVec 1) (h : u &&& v = 1#1) : u = 1#1 ∧ v = 1#1 := by
  revert h u v
  decide

attribute [local instance] Cert.Pre_finite.Gen.facts in
/-- The precondition read: queries and keys are numbers. -/
theorem pre_finite (q k : FVec Ideal Cert.Pre_finite.S16x4096x1024 .bf16) (vt : FVec Ideal Cert.Pre_finite.S16x16x512x256 .bf16)
    (z : FVec Ideal Cert.Pre_finite.S16x4096x512 .bf16) (h : Cert.Pre_finite.fn (F := Ideal) q k vt z = fun _ => 1#1) :
    (∀ y, Cert.Softmax.Finite (q y)) ∧ ∀ y, Cert.Softmax.Finite (k y) := by
  have hy := fun y => split_and _ _ (congrFun h y)
  exact ⟨fun y => finite_of_test _ (hy y).1, fun y => finite_of_test _ (hy y).2⟩

/-- The attention runs without error, leaves its arguments as they were and ends with every semaphore at zero. -/
theorem frame_Kernel : Cert.quiescent_Kernel (hKernel := Cert.Kernel.Gen.facts) := fun m g _ => Cert.Kernel.Attn.frame m g

/-- So does the idealized attention. -/
theorem frame_KernelIdeal : Cert.quiescent_KernelIdeal (hKernelIdeal := Cert.KernelIdeal.Gen.facts) :=
  fun m g _ => Cert.KernelIdeal.Attn.frame m g

/-- So does the idealized reference of the attention. -/
theorem frame_ReferenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- So does the reference of the attention. -/
theorem frame_Reference : Cert.quiescent_Reference (hReference := Cert.Reference.Gen.facts) := fun m g _ =>
  (θ_run Cert.Reference.defs _ _).mono (fun r h => ⟨fun c => (h c).2, sem_eq_zero_of_no_sems (by decide) r.2⟩)
    (Cert.Reference.Value.run (F := Bits) m g)

/-- The kernel's output is the reference's, for numbers as queries and keys. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hf := fun c => pre_finite _ _ _ _ (hpre c)
  have hr : ∀ c, Cert.ReferenceIdeal.Value.res_out0 m' c = (Cert.KernelIdeal.Attn.dats m 0 c).arrAt 4 (Cert.KernelIdeal.cfgs 0).N := fun c => by
    obtain ⟨h0, h1, h2, h3⟩ := hargs c
    rw [Cert.ReferenceIdeal.Attn.result_eq, h0, h1, h2, h3]
    exact (Cert.KernelIdeal.Attn.final m c (hf c).1 (hf c).2).symm
  refine ⟨fun c => (Cert.KernelIdeal.Attn.dats m 0 c).arrAt 4 (Cert.KernelIdeal.cfgs 0).N, ?_, ?_⟩
  · run_from Cert.KernelIdeal.Attn.run_main m g
  · exact (θ_run Cert.ReferenceIdeal.defs _ _).mono (fun r h c => ⟨((h c).1).trans (hr c), (h c).2⟩)
      (Cert.ReferenceIdeal.Value.run (F := Ideal) m' g')

/-- The output projection runs without error, leaves its arguments as they were and ends with every semaphore at zero. -/
theorem frame_Kernel2 : Cert.quiescent_Kernel2 (hKernel2 := Cert.Kernel2.Gen.facts) := fun m g _ => Cert.Kernel2.Gen.frame m g

/-- So does the idealized output projection. -/
theorem frame_Kernel2Ideal : Cert.quiescent_Kernel2Ideal (hKernel2Ideal := Cert.Kernel2Ideal.Gen.facts) :=
  fun m g _ => Cert.Kernel2Ideal.Gen.frame m g

/-- So does the idealized reference of the output projection. -/
theorem frame_Reference2Ideal : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

/-- So does the reference of the output projection. -/
theorem frame_Reference2 : Cert.quiescent_Reference2 (hReference2 := Cert.Reference2.Gen.facts) := fun m g _ =>
  (θ_run Cert.Reference2.defs _ _).mono (fun r h => ⟨fun c => (h c).2, sem_eq_zero_of_no_sems (by decide) r.2⟩)
    (Cert.Reference2.Value.run (F := Bits) m g)

/-- The output projection's result is its reference's, for all arguments. -/
theorem algebraic_projection : Cert.algebraic_Kernel2Ideal_Reference2Ideal (hKernel2Ideal := Cert.Kernel2Ideal.Gen.facts)
    (hReference2Ideal := Cert.Reference2Ideal.Gen.facts) := by
  intro m g m' g' _ hargs
  have hr : ∀ c, Cert.Reference2Ideal.Proj.result m' c = (Cert.Kernel2Ideal.Gen.dats m 0 c).arrAt 10 (Cert.Kernel2Ideal.cfgs 0).N :=
    fun c => by
      obtain ⟨h0, h1, h2, h3, h4, h5, h6, h7, h8, h9⟩ := hargs c
      rw [Cert.Reference2Ideal.Proj.result, h0, h1, h2, h3, h4, h5, h6, h7, h8, h9]
      exact (Cert.Kernel2Ideal.Proj.final m c).symm
  refine ⟨fun c => (Cert.Kernel2Ideal.Gen.dats m 0 c).arrAt 10 (Cert.Kernel2Ideal.cfgs 0).N, ?_, ?_⟩
  · run_from Cert.Kernel2Ideal.Gen.run_main m g
  · exact (θ_run Cert.Reference2Ideal.defs _ _).mono (fun r h c => ⟨((h c).1).trans (hr c), (h c).2⟩)
      (Cert.Reference2Ideal.Proj.run m' g')

/-- The idealized input projection runs without error, leaves its arguments as they were and ends with every semaphore at zero. -/
theorem frame_Kernel3Ideal : Cert.quiescent_Kernel3Ideal (hKernel3Ideal := Cert.Kernel3Ideal.Gen.facts) :=
  fun m g _ => Cert.Kernel3Ideal.Gen.frame m g

/-- So does the idealized reference of the input projection. -/
theorem frame_Reference3Ideal : Cert.quiescent_Reference3Ideal (hReference3Ideal := Cert.Reference3Ideal.Gen.facts) := fun m g _ =>
  (θ_run Cert.Reference3Ideal.defs _ _).mono (fun r h => ⟨fun c => (h c).2.2.2.2.2.2.2.2.2.2.2, sem_eq_zero_of_no_sems (by decide) r.2⟩)
    (Cert.Reference3Ideal.Value.run (F := Ideal) m g)

/-- So does the reference of the input projection. -/
theorem frame_Reference3 : Cert.quiescent_Reference3 (hReference3 := Cert.Reference3.Gen.facts) := fun m g _ =>
  (θ_run Cert.Reference3.defs _ _).mono (fun r h => ⟨fun c => (h c).2.2.2.2.2.2.2.2.2.2.2, sem_eq_zero_of_no_sems (by decide) r.2⟩)
    (Cert.Reference3.Value.run (F := Bits) m g)

set_option maxHeartbeats 4000000 in
/-- The input projection's eleven results are its reference's, for all arguments. -/
theorem algebraic_inputs : Cert.algebraic_Kernel3Ideal_Reference3Ideal (hKernel3Ideal := Cert.Kernel3Ideal.Gen.facts)
    (hReference3Ideal := Cert.Reference3Ideal.Gen.facts) := by
  intro m g m' g' _ hargs
  refine ⟨fun c => (Cert.Kernel3Ideal.Gen.dats m 0 c).arrAt 14 (Cert.Kernel3Ideal.cfgs 0).N,
    fun c => (Cert.Kernel3Ideal.Gen.dats m 0 c).arrAt 15 (Cert.Kernel3Ideal.cfgs 0).N,
    fun c => (Cert.Kernel3Ideal.Gen.dats m 0 c).arrAt 16 (Cert.Kernel3Ideal.cfgs 0).N,
    fun c => (Cert.Kernel3Ideal.Gen.dats m 0 c).arrAt 17 (Cert.Kernel3Ideal.cfgs 0).N,
    fun c => (Cert.Kernel3Ideal.Gen.dats m 0 c).arrAt 18 (Cert.Kernel3Ideal.cfgs 0).N,
    fun c => (Cert.Kernel3Ideal.Gen.dats m 0 c).arrAt 19 (Cert.Kernel3Ideal.cfgs 0).N,
    fun c => (Cert.Kernel3Ideal.Gen.dats m 0 c).arrAt 20 (Cert.Kernel3Ideal.cfgs 0).N,
    fun c => (Cert.Kernel3Ideal.Gen.dats m 0 c).arrAt 21 (Cert.Kernel3Ideal.cfgs 0).N,
    fun c => (Cert.Kernel3Ideal.Gen.dats m 0 c).arrAt 22 (Cert.Kernel3Ideal.cfgs 0).N,
    fun c => (Cert.Kernel3Ideal.Gen.dats m 0 c).arrAt 23 (Cert.Kernel3Ideal.cfgs 0).N,
    fun c => (Cert.Kernel3Ideal.Gen.dats m 0 c).arrAt 24 (Cert.Kernel3Ideal.cfgs 0).N, ?_, ?_⟩
  · exact (θ_run Cert.Kernel3Ideal.defs _ _).mono (fun r h c => ⟨(h.1 c).1 14, (h.1 c).1 15, (h.1 c).1 16, (h.1 c).1 17, (h.1 c).1 18, (h.1 c).1 19,
      (h.1 c).1 20, (h.1 c).1 21, (h.1 c).1 22, (h.1 c).1 23, (h.1 c).1 24, h.2 c⟩)
      (θ_run_and (Cert.Kernel3Ideal.Gen.run_main m g) (Cert.Kernel3Ideal.Gen.unchanged m g))
  · refine (θ_run Cert.Reference3Ideal.defs _ _).mono (fun r h c => ?_) (Cert.Reference3Ideal.Inp.run m' g')
    obtain ⟨a0, a1, a2, a3, a4, a5, a6, a7, a8, a9, a10, a11, a12⟩ := hargs c
    obtain ⟨h0, h1, h2, h3, h4, h5, h6, h7, h8, h9, h10, hk⟩ := h c
    simp only [Cert.Reference3Ideal.Inp.qs, Cert.Reference3Ideal.Inp.kvs, Cert.Reference3Ideal.Inp.kms, Cert.Reference3Ideal.Inp.gs,
      Cert.Reference3Ideal.Inp.proj, a0, a1, a2, a3, a4, a5, a6, a7, a8, a9, a10, a11, a12] at h0 h1 h2 h3 h4 h5 h6 h7 h8 h9 h10
    exact ⟨h0.trans (Cert.Kernel3Ideal.Inp.final_14 m c).symm, h1.trans (Cert.Kernel3Ideal.Inp.final_15 m c).symm,
      h2.trans (Cert.Kernel3Ideal.Inp.final_16 m c).symm, h3.trans (Cert.Kernel3Ideal.Inp.final_17 m c).symm,
      h4.trans (Cert.Kernel3Ideal.Inp.final_18 m c).symm, h5.trans (Cert.Kernel3Ideal.Inp.final_19 m c).symm,
      h6.trans (Cert.Kernel3Ideal.Inp.final_20 m c).symm, h7.trans (Cert.Kernel3Ideal.Inp.final_21 m c).symm,
      h8.trans (Cert.Kernel3Ideal.Inp.final_22 m c).symm, h9.trans (Cert.Kernel3Ideal.Inp.final_23 m c).symm,
      h10.trans (Cert.Kernel3Ideal.Inp.final_24 m c).symm, hk⟩

/-- All the claims together. -/
theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Reference2.Gen.facts,
  Cert.Kernel3.Gen.facts, Cert.Kernel3Ideal.Gen.facts, Cert.Reference3Ideal.Gen.facts, Cert.Reference3.Gen.facts,
  Cert.Pre_finite.Gen.facts, frame_Kernel, frame_KernelIdeal, fun m g _ => frame_KernelIdeal m g trivial, frame_ReferenceIdeal,
  fun m g _ => frame_ReferenceIdeal m g trivial, frame_Reference, frame_Kernel2, frame_Kernel2Ideal, frame_Reference2Ideal,
  frame_Reference2, frame_Kernel3, frame_Kernel3Ideal, frame_Reference3Ideal, frame_Reference3,
  by trivial, by trivial, algebraic, by trivial, by trivial, algebraic_projection, by trivial, by trivial, algebraic_inputs⟩

end Cert.Proof

end
